-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDPre (m : (ℓ : Loc Cert.KernelDPre.nD Cert.KernelDPre.τ Cert.KernelDPre.sig) → Buf (Elt Bits) ℓ) : Prop :=
  True

def Pre_KernelDPreIdeal (m : (ℓ : Loc Cert.KernelDPreIdeal.nD Cert.KernelDPreIdeal.τ Cert.KernelDPreIdeal.sig) → Buf (Elt Ideal) ℓ) : Prop :=
  True

def Pre_ReferenceDPreIdeal (m : (ℓ : Loc Cert.ReferenceDPreIdeal.nD Cert.ReferenceDPreIdeal.τ Cert.ReferenceDPreIdeal.sig) → Buf (Elt Ideal) ℓ) : Prop :=
  True

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDwQkv (m : (ℓ : Loc Cert.KernelDwQkv.nD Cert.KernelDwQkv.τ Cert.KernelDwQkv.sig) → Buf (Elt Bits) ℓ) : Prop :=
  True

def Pre_KernelDwQkvIdeal (m : (ℓ : Loc Cert.KernelDwQkvIdeal.nD Cert.KernelDwQkvIdeal.τ Cert.KernelDwQkvIdeal.sig) → Buf (Elt Ideal) ℓ) : Prop :=
  True

def Pre_ReferenceDwQkvIdeal (m : (ℓ : Loc Cert.ReferenceDwQkvIdeal.nD Cert.ReferenceDwQkvIdeal.τ Cert.ReferenceDwQkvIdeal.sig) → Buf (Elt Ideal) ℓ) : Prop :=
  True

def Pre_KernelDwO (m : (ℓ : Loc Cert.KernelDwO.nD Cert.KernelDwO.τ Cert.KernelDwO.sig) → Buf (Elt Bits) ℓ) : Prop :=
  True

def Pre_KernelDwOIdeal (m : (ℓ : Loc Cert.KernelDwOIdeal.nD Cert.KernelDwOIdeal.τ Cert.KernelDwOIdeal.sig) → Buf (Elt Ideal) ℓ) : Prop :=
  True

def Pre_ReferenceDwOIdeal (m : (ℓ : Loc Cert.ReferenceDwOIdeal.nD Cert.ReferenceDwOIdeal.τ Cert.ReferenceDwOIdeal.sig) → Buf (Elt Ideal) ℓ) : Prop :=
  True

def Pre_KernelDO (m : (ℓ : Loc Cert.KernelDO.nD Cert.KernelDO.τ Cert.KernelDO.sig) → Buf (Elt Bits) ℓ) : Prop :=
  True

def Pre_KernelDOIdeal (m : (ℓ : Loc Cert.KernelDOIdeal.nD Cert.KernelDOIdeal.τ Cert.KernelDOIdeal.sig) → Buf (Elt Ideal) ℓ) : Prop :=
  True

def Pre_ReferenceDOIdeal (m : (ℓ : Loc Cert.ReferenceDOIdeal.nD Cert.ReferenceDOIdeal.τ Cert.ReferenceDOIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelAttnOut (m : (ℓ : Loc Cert.KernelAttnOut.nD Cert.KernelAttnOut.τ Cert.KernelAttnOut.sig) → Buf (Elt Bits) ℓ) : Prop :=
  True

def Pre_KernelAttnOutIdeal (m : (ℓ : Loc Cert.KernelAttnOutIdeal.nD Cert.KernelAttnOutIdeal.τ Cert.KernelAttnOutIdeal.sig) → Buf (Elt Ideal) ℓ) : Prop :=
  True

def Pre_ReferenceAttnOutIdeal (m : (ℓ : Loc Cert.ReferenceAttnOutIdeal.nD Cert.ReferenceAttnOutIdeal.τ Cert.ReferenceAttnOutIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelDH1 (m : (ℓ : Loc Cert.KernelDH1.nD Cert.KernelDH1.τ Cert.KernelDH1.sig) → Buf (Elt Bits) ℓ) : Prop :=
  True

def Pre_KernelDH1Ideal (m : (ℓ : Loc Cert.KernelDH1Ideal.nD Cert.KernelDH1Ideal.τ Cert.KernelDH1Ideal.sig) → Buf (Elt Ideal) ℓ) : Prop :=
  True

def Pre_ReferenceDH1Ideal (m : (ℓ : Loc Cert.ReferenceDH1Ideal.nD Cert.ReferenceDH1Ideal.τ Cert.ReferenceDH1Ideal.sig) → Buf (Elt Ideal) ℓ) : Prop :=
  True

def Pre_KernelDH0 (m : (ℓ : Loc Cert.KernelDH0.nD Cert.KernelDH0.τ Cert.KernelDH0.sig) → Buf (Elt Bits) ℓ) : Prop :=
  True

def Pre_KernelDH0Ideal (m : (ℓ : Loc Cert.KernelDH0Ideal.nD Cert.KernelDH0Ideal.τ Cert.KernelDH0Ideal.sig) → Buf (Elt Ideal) ℓ) : Prop :=
  True

def Pre_ReferenceDH0Ideal (m : (ℓ : Loc Cert.ReferenceDH0Ideal.nD Cert.ReferenceDH0Ideal.τ Cert.ReferenceDH0Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1))
      ∧ r.2.sem = fun _ => 0)

def quiescent_KernelDPre [hKernelDPre : Cert.KernelDPre.Facts] : Prop :=
  ∀ (m : (ℓ : Loc Cert.KernelDPre.nD Cert.KernelDPre.τ Cert.KernelDPre.sig) → Buf (Elt Bits) ℓ) (g : Dev Cert.KernelDPre.nD → PrngReg), Pre_KernelDPre m →
    θ_run (Cert.KernelDPre.defs (F := Bits)) (onTc (τ := Cert.KernelDPre.τ) (Cert.KernelDPre.main (F := Bits))) ⟨m, fun _ => 0, g⟩ (fun r => (∀ c : Dev Cert.KernelDPre.nD,
      r.2.mem ((c.tc : Thread Cert.KernelDPre.nD Cert.KernelDPre.τ).loc Cert.KernelDPre.main_arg0) = m ((c.tc : Thread Cert.KernelDPre.nD Cert.KernelDPre.τ).loc Cert.KernelDPre.main_arg0)
      ∧ r.2.mem ((c.tc : Thread Cert.KernelDPre.nD Cert.KernelDPre.τ).loc Cert.KernelDPre.main_arg1) = m ((c.tc : Thread Cert.KernelDPre.nD Cert.KernelDPre.τ).loc Cert.KernelDPre.main_arg1)
      ∧ r.2.mem ((c.tc : Thread Cert.KernelDPre.nD Cert.KernelDPre.τ).loc Cert.KernelDPre.main_arg2) = m ((c.tc : Thread Cert.KernelDPre.nD Cert.KernelDPre.τ).loc Cert.KernelDPre.main_arg2))
      ∧ r.2.sem = fun _ => 0)

def quiescent_KernelDPreIdeal [hKernelDPreIdeal : Cert.KernelDPreIdeal.Facts] : Prop :=
  ∀ (m : (ℓ : Loc Cert.KernelDPreIdeal.nD Cert.KernelDPreIdeal.τ Cert.KernelDPreIdeal.sig) → Buf (Elt Ideal) ℓ) (g : Dev Cert.KernelDPreIdeal.nD → PrngReg), Pre_KernelDPreIdeal m →
    θ_run (Cert.KernelDPreIdeal.defs (F := Ideal)) (onTc (τ := Cert.KernelDPreIdeal.τ) (Cert.KernelDPreIdeal.main (F := Ideal))) ⟨m, fun _ => 0, g⟩ (fun r => (∀ c : Dev Cert.KernelDPreIdeal.nD,
      r.2.mem ((c.tc : Thread Cert.KernelDPreIdeal.nD Cert.KernelDPreIdeal.τ).loc Cert.KernelDPreIdeal.main_arg0) = m ((c.tc : Thread Cert.KernelDPreIdeal.nD Cert.KernelDPreIdeal.τ).loc Cert.KernelDPreIdeal.main_arg0)
      ∧ r.2.mem ((c.tc : Thread Cert.KernelDPreIdeal.nD Cert.KernelDPreIdeal.τ).loc Cert.KernelDPreIdeal.main_arg1) = m ((c.tc : Thread Cert.KernelDPreIdeal.nD Cert.KernelDPreIdeal.τ).loc Cert.KernelDPreIdeal.main_arg1)
      ∧ r.2.mem ((c.tc : Thread Cert.KernelDPreIdeal.nD Cert.KernelDPreIdeal.τ).loc Cert.KernelDPreIdeal.main_arg2) = m ((c.tc : Thread Cert.KernelDPreIdeal.nD Cert.KernelDPreIdeal.τ).loc Cert.KernelDPreIdeal.main_arg2))
      ∧ r.2.sem = fun _ => 0)

def quiescent_ReferenceDPreIdeal [hReferenceDPreIdeal : Cert.ReferenceDPreIdeal.Facts] : Prop :=
  ∀ (m : (ℓ : Loc Cert.ReferenceDPreIdeal.nD Cert.ReferenceDPreIdeal.τ Cert.ReferenceDPreIdeal.sig) → Buf (Elt Ideal) ℓ) (g : Dev Cert.ReferenceDPreIdeal.nD → PrngReg), Pre_ReferenceDPreIdeal m →
    θ_run (Cert.ReferenceDPreIdeal.defs (F := Ideal)) (onTc (τ := Cert.ReferenceDPreIdeal.τ) (Cert.ReferenceDPreIdeal.main (F := Ideal))) ⟨m, fun _ => 0, g⟩ (fun r => (∀ c : Dev Cert.ReferenceDPreIdeal.nD,
      r.2.mem ((c.tc : Thread Cert.ReferenceDPreIdeal.nD Cert.ReferenceDPreIdeal.τ).loc Cert.ReferenceDPreIdeal.main_arg0) = m ((c.tc : Thread Cert.ReferenceDPreIdeal.nD Cert.ReferenceDPreIdeal.τ).loc Cert.ReferenceDPreIdeal.main_arg0)
      ∧ r.2.mem ((c.tc : Thread Cert.ReferenceDPreIdeal.nD Cert.ReferenceDPreIdeal.τ).loc Cert.ReferenceDPreIdeal.main_arg1) = m ((c.tc : Thread Cert.ReferenceDPreIdeal.nD Cert.ReferenceDPreIdeal.τ).loc Cert.ReferenceDPreIdeal.main_arg1)
      ∧ r.2.mem ((c.tc : Thread Cert.ReferenceDPreIdeal.nD Cert.ReferenceDPreIdeal.τ).loc Cert.ReferenceDPreIdeal.main_arg2) = m ((c.tc : Thread Cert.ReferenceDPreIdeal.nD Cert.ReferenceDPreIdeal.τ).loc Cert.ReferenceDPreIdeal.main_arg2))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1))
      ∧ r.2.sem = fun _ => 0)

def quiescent_KernelDwQkv [hKernelDwQkv : Cert.KernelDwQkv.Facts] : Prop :=
  ∀ (m : (ℓ : Loc Cert.KernelDwQkv.nD Cert.KernelDwQkv.τ Cert.KernelDwQkv.sig) → Buf (Elt Bits) ℓ) (g : Dev Cert.KernelDwQkv.nD → PrngReg), Pre_KernelDwQkv m →
    θ_run (Cert.KernelDwQkv.defs (F := Bits)) (onTc (τ := Cert.KernelDwQkv.τ) (Cert.KernelDwQkv.main (F := Bits))) ⟨m, fun _ => 0, g⟩ (fun r => (∀ c : Dev Cert.KernelDwQkv.nD,
      r.2.mem ((c.tc : Thread Cert.KernelDwQkv.nD Cert.KernelDwQkv.τ).loc Cert.KernelDwQkv.main_arg0) = m ((c.tc : Thread Cert.KernelDwQkv.nD Cert.KernelDwQkv.τ).loc Cert.KernelDwQkv.main_arg0)
      ∧ r.2.mem ((c.tc : Thread Cert.KernelDwQkv.nD Cert.KernelDwQkv.τ).loc Cert.KernelDwQkv.main_arg1) = m ((c.tc : Thread Cert.KernelDwQkv.nD Cert.KernelDwQkv.τ).loc Cert.KernelDwQkv.main_arg1))
      ∧ r.2.sem = fun _ => 0)

def quiescent_KernelDwQkvIdeal [hKernelDwQkvIdeal : Cert.KernelDwQkvIdeal.Facts] : Prop :=
  ∀ (m : (ℓ : Loc Cert.KernelDwQkvIdeal.nD Cert.KernelDwQkvIdeal.τ Cert.KernelDwQkvIdeal.sig) → Buf (Elt Ideal) ℓ) (g : Dev Cert.KernelDwQkvIdeal.nD → PrngReg), Pre_KernelDwQkvIdeal m →
    θ_run (Cert.KernelDwQkvIdeal.defs (F := Ideal)) (onTc (τ := Cert.KernelDwQkvIdeal.τ) (Cert.KernelDwQkvIdeal.main (F := Ideal))) ⟨m, fun _ => 0, g⟩ (fun r => (∀ c : Dev Cert.KernelDwQkvIdeal.nD,
      r.2.mem ((c.tc : Thread Cert.KernelDwQkvIdeal.nD Cert.KernelDwQkvIdeal.τ).loc Cert.KernelDwQkvIdeal.main_arg0) = m ((c.tc : Thread Cert.KernelDwQkvIdeal.nD Cert.KernelDwQkvIdeal.τ).loc Cert.KernelDwQkvIdeal.main_arg0)
      ∧ r.2.mem ((c.tc : Thread Cert.KernelDwQkvIdeal.nD Cert.KernelDwQkvIdeal.τ).loc Cert.KernelDwQkvIdeal.main_arg1) = m ((c.tc : Thread Cert.KernelDwQkvIdeal.nD Cert.KernelDwQkvIdeal.τ).loc Cert.KernelDwQkvIdeal.main_arg1))
      ∧ r.2.sem = fun _ => 0)

def quiescent_ReferenceDwQkvIdeal [hReferenceDwQkvIdeal : Cert.ReferenceDwQkvIdeal.Facts] : Prop :=
  ∀ (m : (ℓ : Loc Cert.ReferenceDwQkvIdeal.nD Cert.ReferenceDwQkvIdeal.τ Cert.ReferenceDwQkvIdeal.sig) → Buf (Elt Ideal) ℓ) (g : Dev Cert.ReferenceDwQkvIdeal.nD → PrngReg), Pre_ReferenceDwQkvIdeal m →
    θ_run (Cert.ReferenceDwQkvIdeal.defs (F := Ideal)) (onTc (τ := Cert.ReferenceDwQkvIdeal.τ) (Cert.ReferenceDwQkvIdeal.main (F := Ideal))) ⟨m, fun _ => 0, g⟩ (fun r => (∀ c : Dev Cert.ReferenceDwQkvIdeal.nD,
      r.2.mem ((c.tc : Thread Cert.ReferenceDwQkvIdeal.nD Cert.ReferenceDwQkvIdeal.τ).loc Cert.ReferenceDwQkvIdeal.main_arg0) = m ((c.tc : Thread Cert.ReferenceDwQkvIdeal.nD Cert.ReferenceDwQkvIdeal.τ).loc Cert.ReferenceDwQkvIdeal.main_arg0)
      ∧ r.2.mem ((c.tc : Thread Cert.ReferenceDwQkvIdeal.nD Cert.ReferenceDwQkvIdeal.τ).loc Cert.ReferenceDwQkvIdeal.main_arg1) = m ((c.tc : Thread Cert.ReferenceDwQkvIdeal.nD Cert.ReferenceDwQkvIdeal.τ).loc Cert.ReferenceDwQkvIdeal.main_arg1))
      ∧ r.2.sem = fun _ => 0)

def quiescent_KernelDwO [hKernelDwO : Cert.KernelDwO.Facts] : Prop :=
  ∀ (m : (ℓ : Loc Cert.KernelDwO.nD Cert.KernelDwO.τ Cert.KernelDwO.sig) → Buf (Elt Bits) ℓ) (g : Dev Cert.KernelDwO.nD → PrngReg), Pre_KernelDwO m →
    θ_run (Cert.KernelDwO.defs (F := Bits)) (onTc (τ := Cert.KernelDwO.τ) (Cert.KernelDwO.main (F := Bits))) ⟨m, fun _ => 0, g⟩ (fun r => (∀ c : Dev Cert.KernelDwO.nD,
      r.2.mem ((c.tc : Thread Cert.KernelDwO.nD Cert.KernelDwO.τ).loc Cert.KernelDwO.main_arg0) = m ((c.tc : Thread Cert.KernelDwO.nD Cert.KernelDwO.τ).loc Cert.KernelDwO.main_arg0)
      ∧ r.2.mem ((c.tc : Thread Cert.KernelDwO.nD Cert.KernelDwO.τ).loc Cert.KernelDwO.main_arg1) = m ((c.tc : Thread Cert.KernelDwO.nD Cert.KernelDwO.τ).loc Cert.KernelDwO.main_arg1))
      ∧ r.2.sem = fun _ => 0)

def quiescent_KernelDwOIdeal [hKernelDwOIdeal : Cert.KernelDwOIdeal.Facts] : Prop :=
  ∀ (m : (ℓ : Loc Cert.KernelDwOIdeal.nD Cert.KernelDwOIdeal.τ Cert.KernelDwOIdeal.sig) → Buf (Elt Ideal) ℓ) (g : Dev Cert.KernelDwOIdeal.nD → PrngReg), Pre_KernelDwOIdeal m →
    θ_run (Cert.KernelDwOIdeal.defs (F := Ideal)) (onTc (τ := Cert.KernelDwOIdeal.τ) (Cert.KernelDwOIdeal.main (F := Ideal))) ⟨m, fun _ => 0, g⟩ (fun r => (∀ c : Dev Cert.KernelDwOIdeal.nD,
      r.2.mem ((c.tc : Thread Cert.KernelDwOIdeal.nD Cert.KernelDwOIdeal.τ).loc Cert.KernelDwOIdeal.main_arg0) = m ((c.tc : Thread Cert.KernelDwOIdeal.nD Cert.KernelDwOIdeal.τ).loc Cert.KernelDwOIdeal.main_arg0)
      ∧ r.2.mem ((c.tc : Thread Cert.KernelDwOIdeal.nD Cert.KernelDwOIdeal.τ).loc Cert.KernelDwOIdeal.main_arg1) = m ((c.tc : Thread Cert.KernelDwOIdeal.nD Cert.KernelDwOIdeal.τ).loc Cert.KernelDwOIdeal.main_arg1))
      ∧ r.2.sem = fun _ => 0)

def quiescent_ReferenceDwOIdeal [hReferenceDwOIdeal : Cert.ReferenceDwOIdeal.Facts] : Prop :=
  ∀ (m : (ℓ : Loc Cert.ReferenceDwOIdeal.nD Cert.ReferenceDwOIdeal.τ Cert.ReferenceDwOIdeal.sig) → Buf (Elt Ideal) ℓ) (g : Dev Cert.ReferenceDwOIdeal.nD → PrngReg), Pre_ReferenceDwOIdeal m →
    θ_run (Cert.ReferenceDwOIdeal.defs (F := Ideal)) (onTc (τ := Cert.ReferenceDwOIdeal.τ) (Cert.ReferenceDwOIdeal.main (F := Ideal))) ⟨m, fun _ => 0, g⟩ (fun r => (∀ c : Dev Cert.ReferenceDwOIdeal.nD,
      r.2.mem ((c.tc : Thread Cert.ReferenceDwOIdeal.nD Cert.ReferenceDwOIdeal.τ).loc Cert.ReferenceDwOIdeal.main_arg0) = m ((c.tc : Thread Cert.ReferenceDwOIdeal.nD Cert.ReferenceDwOIdeal.τ).loc Cert.ReferenceDwOIdeal.main_arg0)
      ∧ r.2.mem ((c.tc : Thread Cert.ReferenceDwOIdeal.nD Cert.ReferenceDwOIdeal.τ).loc Cert.ReferenceDwOIdeal.main_arg1) = m ((c.tc : Thread Cert.ReferenceDwOIdeal.nD Cert.ReferenceDwOIdeal.τ).loc Cert.ReferenceDwOIdeal.main_arg1))
      ∧ r.2.sem = fun _ => 0)

def quiescent_KernelDO [hKernelDO : Cert.KernelDO.Facts] : Prop :=
  ∀ (m : (ℓ : Loc Cert.KernelDO.nD Cert.KernelDO.τ Cert.KernelDO.sig) → Buf (Elt Bits) ℓ) (g : Dev Cert.KernelDO.nD → PrngReg), Pre_KernelDO m →
    θ_run (Cert.KernelDO.defs (F := Bits)) (onTc (τ := Cert.KernelDO.τ) (Cert.KernelDO.main (F := Bits))) ⟨m, fun _ => 0, g⟩ (fun r => (∀ c : Dev Cert.KernelDO.nD,
      r.2.mem ((c.tc : Thread Cert.KernelDO.nD Cert.KernelDO.τ).loc Cert.KernelDO.main_arg0) = m ((c.tc : Thread Cert.KernelDO.nD Cert.KernelDO.τ).loc Cert.KernelDO.main_arg0)
      ∧ r.2.mem ((c.tc : Thread Cert.KernelDO.nD Cert.KernelDO.τ).loc Cert.KernelDO.main_arg1) = m ((c.tc : Thread Cert.KernelDO.nD Cert.KernelDO.τ).loc Cert.KernelDO.main_arg1))
      ∧ r.2.sem = fun _ => 0)

def quiescent_KernelDOIdeal [hKernelDOIdeal : Cert.KernelDOIdeal.Facts] : Prop :=
  ∀ (m : (ℓ : Loc Cert.KernelDOIdeal.nD Cert.KernelDOIdeal.τ Cert.KernelDOIdeal.sig) → Buf (Elt Ideal) ℓ) (g : Dev Cert.KernelDOIdeal.nD → PrngReg), Pre_KernelDOIdeal m →
    θ_run (Cert.KernelDOIdeal.defs (F := Ideal)) (onTc (τ := Cert.KernelDOIdeal.τ) (Cert.KernelDOIdeal.main (F := Ideal))) ⟨m, fun _ => 0, g⟩ (fun r => (∀ c : Dev Cert.KernelDOIdeal.nD,
      r.2.mem ((c.tc : Thread Cert.KernelDOIdeal.nD Cert.KernelDOIdeal.τ).loc Cert.KernelDOIdeal.main_arg0) = m ((c.tc : Thread Cert.KernelDOIdeal.nD Cert.KernelDOIdeal.τ).loc Cert.KernelDOIdeal.main_arg0)
      ∧ r.2.mem ((c.tc : Thread Cert.KernelDOIdeal.nD Cert.KernelDOIdeal.τ).loc Cert.KernelDOIdeal.main_arg1) = m ((c.tc : Thread Cert.KernelDOIdeal.nD Cert.KernelDOIdeal.τ).loc Cert.KernelDOIdeal.main_arg1))
      ∧ r.2.sem = fun _ => 0)

def quiescent_ReferenceDOIdeal [hReferenceDOIdeal : Cert.ReferenceDOIdeal.Facts] : Prop :=
  ∀ (m : (ℓ : Loc Cert.ReferenceDOIdeal.nD Cert.ReferenceDOIdeal.τ Cert.ReferenceDOIdeal.sig) → Buf (Elt Ideal) ℓ) (g : Dev Cert.ReferenceDOIdeal.nD → PrngReg), Pre_ReferenceDOIdeal m →
    θ_run (Cert.ReferenceDOIdeal.defs (F := Ideal)) (onTc (τ := Cert.ReferenceDOIdeal.τ) (Cert.ReferenceDOIdeal.main (F := Ideal))) ⟨m, fun _ => 0, g⟩ (fun r => (∀ c : Dev Cert.ReferenceDOIdeal.nD,
      r.2.mem ((c.tc : Thread Cert.ReferenceDOIdeal.nD Cert.ReferenceDOIdeal.τ).loc Cert.ReferenceDOIdeal.main_arg0) = m ((c.tc : Thread Cert.ReferenceDOIdeal.nD Cert.ReferenceDOIdeal.τ).loc Cert.ReferenceDOIdeal.main_arg0)
      ∧ r.2.mem ((c.tc : Thread Cert.ReferenceDOIdeal.nD Cert.ReferenceDOIdeal.τ).loc Cert.ReferenceDOIdeal.main_arg1) = m ((c.tc : Thread Cert.ReferenceDOIdeal.nD Cert.ReferenceDOIdeal.τ).loc Cert.ReferenceDOIdeal.main_arg1))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelAttnOut [hKernelAttnOut : Cert.KernelAttnOut.Facts] : Prop :=
  ∀ (m : (ℓ : Loc Cert.KernelAttnOut.nD Cert.KernelAttnOut.τ Cert.KernelAttnOut.sig) → Buf (Elt Bits) ℓ) (g : Dev Cert.KernelAttnOut.nD → PrngReg), Pre_KernelAttnOut m →
    θ_run (Cert.KernelAttnOut.defs (F := Bits)) (onTc (τ := Cert.KernelAttnOut.τ) (Cert.KernelAttnOut.main (F := Bits))) ⟨m, fun _ => 0, g⟩ (fun r => (∀ c : Dev Cert.KernelAttnOut.nD,
      r.2.mem ((c.tc : Thread Cert.KernelAttnOut.nD Cert.KernelAttnOut.τ).loc Cert.KernelAttnOut.main_arg0) = m ((c.tc : Thread Cert.KernelAttnOut.nD Cert.KernelAttnOut.τ).loc Cert.KernelAttnOut.main_arg0)
      ∧ r.2.mem ((c.tc : Thread Cert.KernelAttnOut.nD Cert.KernelAttnOut.τ).loc Cert.KernelAttnOut.main_arg1) = m ((c.tc : Thread Cert.KernelAttnOut.nD Cert.KernelAttnOut.τ).loc Cert.KernelAttnOut.main_arg1)
      ∧ r.2.mem ((c.tc : Thread Cert.KernelAttnOut.nD Cert.KernelAttnOut.τ).loc Cert.KernelAttnOut.main_arg2) = m ((c.tc : Thread Cert.KernelAttnOut.nD Cert.KernelAttnOut.τ).loc Cert.KernelAttnOut.main_arg2)
      ∧ r.2.mem ((c.tc : Thread Cert.KernelAttnOut.nD Cert.KernelAttnOut.τ).loc Cert.KernelAttnOut.main_arg3) = m ((c.tc : Thread Cert.KernelAttnOut.nD Cert.KernelAttnOut.τ).loc Cert.KernelAttnOut.main_arg3))
      ∧ r.2.sem = fun _ => 0)

def quiescent_KernelAttnOutIdeal [hKernelAttnOutIdeal : Cert.KernelAttnOutIdeal.Facts] : Prop :=
  ∀ (m : (ℓ : Loc Cert.KernelAttnOutIdeal.nD Cert.KernelAttnOutIdeal.τ Cert.KernelAttnOutIdeal.sig) → Buf (Elt Ideal) ℓ) (g : Dev Cert.KernelAttnOutIdeal.nD → PrngReg), Pre_KernelAttnOutIdeal m →
    θ_run (Cert.KernelAttnOutIdeal.defs (F := Ideal)) (onTc (τ := Cert.KernelAttnOutIdeal.τ) (Cert.KernelAttnOutIdeal.main (F := Ideal))) ⟨m, fun _ => 0, g⟩ (fun r => (∀ c : Dev Cert.KernelAttnOutIdeal.nD,
      r.2.mem ((c.tc : Thread Cert.KernelAttnOutIdeal.nD Cert.KernelAttnOutIdeal.τ).loc Cert.KernelAttnOutIdeal.main_arg0) = m ((c.tc : Thread Cert.KernelAttnOutIdeal.nD Cert.KernelAttnOutIdeal.τ).loc Cert.KernelAttnOutIdeal.main_arg0)
      ∧ r.2.mem ((c.tc : Thread Cert.KernelAttnOutIdeal.nD Cert.KernelAttnOutIdeal.τ).loc Cert.KernelAttnOutIdeal.main_arg1) = m ((c.tc : Thread Cert.KernelAttnOutIdeal.nD Cert.KernelAttnOutIdeal.τ).loc Cert.KernelAttnOutIdeal.main_arg1)
      ∧ r.2.mem ((c.tc : Thread Cert.KernelAttnOutIdeal.nD Cert.KernelAttnOutIdeal.τ).loc Cert.KernelAttnOutIdeal.main_arg2) = m ((c.tc : Thread Cert.KernelAttnOutIdeal.nD Cert.KernelAttnOutIdeal.τ).loc Cert.KernelAttnOutIdeal.main_arg2)
      ∧ r.2.mem ((c.tc : Thread Cert.KernelAttnOutIdeal.nD Cert.KernelAttnOutIdeal.τ).loc Cert.KernelAttnOutIdeal.main_arg3) = m ((c.tc : Thread Cert.KernelAttnOutIdeal.nD Cert.KernelAttnOutIdeal.τ).loc Cert.KernelAttnOutIdeal.main_arg3))
      ∧ r.2.sem = fun _ => 0)

def quiescent_ReferenceAttnOutIdeal [hReferenceAttnOutIdeal : Cert.ReferenceAttnOutIdeal.Facts] : Prop :=
  ∀ (m : (ℓ : Loc Cert.ReferenceAttnOutIdeal.nD Cert.ReferenceAttnOutIdeal.τ Cert.ReferenceAttnOutIdeal.sig) → Buf (Elt Ideal) ℓ) (g : Dev Cert.ReferenceAttnOutIdeal.nD → PrngReg), Pre_ReferenceAttnOutIdeal m →
    θ_run (Cert.ReferenceAttnOutIdeal.defs (F := Ideal)) (onTc (τ := Cert.ReferenceAttnOutIdeal.τ) (Cert.ReferenceAttnOutIdeal.main (F := Ideal))) ⟨m, fun _ => 0, g⟩ (fun r => (∀ c : Dev Cert.ReferenceAttnOutIdeal.nD,
      r.2.mem ((c.tc : Thread Cert.ReferenceAttnOutIdeal.nD Cert.ReferenceAttnOutIdeal.τ).loc Cert.ReferenceAttnOutIdeal.main_arg0) = m ((c.tc : Thread Cert.ReferenceAttnOutIdeal.nD Cert.ReferenceAttnOutIdeal.τ).loc Cert.ReferenceAttnOutIdeal.main_arg0)
      ∧ r.2.mem ((c.tc : Thread Cert.ReferenceAttnOutIdeal.nD Cert.ReferenceAttnOutIdeal.τ).loc Cert.ReferenceAttnOutIdeal.main_arg1) = m ((c.tc : Thread Cert.ReferenceAttnOutIdeal.nD Cert.ReferenceAttnOutIdeal.τ).loc Cert.ReferenceAttnOutIdeal.main_arg1)
      ∧ r.2.mem ((c.tc : Thread Cert.ReferenceAttnOutIdeal.nD Cert.ReferenceAttnOutIdeal.τ).loc Cert.ReferenceAttnOutIdeal.main_arg2) = m ((c.tc : Thread Cert.ReferenceAttnOutIdeal.nD Cert.ReferenceAttnOutIdeal.τ).loc Cert.ReferenceAttnOutIdeal.main_arg2)
      ∧ r.2.mem ((c.tc : Thread Cert.ReferenceAttnOutIdeal.nD Cert.ReferenceAttnOutIdeal.τ).loc Cert.ReferenceAttnOutIdeal.main_arg3) = m ((c.tc : Thread Cert.ReferenceAttnOutIdeal.nD Cert.ReferenceAttnOutIdeal.τ).loc Cert.ReferenceAttnOutIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2))
      ∧ r.2.sem = fun _ => 0)

def quiescent_KernelDH1 [hKernelDH1 : Cert.KernelDH1.Facts] : Prop :=
  ∀ (m : (ℓ : Loc Cert.KernelDH1.nD Cert.KernelDH1.τ Cert.KernelDH1.sig) → Buf (Elt Bits) ℓ) (g : Dev Cert.KernelDH1.nD → PrngReg), Pre_KernelDH1 m →
    θ_run (Cert.KernelDH1.defs (F := Bits)) (onTc (τ := Cert.KernelDH1.τ) (Cert.KernelDH1.main (F := Bits))) ⟨m, fun _ => 0, g⟩ (fun r => (∀ c : Dev Cert.KernelDH1.nD,
      r.2.mem ((c.tc : Thread Cert.KernelDH1.nD Cert.KernelDH1.τ).loc Cert.KernelDH1.main_arg0) = m ((c.tc : Thread Cert.KernelDH1.nD Cert.KernelDH1.τ).loc Cert.KernelDH1.main_arg0)
      ∧ r.2.mem ((c.tc : Thread Cert.KernelDH1.nD Cert.KernelDH1.τ).loc Cert.KernelDH1.main_arg1) = m ((c.tc : Thread Cert.KernelDH1.nD Cert.KernelDH1.τ).loc Cert.KernelDH1.main_arg1)
      ∧ r.2.mem ((c.tc : Thread Cert.KernelDH1.nD Cert.KernelDH1.τ).loc Cert.KernelDH1.main_arg2) = m ((c.tc : Thread Cert.KernelDH1.nD Cert.KernelDH1.τ).loc Cert.KernelDH1.main_arg2)
      ∧ r.2.mem ((c.tc : Thread Cert.KernelDH1.nD Cert.KernelDH1.τ).loc Cert.KernelDH1.main_arg3) = m ((c.tc : Thread Cert.KernelDH1.nD Cert.KernelDH1.τ).loc Cert.KernelDH1.main_arg3)
      ∧ r.2.mem ((c.tc : Thread Cert.KernelDH1.nD Cert.KernelDH1.τ).loc Cert.KernelDH1.main_arg4) = m ((c.tc : Thread Cert.KernelDH1.nD Cert.KernelDH1.τ).loc Cert.KernelDH1.main_arg4))
      ∧ r.2.sem = fun _ => 0)

def quiescent_KernelDH1Ideal [hKernelDH1Ideal : Cert.KernelDH1Ideal.Facts] : Prop :=
  ∀ (m : (ℓ : Loc Cert.KernelDH1Ideal.nD Cert.KernelDH1Ideal.τ Cert.KernelDH1Ideal.sig) → Buf (Elt Ideal) ℓ) (g : Dev Cert.KernelDH1Ideal.nD → PrngReg), Pre_KernelDH1Ideal m →
    θ_run (Cert.KernelDH1Ideal.defs (F := Ideal)) (onTc (τ := Cert.KernelDH1Ideal.τ) (Cert.KernelDH1Ideal.main (F := Ideal))) ⟨m, fun _ => 0, g⟩ (fun r => (∀ c : Dev Cert.KernelDH1Ideal.nD,
      r.2.mem ((c.tc : Thread Cert.KernelDH1Ideal.nD Cert.KernelDH1Ideal.τ).loc Cert.KernelDH1Ideal.main_arg0) = m ((c.tc : Thread Cert.KernelDH1Ideal.nD Cert.KernelDH1Ideal.τ).loc Cert.KernelDH1Ideal.main_arg0)
      ∧ r.2.mem ((c.tc : Thread Cert.KernelDH1Ideal.nD Cert.KernelDH1Ideal.τ).loc Cert.KernelDH1Ideal.main_arg1) = m ((c.tc : Thread Cert.KernelDH1Ideal.nD Cert.KernelDH1Ideal.τ).loc Cert.KernelDH1Ideal.main_arg1)
      ∧ r.2.mem ((c.tc : Thread Cert.KernelDH1Ideal.nD Cert.KernelDH1Ideal.τ).loc Cert.KernelDH1Ideal.main_arg2) = m ((c.tc : Thread Cert.KernelDH1Ideal.nD Cert.KernelDH1Ideal.τ).loc Cert.KernelDH1Ideal.main_arg2)
      ∧ r.2.mem ((c.tc : Thread Cert.KernelDH1Ideal.nD Cert.KernelDH1Ideal.τ).loc Cert.KernelDH1Ideal.main_arg3) = m ((c.tc : Thread Cert.KernelDH1Ideal.nD Cert.KernelDH1Ideal.τ).loc Cert.KernelDH1Ideal.main_arg3)
      ∧ r.2.mem ((c.tc : Thread Cert.KernelDH1Ideal.nD Cert.KernelDH1Ideal.τ).loc Cert.KernelDH1Ideal.main_arg4) = m ((c.tc : Thread Cert.KernelDH1Ideal.nD Cert.KernelDH1Ideal.τ).loc Cert.KernelDH1Ideal.main_arg4))
      ∧ r.2.sem = fun _ => 0)

def quiescent_ReferenceDH1Ideal [hReferenceDH1Ideal : Cert.ReferenceDH1Ideal.Facts] : Prop :=
  ∀ (m : (ℓ : Loc Cert.ReferenceDH1Ideal.nD Cert.ReferenceDH1Ideal.τ Cert.ReferenceDH1Ideal.sig) → Buf (Elt Ideal) ℓ) (g : Dev Cert.ReferenceDH1Ideal.nD → PrngReg), Pre_ReferenceDH1Ideal m →
    θ_run (Cert.ReferenceDH1Ideal.defs (F := Ideal)) (onTc (τ := Cert.ReferenceDH1Ideal.τ) (Cert.ReferenceDH1Ideal.main (F := Ideal))) ⟨m, fun _ => 0, g⟩ (fun r => (∀ c : Dev Cert.ReferenceDH1Ideal.nD,
      r.2.mem ((c.tc : Thread Cert.ReferenceDH1Ideal.nD Cert.ReferenceDH1Ideal.τ).loc Cert.ReferenceDH1Ideal.main_arg0) = m ((c.tc : Thread Cert.ReferenceDH1Ideal.nD Cert.ReferenceDH1Ideal.τ).loc Cert.ReferenceDH1Ideal.main_arg0)
      ∧ r.2.mem ((c.tc : Thread Cert.ReferenceDH1Ideal.nD Cert.ReferenceDH1Ideal.τ).loc Cert.ReferenceDH1Ideal.main_arg1) = m ((c.tc : Thread Cert.ReferenceDH1Ideal.nD Cert.ReferenceDH1Ideal.τ).loc Cert.ReferenceDH1Ideal.main_arg1)
      ∧ r.2.mem ((c.tc : Thread Cert.ReferenceDH1Ideal.nD Cert.ReferenceDH1Ideal.τ).loc Cert.ReferenceDH1Ideal.main_arg2) = m ((c.tc : Thread Cert.ReferenceDH1Ideal.nD Cert.ReferenceDH1Ideal.τ).loc Cert.ReferenceDH1Ideal.main_arg2)
      ∧ r.2.mem ((c.tc : Thread Cert.ReferenceDH1Ideal.nD Cert.ReferenceDH1Ideal.τ).loc Cert.ReferenceDH1Ideal.main_arg3) = m ((c.tc : Thread Cert.ReferenceDH1Ideal.nD Cert.ReferenceDH1Ideal.τ).loc Cert.ReferenceDH1Ideal.main_arg3)
      ∧ r.2.mem ((c.tc : Thread Cert.ReferenceDH1Ideal.nD Cert.ReferenceDH1Ideal.τ).loc Cert.ReferenceDH1Ideal.main_arg4) = m ((c.tc : Thread Cert.ReferenceDH1Ideal.nD Cert.ReferenceDH1Ideal.τ).loc Cert.ReferenceDH1Ideal.main_arg4))
      ∧ r.2.sem = fun _ => 0)

def quiescent_KernelDH0 [hKernelDH0 : Cert.KernelDH0.Facts] : Prop :=
  ∀ (m : (ℓ : Loc Cert.KernelDH0.nD Cert.KernelDH0.τ Cert.KernelDH0.sig) → Buf (Elt Bits) ℓ) (g : Dev Cert.KernelDH0.nD → PrngReg), Pre_KernelDH0 m →
    θ_run (Cert.KernelDH0.defs (F := Bits)) (onTc (τ := Cert.KernelDH0.τ) (Cert.KernelDH0.main (F := Bits))) ⟨m, fun _ => 0, g⟩ (fun r => (∀ c : Dev Cert.KernelDH0.nD,
      r.2.mem ((c.tc : Thread Cert.KernelDH0.nD Cert.KernelDH0.τ).loc Cert.KernelDH0.main_arg0) = m ((c.tc : Thread Cert.KernelDH0.nD Cert.KernelDH0.τ).loc Cert.KernelDH0.main_arg0)
      ∧ r.2.mem ((c.tc : Thread Cert.KernelDH0.nD Cert.KernelDH0.τ).loc Cert.KernelDH0.main_arg1) = m ((c.tc : Thread Cert.KernelDH0.nD Cert.KernelDH0.τ).loc Cert.KernelDH0.main_arg1)
      ∧ r.2.mem ((c.tc : Thread Cert.KernelDH0.nD Cert.KernelDH0.τ).loc Cert.KernelDH0.main_arg2) = m ((c.tc : Thread Cert.KernelDH0.nD Cert.KernelDH0.τ).loc Cert.KernelDH0.main_arg2)
      ∧ r.2.mem ((c.tc : Thread Cert.KernelDH0.nD Cert.KernelDH0.τ).loc Cert.KernelDH0.main_arg3) = m ((c.tc : Thread Cert.KernelDH0.nD Cert.KernelDH0.τ).loc Cert.KernelDH0.main_arg3)
      ∧ r.2.mem ((c.tc : Thread Cert.KernelDH0.nD Cert.KernelDH0.τ).loc Cert.KernelDH0.main_arg4) = m ((c.tc : Thread Cert.KernelDH0.nD Cert.KernelDH0.τ).loc Cert.KernelDH0.main_arg4))
      ∧ r.2.sem = fun _ => 0)

def quiescent_KernelDH0Ideal [hKernelDH0Ideal : Cert.KernelDH0Ideal.Facts] : Prop :=
  ∀ (m : (ℓ : Loc Cert.KernelDH0Ideal.nD Cert.KernelDH0Ideal.τ Cert.KernelDH0Ideal.sig) → Buf (Elt Ideal) ℓ) (g : Dev Cert.KernelDH0Ideal.nD → PrngReg), Pre_KernelDH0Ideal m →
    θ_run (Cert.KernelDH0Ideal.defs (F := Ideal)) (onTc (τ := Cert.KernelDH0Ideal.τ) (Cert.KernelDH0Ideal.main (F := Ideal))) ⟨m, fun _ => 0, g⟩ (fun r => (∀ c : Dev Cert.KernelDH0Ideal.nD,
      r.2.mem ((c.tc : Thread Cert.KernelDH0Ideal.nD Cert.KernelDH0Ideal.τ).loc Cert.KernelDH0Ideal.main_arg0) = m ((c.tc : Thread Cert.KernelDH0Ideal.nD Cert.KernelDH0Ideal.τ).loc Cert.KernelDH0Ideal.main_arg0)
      ∧ r.2.mem ((c.tc : Thread Cert.KernelDH0Ideal.nD Cert.KernelDH0Ideal.τ).loc Cert.KernelDH0Ideal.main_arg1) = m ((c.tc : Thread Cert.KernelDH0Ideal.nD Cert.KernelDH0Ideal.τ).loc Cert.KernelDH0Ideal.main_arg1)
      ∧ r.2.mem ((c.tc : Thread Cert.KernelDH0Ideal.nD Cert.KernelDH0Ideal.τ).loc Cert.KernelDH0Ideal.main_arg2) = m ((c.tc : Thread Cert.KernelDH0Ideal.nD Cert.KernelDH0Ideal.τ).loc Cert.KernelDH0Ideal.main_arg2)
      ∧ r.2.mem ((c.tc : Thread Cert.KernelDH0Ideal.nD Cert.KernelDH0Ideal.τ).loc Cert.KernelDH0Ideal.main_arg3) = m ((c.tc : Thread Cert.KernelDH0Ideal.nD Cert.KernelDH0Ideal.τ).loc Cert.KernelDH0Ideal.main_arg3)
      ∧ r.2.mem ((c.tc : Thread Cert.KernelDH0Ideal.nD Cert.KernelDH0Ideal.τ).loc Cert.KernelDH0Ideal.main_arg4) = m ((c.tc : Thread Cert.KernelDH0Ideal.nD Cert.KernelDH0Ideal.τ).loc Cert.KernelDH0Ideal.main_arg4))
      ∧ r.2.sem = fun _ => 0)

def quiescent_ReferenceDH0Ideal [hReferenceDH0Ideal : Cert.ReferenceDH0Ideal.Facts] : Prop :=
  ∀ (m : (ℓ : Loc Cert.ReferenceDH0Ideal.nD Cert.ReferenceDH0Ideal.τ Cert.ReferenceDH0Ideal.sig) → Buf (Elt Ideal) ℓ) (g : Dev Cert.ReferenceDH0Ideal.nD → PrngReg), Pre_ReferenceDH0Ideal m →
    θ_run (Cert.ReferenceDH0Ideal.defs (F := Ideal)) (onTc (τ := Cert.ReferenceDH0Ideal.τ) (Cert.ReferenceDH0Ideal.main (F := Ideal))) ⟨m, fun _ => 0, g⟩ (fun r => (∀ c : Dev Cert.ReferenceDH0Ideal.nD,
      r.2.mem ((c.tc : Thread Cert.ReferenceDH0Ideal.nD Cert.ReferenceDH0Ideal.τ).loc Cert.ReferenceDH0Ideal.main_arg0) = m ((c.tc : Thread Cert.ReferenceDH0Ideal.nD Cert.ReferenceDH0Ideal.τ).loc Cert.ReferenceDH0Ideal.main_arg0)
      ∧ r.2.mem ((c.tc : Thread Cert.ReferenceDH0Ideal.nD Cert.ReferenceDH0Ideal.τ).loc Cert.ReferenceDH0Ideal.main_arg1) = m ((c.tc : Thread Cert.ReferenceDH0Ideal.nD Cert.ReferenceDH0Ideal.τ).loc Cert.ReferenceDH0Ideal.main_arg1)
      ∧ r.2.mem ((c.tc : Thread Cert.ReferenceDH0Ideal.nD Cert.ReferenceDH0Ideal.τ).loc Cert.ReferenceDH0Ideal.main_arg2) = m ((c.tc : Thread Cert.ReferenceDH0Ideal.nD Cert.ReferenceDH0Ideal.τ).loc Cert.ReferenceDH0Ideal.main_arg2)
      ∧ r.2.mem ((c.tc : Thread Cert.ReferenceDH0Ideal.nD Cert.ReferenceDH0Ideal.τ).loc Cert.ReferenceDH0Ideal.main_arg3) = m ((c.tc : Thread Cert.ReferenceDH0Ideal.nD Cert.ReferenceDH0Ideal.τ).loc Cert.ReferenceDH0Ideal.main_arg3)
      ∧ r.2.mem ((c.tc : Thread Cert.ReferenceDH0Ideal.nD Cert.ReferenceDH0Ideal.τ).loc Cert.ReferenceDH0Ideal.main_arg4) = m ((c.tc : Thread Cert.ReferenceDH0Ideal.nD Cert.ReferenceDH0Ideal.τ).loc Cert.ReferenceDH0Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)) →
    ∃ (v0 : (c : Dev Cert.KernelDwDownIdeal.nD) → Buf (Elt Ideal) ((c.tc : Thread Cert.KernelDwDownIdeal.nD Cert.KernelDwDownIdeal.τ).loc Cert.KernelDwDownIdeal.main_v0)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v0) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v7) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1))

def preserves_KernelDPre_KernelDPreIdeal : Prop :=
  True

def algebraic_KernelDPreIdeal_ReferenceDPreIdeal [hKernelDPreIdeal : Cert.KernelDPreIdeal.Facts] [hReferenceDPreIdeal : Cert.ReferenceDPreIdeal.Facts] : Prop :=
  ∀ (m : (ℓ : Loc Cert.KernelDPreIdeal.nD Cert.KernelDPreIdeal.τ Cert.KernelDPreIdeal.sig) → Buf (Elt Ideal) ℓ) (g : Dev Cert.KernelDPreIdeal.nD → PrngReg)
    (m' : (ℓ : Loc Cert.ReferenceDPreIdeal.nD Cert.ReferenceDPreIdeal.τ Cert.ReferenceDPreIdeal.sig) → Buf (Elt Ideal) ℓ) (g' : Dev Cert.ReferenceDPreIdeal.nD → PrngReg), Pre_KernelDPreIdeal m →
    (∀ c : Dev Cert.KernelDPreIdeal.nD,
      m' ((c.tc : Thread Cert.ReferenceDPreIdeal.nD Cert.ReferenceDPreIdeal.τ).loc Cert.ReferenceDPreIdeal.main_arg0) = m ((c.tc : Thread Cert.KernelDPreIdeal.nD Cert.KernelDPreIdeal.τ).loc Cert.KernelDPreIdeal.main_arg0)
      ∧ m' ((c.tc : Thread Cert.ReferenceDPreIdeal.nD Cert.ReferenceDPreIdeal.τ).loc Cert.ReferenceDPreIdeal.main_arg1) = m ((c.tc : Thread Cert.KernelDPreIdeal.nD Cert.KernelDPreIdeal.τ).loc Cert.KernelDPreIdeal.main_arg1)
      ∧ m' ((c.tc : Thread Cert.ReferenceDPreIdeal.nD Cert.ReferenceDPreIdeal.τ).loc Cert.ReferenceDPreIdeal.main_arg2) = m ((c.tc : Thread Cert.KernelDPreIdeal.nD Cert.KernelDPreIdeal.τ).loc Cert.KernelDPreIdeal.main_arg2)) →
    ∃ (v0 : (c : Dev Cert.KernelDPreIdeal.nD) → Buf (Elt Ideal) ((c.tc : Thread Cert.KernelDPreIdeal.nD Cert.KernelDPreIdeal.τ).loc Cert.KernelDPreIdeal.main_v0)),
      θ_run (Cert.KernelDPreIdeal.defs (F := Ideal)) (onTc (τ := Cert.KernelDPreIdeal.τ) (Cert.KernelDPreIdeal.main (F := Ideal))) ⟨m, fun _ => 0, g⟩ (fun r => ∀ c : Dev Cert.KernelDPreIdeal.nD,
          r.2.mem ((c.tc : Thread Cert.KernelDPreIdeal.nD Cert.KernelDPreIdeal.τ).loc Cert.KernelDPreIdeal.main_v0) = v0 c
          ∧ r.2.mem ((c.tc : Thread Cert.KernelDPreIdeal.nD Cert.KernelDPreIdeal.τ).loc Cert.KernelDPreIdeal.main_arg0) = m ((c.tc : Thread Cert.KernelDPreIdeal.nD Cert.KernelDPreIdeal.τ).loc Cert.KernelDPreIdeal.main_arg0)
          ∧ r.2.mem ((c.tc : Thread Cert.KernelDPreIdeal.nD Cert.KernelDPreIdeal.τ).loc Cert.KernelDPreIdeal.main_arg1) = m ((c.tc : Thread Cert.KernelDPreIdeal.nD Cert.KernelDPreIdeal.τ).loc Cert.KernelDPreIdeal.main_arg1)
          ∧ r.2.mem ((c.tc : Thread Cert.KernelDPreIdeal.nD Cert.KernelDPreIdeal.τ).loc Cert.KernelDPreIdeal.main_arg2) = m ((c.tc : Thread Cert.KernelDPreIdeal.nD Cert.KernelDPreIdeal.τ).loc Cert.KernelDPreIdeal.main_arg2))
      ∧ θ_run (Cert.ReferenceDPreIdeal.defs (F := Ideal)) (onTc (τ := Cert.ReferenceDPreIdeal.τ) (Cert.ReferenceDPreIdeal.main (F := Ideal))) ⟨m', fun _ => 0, g'⟩ (fun r => ∀ c : Dev Cert.ReferenceDPreIdeal.nD,
          r.2.mem ((c.tc : Thread Cert.ReferenceDPreIdeal.nD Cert.ReferenceDPreIdeal.τ).loc Cert.ReferenceDPreIdeal.main_v14) = v0 c
          ∧ r.2.mem ((c.tc : Thread Cert.ReferenceDPreIdeal.nD Cert.ReferenceDPreIdeal.τ).loc Cert.ReferenceDPreIdeal.main_arg0) = m' ((c.tc : Thread Cert.ReferenceDPreIdeal.nD Cert.ReferenceDPreIdeal.τ).loc Cert.ReferenceDPreIdeal.main_arg0)
          ∧ r.2.mem ((c.tc : Thread Cert.ReferenceDPreIdeal.nD Cert.ReferenceDPreIdeal.τ).loc Cert.ReferenceDPreIdeal.main_arg1) = m' ((c.tc : Thread Cert.ReferenceDPreIdeal.nD Cert.ReferenceDPreIdeal.τ).loc Cert.ReferenceDPreIdeal.main_arg1)
          ∧ r.2.mem ((c.tc : Thread Cert.ReferenceDPreIdeal.nD Cert.ReferenceDPreIdeal.τ).loc Cert.ReferenceDPreIdeal.main_arg2) = m' ((c.tc : Thread Cert.ReferenceDPreIdeal.nD Cert.ReferenceDPreIdeal.τ).loc Cert.ReferenceDPreIdeal.main_arg2))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)) →
    ∃ (v0 : (c : Dev Cert.KernelDwUpIdeal.nD) → Buf (Elt Ideal) ((c.tc : Thread Cert.KernelDwUpIdeal.nD Cert.KernelDwUpIdeal.τ).loc Cert.KernelDwUpIdeal.main_v0)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v0) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v6) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1))

def preserves_KernelDwQkv_KernelDwQkvIdeal : Prop :=
  True

def algebraic_KernelDwQkvIdeal_ReferenceDwQkvIdeal [hKernelDwQkvIdeal : Cert.KernelDwQkvIdeal.Facts] [hReferenceDwQkvIdeal : Cert.ReferenceDwQkvIdeal.Facts] : Prop :=
  ∀ (m : (ℓ : Loc Cert.KernelDwQkvIdeal.nD Cert.KernelDwQkvIdeal.τ Cert.KernelDwQkvIdeal.sig) → Buf (Elt Ideal) ℓ) (g : Dev Cert.KernelDwQkvIdeal.nD → PrngReg)
    (m' : (ℓ : Loc Cert.ReferenceDwQkvIdeal.nD Cert.ReferenceDwQkvIdeal.τ Cert.ReferenceDwQkvIdeal.sig) → Buf (Elt Ideal) ℓ) (g' : Dev Cert.ReferenceDwQkvIdeal.nD → PrngReg), Pre_KernelDwQkvIdeal m →
    (∀ c : Dev Cert.KernelDwQkvIdeal.nD,
      m' ((c.tc : Thread Cert.ReferenceDwQkvIdeal.nD Cert.ReferenceDwQkvIdeal.τ).loc Cert.ReferenceDwQkvIdeal.main_arg0) = m ((c.tc : Thread Cert.KernelDwQkvIdeal.nD Cert.KernelDwQkvIdeal.τ).loc Cert.KernelDwQkvIdeal.main_arg0)
      ∧ m' ((c.tc : Thread Cert.ReferenceDwQkvIdeal.nD Cert.ReferenceDwQkvIdeal.τ).loc Cert.ReferenceDwQkvIdeal.main_arg1) = m ((c.tc : Thread Cert.KernelDwQkvIdeal.nD Cert.KernelDwQkvIdeal.τ).loc Cert.KernelDwQkvIdeal.main_arg1)) →
    ∃ (v0 : (c : Dev Cert.KernelDwQkvIdeal.nD) → Buf (Elt Ideal) ((c.tc : Thread Cert.KernelDwQkvIdeal.nD Cert.KernelDwQkvIdeal.τ).loc Cert.KernelDwQkvIdeal.main_v0)),
      θ_run (Cert.KernelDwQkvIdeal.defs (F := Ideal)) (onTc (τ := Cert.KernelDwQkvIdeal.τ) (Cert.KernelDwQkvIdeal.main (F := Ideal))) ⟨m, fun _ => 0, g⟩ (fun r => ∀ c : Dev Cert.KernelDwQkvIdeal.nD,
          r.2.mem ((c.tc : Thread Cert.KernelDwQkvIdeal.nD Cert.KernelDwQkvIdeal.τ).loc Cert.KernelDwQkvIdeal.main_v0) = v0 c
          ∧ r.2.mem ((c.tc : Thread Cert.KernelDwQkvIdeal.nD Cert.KernelDwQkvIdeal.τ).loc Cert.KernelDwQkvIdeal.main_arg0) = m ((c.tc : Thread Cert.KernelDwQkvIdeal.nD Cert.KernelDwQkvIdeal.τ).loc Cert.KernelDwQkvIdeal.main_arg0)
          ∧ r.2.mem ((c.tc : Thread Cert.KernelDwQkvIdeal.nD Cert.KernelDwQkvIdeal.τ).loc Cert.KernelDwQkvIdeal.main_arg1) = m ((c.tc : Thread Cert.KernelDwQkvIdeal.nD Cert.KernelDwQkvIdeal.τ).loc Cert.KernelDwQkvIdeal.main_arg1))
      ∧ θ_run (Cert.ReferenceDwQkvIdeal.defs (F := Ideal)) (onTc (τ := Cert.ReferenceDwQkvIdeal.τ) (Cert.ReferenceDwQkvIdeal.main (F := Ideal))) ⟨m', fun _ => 0, g'⟩ (fun r => ∀ c : Dev Cert.ReferenceDwQkvIdeal.nD,
          r.2.mem ((c.tc : Thread Cert.ReferenceDwQkvIdeal.nD Cert.ReferenceDwQkvIdeal.τ).loc Cert.ReferenceDwQkvIdeal.main_v6) = v0 c
          ∧ r.2.mem ((c.tc : Thread Cert.ReferenceDwQkvIdeal.nD Cert.ReferenceDwQkvIdeal.τ).loc Cert.ReferenceDwQkvIdeal.main_arg0) = m' ((c.tc : Thread Cert.ReferenceDwQkvIdeal.nD Cert.ReferenceDwQkvIdeal.τ).loc Cert.ReferenceDwQkvIdeal.main_arg0)
          ∧ r.2.mem ((c.tc : Thread Cert.ReferenceDwQkvIdeal.nD Cert.ReferenceDwQkvIdeal.τ).loc Cert.ReferenceDwQkvIdeal.main_arg1) = m' ((c.tc : Thread Cert.ReferenceDwQkvIdeal.nD Cert.ReferenceDwQkvIdeal.τ).loc Cert.ReferenceDwQkvIdeal.main_arg1))

def preserves_KernelDwO_KernelDwOIdeal : Prop :=
  True

def algebraic_KernelDwOIdeal_ReferenceDwOIdeal [hKernelDwOIdeal : Cert.KernelDwOIdeal.Facts] [hReferenceDwOIdeal : Cert.ReferenceDwOIdeal.Facts] : Prop :=
  ∀ (m : (ℓ : Loc Cert.KernelDwOIdeal.nD Cert.KernelDwOIdeal.τ Cert.KernelDwOIdeal.sig) → Buf (Elt Ideal) ℓ) (g : Dev Cert.KernelDwOIdeal.nD → PrngReg)
    (m' : (ℓ : Loc Cert.ReferenceDwOIdeal.nD Cert.ReferenceDwOIdeal.τ Cert.ReferenceDwOIdeal.sig) → Buf (Elt Ideal) ℓ) (g' : Dev Cert.ReferenceDwOIdeal.nD → PrngReg), Pre_KernelDwOIdeal m →
    (∀ c : Dev Cert.KernelDwOIdeal.nD,
      m' ((c.tc : Thread Cert.ReferenceDwOIdeal.nD Cert.ReferenceDwOIdeal.τ).loc Cert.ReferenceDwOIdeal.main_arg0) = m ((c.tc : Thread Cert.KernelDwOIdeal.nD Cert.KernelDwOIdeal.τ).loc Cert.KernelDwOIdeal.main_arg0)
      ∧ m' ((c.tc : Thread Cert.ReferenceDwOIdeal.nD Cert.ReferenceDwOIdeal.τ).loc Cert.ReferenceDwOIdeal.main_arg1) = m ((c.tc : Thread Cert.KernelDwOIdeal.nD Cert.KernelDwOIdeal.τ).loc Cert.KernelDwOIdeal.main_arg1)) →
    ∃ (v0 : (c : Dev Cert.KernelDwOIdeal.nD) → Buf (Elt Ideal) ((c.tc : Thread Cert.KernelDwOIdeal.nD Cert.KernelDwOIdeal.τ).loc Cert.KernelDwOIdeal.main_v0)),
      θ_run (Cert.KernelDwOIdeal.defs (F := Ideal)) (onTc (τ := Cert.KernelDwOIdeal.τ) (Cert.KernelDwOIdeal.main (F := Ideal))) ⟨m, fun _ => 0, g⟩ (fun r => ∀ c : Dev Cert.KernelDwOIdeal.nD,
          r.2.mem ((c.tc : Thread Cert.KernelDwOIdeal.nD Cert.KernelDwOIdeal.τ).loc Cert.KernelDwOIdeal.main_v0) = v0 c
          ∧ r.2.mem ((c.tc : Thread Cert.KernelDwOIdeal.nD Cert.KernelDwOIdeal.τ).loc Cert.KernelDwOIdeal.main_arg0) = m ((c.tc : Thread Cert.KernelDwOIdeal.nD Cert.KernelDwOIdeal.τ).loc Cert.KernelDwOIdeal.main_arg0)
          ∧ r.2.mem ((c.tc : Thread Cert.KernelDwOIdeal.nD Cert.KernelDwOIdeal.τ).loc Cert.KernelDwOIdeal.main_arg1) = m ((c.tc : Thread Cert.KernelDwOIdeal.nD Cert.KernelDwOIdeal.τ).loc Cert.KernelDwOIdeal.main_arg1))
      ∧ θ_run (Cert.ReferenceDwOIdeal.defs (F := Ideal)) (onTc (τ := Cert.ReferenceDwOIdeal.τ) (Cert.ReferenceDwOIdeal.main (F := Ideal))) ⟨m', fun _ => 0, g'⟩ (fun r => ∀ c : Dev Cert.ReferenceDwOIdeal.nD,
          r.2.mem ((c.tc : Thread Cert.ReferenceDwOIdeal.nD Cert.ReferenceDwOIdeal.τ).loc Cert.ReferenceDwOIdeal.main_v5) = v0 c
          ∧ r.2.mem ((c.tc : Thread Cert.ReferenceDwOIdeal.nD Cert.ReferenceDwOIdeal.τ).loc Cert.ReferenceDwOIdeal.main_arg0) = m' ((c.tc : Thread Cert.ReferenceDwOIdeal.nD Cert.ReferenceDwOIdeal.τ).loc Cert.ReferenceDwOIdeal.main_arg0)
          ∧ r.2.mem ((c.tc : Thread Cert.ReferenceDwOIdeal.nD Cert.ReferenceDwOIdeal.τ).loc Cert.ReferenceDwOIdeal.main_arg1) = m' ((c.tc : Thread Cert.ReferenceDwOIdeal.nD Cert.ReferenceDwOIdeal.τ).loc Cert.ReferenceDwOIdeal.main_arg1))

def preserves_KernelDO_KernelDOIdeal : Prop :=
  True

def algebraic_KernelDOIdeal_ReferenceDOIdeal [hKernelDOIdeal : Cert.KernelDOIdeal.Facts] [hReferenceDOIdeal : Cert.ReferenceDOIdeal.Facts] : Prop :=
  ∀ (m : (ℓ : Loc Cert.KernelDOIdeal.nD Cert.KernelDOIdeal.τ Cert.KernelDOIdeal.sig) → Buf (Elt Ideal) ℓ) (g : Dev Cert.KernelDOIdeal.nD → PrngReg)
    (m' : (ℓ : Loc Cert.ReferenceDOIdeal.nD Cert.ReferenceDOIdeal.τ Cert.ReferenceDOIdeal.sig) → Buf (Elt Ideal) ℓ) (g' : Dev Cert.ReferenceDOIdeal.nD → PrngReg), Pre_KernelDOIdeal m →
    (∀ c : Dev Cert.KernelDOIdeal.nD,
      m' ((c.tc : Thread Cert.ReferenceDOIdeal.nD Cert.ReferenceDOIdeal.τ).loc Cert.ReferenceDOIdeal.main_arg0) = m ((c.tc : Thread Cert.KernelDOIdeal.nD Cert.KernelDOIdeal.τ).loc Cert.KernelDOIdeal.main_arg0)
      ∧ m' ((c.tc : Thread Cert.ReferenceDOIdeal.nD Cert.ReferenceDOIdeal.τ).loc Cert.ReferenceDOIdeal.main_arg1) = m ((c.tc : Thread Cert.KernelDOIdeal.nD Cert.KernelDOIdeal.τ).loc Cert.KernelDOIdeal.main_arg1)) →
    ∃ (v0 : (c : Dev Cert.KernelDOIdeal.nD) → Buf (Elt Ideal) ((c.tc : Thread Cert.KernelDOIdeal.nD Cert.KernelDOIdeal.τ).loc Cert.KernelDOIdeal.main_v0)),
      θ_run (Cert.KernelDOIdeal.defs (F := Ideal)) (onTc (τ := Cert.KernelDOIdeal.τ) (Cert.KernelDOIdeal.main (F := Ideal))) ⟨m, fun _ => 0, g⟩ (fun r => ∀ c : Dev Cert.KernelDOIdeal.nD,
          r.2.mem ((c.tc : Thread Cert.KernelDOIdeal.nD Cert.KernelDOIdeal.τ).loc Cert.KernelDOIdeal.main_v0) = v0 c
          ∧ r.2.mem ((c.tc : Thread Cert.KernelDOIdeal.nD Cert.KernelDOIdeal.τ).loc Cert.KernelDOIdeal.main_arg0) = m ((c.tc : Thread Cert.KernelDOIdeal.nD Cert.KernelDOIdeal.τ).loc Cert.KernelDOIdeal.main_arg0)
          ∧ r.2.mem ((c.tc : Thread Cert.KernelDOIdeal.nD Cert.KernelDOIdeal.τ).loc Cert.KernelDOIdeal.main_arg1) = m ((c.tc : Thread Cert.KernelDOIdeal.nD Cert.KernelDOIdeal.τ).loc Cert.KernelDOIdeal.main_arg1))
      ∧ θ_run (Cert.ReferenceDOIdeal.defs (F := Ideal)) (onTc (τ := Cert.ReferenceDOIdeal.τ) (Cert.ReferenceDOIdeal.main (F := Ideal))) ⟨m', fun _ => 0, g'⟩ (fun r => ∀ c : Dev Cert.ReferenceDOIdeal.nD,
          r.2.mem ((c.tc : Thread Cert.ReferenceDOIdeal.nD Cert.ReferenceDOIdeal.τ).loc Cert.ReferenceDOIdeal.main_v4) = v0 c
          ∧ r.2.mem ((c.tc : Thread Cert.ReferenceDOIdeal.nD Cert.ReferenceDOIdeal.τ).loc Cert.ReferenceDOIdeal.main_arg0) = m' ((c.tc : Thread Cert.ReferenceDOIdeal.nD Cert.ReferenceDOIdeal.τ).loc Cert.ReferenceDOIdeal.main_arg0)
          ∧ r.2.mem ((c.tc : Thread Cert.ReferenceDOIdeal.nD Cert.ReferenceDOIdeal.τ).loc Cert.ReferenceDOIdeal.main_arg1) = m' ((c.tc : Thread Cert.ReferenceDOIdeal.nD Cert.ReferenceDOIdeal.τ).loc Cert.ReferenceDOIdeal.main_arg1))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v0)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v0) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v3) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v3) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelAttnOut_KernelAttnOutIdeal : Prop :=
  True

def algebraic_KernelAttnOutIdeal_ReferenceAttnOutIdeal [hKernelAttnOutIdeal : Cert.KernelAttnOutIdeal.Facts] [hReferenceAttnOutIdeal : Cert.ReferenceAttnOutIdeal.Facts] : Prop :=
  ∀ (m : (ℓ : Loc Cert.KernelAttnOutIdeal.nD Cert.KernelAttnOutIdeal.τ Cert.KernelAttnOutIdeal.sig) → Buf (Elt Ideal) ℓ) (g : Dev Cert.KernelAttnOutIdeal.nD → PrngReg)
    (m' : (ℓ : Loc Cert.ReferenceAttnOutIdeal.nD Cert.ReferenceAttnOutIdeal.τ Cert.ReferenceAttnOutIdeal.sig) → Buf (Elt Ideal) ℓ) (g' : Dev Cert.ReferenceAttnOutIdeal.nD → PrngReg), Pre_KernelAttnOutIdeal m →
    (∀ c : Dev Cert.KernelAttnOutIdeal.nD,
      m' ((c.tc : Thread Cert.ReferenceAttnOutIdeal.nD Cert.ReferenceAttnOutIdeal.τ).loc Cert.ReferenceAttnOutIdeal.main_arg0) = m ((c.tc : Thread Cert.KernelAttnOutIdeal.nD Cert.KernelAttnOutIdeal.τ).loc Cert.KernelAttnOutIdeal.main_arg0)
      ∧ m' ((c.tc : Thread Cert.ReferenceAttnOutIdeal.nD Cert.ReferenceAttnOutIdeal.τ).loc Cert.ReferenceAttnOutIdeal.main_arg1) = m ((c.tc : Thread Cert.KernelAttnOutIdeal.nD Cert.KernelAttnOutIdeal.τ).loc Cert.KernelAttnOutIdeal.main_arg1)
      ∧ m' ((c.tc : Thread Cert.ReferenceAttnOutIdeal.nD Cert.ReferenceAttnOutIdeal.τ).loc Cert.ReferenceAttnOutIdeal.main_arg2) = m ((c.tc : Thread Cert.KernelAttnOutIdeal.nD Cert.KernelAttnOutIdeal.τ).loc Cert.KernelAttnOutIdeal.main_arg2)
      ∧ m' ((c.tc : Thread Cert.ReferenceAttnOutIdeal.nD Cert.ReferenceAttnOutIdeal.τ).loc Cert.ReferenceAttnOutIdeal.main_arg3) = m ((c.tc : Thread Cert.KernelAttnOutIdeal.nD Cert.KernelAttnOutIdeal.τ).loc Cert.KernelAttnOutIdeal.main_arg3)) →
    ∃ (v0 : (c : Dev Cert.KernelAttnOutIdeal.nD) → Buf (Elt Ideal) ((c.tc : Thread Cert.KernelAttnOutIdeal.nD Cert.KernelAttnOutIdeal.τ).loc Cert.KernelAttnOutIdeal.main_v0_0)) (v1 : (c : Dev Cert.KernelAttnOutIdeal.nD) → Buf (Elt Ideal) ((c.tc : Thread Cert.KernelAttnOutIdeal.nD Cert.KernelAttnOutIdeal.τ).loc Cert.KernelAttnOutIdeal.main_v0_1)),
      θ_run (Cert.KernelAttnOutIdeal.defs (F := Ideal)) (onTc (τ := Cert.KernelAttnOutIdeal.τ) (Cert.KernelAttnOutIdeal.main (F := Ideal))) ⟨m, fun _ => 0, g⟩ (fun r => ∀ c : Dev Cert.KernelAttnOutIdeal.nD,
          r.2.mem ((c.tc : Thread Cert.KernelAttnOutIdeal.nD Cert.KernelAttnOutIdeal.τ).loc Cert.KernelAttnOutIdeal.main_v0_0) = v0 c
          ∧ r.2.mem ((c.tc : Thread Cert.KernelAttnOutIdeal.nD Cert.KernelAttnOutIdeal.τ).loc Cert.KernelAttnOutIdeal.main_v0_1) = v1 c
          ∧ r.2.mem ((c.tc : Thread Cert.KernelAttnOutIdeal.nD Cert.KernelAttnOutIdeal.τ).loc Cert.KernelAttnOutIdeal.main_arg0) = m ((c.tc : Thread Cert.KernelAttnOutIdeal.nD Cert.KernelAttnOutIdeal.τ).loc Cert.KernelAttnOutIdeal.main_arg0)
          ∧ r.2.mem ((c.tc : Thread Cert.KernelAttnOutIdeal.nD Cert.KernelAttnOutIdeal.τ).loc Cert.KernelAttnOutIdeal.main_arg1) = m ((c.tc : Thread Cert.KernelAttnOutIdeal.nD Cert.KernelAttnOutIdeal.τ).loc Cert.KernelAttnOutIdeal.main_arg1)
          ∧ r.2.mem ((c.tc : Thread Cert.KernelAttnOutIdeal.nD Cert.KernelAttnOutIdeal.τ).loc Cert.KernelAttnOutIdeal.main_arg2) = m ((c.tc : Thread Cert.KernelAttnOutIdeal.nD Cert.KernelAttnOutIdeal.τ).loc Cert.KernelAttnOutIdeal.main_arg2)
          ∧ r.2.mem ((c.tc : Thread Cert.KernelAttnOutIdeal.nD Cert.KernelAttnOutIdeal.τ).loc Cert.KernelAttnOutIdeal.main_arg3) = m ((c.tc : Thread Cert.KernelAttnOutIdeal.nD Cert.KernelAttnOutIdeal.τ).loc Cert.KernelAttnOutIdeal.main_arg3))
      ∧ θ_run (Cert.ReferenceAttnOutIdeal.defs (F := Ideal)) (onTc (τ := Cert.ReferenceAttnOutIdeal.τ) (Cert.ReferenceAttnOutIdeal.main (F := Ideal))) ⟨m', fun _ => 0, g'⟩ (fun r => ∀ c : Dev Cert.ReferenceAttnOutIdeal.nD,
          r.2.mem ((c.tc : Thread Cert.ReferenceAttnOutIdeal.nD Cert.ReferenceAttnOutIdeal.τ).loc Cert.ReferenceAttnOutIdeal.main_v3) = v0 c
          ∧ r.2.mem ((c.tc : Thread Cert.ReferenceAttnOutIdeal.nD Cert.ReferenceAttnOutIdeal.τ).loc Cert.ReferenceAttnOutIdeal.main_v16) = v1 c
          ∧ r.2.mem ((c.tc : Thread Cert.ReferenceAttnOutIdeal.nD Cert.ReferenceAttnOutIdeal.τ).loc Cert.ReferenceAttnOutIdeal.main_arg0) = m' ((c.tc : Thread Cert.ReferenceAttnOutIdeal.nD Cert.ReferenceAttnOutIdeal.τ).loc Cert.ReferenceAttnOutIdeal.main_arg0)
          ∧ r.2.mem ((c.tc : Thread Cert.ReferenceAttnOutIdeal.nD Cert.ReferenceAttnOutIdeal.τ).loc Cert.ReferenceAttnOutIdeal.main_arg1) = m' ((c.tc : Thread Cert.ReferenceAttnOutIdeal.nD Cert.ReferenceAttnOutIdeal.τ).loc Cert.ReferenceAttnOutIdeal.main_arg1)
          ∧ r.2.mem ((c.tc : Thread Cert.ReferenceAttnOutIdeal.nD Cert.ReferenceAttnOutIdeal.τ).loc Cert.ReferenceAttnOutIdeal.main_arg2) = m' ((c.tc : Thread Cert.ReferenceAttnOutIdeal.nD Cert.ReferenceAttnOutIdeal.τ).loc Cert.ReferenceAttnOutIdeal.main_arg2)
          ∧ r.2.mem ((c.tc : Thread Cert.ReferenceAttnOutIdeal.nD Cert.ReferenceAttnOutIdeal.τ).loc Cert.ReferenceAttnOutIdeal.main_arg3) = m' ((c.tc : Thread Cert.ReferenceAttnOutIdeal.nD Cert.ReferenceAttnOutIdeal.τ).loc Cert.ReferenceAttnOutIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_v18) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)) →
    ∃ (v0 : (c : Dev Cert.KernelLastIdeal.nD) → Buf (Elt Ideal) ((c.tc : Thread Cert.KernelLastIdeal.nD Cert.KernelLastIdeal.τ).loc Cert.KernelLastIdeal.main_v0)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v0) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v5) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2))

def preserves_KernelDH1_KernelDH1Ideal : Prop :=
  True

def algebraic_KernelDH1Ideal_ReferenceDH1Ideal [hKernelDH1Ideal : Cert.KernelDH1Ideal.Facts] [hReferenceDH1Ideal : Cert.ReferenceDH1Ideal.Facts] : Prop :=
  ∀ (m : (ℓ : Loc Cert.KernelDH1Ideal.nD Cert.KernelDH1Ideal.τ Cert.KernelDH1Ideal.sig) → Buf (Elt Ideal) ℓ) (g : Dev Cert.KernelDH1Ideal.nD → PrngReg)
    (m' : (ℓ : Loc Cert.ReferenceDH1Ideal.nD Cert.ReferenceDH1Ideal.τ Cert.ReferenceDH1Ideal.sig) → Buf (Elt Ideal) ℓ) (g' : Dev Cert.ReferenceDH1Ideal.nD → PrngReg), Pre_KernelDH1Ideal m →
    (∀ c : Dev Cert.KernelDH1Ideal.nD,
      m' ((c.tc : Thread Cert.ReferenceDH1Ideal.nD Cert.ReferenceDH1Ideal.τ).loc Cert.ReferenceDH1Ideal.main_arg0) = m ((c.tc : Thread Cert.KernelDH1Ideal.nD Cert.KernelDH1Ideal.τ).loc Cert.KernelDH1Ideal.main_arg0)
      ∧ m' ((c.tc : Thread Cert.ReferenceDH1Ideal.nD Cert.ReferenceDH1Ideal.τ).loc Cert.ReferenceDH1Ideal.main_arg1) = m ((c.tc : Thread Cert.KernelDH1Ideal.nD Cert.KernelDH1Ideal.τ).loc Cert.KernelDH1Ideal.main_arg1)
      ∧ m' ((c.tc : Thread Cert.ReferenceDH1Ideal.nD Cert.ReferenceDH1Ideal.τ).loc Cert.ReferenceDH1Ideal.main_arg2) = m ((c.tc : Thread Cert.KernelDH1Ideal.nD Cert.KernelDH1Ideal.τ).loc Cert.KernelDH1Ideal.main_arg2)
      ∧ m' ((c.tc : Thread Cert.ReferenceDH1Ideal.nD Cert.ReferenceDH1Ideal.τ).loc Cert.ReferenceDH1Ideal.main_arg3) = m ((c.tc : Thread Cert.KernelDH1Ideal.nD Cert.KernelDH1Ideal.τ).loc Cert.KernelDH1Ideal.main_arg3)
      ∧ m' ((c.tc : Thread Cert.ReferenceDH1Ideal.nD Cert.ReferenceDH1Ideal.τ).loc Cert.ReferenceDH1Ideal.main_arg4) = m ((c.tc : Thread Cert.KernelDH1Ideal.nD Cert.KernelDH1Ideal.τ).loc Cert.KernelDH1Ideal.main_arg4)) →
    ∃ (v0 : (c : Dev Cert.KernelDH1Ideal.nD) → Buf (Elt Ideal) ((c.tc : Thread Cert.KernelDH1Ideal.nD Cert.KernelDH1Ideal.τ).loc Cert.KernelDH1Ideal.main_v0_0)) (v1 : (c : Dev Cert.KernelDH1Ideal.nD) → Buf (Elt Ideal) ((c.tc : Thread Cert.KernelDH1Ideal.nD Cert.KernelDH1Ideal.τ).loc Cert.KernelDH1Ideal.main_v0_1)),
      θ_run (Cert.KernelDH1Ideal.defs (F := Ideal)) (onTc (τ := Cert.KernelDH1Ideal.τ) (Cert.KernelDH1Ideal.main (F := Ideal))) ⟨m, fun _ => 0, g⟩ (fun r => ∀ c : Dev Cert.KernelDH1Ideal.nD,
          r.2.mem ((c.tc : Thread Cert.KernelDH1Ideal.nD Cert.KernelDH1Ideal.τ).loc Cert.KernelDH1Ideal.main_v0_0) = v0 c
          ∧ r.2.mem ((c.tc : Thread Cert.KernelDH1Ideal.nD Cert.KernelDH1Ideal.τ).loc Cert.KernelDH1Ideal.main_v0_1) = v1 c
          ∧ r.2.mem ((c.tc : Thread Cert.KernelDH1Ideal.nD Cert.KernelDH1Ideal.τ).loc Cert.KernelDH1Ideal.main_arg0) = m ((c.tc : Thread Cert.KernelDH1Ideal.nD Cert.KernelDH1Ideal.τ).loc Cert.KernelDH1Ideal.main_arg0)
          ∧ r.2.mem ((c.tc : Thread Cert.KernelDH1Ideal.nD Cert.KernelDH1Ideal.τ).loc Cert.KernelDH1Ideal.main_arg1) = m ((c.tc : Thread Cert.KernelDH1Ideal.nD Cert.KernelDH1Ideal.τ).loc Cert.KernelDH1Ideal.main_arg1)
          ∧ r.2.mem ((c.tc : Thread Cert.KernelDH1Ideal.nD Cert.KernelDH1Ideal.τ).loc Cert.KernelDH1Ideal.main_arg2) = m ((c.tc : Thread Cert.KernelDH1Ideal.nD Cert.KernelDH1Ideal.τ).loc Cert.KernelDH1Ideal.main_arg2)
          ∧ r.2.mem ((c.tc : Thread Cert.KernelDH1Ideal.nD Cert.KernelDH1Ideal.τ).loc Cert.KernelDH1Ideal.main_arg3) = m ((c.tc : Thread Cert.KernelDH1Ideal.nD Cert.KernelDH1Ideal.τ).loc Cert.KernelDH1Ideal.main_arg3)
          ∧ r.2.mem ((c.tc : Thread Cert.KernelDH1Ideal.nD Cert.KernelDH1Ideal.τ).loc Cert.KernelDH1Ideal.main_arg4) = m ((c.tc : Thread Cert.KernelDH1Ideal.nD Cert.KernelDH1Ideal.τ).loc Cert.KernelDH1Ideal.main_arg4))
      ∧ θ_run (Cert.ReferenceDH1Ideal.defs (F := Ideal)) (onTc (τ := Cert.ReferenceDH1Ideal.τ) (Cert.ReferenceDH1Ideal.main (F := Ideal))) ⟨m', fun _ => 0, g'⟩ (fun r => ∀ c : Dev Cert.ReferenceDH1Ideal.nD,
          r.2.mem ((c.tc : Thread Cert.ReferenceDH1Ideal.nD Cert.ReferenceDH1Ideal.τ).loc Cert.ReferenceDH1Ideal.main_v38) = v0 c
          ∧ r.2.mem ((c.tc : Thread Cert.ReferenceDH1Ideal.nD Cert.ReferenceDH1Ideal.τ).loc Cert.ReferenceDH1Ideal.main_v42) = v1 c
          ∧ r.2.mem ((c.tc : Thread Cert.ReferenceDH1Ideal.nD Cert.ReferenceDH1Ideal.τ).loc Cert.ReferenceDH1Ideal.main_arg0) = m' ((c.tc : Thread Cert.ReferenceDH1Ideal.nD Cert.ReferenceDH1Ideal.τ).loc Cert.ReferenceDH1Ideal.main_arg0)
          ∧ r.2.mem ((c.tc : Thread Cert.ReferenceDH1Ideal.nD Cert.ReferenceDH1Ideal.τ).loc Cert.ReferenceDH1Ideal.main_arg1) = m' ((c.tc : Thread Cert.ReferenceDH1Ideal.nD Cert.ReferenceDH1Ideal.τ).loc Cert.ReferenceDH1Ideal.main_arg1)
          ∧ r.2.mem ((c.tc : Thread Cert.ReferenceDH1Ideal.nD Cert.ReferenceDH1Ideal.τ).loc Cert.ReferenceDH1Ideal.main_arg2) = m' ((c.tc : Thread Cert.ReferenceDH1Ideal.nD Cert.ReferenceDH1Ideal.τ).loc Cert.ReferenceDH1Ideal.main_arg2)
          ∧ r.2.mem ((c.tc : Thread Cert.ReferenceDH1Ideal.nD Cert.ReferenceDH1Ideal.τ).loc Cert.ReferenceDH1Ideal.main_arg3) = m' ((c.tc : Thread Cert.ReferenceDH1Ideal.nD Cert.ReferenceDH1Ideal.τ).loc Cert.ReferenceDH1Ideal.main_arg3)
          ∧ r.2.mem ((c.tc : Thread Cert.ReferenceDH1Ideal.nD Cert.ReferenceDH1Ideal.τ).loc Cert.ReferenceDH1Ideal.main_arg4) = m' ((c.tc : Thread Cert.ReferenceDH1Ideal.nD Cert.ReferenceDH1Ideal.τ).loc Cert.ReferenceDH1Ideal.main_arg4))

def preserves_KernelDH0_KernelDH0Ideal : Prop :=
  True

def algebraic_KernelDH0Ideal_ReferenceDH0Ideal [hKernelDH0Ideal : Cert.KernelDH0Ideal.Facts] [hReferenceDH0Ideal : Cert.ReferenceDH0Ideal.Facts] : Prop :=
  ∀ (m : (ℓ : Loc Cert.KernelDH0Ideal.nD Cert.KernelDH0Ideal.τ Cert.KernelDH0Ideal.sig) → Buf (Elt Ideal) ℓ) (g : Dev Cert.KernelDH0Ideal.nD → PrngReg)
    (m' : (ℓ : Loc Cert.ReferenceDH0Ideal.nD Cert.ReferenceDH0Ideal.τ Cert.ReferenceDH0Ideal.sig) → Buf (Elt Ideal) ℓ) (g' : Dev Cert.ReferenceDH0Ideal.nD → PrngReg), Pre_KernelDH0Ideal m →
    (∀ c : Dev Cert.KernelDH0Ideal.nD,
      m' ((c.tc : Thread Cert.ReferenceDH0Ideal.nD Cert.ReferenceDH0Ideal.τ).loc Cert.ReferenceDH0Ideal.main_arg0) = m ((c.tc : Thread Cert.KernelDH0Ideal.nD Cert.KernelDH0Ideal.τ).loc Cert.KernelDH0Ideal.main_arg0)
      ∧ m' ((c.tc : Thread Cert.ReferenceDH0Ideal.nD Cert.ReferenceDH0Ideal.τ).loc Cert.ReferenceDH0Ideal.main_arg1) = m ((c.tc : Thread Cert.KernelDH0Ideal.nD Cert.KernelDH0Ideal.τ).loc Cert.KernelDH0Ideal.main_arg1)
      ∧ m' ((c.tc : Thread Cert.ReferenceDH0Ideal.nD Cert.ReferenceDH0Ideal.τ).loc Cert.ReferenceDH0Ideal.main_arg2) = m ((c.tc : Thread Cert.KernelDH0Ideal.nD Cert.KernelDH0Ideal.τ).loc Cert.KernelDH0Ideal.main_arg2)
      ∧ m' ((c.tc : Thread Cert.ReferenceDH0Ideal.nD Cert.ReferenceDH0Ideal.τ).loc Cert.ReferenceDH0Ideal.main_arg3) = m ((c.tc : Thread Cert.KernelDH0Ideal.nD Cert.KernelDH0Ideal.τ).loc Cert.KernelDH0Ideal.main_arg3)
      ∧ m' ((c.tc : Thread Cert.ReferenceDH0Ideal.nD Cert.ReferenceDH0Ideal.τ).loc Cert.ReferenceDH0Ideal.main_arg4) = m ((c.tc : Thread Cert.KernelDH0Ideal.nD Cert.KernelDH0Ideal.τ).loc Cert.KernelDH0Ideal.main_arg4)) →
    ∃ (v0 : (c : Dev Cert.KernelDH0Ideal.nD) → Buf (Elt Ideal) ((c.tc : Thread Cert.KernelDH0Ideal.nD Cert.KernelDH0Ideal.τ).loc Cert.KernelDH0Ideal.main_v0_0)) (v1 : (c : Dev Cert.KernelDH0Ideal.nD) → Buf (Elt Ideal) ((c.tc : Thread Cert.KernelDH0Ideal.nD Cert.KernelDH0Ideal.τ).loc Cert.KernelDH0Ideal.main_v0_1)),
      θ_run (Cert.KernelDH0Ideal.defs (F := Ideal)) (onTc (τ := Cert.KernelDH0Ideal.τ) (Cert.KernelDH0Ideal.main (F := Ideal))) ⟨m, fun _ => 0, g⟩ (fun r => ∀ c : Dev Cert.KernelDH0Ideal.nD,
          r.2.mem ((c.tc : Thread Cert.KernelDH0Ideal.nD Cert.KernelDH0Ideal.τ).loc Cert.KernelDH0Ideal.main_v0_0) = v0 c
          ∧ r.2.mem ((c.tc : Thread Cert.KernelDH0Ideal.nD Cert.KernelDH0Ideal.τ).loc Cert.KernelDH0Ideal.main_v0_1) = v1 c
          ∧ r.2.mem ((c.tc : Thread Cert.KernelDH0Ideal.nD Cert.KernelDH0Ideal.τ).loc Cert.KernelDH0Ideal.main_arg0) = m ((c.tc : Thread Cert.KernelDH0Ideal.nD Cert.KernelDH0Ideal.τ).loc Cert.KernelDH0Ideal.main_arg0)
          ∧ r.2.mem ((c.tc : Thread Cert.KernelDH0Ideal.nD Cert.KernelDH0Ideal.τ).loc Cert.KernelDH0Ideal.main_arg1) = m ((c.tc : Thread Cert.KernelDH0Ideal.nD Cert.KernelDH0Ideal.τ).loc Cert.KernelDH0Ideal.main_arg1)
          ∧ r.2.mem ((c.tc : Thread Cert.KernelDH0Ideal.nD Cert.KernelDH0Ideal.τ).loc Cert.KernelDH0Ideal.main_arg2) = m ((c.tc : Thread Cert.KernelDH0Ideal.nD Cert.KernelDH0Ideal.τ).loc Cert.KernelDH0Ideal.main_arg2)
          ∧ r.2.mem ((c.tc : Thread Cert.KernelDH0Ideal.nD Cert.KernelDH0Ideal.τ).loc Cert.KernelDH0Ideal.main_arg3) = m ((c.tc : Thread Cert.KernelDH0Ideal.nD Cert.KernelDH0Ideal.τ).loc Cert.KernelDH0Ideal.main_arg3)
          ∧ r.2.mem ((c.tc : Thread Cert.KernelDH0Ideal.nD Cert.KernelDH0Ideal.τ).loc Cert.KernelDH0Ideal.main_arg4) = m ((c.tc : Thread Cert.KernelDH0Ideal.nD Cert.KernelDH0Ideal.τ).loc Cert.KernelDH0Ideal.main_arg4))
      ∧ θ_run (Cert.ReferenceDH0Ideal.defs (F := Ideal)) (onTc (τ := Cert.ReferenceDH0Ideal.τ) (Cert.ReferenceDH0Ideal.main (F := Ideal))) ⟨m', fun _ => 0, g'⟩ (fun r => ∀ c : Dev Cert.ReferenceDH0Ideal.nD,
          r.2.mem ((c.tc : Thread Cert.ReferenceDH0Ideal.nD Cert.ReferenceDH0Ideal.τ).loc Cert.ReferenceDH0Ideal.main_v38) = v0 c
          ∧ r.2.mem ((c.tc : Thread Cert.ReferenceDH0Ideal.nD Cert.ReferenceDH0Ideal.τ).loc Cert.ReferenceDH0Ideal.main_v42) = v1 c
          ∧ r.2.mem ((c.tc : Thread Cert.ReferenceDH0Ideal.nD Cert.ReferenceDH0Ideal.τ).loc Cert.ReferenceDH0Ideal.main_arg0) = m' ((c.tc : Thread Cert.ReferenceDH0Ideal.nD Cert.ReferenceDH0Ideal.τ).loc Cert.ReferenceDH0Ideal.main_arg0)
          ∧ r.2.mem ((c.tc : Thread Cert.ReferenceDH0Ideal.nD Cert.ReferenceDH0Ideal.τ).loc Cert.ReferenceDH0Ideal.main_arg1) = m' ((c.tc : Thread Cert.ReferenceDH0Ideal.nD Cert.ReferenceDH0Ideal.τ).loc Cert.ReferenceDH0Ideal.main_arg1)
          ∧ r.2.mem ((c.tc : Thread Cert.ReferenceDH0Ideal.nD Cert.ReferenceDH0Ideal.τ).loc Cert.ReferenceDH0Ideal.main_arg2) = m' ((c.tc : Thread Cert.ReferenceDH0Ideal.nD Cert.ReferenceDH0Ideal.τ).loc Cert.ReferenceDH0Ideal.main_arg2)
          ∧ r.2.mem ((c.tc : Thread Cert.ReferenceDH0Ideal.nD Cert.ReferenceDH0Ideal.τ).loc Cert.ReferenceDH0Ideal.main_arg3) = m' ((c.tc : Thread Cert.ReferenceDH0Ideal.nD Cert.ReferenceDH0Ideal.τ).loc Cert.ReferenceDH0Ideal.main_arg3)
          ∧ r.2.mem ((c.tc : Thread Cert.ReferenceDH0Ideal.nD Cert.ReferenceDH0Ideal.τ).loc Cert.ReferenceDH0Ideal.main_arg4) = m' ((c.tc : Thread Cert.ReferenceDH0Ideal.nD Cert.ReferenceDH0Ideal.τ).loc Cert.ReferenceDH0Ideal.main_arg4))

def Claim : Prop :=
  ∃ (hKernel : Cert.Kernel.Facts) (hKernelIdeal : Cert.KernelIdeal.Facts) (hReferenceIdeal : Cert.ReferenceIdeal.Facts) (hKernelDwDown : Cert.KernelDwDown.Facts) (hKernelDwDownIdeal : Cert.KernelDwDownIdeal.Facts) (hReferenceDwDownIdeal : Cert.ReferenceDwDownIdeal.Facts) (hKernelDPre : Cert.KernelDPre.Facts) (hKernelDPreIdeal : Cert.KernelDPreIdeal.Facts) (hReferenceDPreIdeal : Cert.ReferenceDPreIdeal.Facts) (hKernelDwUp : Cert.KernelDwUp.Facts) (hKernelDwUpIdeal : Cert.KernelDwUpIdeal.Facts) (hReferenceDwUpIdeal : Cert.ReferenceDwUpIdeal.Facts) (hKernelDwQkv : Cert.KernelDwQkv.Facts) (hKernelDwQkvIdeal : Cert.KernelDwQkvIdeal.Facts) (hReferenceDwQkvIdeal : Cert.ReferenceDwQkvIdeal.Facts) (hKernelDwO : Cert.KernelDwO.Facts) (hKernelDwOIdeal : Cert.KernelDwOIdeal.Facts) (hReferenceDwOIdeal : Cert.ReferenceDwOIdeal.Facts) (hKernelDO : Cert.KernelDO.Facts) (hKernelDOIdeal : Cert.KernelDOIdeal.Facts) (hReferenceDOIdeal : Cert.ReferenceDOIdeal.Facts) (hKernelQkv : Cert.KernelQkv.Facts) (hKernelQkvIdeal : Cert.KernelQkvIdeal.Facts) (hReferenceQkvIdeal : Cert.ReferenceQkvIdeal.Facts) (hKernelUp : Cert.KernelUp.Facts) (hKernelUpIdeal : Cert.KernelUpIdeal.Facts) (hReferenceUpIdeal : Cert.ReferenceUpIdeal.Facts) (hKernelAttnOut : Cert.KernelAttnOut.Facts) (hKernelAttnOutIdeal : Cert.KernelAttnOutIdeal.Facts) (hReferenceAttnOutIdeal : Cert.ReferenceAttnOutIdeal.Facts) (hKernelDown : Cert.KernelDown.Facts) (hKernelDownIdeal : Cert.KernelDownIdeal.Facts) (hReferenceDownIdeal : Cert.ReferenceDownIdeal.Facts) (hKernelLast : Cert.KernelLast.Facts) (hKernelLastIdeal : Cert.KernelLastIdeal.Facts) (hReferenceLastIdeal : Cert.ReferenceLastIdeal.Facts) (hKernelDH1 : Cert.KernelDH1.Facts) (hKernelDH1Ideal : Cert.KernelDH1Ideal.Facts) (hReferenceDH1Ideal : Cert.ReferenceDH1Ideal.Facts) (hKernelDH0 : Cert.KernelDH0.Facts) (hKernelDH0Ideal : Cert.KernelDH0Ideal.Facts) (hReferenceDH0Ideal : Cert.ReferenceDH0Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDPre (hKernelDPre := hKernelDPre)
    ∧ quiescent_KernelDPreIdeal (hKernelDPreIdeal := hKernelDPreIdeal)
    ∧ quiescent_ReferenceDPreIdeal (hReferenceDPreIdeal := hReferenceDPreIdeal)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDwQkv (hKernelDwQkv := hKernelDwQkv)
    ∧ quiescent_KernelDwQkvIdeal (hKernelDwQkvIdeal := hKernelDwQkvIdeal)
    ∧ quiescent_ReferenceDwQkvIdeal (hReferenceDwQkvIdeal := hReferenceDwQkvIdeal)
    ∧ quiescent_KernelDwO (hKernelDwO := hKernelDwO)
    ∧ quiescent_KernelDwOIdeal (hKernelDwOIdeal := hKernelDwOIdeal)
    ∧ quiescent_ReferenceDwOIdeal (hReferenceDwOIdeal := hReferenceDwOIdeal)
    ∧ quiescent_KernelDO (hKernelDO := hKernelDO)
    ∧ quiescent_KernelDOIdeal (hKernelDOIdeal := hKernelDOIdeal)
    ∧ quiescent_ReferenceDOIdeal (hReferenceDOIdeal := hReferenceDOIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelAttnOut (hKernelAttnOut := hKernelAttnOut)
    ∧ quiescent_KernelAttnOutIdeal (hKernelAttnOutIdeal := hKernelAttnOutIdeal)
    ∧ quiescent_ReferenceAttnOutIdeal (hReferenceAttnOutIdeal := hReferenceAttnOutIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelDH1 (hKernelDH1 := hKernelDH1)
    ∧ quiescent_KernelDH1Ideal (hKernelDH1Ideal := hKernelDH1Ideal)
    ∧ quiescent_ReferenceDH1Ideal (hReferenceDH1Ideal := hReferenceDH1Ideal)
    ∧ quiescent_KernelDH0 (hKernelDH0 := hKernelDH0)
    ∧ quiescent_KernelDH0Ideal (hKernelDH0Ideal := hKernelDH0Ideal)
    ∧ quiescent_ReferenceDH0Ideal (hReferenceDH0Ideal := hReferenceDH0Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDPre_KernelDPreIdeal
    ∧ algebraic_KernelDPreIdeal_ReferenceDPreIdeal (hKernelDPreIdeal := hKernelDPreIdeal) (hReferenceDPreIdeal := hReferenceDPreIdeal)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDwQkv_KernelDwQkvIdeal
    ∧ algebraic_KernelDwQkvIdeal_ReferenceDwQkvIdeal (hKernelDwQkvIdeal := hKernelDwQkvIdeal) (hReferenceDwQkvIdeal := hReferenceDwQkvIdeal)
    ∧ preserves_KernelDwO_KernelDwOIdeal
    ∧ algebraic_KernelDwOIdeal_ReferenceDwOIdeal (hKernelDwOIdeal := hKernelDwOIdeal) (hReferenceDwOIdeal := hReferenceDwOIdeal)
    ∧ preserves_KernelDO_KernelDOIdeal
    ∧ algebraic_KernelDOIdeal_ReferenceDOIdeal (hKernelDOIdeal := hKernelDOIdeal) (hReferenceDOIdeal := hReferenceDOIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelUp_KernelUpIdeal
    ∧ algebraic_KernelUpIdeal_ReferenceUpIdeal (hKernelUpIdeal := hKernelUpIdeal) (hReferenceUpIdeal := hReferenceUpIdeal)
    ∧ preserves_KernelAttnOut_KernelAttnOutIdeal
    ∧ algebraic_KernelAttnOutIdeal_ReferenceAttnOutIdeal (hKernelAttnOutIdeal := hKernelAttnOutIdeal) (hReferenceAttnOutIdeal := hReferenceAttnOutIdeal)
    ∧ preserves_KernelDown_KernelDownIdeal
    ∧ algebraic_KernelDownIdeal_ReferenceDownIdeal (hKernelDownIdeal := hKernelDownIdeal) (hReferenceDownIdeal := hReferenceDownIdeal)
    ∧ preserves_KernelLast_KernelLastIdeal
    ∧ algebraic_KernelLastIdeal_ReferenceLastIdeal (hKernelLastIdeal := hKernelLastIdeal) (hReferenceLastIdeal := hReferenceLastIdeal)
    ∧ preserves_KernelDH1_KernelDH1Ideal
    ∧ algebraic_KernelDH1Ideal_ReferenceDH1Ideal (hKernelDH1Ideal := hKernelDH1Ideal) (hReferenceDH1Ideal := hReferenceDH1Ideal)
    ∧ preserves_KernelDH0_KernelDH0Ideal
    ∧ algebraic_KernelDH0Ideal_ReferenceDH0Ideal (hKernelDH0Ideal := hKernelDH0Ideal) (hReferenceDH0Ideal := hReferenceDH0Ideal)
-- ==== Pre_finite.lean ====
abbrev S8192x2048 : Shape := ⟨2, ![8192, 2048]⟩
abbrev S8192x3072 : Shape := ⟨2, ![8192, 3072]⟩
abbrev S16x513 : Shape := ⟨2, ![16, 513]⟩
abbrev S8192x1024 : Shape := ⟨2, ![8192, 1024]⟩
abbrev S_ : Shape := ⟨0, ![]⟩

class Facts : Prop where
  bitsLt_bf16_f32 : FTy.bits .bf16 < FTy.bits .f32
  slices_S8192x2048_S8192x1024_0_0 : S8192x2048.Slices ![0, 0] S8192x1024
  slices_S8192x2048_S8192x1024_0_1024 : S8192x2048.Slices ![0, 1024] S8192x1024
  slices_S8192x3072_S8192x1024_0_2048 : S8192x3072.Slices ![0, 2048] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x513 : S_.BroadcastsInDim S16x513 (![] : Fin 0 → Fin S16x513.rank)
  reducesTo_S16x513_S_d0_1 : S16x513.ReducesTo [0, 1] S_

variable [Facts]

def fn_part1 {F : FTy → Type} [FloatOps F] (main_arg2 : FVec F S16x513 .f32) (main_v2 : FVec F S8192x1024 .f32) (main_v14 : IVec S_ 1) (main_v17 : IVec S8192x1024 1) (main_c_3 : IVec S_ 1) : IVec S_ 1 :=
  let main_v18 : IVec S_ 1 := (fun x v => Host.reduce IntOp.andi x v reducesTo_S8192x1024_S_d0_1 h_S_) main_v17 main_c_3
  let main_v19 : IVec S_ 1 := andi main_v14 main_v18
  let main_v20 : FVec F S8192x1024 .f32 := Host.absf main_v2
  let main_cst_4 : FVec F S_ .f32 := constant S_ .f32 0x7F800000#32
  let main_v21 : FVec F S8192x1024 .f32 := broadcastInDim S8192x1024 ![] bcast_S_S8192x1024 main_cst_4
  let main_v22 : IVec S8192x1024 1 := cmpf .olt main_v20 main_v21
  let main_c_5 : IVec S_ 1 := constantI S_ 1 1#1
  let main_v23 : IVec S_ 1 := (fun x v => Host.reduce IntOp.andi x v reducesTo_S8192x1024_S_d0_1 h_S_) main_v22 main_c_5
  let main_v24 : IVec S_ 1 := andi main_v19 main_v23
  let main_v25 : FVec F S16x513 .f32 := Host.absf main_arg2
  let main_cst_6 : FVec F S_ .f32 := constant S_ .f32 0x7F800000#32
  let main_v26 : FVec F S16x513 .f32 := broadcastInDim S16x513 ![] bcast_S_S16x513 main_cst_6
  let main_v27 : IVec S16x513 1 := cmpf .olt main_v25 main_v26
  let main_c_7 : IVec S_ 1 := constantI S_ 1 1#1
  let main_v28 : IVec S_ 1 := (fun x v => Host.reduce IntOp.andi x v reducesTo_S16x513_S_d0_1 h_S_) main_v27 main_c_7
  let main_v29 : IVec S_ 1 := andi main_v24 main_v28
  main_v29

def fn {F : FTy → Type} [FloatOps F] (main_arg0 : FVec F S8192x2048 .bf16) (main_arg1 : FVec F S8192x3072 .bf16) (main_arg2 : FVec F S16x513 .f32) (main_arg3 : FVec F S8192x1024 .bf16) : IVec S_ 1 :=
  let main_v0 : FVec F S8192x2048 .f32 := (extf .f32 · bitsLt_bf16_f32) main_arg0
  let main_v1 : FVec F S8192x3072 .f32 := (extf .f32 · bitsLt_bf16_f32) main_arg1
  let main_v2 : FVec F S8192x1024 .f32 := (extf .f32 · bitsLt_bf16_f32) main_arg3
  let main_v3 : FVec F S8192x1024 .f32 := (extractStridedSlice S8192x1024 ![0, 0] · slices_S8192x2048_S8192x1024_0_0) main_v0
  let main_v4 : FVec F S8192x1024 .f32 := (extractStridedSlice S8192x1024 ![0, 1024] · slices_S8192x2048_S8192x1024_0_1024) main_v0
  let main_v5 : FVec F S8192x1024 .f32 := (extractStridedSlice S8192x1024 ![0, 2048] · slices_S8192x3072_S8192x1024_0_2048) main_v1
  let main_v6 : FVec F S8192x1024 .f32 := Host.absf main_v3
  let main_cst : FVec F S_ .f32 := constant S_ .f32 0x7F800000#32
  let main_v7 : FVec F S8192x1024 .f32 := broadcastInDim S8192x1024 ![] bcast_S_S8192x1024 main_cst
  let main_v8 : IVec S8192x1024 1 := cmpf .olt main_v6 main_v7
  let main_c : IVec S_ 1 := constantI S_ 1 1#1
  let main_v9 : IVec S_ 1 := (fun x v => Host.reduce IntOp.andi x v reducesTo_S8192x1024_S_d0_1 h_S_) main_v8 main_c
  let main_v10 : FVec F S8192x1024 .f32 := Host.absf main_v4
  let main_cst_0 : FVec F S_ .f32 := constant S_ .f32 0x7F800000#32
  let main_v11 : FVec F S8192x1024 .f32 := broadcastInDim S8192x1024 ![] bcast_S_S8192x1024 main_cst_0
  let main_v12 : IVec S8192x1024 1 := cmpf .olt main_v10 main_v11
  let main_c_1 : IVec S_ 1 := constantI S_ 1 1#1
  let main_v13 : IVec S_ 1 := (fun x v => Host.reduce IntOp.andi x v reducesTo_S8192x1024_S_d0_1 h_S_) main_v12 main_c_1
  let main_v14 : IVec S_ 1 := andi main_v9 main_v13
  let main_v15 : FVec F S8192x1024 .f32 := Host.absf main_v5
  let main_cst_2 : FVec F S_ .f32 := constant S_ .f32 0x7F800000#32
  let main_v16 : FVec F S8192x1024 .f32 := broadcastInDim S8192x1024 ![] bcast_S_S8192x1024 main_cst_2
  let main_v17 : IVec S8192x1024 1 := cmpf .olt main_v15 main_v16
  let main_c_3 : IVec S_ 1 := constantI S_ 1 1#1
  fn_part1 (F := F) main_arg2 main_v2 main_v14 main_v17 main_c_3
-- ==== Kernel.lean ====
abbrev S8192x2048 : Shape := ⟨2, ![8192, 2048]⟩
abbrev S8192x3072 : Shape := ⟨2, ![8192, 3072]⟩
abbrev S16x513 : Shape := ⟨2, ![16, 513]⟩
abbrev S8192x1024 : Shape := ⟨2, ![8192, 1024]⟩
abbrev S8192x16x64 : Shape := ⟨3, ![8192, 16, 64]⟩
abbrev S16x8192x64 : Shape := ⟨3, ![16, 8192, 64]⟩
abbrev S8192x8192 : Shape := ⟨2, ![8192, 8192]⟩
abbrev S_ : Shape := ⟨0, ![]⟩
abbrev S8192x8192x1 : Shape := ⟨3, ![8192, 8192, 1]⟩
abbrev S16x8192x8192 : Shape := ⟨3, ![16, 8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S256x768 : Shape := ⟨2, ![256, 768]⟩
abbrev S256x768x1 : Shape := ⟨3, ![256, 768, 1]⟩
abbrev S16x256x768 : Shape := ⟨3, ![16, 256, 768]⟩
abbrev S1x256x768 : Shape := ⟨3, ![1, 256, 768]⟩
abbrev S1024x128 : Shape := ⟨2, ![1024, 128]⟩
abbrev S8192x128 : Shape := ⟨2, ![8192, 128]⟩
abbrev S2x256x768 : Shape := ⟨3, ![2, 256, 768]⟩
abbrev S8704x128 : Shape := ⟨2, ![8704, 128]⟩
abbrev S512x128 : Shape := ⟨2, ![512, 128]⟩
abbrev S128x128 : Shape := ⟨2, ![128, 128]⟩
abbrev S640x128 : Shape := ⟨2, ![640, 128]⟩
abbrev S256x128 : Shape := ⟨2, ![256, 128]⟩
abbrev S128 : Shape := ⟨1, ![128]⟩
abbrev S128x1 : Shape := ⟨2, ![128, 1]⟩
abbrev S1x128x640 : Shape := ⟨3, ![1, 128, 640]⟩
abbrev S128x640 : Shape := ⟨2, ![128, 640]⟩

abbrev nBuf : Space → Nat
  | .hbm => 135
  | .vmem => 24
  | .smem => 0
  | _ => 0

abbrev hbmTy0_0 (i : Nat) : BufTy := match i % 128 with
  | 0 => ⟨S8192x2048, .bf16⟩
  | 1 => ⟨S8192x3072, .bf16⟩
  | 2 => ⟨S16x513, .f32⟩
  | 3 => ⟨S8192x1024, .bf16⟩
  | 4 => ⟨S8192x2048, .f32⟩
  | 5 => ⟨S8192x3072, .f32⟩
  | 6 => ⟨S8192x1024, .f32⟩
  | 7 => ⟨S8192x1024, .f32⟩
  | 8 => ⟨S8192x1024, .f32⟩
  | 9 => ⟨S8192x1024, .f32⟩
  | 10 => ⟨S8192x16x64, .f32⟩
  | 11 => ⟨S16x8192x64, .f32⟩
  | 12 => ⟨S8192x16x64, .f32⟩
  | 13 => ⟨S16x8192x64, .f32⟩
  | 14 => ⟨S8192x16x64, .f32⟩
  | 15 => ⟨S16x8192x64, .f32⟩
  | 16 => ⟨S8192x8192, .i32⟩
  | 17 => ⟨S8192x8192, .i32⟩
  | 18 => ⟨S8192x8192, .i32⟩
  | 19 => ⟨S_, .i32⟩
  | 20 => ⟨S_, .i32⟩
  | 21 => ⟨S_, .i32⟩
  | 22 => ⟨S8192x8192, .i32⟩
  | 23 => ⟨S8192x8192, .i32⟩
  | 24 => ⟨S_, .i32⟩
  | 25 => ⟨S8192x8192, .i32⟩
  | 26 => ⟨S8192x8192, .i32⟩
  | 27 => ⟨S_, .i32⟩
  | 28 => ⟨S8192x8192, .i32⟩
  | 29 => ⟨S8192x8192, .i32⟩
  | 30 => ⟨S_, .i32⟩
  | 31 => ⟨S8192x8192, .i32⟩
  | 32 => ⟨S8192x8192, .i1⟩
  | 33 => ⟨S_, .i32⟩
  | 34 => ⟨S8192x8192, .i32⟩
  | 35 => ⟨S8192x8192, .i32⟩
  | 36 => ⟨S8192x8192, .i32⟩
  | 37 => ⟨S8192x8192x1, .i32⟩
  | 38 => ⟨S16x8192x8192, .f32⟩
  | 39 => ⟨S16x8192x8192, .f32⟩
  | 40 => ⟨S_, .f32⟩
  | 41 => ⟨S16x8192x8192, .f32⟩
  | 42 => ⟨S16x8192x8192, .f32⟩
  | 43 => ⟨S16x8192x8192, .f32⟩
  | 44 => ⟨S_, .i32⟩
  | 45 => ⟨S8192x8192, .i32⟩
  | 46 => ⟨S8192x8192, .i32⟩
  | 47 => ⟨S_, .i32⟩
  | 48 => ⟨S8192x8192, .i32⟩
  | 49 => ⟨S8192x8192, .i32⟩
  | 50 => ⟨S8192x8192, .i32⟩
  | 51 => ⟨S_, .i32⟩
  | 52 => ⟨S8192x8192, .i32⟩
  | 53 => ⟨S8192x8192, .i1⟩
  | 54 => ⟨S_, .i32⟩
  | 55 => ⟨S8192x8192, .i32⟩
  | 56 => ⟨S8192x8192, .i1⟩
  | 57 => ⟨S8192x8192, .i1⟩
  | 58 => ⟨S1x8192x8192, .i1⟩
  | 59 => ⟨S_, .f32⟩
  | 60 => ⟨S_, .f32⟩
  | 61 => ⟨S16x8192x8192, .i1⟩
  | 62 => ⟨S16x8192x8192, .f32⟩
  | 63 => ⟨S16x8192x8192, .f32⟩
  | 64 => ⟨S_, .f32⟩
  | 65 => ⟨S16x8192, .f32⟩
  | 66 => ⟨S_, .f32⟩
  | 67 => ⟨S16x8192, .f32⟩
  | 68 => ⟨S16x8192, .f32⟩
  | 69 => ⟨S16x8192x1, .f32⟩
  | 70 => ⟨S16x8192x8192, .f32⟩
  | 71 => ⟨S16x8192x8192, .f32⟩
  | 72 => ⟨S16x8192x8192, .f32⟩
  | 73 => ⟨S_, .f32⟩
  | 74 => ⟨S16x8192, .f32⟩
  | 75 => ⟨S16x8192x1, .f32⟩
  | 76 => ⟨S16x8192x8192, .f32⟩
  | 77 => ⟨S16x8192x8192, .f32⟩
  | 78 => ⟨S16x8192x64, .f32⟩
  | 79 => ⟨S8192x16x64, .f32⟩
  | 80 => ⟨S8192x1024, .f32⟩
  | 81 => ⟨S8192x1024, .bf16⟩
  | 82 => ⟨S256x768, .i32⟩
  | 83 => ⟨S256x768, .i32⟩
  | 84 => ⟨S_, .i32⟩
  | 85 => ⟨S256x768, .i32⟩
  | 86 => ⟨S256x768, .i32⟩
  | 87 => ⟨S256x768, .i32⟩
  | 88 => ⟨S_, .i32⟩
  | 89 => ⟨S_, .i32⟩
  | 90 => ⟨S_, .i32⟩
  | 91 => ⟨S256x768, .i32⟩
  | 92 => ⟨S256x768, .i32⟩
  | 93 => ⟨S_, .i32⟩
  | 94 => ⟨S256x768, .i32⟩
  | 95 => ⟨S256x768, .i32⟩
  | 96 => ⟨S_, .i32⟩
  | 97 => ⟨S256x768, .i32⟩
  | 98 => ⟨S256x768, .i32⟩
  | 99 => ⟨S_, .i32⟩
  | 100 => ⟨S256x768, .i32⟩
  | 101 => ⟨S256x768, .i1⟩
  | 102 => ⟨S_, .i32⟩
  | 103 => ⟨S256x768, .i32⟩
  | 104 => ⟨S256x768, .i32⟩
  | 105 => ⟨S256x768, .i32⟩
  | 106 => ⟨S256x768x1, .i32⟩
  | 107 => ⟨S16x256x768, .f32⟩
  | 108 => ⟨S_, .i32⟩
  | 109 => ⟨S256x768, .i32⟩
  | 110 => ⟨S256x768, .i32⟩
  | 111 => ⟨S_, .i32⟩
  | 112 => ⟨S256x768, .i32⟩
  | 113 => ⟨S256x768, .i32⟩
  | 114 => ⟨S_, .i32⟩
  | 115 => ⟨S256x768, .i32⟩
  | 116 => ⟨S256x768, .i32⟩
  | 117 => ⟨S256x768, .i32⟩
  | 118 => ⟨S_, .i32⟩
  | 119 => ⟨S256x768, .i32⟩
  | 120 => ⟨S256x768, .i1⟩
  | 121 => ⟨S_, .i32⟩
  | 122 => ⟨S256x768, .i32⟩
  | 123 => ⟨S256x768, .i1⟩
  | 124 => ⟨S256x768, .i1⟩
  | 125 => ⟨S1x256x768, .i1⟩
  | 126 => ⟨S_, .f32⟩
  | 127 => ⟨S_, .f32⟩
  | _ => ⟨S8192x2048, .bf16⟩

abbrev hbmTy0_1 (i : Nat) : BufTy := match i % 128 with
  | 0 => ⟨S16x256x768, .i1⟩
  | 1 => ⟨S16x256x768, .f32⟩
  | 2 => ⟨S16x256x768, .f32⟩
  | 3 => ⟨S8192x1024, .bf16⟩
  | 4 => ⟨S8192x1024, .bf16⟩
  | 5 => ⟨S8192x1024, .bf16⟩
  | 6 => ⟨S16x256x768, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S2x256x768, .f32⟩
  | .local _ .vmem, ⟨11, _⟩ => ⟨S2x256x768, .f32⟩
  | .local _ .vmem, ⟨12, _⟩ => ⟨S1024x128, .bf16⟩
  | .local _ .vmem, ⟨13, _⟩ => ⟨S1024x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S2x256x768, .f32⟩
  | .local _ .vmem, ⟨19, _⟩ => ⟨S2x256x768, .f32⟩
  | .local _ .vmem, ⟨20, _⟩ => ⟨S8704x128, .bf16⟩
  | .local _ .vmem, ⟨21, _⟩ => ⟨S8704x128, .bf16⟩
  | .local _ .vmem, ⟨22, _⟩ => ⟨S8704x128, .f32⟩
  | .local _ .vmem, ⟨23, _⟩ => ⟨S8704x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_c_14 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_18 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_21 : Ref sig .tc := ⟨.hbm, 118, rfl⟩
abbrev main_v78 : Ref sig .tc := ⟨.hbm, 119, rfl⟩
abbrev main_v79 : Ref sig .tc := ⟨.hbm, 120, rfl⟩
abbrev main_c_22 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_23 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v84 : Ref sig .tc := ⟨.hbm, 130, rfl⟩
abbrev main_v85_0 : Ref sig .tc := ⟨.hbm, 131, rfl⟩
abbrev main_v85_1 : Ref sig .tc := ⟨.hbm, 132, rfl⟩
abbrev main_v85_2 : Ref sig .tc := ⟨.hbm, 133, rfl⟩
abbrev main_v85_3 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c256_i32 : BitVec 32 := 256#32
  let v10 : BitVec 32 := Scalar.muli v1 c256_i32
  let c0_i32_3 : BitVec 32 := 0#32
  let v11 : BitVec 32 := Scalar.addi v10 c0_i32_3
  v11
def k0_mult2 (i : grid0.Coords) : BitVec 32 :=
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c256_i32_4 : BitVec 32 := 256#32
  let v13 : BitVec 32 := Scalar.muli v1 c256_i32_4
  let c128_i32 : BitVec 32 := 128#32
  let v14 : BitVec 32 := Scalar.addi v13 c128_i32
  v14
def k0_off1 (i : grid0.Coords) (c0_i32 : BitVec 32) (c0_i32_3 : BitVec 32) : Fin 2 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let c256_i32 : BitVec 32 := 256#32
  let v10 : BitVec 32 := Scalar.muli v1 c256_i32
  let v11 : BitVec 32 := Scalar.addi v10 c0_i32_3
  let v12 : BitVec 32 := v11
  let v16 : Index := Scalar.indexCast v12
  let c0 : Index := 0#32
  ![v16.toNat, 0]
def k0_mult3 (i : grid0.Coords) : BitVec 32 :=
  let arg1 : BitVec 32 := BitVec.ofNat 32 (i 1).val
  let c4_i32_161 : BitVec 32 := 4#32
  let v299 : BitVec 32 := Scalar.muli arg1 c4_i32_161
  let c1_i32 : BitVec 32 := 1#32
  let v300 : BitVec 32 := Scalar.addi v299 c1_i32
  let c256_i32_166 : BitVec 32 := 256#32
  let v309 : BitVec 32 := Scalar.muli v300 c256_i32_166
  let c0_i32_167 : BitVec 32 := 0#32
  let v310 : BitVec 32 := Scalar.addi v309 c0_i32_167
  v310
def k0_mult4 (i : grid0.Coords) : BitVec 32 :=
  let arg1 : BitVec 32 := BitVec.ofNat 32 (i 1).val
  let c4_i32_161 : BitVec 32 := 4#32
  let v299 : BitVec 32 := Scalar.muli arg1 c4_i32_161
  let c1_i32 : BitVec 32 := 1#32
  let v300 : BitVec 32 := Scalar.addi v299 c1_i32
  let c256_i32_168 : BitVec 32 := 256#32
  let v312 : BitVec 32 := Scalar.muli v300 c256_i32_168
  let c128_i32_169 : BitVec 32 := 128#32
  let v313 : BitVec 32 := Scalar.addi v312 c128_i32_169
  v313
def k0_mult5 (i : grid0.Coords) : BitVec 32 :=
  let arg1 : BitVec 32 := BitVec.ofNat 32 (i 1).val
  let c4_i32_332 : BitVec 32 := 4#32
  let v598 : BitVec 32 := Scalar.muli arg1 c4_i32_332
  let c2_i32 : BitVec 32 := 2#32
  let v599 : BitVec 32 := Scalar.addi v598 c2_i32
  let c256_i32_337 : BitVec 32 := 256#32
  let v608 : BitVec 32 := Scalar.muli v599 c256_i32_337
  let c0_i32_338 : BitVec 32 := 0#32
  let v609 : BitVec 32 := Scalar.addi v608 c0_i32_338
  v609
def k0_mult6 (i : grid0.Coords) : BitVec 32 :=
  let arg1 : BitVec 32 := BitVec.ofNat 32 (i 1).val
  let c4_i32_332 : BitVec 32 := 4#32
  let v598 : BitVec 32 := Scalar.muli arg1 c4_i32_332
  let c2_i32 : BitVec 32 := 2#32
  let v599 : BitVec 32 := Scalar.addi v598 c2_i32
  let c256_i32_339 : BitVec 32 := 256#32
  let v611 : BitVec 32 := Scalar.muli v599 c256_i32_339
  let c128_i32_340 : BitVec 32 := 128#32
  let v612 : BitVec 32 := Scalar.addi v611 c128_i32_340
  v612
def k0_mult7 (i : grid0.Coords) : BitVec 32 :=
  let arg1 : BitVec 32 := BitVec.ofNat 32 (i 1).val
  let c4_i32_503 : BitVec 32 := 4#32
  let v897 : BitVec 32 := Scalar.muli arg1 c4_i32_503
  let c3_i32 : BitVec 32 := 3#32
  let v898 : BitVec 32 := Scalar.addi v897 c3_i32
  let c256_i32_508 : BitVec 32 := 256#32
  let v907 : BitVec 32 := Scalar.muli v898 c256_i32_508
  let c0_i32_509 : BitVec 32 := 0#32
  let v908 : BitVec 32 := Scalar.addi v907 c0_i32_509
  v908
def k0_mult8 (i : grid0.Coords) : BitVec 32 :=
  let arg1 : BitVec 32 := BitVec.ofNat 32 (i 1).val
  let c4_i32_503 : BitVec 32 := 4#32
  let v897 : BitVec 32 := Scalar.muli arg1 c4_i32_503
  let c3_i32 : BitVec 32 := 3#32
  let v898 : BitVec 32 := Scalar.addi v897 c3_i32
  let c256_i32_510 : BitVec 32 := 256#32
  let v910 : BitVec 32 := Scalar.muli v898 c256_i32_510
  let c128_i32_511 : BitVec 32 := 128#32
  let v911 : BitVec 32 := Scalar.addi v910 c128_i32_511
  v911
def k0_cond2 (i : grid0.Coords) : BitVec 1 :=
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c31_i32 : BitVec 32 := 31#32
  let v296 : BitVec 1 := Scalar.cmpi .eq v1 c31_i32
  let v297 : BitVec 32 := Scalar.extui v296
  let c0_i32_160 : BitVec 32 := 0#32
  let v298 : BitVec 1 := Scalar.cmpi .ne v297 c0_i32_160
  v298

def k0_cond4 (i : grid0.Coords) : BitVec 1 :=
  let arg1 : BitVec 32 := BitVec.ofNat 32 (i 1).val
  let c4_i32_161 : BitVec 32 := 4#32
  let v299 : BitVec 32 := Scalar.muli arg1 c4_i32_161
  let c1_i32 : BitVec 32 := 1#32
  let v300 : BitVec 32 := Scalar.addi v299 c1_i32
  let c31_i32_330 : BitVec 32 := 31#32
  let v595 : BitVec 1 := Scalar.cmpi .eq v300 c31_i32_330
  let v596 : BitVec 32 := Scalar.extui v595
  let c0_i32_331 : BitVec 32 := 0#32
  let v597 : BitVec 1 := Scalar.cmpi .ne v596 c0_i32_331
  v597

def k0_cond6 (i : grid0.Coords) : BitVec 1 :=
  let arg1 : BitVec 32 := BitVec.ofNat 32 (i 1).val
  let c4_i32_332 : BitVec 32 := 4#32
  let v598 : BitVec 32 := Scalar.muli arg1 c4_i32_332
  let c2_i32 : BitVec 32 := 2#32
  let v599 : BitVec 32 := Scalar.addi v598 c2_i32
  let c31_i32_501 : BitVec 32 := 31#32
  let v894 : BitVec 1 := Scalar.cmpi .eq v599 c31_i32_501
  let v895 : BitVec 32 := Scalar.extui v894
  let c0_i32_502 : BitVec 32 := 0#32
  let v896 : BitVec 1 := Scalar.cmpi .ne v895 c0_i32_502
  v896

def k0_cond8 (i : grid0.Coords) : BitVec 1 :=
  let arg1 : BitVec 32 := BitVec.ofNat 32 (i 1).val
  let c4_i32_503 : BitVec 32 := 4#32
  let v897 : BitVec 32 := Scalar.muli arg1 c4_i32_503
  let c3_i32 : BitVec 32 := 3#32
  let v898 : BitVec 32 := Scalar.addi v897 c3_i32
  let c31_i32_671 : BitVec 32 := 31#32
  let v1193 : BitVec 1 := Scalar.cmpi .eq v898 c31_i32_671
  let v1194 : BitVec 32 := Scalar.extui v1193
  let c0_i32_672 : BitVec 32 := 0#32
  let v1195 : BitVec 1 := Scalar.cmpi .ne v1194 c0_i32_672
  v1195

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x3072 : Shape := ⟨2, ![8192, 3072]⟩
abbrev S16x513 : Shape := ⟨2, ![16, 513]⟩
abbrev S8192x1024 : Shape := ⟨2, ![8192, 1024]⟩
abbrev S8192x16x64 : Shape := ⟨3, ![8192, 16, 64]⟩
abbrev S16x8192x64 : Shape := ⟨3, ![16, 8192, 64]⟩
abbrev S8192x8192 : Shape := ⟨2, ![8192, 8192]⟩
abbrev S_ : Shape := ⟨0, ![]⟩
abbrev S8192x8192x1 : Shape := ⟨3, ![8192, 8192, 1]⟩
abbrev S16x8192x8192 : Shape := ⟨3, ![16, 8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x64x8192 : Shape := ⟨3, ![16, 64, 8192]⟩

abbrev nBuf : Space → Nat
  | .hbm => 146
  | .vmem => 0
  | .smem => 0
  | _ => 0

abbrev hbmTy0_0 (i : Nat) : BufTy := match i % 128 with
  | 0 => ⟨S8192x2048, .bf16⟩
  | 1 => ⟨S8192x3072, .bf16⟩
  | 2 => ⟨S16x513, .f32⟩
  | 3 => ⟨S8192x1024, .bf16⟩
  | 4 => ⟨S8192x2048, .f32⟩
  | 5 => ⟨S8192x3072, .f32⟩
  | 6 => ⟨S8192x1024, .f32⟩
  | 7 => ⟨S8192x1024, .f32⟩
  | 8 => ⟨S8192x1024, .f32⟩
  | 9 => ⟨S8192x1024, .f32⟩
  | 10 => ⟨S8192x16x64, .f32⟩
  | 11 => ⟨S16x8192x64, .f32⟩
  | 12 => ⟨S8192x16x64, .f32⟩
  | 13 => ⟨S16x8192x64, .f32⟩
  | 14 => ⟨S8192x16x64, .f32⟩
  | 15 => ⟨S16x8192x64, .f32⟩
  | 16 => ⟨S8192x8192, .i32⟩
  | 17 => ⟨S8192x8192, .i32⟩
  | 18 => ⟨S8192x8192, .i32⟩
  | 19 => ⟨S_, .i32⟩
  | 20 => ⟨S_, .i32⟩
  | 21 => ⟨S_, .i32⟩
  | 22 => ⟨S8192x8192, .i32⟩
  | 23 => ⟨S8192x8192, .i32⟩
  | 24 => ⟨S_, .i32⟩
  | 25 => ⟨S8192x8192, .i32⟩
  | 26 => ⟨S8192x8192, .i32⟩
  | 27 => ⟨S_, .i32⟩
  | 28 => ⟨S8192x8192, .i32⟩
  | 29 => ⟨S8192x8192, .i32⟩
  | 30 => ⟨S_, .i32⟩
  | 31 => ⟨S8192x8192, .i32⟩
  | 32 => ⟨S8192x8192, .i1⟩
  | 33 => ⟨S_, .i32⟩
  | 34 => ⟨S8192x8192, .i32⟩
  | 35 => ⟨S8192x8192, .i32⟩
  | 36 => ⟨S8192x8192, .i32⟩
  | 37 => ⟨S8192x8192x1, .i32⟩
  | 38 => ⟨S16x8192x8192, .f32⟩
  | 39 => ⟨S16x8192x8192, .f32⟩
  | 40 => ⟨S_, .f32⟩
  | 41 => ⟨S16x8192x8192, .f32⟩
  | 42 => ⟨S16x8192x8192, .f32⟩
  | 43 => ⟨S16x8192x8192, .f32⟩
  | 44 => ⟨S_, .i32⟩
  | 45 => ⟨S8192x8192, .i32⟩
  | 46 => ⟨S8192x8192, .i32⟩
  | 47 => ⟨S_, .i32⟩
  | 48 => ⟨S8192x8192, .i32⟩
  | 49 => ⟨S8192x8192, .i32⟩
  | 50 => ⟨S8192x8192, .i32⟩
  | 51 => ⟨S_, .i32⟩
  | 52 => ⟨S8192x8192, .i32⟩
  | 53 => ⟨S8192x8192, .i1⟩
  | 54 => ⟨S_, .i32⟩
  | 55 => ⟨S8192x8192, .i32⟩
  | 56 => ⟨S8192x8192, .i1⟩
  | 57 => ⟨S8192x8192, .i1⟩
  | 58 => ⟨S1x8192x8192, .i1⟩
  | 59 => ⟨S_, .f32⟩
  | 60 => ⟨S_, .f32⟩
  | 61 => ⟨S16x8192x8192, .i1⟩
  | 62 => ⟨S16x8192x8192, .f32⟩
  | 63 => ⟨S16x8192x8192, .f32⟩
  | 64 => ⟨S_, .f32⟩
  | 65 => ⟨S16x8192x8192, .f32⟩
  | 66 => ⟨S_, .f32⟩
  | 67 => ⟨S16x8192, .f32⟩
  | 68 => ⟨S16x8192x1, .f32⟩
  | 69 => ⟨S16x8192x8192, .f32⟩
  | 70 => ⟨S16x8192x8192, .i1⟩
  | 71 => ⟨S16x8192x8192, .f32⟩
  | 72 => ⟨S_, .f32⟩
  | 73 => ⟨S16x8192, .f32⟩
  | 74 => ⟨S_, .f32⟩
  | 75 => ⟨S16x8192, .f32⟩
  | 76 => ⟨S16x8192, .f32⟩
  | 77 => ⟨S_, .f32⟩
  | 78 => ⟨S16x8192, .f32⟩
  | 79 => ⟨S16x8192, .i1⟩
  | 80 => ⟨S_, .f32⟩
  | 81 => ⟨S16x8192, .f32⟩
  | 82 => ⟨S16x8192, .i1⟩
  | 83 => ⟨S_, .f32⟩
  | 84 => ⟨S16x8192, .f32⟩
  | 85 => ⟨S_, .f32⟩
  | 86 => ⟨S16x8192, .f32⟩
  | 87 => ⟨S_, .f32⟩
  | 88 => ⟨S16x8192, .f32⟩
  | 89 => ⟨S16x8192, .f32⟩
  | 90 => ⟨S16x8192, .f32⟩
  | 91 => ⟨S16x8192x1, .f32⟩
  | 92 => ⟨S16x8192x8192, .f32⟩
  | 93 => ⟨S16x8192x8192, .f32⟩
  | 94 => ⟨S16x8192x8192, .f32⟩
  | 95 => ⟨S_, .f32⟩
  | 96 => ⟨S16x8192, .f32⟩
  | 97 => ⟨S16x8192x1, .f32⟩
  | 98 => ⟨S16x8192x8192, .f32⟩
  | 99 => ⟨S16x8192x8192, .f32⟩
  | 100 => ⟨S16x8192x1, .f32⟩
  | 101 => ⟨S_, .f32⟩
  | 102 => ⟨S16x8192x1, .f32⟩
  | 103 => ⟨S16x8192x1, .f32⟩
  | 104 => ⟨S16x8192x64, .f32⟩
  | 105 => ⟨S8192x16x64, .f32⟩
  | 106 => ⟨S8192x1024, .f32⟩
  | 107 => ⟨S8192x16x64, .f32⟩
  | 108 => ⟨S16x8192x64, .f32⟩
  | 109 => ⟨S16x64x8192, .f32⟩
  | 110 => ⟨S16x8192x64, .f32⟩
  | 111 => ⟨S16x8192x8192, .f32⟩
  | 112 => ⟨S16x8192x8192, .f32⟩
  | 113 => ⟨S16x8192x8192, .f32⟩
  | 114 => ⟨S16x8192x8192, .f32⟩
  | 115 => ⟨S_, .f32⟩
  | 116 => ⟨S16x8192, .f32⟩
  | 117 => ⟨S16x8192x1, .f32⟩
  | 118 => ⟨S16x8192x1, .f32⟩
  | 119 => ⟨S16x8192x8192, .f32⟩
  | 120 => ⟨S16x8192x8192, .f32⟩
  | 121 => ⟨S_, .f32⟩
  | 122 => ⟨S16x8192, .f32⟩
  | 123 => ⟨S16x8192x8192, .f32⟩
  | 124 => ⟨S16x8192x8192, .f32⟩
  | 125 => ⟨S16x8192x8192, .f32⟩
  | 126 => ⟨S_, .f32⟩
  | 127 => ⟨S16x8192x8192, .f32⟩
  | _ => ⟨S8192x2048, .bf16⟩

abbrev hbmTy0_1 (i : Nat) : BufTy := match i % 128 with
  | 0 => ⟨S16x8192x8192, .f32⟩
  | 1 => ⟨S_, .f32⟩
  | 2 => ⟨S16x8192x8192, .f32⟩
  | 3 => ⟨S16x8192x8192, .f32⟩
  | 4 => ⟨S16x8192x64, .f32⟩
  | 5 => ⟨S16x8192x64, .f32⟩
  | 6 => ⟨S_, .f32⟩
  | 7 => ⟨S16x513, .f32⟩
  | 8 => ⟨S16x513, .f32⟩
  | 9 => ⟨S8192x16x64, .f32⟩
  | 10 => ⟨S8192x1024, .f32⟩
  | 11 => ⟨S8192x16x64, .f32⟩
  | 12 => ⟨S8192x1024, .f32⟩
  | 13 => ⟨S8192x16x64, .f32⟩
  | 14 => ⟨S8192x1024, .f32⟩
  | 15 => ⟨S8192x1024, .bf16⟩
  | 16 => ⟨S8192x1024, .bf16⟩
  | 17 => ⟨S8192x1024, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_call1_v0 : Ref sig .tc := ⟨.hbm, 60, rfl⟩
abbrev main_v40_1 : Ref sig .tc := ⟨.hbm, 61, rfl⟩
abbrev main_call1_v2 : Ref sig .tc := ⟨.hbm, 62, rfl⟩
abbrev main_v40_0 : Ref sig .tc := ⟨.hbm, 63, rfl⟩
abbrev main_call1_cst : Ref sig .tc := ⟨.hbm, 64, rfl⟩
abbrev main_v40_2 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_cst_16 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call2_cst : Ref sig .tc := ⟨.hbm, 126, rfl⟩
abbrev main_call2_v0 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]
-- ==== KernelDwDown.lean ====
abbrev S8192x4096 : Shape := ⟨2, ![8192, 4096]⟩
abbrev S8192x1024 : Shape := ⟨2, ![8192, 1024]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwDownIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelDPre.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDPreIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelDwUp.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩
abbrev S1024x2048 : Shape := ⟨2, ![1024, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUpIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwQkv.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwQkvIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwO.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwOIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDO.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDOIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQkv.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceQkvIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelUp.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceUpIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelAttnOut.lean ====
abbrev S8192x1024 : Shape := ⟨2, ![8192, 1024]⟩
abbrev S1024x1024 : Shape := ⟨2, ![1024, 1024]⟩
abbrev S1x1024 : Shape := ⟨2, ![1, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceAttnOutIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelDown.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDownIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== KernelLast.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLastIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== KernelDH1.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelDH1Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDH1Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8x1024, .i32⟩
  | .hbm, ⟨53, _⟩ => ⟨S_, .i32⟩
  | .hbm, ⟨54, _⟩ => ⟨S8x1024, .i32⟩
  | .hbm, ⟨55, _⟩ => ⟨S8x1024, .i1⟩
  | .hbm, ⟨56, _⟩ => ⟨S_, .f32⟩
  | .hbm, ⟨57, _⟩ => ⟨S_, .f32⟩
  | .hbm, ⟨58, _⟩ => ⟨S8x1024, .f32⟩
  | .hbm, ⟨59, _⟩ => ⟨S8x1024, .f32⟩
  | .hbm, ⟨60, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== KernelDH0.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S8x1024 : Shape := ⟨2, ![8, 1024]⟩
abbrev S512x3072 : Shape := ⟨2, ![512, 3072]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDH0Ideal.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x3072, .f32⟩
  | .hbm, ⟨25, _⟩ => ⟨S8192x3072, .f32⟩
  | .hbm, ⟨26, _⟩ => ⟨S8192x3072, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8x1024, .i32⟩
  | .hbm, ⟨53, _⟩ => ⟨S_, .i32⟩
  | .hbm, ⟨54, _⟩ => ⟨S8x1024, .i32⟩
  | .hbm, ⟨55, _⟩ => ⟨S8x1024, .i1⟩
  | .hbm, ⟨56, _⟩ => ⟨S_, .f32⟩
  | .hbm, ⟨57, _⟩ => ⟨S_, .f32⟩
  | .hbm, ⟨58, _⟩ => ⟨S8x1024, .f32⟩
  | .hbm, ⟨59, _⟩ => ⟨S8x1024, .f32⟩
  | .hbm, ⟨60, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.KI.Chain.lean ====
/-
  What one half-block of the attention's backward kernel computes, as plain functions of the vectors it loads: 128
  queries of two heads of 64 lanes against a window of 640 keys. A mask `M` picks one head's lanes out of 128.
-/
module

public import proofs.«01_k».proof.Proof.Gen.KernelIdeal.Skeleton

@[expose] public section

noncomputable section

namespace Cert.KernelIdeal.CaBwd

open Cert.KernelIdeal Cert.KernelIdeal.Gen
open Idealize.ShloMosaic Idealize.SL.Sem

variable {F : FTy → Type} [FloatOps F] [Named F]

/-- The lanes of the first head of a pair: those below 64. -/
def lo : IVec S128x128 1 := cmpi .slt (iota .tc S128x128 32 [1] iota_S128x128_d1_w32) (broadcast S128x128 64#32)

/-- The lanes of the second head of a pair: those from 64 on. -/
def hi : IVec S128x128 1 := cmpi .sge (iota .tc S128x128 32 [1] iota_S128x128_d1_w32) (broadcast S128x128 64#32)

/-- One head's lanes of `x`, zero elsewhere. -/
def half (M : IVec S128x128 1) (x : Vec F S128x128 .bf16) : Vec F S128x128 .bf16 :=
  select M x (broadcast S128x128 (Scalar.sitofp .bf16 0#32 : F .bf16))

/-- One head's lanes of the queries, times 1/8. -/
def scaled (M : IVec S128x128 1) (x : Vec F S128x128 .bf16) : FVec F S128x128 .bf16 :=
  mulf (half M x : FVec F S128x128 .bf16) (broadcast S128x128 (Scalar.ofBits .bf16 0x3E00#16 : F .bf16))

/-- The gradient of the output against the output, both widened, elementwise. -/
def prods (g o : Vec F S128x128 .bf16) : FVec F S128x128 .f32 :=
  mulf (extf .f32 (g : FVec F S128x128 .bf16) bitsLt_bf16_f32) (extf .f32 (shapeCast S128x128 (o : FVec F S128x128 .bf16) shapeCasts_S128x128_S128x128 : FVec F S128x128 .bf16) bitsLt_bf16_f32)

/-- The row sums of `prods` over one head's lanes. -/
def rowDot (M : IVec S128x128 1) (g o : Vec F S128x128 .bf16) : FVec F S128x1 .f32 :=
  shapeCast S128x1 (multiReduction .add [1] S128
    (select M (prods g o) (broadcast S128x128 (Scalar.ofBits .f32 0x00000000#32 : F .f32)) : FVec F S128x128 .f32)
    0x00000000#32 reduces_S128x128_S128 (.inl rfl) rfl : FVec F S128 .f32) shapeCasts_S128_S128x1

/-- The scores of one head: queries against the window's keys, plus the table's bias, with the columns before `lim` at
the mask's value. -/
def score (lim : BitVec 32) (qh : FVec F S128x128 .bf16) (kw : Vec F S640x128 .bf16) (b : Vec F S1x128x640 .f32) : FVec F S128x640 .f32 :=
  select (cmpi .sge (iota .tc S128x640 32 [1] iota_S128x640_d1_w32) (broadcast S128x640 lim))
    (addf (matmul dot_S128x128_S640x128_S128x640_1_1_0_0_n_n none qh (kw : FVec F S640x128 .bf16) (constant S128x640 .f32 0x00000000#32))
      (shapeCast S128x640 (b : FVec F S1x128x640 .f32) shapeCasts_S1x128x640_S128x640) : FVec F S128x640 .f32)
    (broadcast S128x640 (Named.named κ "mask" 0xF149F2CA#32 : F .f32))

/-- The scores less their row maximum, exponentiated. -/
def expo (s : FVec F S128x640 .f32) : FVec F S128x640 .f32 :=
  exp (subf s (broadcastTo S128x640 (shapeCast S128x1 (multiReduction .maximumf [1] S128 s 0xFF800000#32 reduces_S128x640_S128 (.inl rfl) rfl : FVec F S128 .f32) shapeCasts_S128_S128x1 : FVec F S128x1 .f32) broadcasts_S128x1_S128x640 : FVec F S128x640 .f32))

/-- The softmax of the rows: each exponential times the reciprocal of its row's sum. -/
def prob (s : FVec F S128x640 .f32) : FVec F S128x640 .f32 :=
  mulf (expo s) (broadcastTo S128x640 (divf (broadcast S128x1 (Scalar.ofBits .f32 0x3F800000#32 : F .f32))
    (shapeCast S128x1 (multiReduction .add [1] S128 (expo s) 0x00000000#32 reduces_S128x640_S128 (.inl rfl) rfl : FVec F S128 .f32) shapeCasts_S128_S128x1 : FVec F S128x1 .f32) : FVec F S128x1 .f32) broadcasts_S128x1_S128x640)

/-- The gradient of the scores: the weights times what the values' product exceeds the row's mean by. -/
def dscore (p : FVec F S128x640 .f32) (gh : Vec F S128x128 .bf16) (vw : Vec F S640x128 .bf16) (d : FVec F S128x1 .f32) : FVec F S128x640 .f32 :=
  mulf p (subf (matmul dot_S128x128_S640x128_S128x640_1_1_0_0_n_n none (gh : FVec F S128x128 .bf16) (vw : FVec F S640x128 .bf16) (constant S128x640 .f32 0x00000000#32))
    (broadcastTo S128x640 d broadcasts_S128x1_S128x640))

/-- The weights of one head of a half-block. -/
def P (M : IVec S128x128 1) (lim : BitVec 32) (q : Vec F S128x128 .bf16) (kw : Vec F S640x128 .bf16) (b : Vec F S1x128x640 .f32) : FVec F S128x640 .f32 :=
  prob (score lim (scaled M q) kw b)

/-- The gradient of the scores of one head of a half-block. -/
def D (M : IVec S128x128 1) (lim : BitVec 32) (q g o : Vec F S128x128 .bf16) (kw vw : Vec F S640x128 .bf16) (b : Vec F S1x128x640 .f32) : FVec F S128x640 .f32 :=
  dscore (P M lim q kw b) (half M g) vw (rowDot M g o)

/-- The bias gradient's block with the scores' gradient added. -/
def addBias (old : Vec F S1x128x640 .f32) (d : FVec F S128x640 .f32) : FVec F S1x128x640 .f32 :=
  shapeCast S1x128x640 (addf (shapeCast S128x640 (old : FVec F S1x128x640 .f32) shapeCasts_S1x128x640_S128x640) d : FVec F S128x640 .f32) shapeCasts_S128x640_S1x128x640

/-- The rounding of a [128, 640] block. -/
def rnd (d : FVec F S128x640 .f32) : FVec F S128x640 .bf16 := truncf .bf16 d bitsLt_bf16_f32

/-- The queries' gradient of both heads: the first head's in the lanes below 64, the second's in the others. -/
def dq (d0 d1 : FVec F S128x640 .f32) (kw : Vec F S640x128 .bf16) : Vec F S128x128 .bf16 :=
  (truncf .bf16 (mulf (select lo
      (matmul dot_S128x640_S640x128_S128x128_1_0_0_1_n_n none (rnd d0) (kw : FVec F S640x128 .bf16) (constant S128x128 .f32 0x00000000#32) : FVec F S128x128 .f32)
      (matmul dot_S128x640_S640x128_S128x128_1_0_0_1_n_n none (rnd d1) (kw : FVec F S640x128 .bf16) (constant S128x128 .f32 0x00000000#32) : FVec F S128x128 .f32) : FVec F S128x128 .f32)
    (broadcast S128x128 (Scalar.ofBits .f32 0x3E000000#32 : F .f32)) : FVec F S128x128 .f32) bitsLt_bf16_f32 : FVec F S128x128 .bf16)

/-- What a half-block adds to a window of keys (or values): each head's block, transposed, against that head's lanes. -/
def share (d0 d1 : FVec F S128x640 .f32) (x0 x1 : FVec F S128x128 .bf16) : FVec F S640x128 .f32 :=
  addf (matmul dot_S128x640_S128x128_S640x128_0_0_1_1_n_n none (rnd d0) x0 (constant S640x128 .f32 0x00000000#32))
    (matmul dot_S128x640_S128x128_S640x128_0_0_1_1_n_n none (rnd d1) x1 (constant S640x128 .f32 0x00000000#32))

/-- A window of the sums with a half-block's share added. -/
def addShare (old : Vec F S640x128 .f32) (s : FVec F S640x128 .f32) : FVec F S640x128 .f32 :=
  shapeCast S640x128 (addf (old : FVec F S640x128 .f32) s : FVec F S640x128 .f32) shapeCasts_S640x128_S640x128

end Cert.KernelIdeal.CaBwd

end
-- ==== Proof.KI.Sub.lean ====
/-
  The backward kernel's body as ten programs in a row: for each of its four blocks of 256 queries the first block's
  preparation of the scratch (`prep`, taken where the block is the first of a pair of heads), the block itself (`sub`)
  and the copy of the sums out (`flush`, taken where it is the last). `body_eq` says the printed body is that row.
-/
module

public import proofs.«01_k».proof.Proof.KI.Chain

@[expose] public section

noncomputable section

namespace Cert.KernelIdeal.CaBwd

open Cert.KernelIdeal Cert.KernelIdeal.Gen
open Idealize.ShloMosaic Idealize.SL.Sem

variable {F : FTy → Type} [FloatOps F] [Named F]

/-- The preparation of the scratch at the first block of a pair of heads: the keys and values behind 512 rows of zeros, and the three sums at zero. -/
def prep (arg3 : Memref sig .tc .vmem S8192x128 .bf16) (arg4 : Memref sig .tc .vmem S8192x128 .bf16) (arg11 : Memref sig .tc .vmem S2x256x768 .f32) (arg12 : Memref sig .tc .vmem S8704x128 .bf16) (harg12 : arg12.IsWhole) (arg13 : Memref sig .tc .vmem S8704x128 .bf16) (harg13 : arg13.IsWhole) (arg14 : Memref sig .tc .vmem S8704x128 .f32) (arg15 : Memref sig .tc .vmem S8704x128 .f32) :
    Prog (TpuEff nD τ sig (Elt F) Λ₀ .tc) PUnit := do
  let _ : Vec F S512x128 .bf16 ← Prog.lift (.load arg12 (Rect.unit (s := S8704x128) ![0, 0] S512x128.size inb_S8704x128_S512x128_0_0).toLoadRect (View.loadsAt_vmem h_S512x128))
  Prog.lift (.store arg12 (Rect.unit (s := S8704x128) ![0, 0] S512x128.size inb_S8704x128_S512x128_0_0) (k0_pay4 (F := F)) Finset.univ (View.stores_vmem h_S512x128 (harg12.storeExact_slice rfl _ packedbf16_S8704x128_S512x128_0_0) (fun _ => rfl)) (.inl rfl))
  let _ : Vec F S512x128 .bf16 ← Prog.lift (.load arg13 (Rect.unit (s := S8704x128) ![0, 0] S512x128.size inb_S8704x128_S512x128_0_0).toLoadRect (View.loadsAt_vmem h_S512x128))
  Prog.lift (.store arg13 (Rect.unit (s := S8704x128) ![0, 0] S512x128.size inb_S8704x128_S512x128_0_0) (k0_pay5 (F := F)) Finset.univ (View.stores_vmem h_S512x128 (harg13.storeExact_slice rfl _ packedbf16_S8704x128_S512x128_0_0) (fun _ => rfl)) (.inl rfl))
  let k : Vec F S8192x128 .bf16 ← Prog.lift (.load arg3 (Rect.unit (s := S8192x128) ![0, 0] S8192x128.size inb_S8192x128_S8192x128_0_0).toLoadRect (View.loadsAt_vmem h_S8192x128))
  let _ : Vec F S8192x128 .bf16 ← Prog.lift (.load arg12 (Rect.unit (s := S8704x128) ![512, 0] S8192x128.size inb_S8704x128_S8192x128_512_0).toLoadRect (View.loadsAt_vmem h_S8192x128))
  Prog.lift (.store arg12 (Rect.unit (s := S8704x128) ![512, 0] S8192x128.size inb_S8704x128_S8192x128_512_0) (k0_pay6 k) Finset.univ (View.stores_vmem h_S8192x128 (harg12.storeExact_slice rfl _ packedbf16_S8704x128_S8192x128_512_0) (fun _ => rfl)) (.inl rfl))
  let v : Vec F S8192x128 .bf16 ← Prog.lift (.load arg4 (Rect.unit (s := S8192x128) ![0, 0] S8192x128.size inb_S8192x128_S8192x128_0_0).toLoadRect (View.loadsAt_vmem h_S8192x128))
  let _ : Vec F S8192x128 .bf16 ← Prog.lift (.load arg13 (Rect.unit (s := S8704x128) ![512, 0] S8192x128.size inb_S8704x128_S8192x128_512_0).toLoadRect (View.loadsAt_vmem h_S8192x128))
  Prog.lift (.store arg13 (Rect.unit (s := S8704x128) ![512, 0] S8192x128.size inb_S8704x128_S8192x128_512_0) (k0_pay7 v) Finset.univ (View.stores_vmem h_S8192x128 (harg13.storeExact_slice rfl _ packedbf16_S8704x128_S8192x128_512_0) (fun _ => rfl)) (.inl rfl))
  let _ : Vec F S8704x128 .f32 ← Prog.lift (.load arg14 (Rect.unit (s := S8704x128) ![0, 0] S8704x128.size inb_S8704x128_S8704x128_0_0).toLoadRect (View.loadsAt_vmem h_S8704x128))
  Prog.lift (.store arg14 (Rect.unit (s := S8704x128) ![0, 0] S8704x128.size inb_S8704x128_S8704x128_0_0) (k0_pay8 (F := F)) Finset.univ (View.stores_vmem_bits_univ h_S8704x128 rfl) (.inl rfl))
  let _ : Vec F S8704x128 .f32 ← Prog.lift (.load arg15 (Rect.unit (s := S8704x128) ![0, 0] S8704x128.size inb_S8704x128_S8704x128_0_0).toLoadRect (View.loadsAt_vmem h_S8704x128))
  Prog.lift (.store arg15 (Rect.unit (s := S8704x128) ![0, 0] S8704x128.size inb_S8704x128_S8704x128_0_0) (k0_pay9 (F := F)) Finset.univ (View.stores_vmem_bits_univ h_S8704x128 rfl) (.inl rfl))
  let _ : Vec F S2x256x768 .f32 ← Prog.lift (.load arg11 (Rect.unit (s := S2x256x768) ![0, 0, 0] S2x256x768.size inb_S2x256x768_S2x256x768_0_0_0).toLoadRect (View.loadsAt_vmem h_S2x256x768))
  Prog.lift (.store arg11 (Rect.unit (s := S2x256x768) ![0, 0, 0] S2x256x768.size inb_S2x256x768_S2x256x768_0_0_0) (k0_pay10 (F := F)) Finset.univ (View.stores_vmem_bits_univ h_S2x256x768 rfl) (.inl rfl))

/-- The copy of the two sums out, rounded, at the last block of a pair of heads. -/
def flush (arg9 : Memref sig .tc .vmem S8192x128 .bf16) (harg9 : arg9.IsWhole) (arg10 : Memref sig .tc .vmem S8192x128 .bf16) (harg10 : arg10.IsWhole) (arg14 : Memref sig .tc .vmem S8704x128 .f32) (arg15 : Memref sig .tc .vmem S8704x128 .f32) :
    Prog (TpuEff nD τ sig (Elt F) Λ₀ .tc) PUnit := do
  let a : Vec F S8192x128 .f32 ← Prog.lift (.load arg14 (Rect.unit (s := S8704x128) ![512, 0] S8192x128.size inb_S8704x128_S8192x128_512_0).toLoadRect (View.loadsAt_vmem h_S8192x128))
  let _ : Vec F S8192x128 .bf16 ← Prog.lift (.load arg9 (Rect.unit (s := S8192x128) ![0, 0] S8192x128.size inb_S8192x128_S8192x128_0_0).toLoadRect (View.loadsAt_vmem h_S8192x128))
  Prog.lift (.store arg9 (Rect.unit (s := S8192x128) ![0, 0] S8192x128.size inb_S8192x128_S8192x128_0_0) (k0_pay2 a) Finset.univ (View.stores_vmem h_S8192x128 (harg9.storeExact_slice rfl _ packedbf16_S8192x128_S8192x128_0_0) (fun _ => rfl)) (.inl rfl))
  let b : Vec F S8192x128 .f32 ← Prog.lift (.load arg15 (Rect.unit (s := S8704x128) ![512, 0] S8192x128.size inb_S8704x128_S8192x128_512_0).toLoadRect (View.loadsAt_vmem h_S8192x128))
  let _ : Vec F S8192x128 .bf16 ← Prog.lift (.load arg10 (Rect.unit (s := S8192x128) ![0, 0] S8192x128.size inb_S8192x128_S8192x128_0_0).toLoadRect (View.loadsAt_vmem h_S8192x128))
  Prog.lift (.store arg10 (Rect.unit (s := S8192x128) ![0, 0] S8192x128.size inb_S8192x128_S8192x128_0_0) (k0_pay3 b) Finset.univ (View.stores_vmem h_S8192x128 (harg10.storeExact_slice rfl _ packedbf16_S8192x128_S8192x128_0_0) (fun _ => rfl)) (.inl rfl))

/-- One block of 256 queries, as two half-blocks of 128, each against its own window of 640 rows of the padded keys and
values (rows from `off0` and from `off1`): the queries' gradient stored, and the bias's, the keys' and the values' added. -/
def sub (lim0 lim1 : BitVec 32)
    (off0 off1 : Fin 2 → ℕ) (hoff0 : ∀ a, off0 a + S640x128.size a ≤ S8704x128.size a) (hoff1 : ∀ a, off1 a + S640x128.size a ≤ S8704x128.size a)
    (rs rd0 rd1 : Fin 2 → ℕ) (hrs : ∀ a, rs a + S256x128.size a ≤ S1024x128.size a) (hrd0 : ∀ a, rd0 a + S128x128.size a ≤ S1024x128.size a) (hrd1 : ∀ a, rd1 a + S128x128.size a ≤ S1024x128.size a)
    (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32)
    (hst0 : (arg8.access (Rect.unit (s := S1024x128) rd0 S128x128.size hrd0)).Stores Finset.univ)
    (hst1 : (arg8.access (Rect.unit (s := S1024x128) rd1 S128x128.size hrd1)).Stores Finset.univ) :
    Prog (TpuEff nD τ sig (Elt F) Λ₀ .tc) PUnit := do
  let kw0 : Vec F S640x128 .bf16 ← Prog.lift (.load arg12 (Rect.unit (s := S8704x128) off0 S640x128.size hoff0).toLoadRect (View.loadsAt_vmem h_S640x128))
  let kw1 : Vec F S640x128 .bf16 ← Prog.lift (.load arg12 (Rect.unit (s := S8704x128) off1 S640x128.size hoff1).toLoadRect (View.loadsAt_vmem h_S640x128))
  let vw0 : Vec F S640x128 .bf16 ← Prog.lift (.load arg13 (Rect.unit (s := S8704x128) off0 S640x128.size hoff0).toLoadRect (View.loadsAt_vmem h_S640x128))
  let vw1 : Vec F S640x128 .bf16 ← Prog.lift (.load arg13 (Rect.unit (s := S8704x128) off1 S640x128.size hoff1).toLoadRect (View.loadsAt_vmem h_S640x128))
  let g0 : Vec F S128x128 .bf16 ← Prog.lift (.load (arg6.slice (Rect.unit (s := S1024x128) rs S256x128.size hrs) (fun _ => rfl)) (Rect.unit (s := S256x128) ![0, 0] S128x128.size inb_S256x128_S128x128_0_0).toLoadRect (View.loadsAt_vmem h_S128x128))
  let g1 : Vec F S128x128 .bf16 ← Prog.lift (.load (arg6.slice (Rect.unit (s := S1024x128) rs S256x128.size hrs) (fun _ => rfl)) (Rect.unit (s := S256x128) ![128, 0] S128x128.size inb_S256x128_S128x128_128_0).toLoadRect (View.loadsAt_vmem h_S128x128))
  let o0 : Vec F S128x128 .bf16 ← Prog.lift (.load (arg5.slice (Rect.unit (s := S1024x128) rs S256x128.size hrs) (fun _ => rfl)) (Rect.unit (s := S256x128) ![0, 0] S128x128.size inb_S256x128_S128x128_0_0).toLoadRect (View.loadsAt_vmem h_S128x128))
  let o1 : Vec F S128x128 .bf16 ← Prog.lift (.load (arg5.slice (Rect.unit (s := S1024x128) rs S256x128.size hrs) (fun _ => rfl)) (Rect.unit (s := S256x128) ![128, 0] S128x128.size inb_S256x128_S128x128_128_0).toLoadRect (View.loadsAt_vmem h_S128x128))
  let q00 : Vec F S128x128 .bf16 ← Prog.lift (.load (arg2.slice (Rect.unit (s := S1024x128) rs S256x128.size hrs) (fun _ => rfl)) (Rect.unit (s := S256x128) ![0, 0] S128x128.size inb_S256x128_S128x128_0_0).toLoadRect (View.loadsAt_vmem h_S128x128))
  let q01 : Vec F S128x128 .bf16 ← Prog.lift (.load (arg2.slice (Rect.unit (s := S1024x128) rs S256x128.size hrs) (fun _ => rfl)) (Rect.unit (s := S256x128) ![0, 0] S128x128.size inb_S256x128_S128x128_0_0).toLoadRect (View.loadsAt_vmem h_S128x128))
  let q10 : Vec F S128x128 .bf16 ← Prog.lift (.load (arg2.slice (Rect.unit (s := S1024x128) rs S256x128.size hrs) (fun _ => rfl)) (Rect.unit (s := S256x128) ![128, 0] S128x128.size inb_S256x128_S128x128_128_0).toLoadRect (View.loadsAt_vmem h_S128x128))
  let q11 : Vec F S128x128 .bf16 ← Prog.lift (.load (arg2.slice (Rect.unit (s := S1024x128) rs S256x128.size hrs) (fun _ => rfl)) (Rect.unit (s := S256x128) ![128, 0] S128x128.size inb_S256x128_S128x128_128_0).toLoadRect (View.loadsAt_vmem h_S128x128))
  let b00 : Vec F S1x128x640 .f32 ← Prog.lift (.load arg7 (Rect.unit (s := S2x256x768) ![0, 0, 0] S1x128x640.size inb_S2x256x768_S1x128x640_0_0_0).toLoadRect (View.loadsAt_vmem h_S1x128x640))
  let b01 : Vec F S1x128x640 .f32 ← Prog.lift (.load arg7 (Rect.unit (s := S2x256x768) ![1, 0, 0] S1x128x640.size inb_S2x256x768_S1x128x640_1_0_0).toLoadRect (View.loadsAt_vmem h_S1x128x640))
  let b10 : Vec F S1x128x640 .f32 ← Prog.lift (.load arg7 (Rect.unit (s := S2x256x768) ![0, 128, 128] S1x128x640.size inb_S2x256x768_S1x128x640_0_128_128).toLoadRect (View.loadsAt_vmem h_S1x128x640))
  let b11 : Vec F S1x128x640 .f32 ← Prog.lift (.load arg7 (Rect.unit (s := S2x256x768) ![1, 128, 128] S1x128x640.size inb_S2x256x768_S1x128x640_1_128_128).toLoadRect (View.loadsAt_vmem h_S1x128x640))
  let e00 : Vec F S1x128x640 .f32 ← Prog.lift (.load arg11 (Rect.unit (s := S2x256x768) ![0, 0, 0] S1x128x640.size inb_S2x256x768_S1x128x640_0_0_0).toLoadRect (View.loadsAt_vmem h_S1x128x640))
  let _ : Vec F S1x128x640 .f32 ← Prog.lift (.load arg11 (Rect.unit (s := S2x256x768) ![0, 0, 0] S1x128x640.size inb_S2x256x768_S1x128x640_0_0_0).toLoadRect (View.loadsAt_vmem h_S1x128x640))
  Prog.lift (.store arg11 (Rect.unit (s := S2x256x768) ![0, 0, 0] S1x128x640.size inb_S2x256x768_S1x128x640_0_0_0) (addBias e00 (D lo lim0 q00 g0 o0 kw0 vw0 b00)) Finset.univ (View.stores_vmem_bits_univ h_S1x128x640 rfl) (.inl rfl))
  let e01 : Vec F S1x128x640 .f32 ← Prog.lift (.load arg11 (Rect.unit (s := S2x256x768) ![1, 0, 0] S1x128x640.size inb_S2x256x768_S1x128x640_1_0_0).toLoadRect (View.loadsAt_vmem h_S1x128x640))
  let _ : Vec F S1x128x640 .f32 ← Prog.lift (.load arg11 (Rect.unit (s := S2x256x768) ![1, 0, 0] S1x128x640.size inb_S2x256x768_S1x128x640_1_0_0).toLoadRect (View.loadsAt_vmem h_S1x128x640))
  Prog.lift (.store arg11 (Rect.unit (s := S2x256x768) ![1, 0, 0] S1x128x640.size inb_S2x256x768_S1x128x640_1_0_0) (addBias e01 (D hi lim0 q01 g0 o0 kw0 vw0 b01)) Finset.univ (View.stores_vmem_bits_univ h_S1x128x640 rfl) (.inl rfl))
  let e10 : Vec F S1x128x640 .f32 ← Prog.lift (.load arg11 (Rect.unit (s := S2x256x768) ![0, 128, 128] S1x128x640.size inb_S2x256x768_S1x128x640_0_128_128).toLoadRect (View.loadsAt_vmem h_S1x128x640))
  let _ : Vec F S1x128x640 .f32 ← Prog.lift (.load arg11 (Rect.unit (s := S2x256x768) ![0, 128, 128] S1x128x640.size inb_S2x256x768_S1x128x640_0_128_128).toLoadRect (View.loadsAt_vmem h_S1x128x640))
  Prog.lift (.store arg11 (Rect.unit (s := S2x256x768) ![0, 128, 128] S1x128x640.size inb_S2x256x768_S1x128x640_0_128_128) (addBias e10 (D lo lim1 q10 g1 o1 kw1 vw1 b10)) Finset.univ (View.stores_vmem_bits_univ h_S1x128x640 rfl) (.inl rfl))
  let e11 : Vec F S1x128x640 .f32 ← Prog.lift (.load arg11 (Rect.unit (s := S2x256x768) ![1, 128, 128] S1x128x640.size inb_S2x256x768_S1x128x640_1_128_128).toLoadRect (View.loadsAt_vmem h_S1x128x640))
  let _ : Vec F S1x128x640 .f32 ← Prog.lift (.load arg11 (Rect.unit (s := S2x256x768) ![1, 128, 128] S1x128x640.size inb_S2x256x768_S1x128x640_1_128_128).toLoadRect (View.loadsAt_vmem h_S1x128x640))
  Prog.lift (.store arg11 (Rect.unit (s := S2x256x768) ![1, 128, 128] S1x128x640.size inb_S2x256x768_S1x128x640_1_128_128) (addBias e11 (D hi lim1 q11 g1 o1 kw1 vw1 b11)) Finset.univ (View.stores_vmem_bits_univ h_S1x128x640 rfl) (.inl rfl))
  let _ : Vec F S128x128 .bf16 ← Prog.lift (.load (arg8.slice (Rect.unit (s := S1024x128) rs S256x128.size hrs) (fun _ => rfl)) (Rect.unit (s := S256x128) ![0, 0] S128x128.size inb_S256x128_S128x128_0_0).toLoadRect (View.loadsAt_vmem h_S128x128))
  Prog.lift (.store arg8 (Rect.unit (s := S1024x128) rd0 S128x128.size hrd0) (dq (D lo lim0 q00 g0 o0 kw0 vw0 b00) (D hi lim0 q01 g0 o0 kw0 vw0 b01) kw0) Finset.univ hst0 (.inl rfl))
  let _ : Vec F S128x128 .bf16 ← Prog.lift (.load (arg8.slice (Rect.unit (s := S1024x128) rs S256x128.size hrs) (fun _ => rfl)) (Rect.unit (s := S256x128) ![128, 0] S128x128.size inb_S256x128_S128x128_128_0).toLoadRect (View.loadsAt_vmem h_S128x128))
  Prog.lift (.store arg8 (Rect.unit (s := S1024x128) rd1 S128x128.size hrd1) (dq (D lo lim1 q10 g1 o1 kw1 vw1 b10) (D hi lim1 q11 g1 o1 kw1 vw1 b11) kw1) Finset.univ hst1 (.inl rfl))
  let a0 : Vec F S640x128 .f32 ← Prog.lift (.load arg14 (Rect.unit (s := S8704x128) off0 S640x128.size hoff0).toLoadRect (View.loadsAt_vmem h_S640x128))
  let _ : Vec F S640x128 .f32 ← Prog.lift (.load arg14 (Rect.unit (s := S8704x128) off0 S640x128.size hoff0).toLoadRect (View.loadsAt_vmem h_S640x128))
  Prog.lift (.store arg14 (Rect.unit (s := S8704x128) off0 S640x128.size hoff0) (addShare a0 (share (D lo lim0 q00 g0 o0 kw0 vw0 b00) (D hi lim0 q01 g0 o0 kw0 vw0 b01) (scaled lo q00) (scaled hi q01))) Finset.univ (View.stores_vmem_bits_univ h_S640x128 rfl) (.inl rfl))
  let c0 : Vec F S640x128 .f32 ← Prog.lift (.load arg15 (Rect.unit (s := S8704x128) off0 S640x128.size hoff0).toLoadRect (View.loadsAt_vmem h_S640x128))
  let _ : Vec F S640x128 .f32 ← Prog.lift (.load arg15 (Rect.unit (s := S8704x128) off0 S640x128.size hoff0).toLoadRect (View.loadsAt_vmem h_S640x128))
  Prog.lift (.store arg15 (Rect.unit (s := S8704x128) off0 S640x128.size hoff0) (addShare c0 (share (P lo lim0 q00 kw0 b00) (P hi lim0 q01 kw0 b01) (half lo g0) (half hi g0))) Finset.univ (View.stores_vmem_bits_univ h_S640x128 rfl) (.inl rfl))
  let a1 : Vec F S640x128 .f32 ← Prog.lift (.load arg14 (Rect.unit (s := S8704x128) off1 S640x128.size hoff1).toLoadRect (View.loadsAt_vmem h_S640x128))
  let _ : Vec F S640x128 .f32 ← Prog.lift (.load arg14 (Rect.unit (s := S8704x128) off1 S640x128.size hoff1).toLoadRect (View.loadsAt_vmem h_S640x128))
  Prog.lift (.store arg14 (Rect.unit (s := S8704x128) off1 S640x128.size hoff1) (addShare a1 (share (D lo lim1 q10 g1 o1 kw1 vw1 b10) (D hi lim1 q11 g1 o1 kw1 vw1 b11) (scaled lo q10) (scaled hi q11))) Finset.univ (View.stores_vmem_bits_univ h_S640x128 rfl) (.inl rfl))
  let c1 : Vec F S640x128 .f32 ← Prog.lift (.load arg15 (Rect.unit (s := S8704x128) off1 S640x128.size hoff1).toLoadRect (View.loadsAt_vmem h_S640x128))
  let _ : Vec F S640x128 .f32 ← Prog.lift (.load arg15 (Rect.unit (s := S8704x128) off1 S640x128.size hoff1).toLoadRect (View.loadsAt_vmem h_S640x128))
  Prog.lift (.store arg15 (Rect.unit (s := S8704x128) off1 S640x128.size hoff1) (addShare c1 (share (P lo lim1 q10 kw1 b10) (P hi lim1 q11 kw1 b11) (half lo g1) (half hi g1))) Finset.univ (View.stores_vmem_bits_univ h_S640x128 rfl) (.inl rfl))

/-- The kernel's test that block `u` of a grid point, of number `4 * a + u` in its pair of heads, is the pair's first. -/
def first (a u : BitVec 32) : BitVec 1 :=
  Scalar.cmpi .ne (Scalar.extui (Scalar.cmpi .eq (Scalar.addi (Scalar.muli a 4#32) u) 0#32) : BitVec 32) 0#32

/-- `prep`, where `b` holds. -/
def prepIf (b : BitVec 1) (arg3 : Memref sig .tc .vmem S8192x128 .bf16) (arg4 : Memref sig .tc .vmem S8192x128 .bf16) (arg11 : Memref sig .tc .vmem S2x256x768 .f32) (arg12 : Memref sig .tc .vmem S8704x128 .bf16) (harg12 : arg12.IsWhole) (arg13 : Memref sig .tc .vmem S8704x128 .bf16) (harg13 : arg13.IsWhole) (arg14 : Memref sig .tc .vmem S8704x128 .f32) (arg15 : Memref sig .tc .vmem S8704x128 .f32) :
    Prog (TpuEff nD τ sig (Elt F) Λ₀ .tc) PUnit :=
  if h : b = 1#1 then prep arg3 arg4 arg11 arg12 harg12 arg13 harg13 arg14 arg15 else pure ⟨⟩

/-- `flush`, where `b` holds. -/
def flushIf (b : BitVec 1) (arg9 : Memref sig .tc .vmem S8192x128 .bf16) (harg9 : arg9.IsWhole) (arg10 : Memref sig .tc .vmem S8192x128 .bf16) (harg10 : arg10.IsWhole) (arg14 : Memref sig .tc .vmem S8704x128 .f32) (arg15 : Memref sig .tc .vmem S8704x128 .f32) :
    Prog (TpuEff nD τ sig (Elt F) Λ₀ .tc) PUnit :=
  if h : b = 1#1 then flush arg9 harg9 arg10 harg10 arg14 arg15 else pure ⟨⟩

/-- Block 0 of a grid point. -/
def sub0 (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    Prog (TpuEff nD τ sig (Elt F) Λ₀ .tc) PUnit :=
  sub (Scalar.subi (Scalar.subi 512#32 (Scalar.muli (Scalar.addi (Scalar.muli a 4#32) 0#32) 256#32)) 0#32) (Scalar.subi (Scalar.subi 512#32 (Scalar.muli (Scalar.addi (Scalar.muli a 4#32) 0#32) 256#32)) 128#32) (k0_off1 i 0#32 0#32) (k0_off1 i 0#32 128#32) (k0_off1_inb i 0 0) (k0_off1_inb i 0 1)
    ![0, 0] ![0, 0] ![128, 0] inb_S1024x128_S256x128_0_0 inb_S1024x128_S128x128_0_0 inb_S1024x128_S128x128_128_0
    arg2 arg5 arg6 arg7 arg8 arg11 arg12 arg13 arg14 arg15
    (View.stores_vmem h_S128x128 (harg8.storeExact_slice rfl _ packedbf16_S1024x128_S128x128_0_0) (fun _ => rfl))
    (View.stores_vmem h_S128x128 (harg8.storeExact_slice rfl _ packedbf16_S1024x128_S128x128_128_0) (fun _ => rfl))

/-- Block 1 of a grid point. -/
def sub1 (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    Prog (TpuEff nD τ sig (Elt F) Λ₀ .tc) PUnit :=
  sub (Scalar.subi (Scalar.subi 512#32 (Scalar.muli (Scalar.addi (Scalar.muli a 4#32) 1#32) 256#32)) 0#32) (Scalar.subi (Scalar.subi 512#32 (Scalar.muli (Scalar.addi (Scalar.muli a 4#32) 1#32) 256#32)) 128#32) (k0_off1 i 1#32 0#32) (k0_off1 i 1#32 128#32) (k0_off1_inb i 1 0) (k0_off1_inb i 1 1)
    ![256, 0] ![256, 0] ![384, 0] inb_S1024x128_S256x128_256_0 inb_S1024x128_S128x128_256_0 inb_S1024x128_S128x128_384_0
    arg2 arg5 arg6 arg7 arg8 arg11 arg12 arg13 arg14 arg15
    (View.stores_vmem h_S128x128 (harg8.storeExact_slice rfl _ packedbf16_S1024x128_S128x128_256_0) (fun _ => rfl))
    (View.stores_vmem h_S128x128 (harg8.storeExact_slice rfl _ packedbf16_S1024x128_S128x128_384_0) (fun _ => rfl))

/-- Block 2 of a grid point. -/
def sub2 (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    Prog (TpuEff nD τ sig (Elt F) Λ₀ .tc) PUnit :=
  sub (Scalar.subi (Scalar.subi 512#32 (Scalar.muli (Scalar.addi (Scalar.muli a 4#32) 2#32) 256#32)) 0#32) (Scalar.subi (Scalar.subi 512#32 (Scalar.muli (Scalar.addi (Scalar.muli a 4#32) 2#32) 256#32)) 128#32) (k0_off1 i 2#32 0#32) (k0_off1 i 2#32 128#32) (k0_off1_inb i 2 0) (k0_off1_inb i 2 1)
    ![512, 0] ![512, 0] ![640, 0] inb_S1024x128_S256x128_512_0 inb_S1024x128_S128x128_512_0 inb_S1024x128_S128x128_640_0
    arg2 arg5 arg6 arg7 arg8 arg11 arg12 arg13 arg14 arg15
    (View.stores_vmem h_S128x128 (harg8.storeExact_slice rfl _ packedbf16_S1024x128_S128x128_512_0) (fun _ => rfl))
    (View.stores_vmem h_S128x128 (harg8.storeExact_slice rfl _ packedbf16_S1024x128_S128x128_640_0) (fun _ => rfl))

/-- Block 3 of a grid point. -/
def sub3 (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    Prog (TpuEff nD τ sig (Elt F) Λ₀ .tc) PUnit :=
  sub (Scalar.subi (Scalar.subi 512#32 (Scalar.muli (Scalar.addi (Scalar.muli a 4#32) 3#32) 256#32)) 0#32) (Scalar.subi (Scalar.subi 512#32 (Scalar.muli (Scalar.addi (Scalar.muli a 4#32) 3#32) 256#32)) 128#32) (k0_off1 i 3#32 0#32) (k0_off1 i 3#32 128#32) (k0_off1_inb i 3 0) (k0_off1_inb i 3 1)
    ![768, 0] ![768, 0] ![896, 0] inb_S1024x128_S256x128_768_0 inb_S1024x128_S128x128_768_0 inb_S1024x128_S128x128_896_0
    arg2 arg5 arg6 arg7 arg8 arg11 arg12 arg13 arg14 arg15
    (View.stores_vmem h_S128x128 (harg8.storeExact_slice rfl _ packedbf16_S1024x128_S128x128_768_0) (fun _ => rfl))
    (View.stores_vmem h_S128x128 (harg8.storeExact_slice rfl _ packedbf16_S1024x128_S128x128_896_0) (fun _ => rfl))

/-- The body at one grid point as the row of its programs. -/
def body (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) PUnit := do
  prepIf (first (BitVec.ofNat 32 (i 1).val) 0#32) arg3 arg4 arg11 arg12 harg12 arg13 harg13 arg14 arg15
  sub0 i (BitVec.ofNat 32 (i 1).val) arg2 arg5 arg6 arg7 arg8 harg8 arg11 arg12 arg13 arg14 arg15
  flushIf (k0_cond2 i) arg9 harg9 arg10 harg10 arg14 arg15
  prepIf (first (BitVec.ofNat 32 (i 1).val) 1#32) arg3 arg4 arg11 arg12 harg12 arg13 harg13 arg14 arg15
  sub1 i (BitVec.ofNat 32 (i 1).val) arg2 arg5 arg6 arg7 arg8 harg8 arg11 arg12 arg13 arg14 arg15
  flushIf (k0_cond4 i) arg9 harg9 arg10 harg10 arg14 arg15
  prepIf (first (BitVec.ofNat 32 (i 1).val) 2#32) arg3 arg4 arg11 arg12 harg12 arg13 harg13 arg14 arg15
  sub2 i (BitVec.ofNat 32 (i 1).val) arg2 arg5 arg6 arg7 arg8 harg8 arg11 arg12 arg13 arg14 arg15
  flushIf (k0_cond6 i) arg9 harg9 arg10 harg10 arg14 arg15
  prepIf (first (BitVec.ofNat 32 (i 1).val) 3#32) arg3 arg4 arg11 arg12 harg12 arg13 harg13 arg14 arg15
  sub3 i (BitVec.ofNat 32 (i 1).val) arg2 arg5 arg6 arg7 arg8 harg8 arg11 arg12 arg13 arg14 arg15
  flushIf (k0_cond8 i) arg9 harg9 arg10 harg10 arg14 arg15

/-! ## The printed body is that row -/

/-- A conditional with what follows it inside both branches: what follows it, after it. -/
theorem dite_jp {E : Type → Type _} {β : Type} (c : Prop) [Decidable c] (A : Prog E PUnit) (k : PUnit → Prog E β) :
    (dite c (fun _ => A >>= k) (fun _ => k ⟨⟩)) = (dite c (fun _ => A) (fun _ => pure ⟨⟩)) >>= k := by
  split <;> simp only [pure_bind]

/-- The start of a block in the printed text: its windows of the keys and values, and first rows. -/
def p1b (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) ((Σ' (arg1 : BitVec 32) (v1 : BitVec 32) (v5 : IVec S128x128 32) (v7 : IVec S128x128 1) (v9 : IVec S128x128 1) (v12 : BitVec 32) (v15 : BitVec 32) (v17 : Vec F S640x128 .bf16) (v19 : Vec F S640x128 .bf16) (v21 : Vec F S640x128 .bf16) (v23 : Vec F S640x128 .bf16) (v25 : Vec F S128x128 .bf16) (v27 : Vec F S128x128 .bf16) (v28 : FVec F S128x128 .f32), Vec F S128x128 .bf16)) := do
  let arg1 : BitVec 32 := BitVec.ofNat 32 (i 1).val
  let v0 : BitVec 32 := Scalar.muli arg1 4#32
  let v1 : BitVec 32 := Scalar.addi v0 0#32
  let v2 : BitVec 1 := Scalar.cmpi .eq v1 0#32
  let v3 : BitVec 32 := Scalar.extui v2
  let v4 : BitVec 1 := Scalar.cmpi .ne v3 0#32
  have v5 : IVec S128x128 32 := iota .tc S128x128 32 [1] iota_S128x128_d1_w32
  let v10 : BitVec 32 := Scalar.muli v1 256#32
  let v11 : BitVec 32 := Scalar.addi v10 0#32
  let v12 : BitVec 32 := v11
  let v13 : BitVec 32 := Scalar.muli v1 256#32
  let v14 : BitVec 32 := Scalar.addi v13 128#32
  let v15 : BitVec 32 := v14
  let v17 : Vec F S640x128 .bf16 ← Prog.lift (.load arg12 (Rect.unit (s := S8704x128) (k0_off1 i 0#32 0#32) S640x128.size (k0_off1_inb i 0 0)).toLoadRect (View.loadsAt_vmem h_S640x128))
  let v19 : Vec F S640x128 .bf16 ← Prog.lift (.load arg12 (Rect.unit (s := S8704x128) (k0_off1 i 0#32 128#32) S640x128.size (k0_off1_inb i 0 1)).toLoadRect (View.loadsAt_vmem h_S640x128))
  let v21 : Vec F S640x128 .bf16 ← Prog.lift (.load arg13 (Rect.unit (s := S8704x128) (k0_off1 i 0#32 0#32) S640x128.size (k0_off1_inb i 0 0)).toLoadRect (View.loadsAt_vmem h_S640x128))
  let v23 : Vec F S640x128 .bf16 ← Prog.lift (.load arg13 (Rect.unit (s := S8704x128) (k0_off1 i 0#32 128#32) S640x128.size (k0_off1_inb i 0 1)).toLoadRect (View.loadsAt_vmem h_S640x128))
  let v24 : Memref sig .tc .vmem S256x128 .bf16 := arg6.slice (Rect.unit (s := S1024x128) ![0, 0] S256x128.size inb_S1024x128_S256x128_0_0) (fun _ => rfl)
  let v25 : Vec F S128x128 .bf16 ← Prog.lift (.load v24 (Rect.unit (s := S256x128) ![0, 0] S128x128.size inb_S256x128_S128x128_0_0).toLoadRect (View.loadsAt_vmem h_S128x128))
  let v26 : Memref sig .tc .vmem S256x128 .bf16 := arg6.slice (Rect.unit (s := S1024x128) ![0, 0] S256x128.size inb_S1024x128_S256x128_0_0) (fun _ => rfl)
  let v27 : Vec F S128x128 .bf16 ← Prog.lift (.load v26 (Rect.unit (s := S256x128) ![128, 0] S128x128.size inb_S256x128_S128x128_128_0).toLoadRect (View.loadsAt_vmem h_S128x128))
  let v29 : Memref sig .tc .vmem S256x128 .bf16 := arg5.slice (Rect.unit (s := S1024x128) ![0, 0] S256x128.size inb_S1024x128_S256x128_0_0) (fun _ => rfl)
  let v30 : Vec F S128x128 .bf16 ← Prog.lift (.load v29 (Rect.unit (s := S256x128) ![0, 0] S128x128.size inb_S256x128_S128x128_0_0).toLoadRect (View.loadsAt_vmem h_S128x128))
  pure ⟨arg1, v1, v5, k0_pay11, k0_pay12, v12, v15, v17, v19, v21, v23, v25, v27, k0_pay13 v25, v30⟩

set_option maxRecDepth 65536 in
theorem part1_eq (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    k0_part1_skel (F := F) i arg2 harg2 arg3 harg3 arg4 harg4 arg5 harg5 arg6 harg6 arg7 harg7 arg8 harg8 arg9 harg9 arg10 harg10 arg11 harg11 arg12 harg12 arg13 harg13 arg14 harg14 arg15 harg15 = ((prepIf (first (BitVec.ofNat 32 (i 1).val) 0#32) arg3 arg4 arg11 arg12 harg12 arg13 harg13 arg14 arg15) >>= fun _ => p1b (F := F) i arg2 harg2 arg3 harg3 arg4 harg4 arg5 harg5 arg6 harg6 arg7 harg7 arg8 harg8 arg9 harg9 arg10 harg10 arg11 harg11 arg12 harg12 arg13 harg13 arg14 harg14 arg15 harg15) :=
  dite_jp _ (prep arg3 arg4 arg11 arg12 harg12 arg13 harg13 arg14 arg15) fun _ => p1b (F := F) i arg2 harg2 arg3 harg3 arg4 harg4 arg5 harg5 arg6 harg6 arg7 harg7 arg8 harg8 arg9 harg9 arg10 harg10 arg11 harg11 arg12 harg12 arg13 harg13 arg14 harg14 arg15 harg15

/-- The start of a block in the printed text: its windows of the keys and values, and first rows. -/
def p9b (i : grid0.Coords) (arg1 : BitVec 32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) ((Σ' (v300 : BitVec 32) (v304 : IVec S128x128 32) (v306 : IVec S128x128 1) (v308 : IVec S128x128 1) (v311 : BitVec 32) (v314 : BitVec 32) (v316 : Vec F S640x128 .bf16) (v318 : Vec F S640x128 .bf16) (v320 : Vec F S640x128 .bf16) (v322 : Vec F S640x128 .bf16) (v324 : Vec F S128x128 .bf16) (v326 : Vec F S128x128 .bf16), FVec F S128x128 .f32)) := do
  let v299 : BitVec 32 := Scalar.muli arg1 4#32
  let v300 : BitVec 32 := Scalar.addi v299 1#32
  let v301 : BitVec 1 := Scalar.cmpi .eq v300 0#32
  let v302 : BitVec 32 := Scalar.extui v301
  let v303 : BitVec 1 := Scalar.cmpi .ne v302 0#32
  have v304 : IVec S128x128 32 := iota .tc S128x128 32 [1] iota_S128x128_d1_w32
  let v309 : BitVec 32 := Scalar.muli v300 256#32
  let v310 : BitVec 32 := Scalar.addi v309 0#32
  let v311 : BitVec 32 := v310
  let v312 : BitVec 32 := Scalar.muli v300 256#32
  let v313 : BitVec 32 := Scalar.addi v312 128#32
  let v314 : BitVec 32 := v313
  let v316 : Vec F S640x128 .bf16 ← Prog.lift (.load arg12 (Rect.unit (s := S8704x128) (k0_off1 i 1#32 0#32) S640x128.size (k0_off1_inb i 1 0)).toLoadRect (View.loadsAt_vmem h_S640x128))
  let v318 : Vec F S640x128 .bf16 ← Prog.lift (.load arg12 (Rect.unit (s := S8704x128) (k0_off1 i 1#32 128#32) S640x128.size (k0_off1_inb i 1 1)).toLoadRect (View.loadsAt_vmem h_S640x128))
  let v320 : Vec F S640x128 .bf16 ← Prog.lift (.load arg13 (Rect.unit (s := S8704x128) (k0_off1 i 1#32 0#32) S640x128.size (k0_off1_inb i 1 0)).toLoadRect (View.loadsAt_vmem h_S640x128))
  let v322 : Vec F S640x128 .bf16 ← Prog.lift (.load arg13 (Rect.unit (s := S8704x128) (k0_off1 i 1#32 128#32) S640x128.size (k0_off1_inb i 1 1)).toLoadRect (View.loadsAt_vmem h_S640x128))
  let v323 : Memref sig .tc .vmem S256x128 .bf16 := arg6.slice (Rect.unit (s := S1024x128) ![256, 0] S256x128.size inb_S1024x128_S256x128_256_0) (fun _ => rfl)
  let v324 : Vec F S128x128 .bf16 ← Prog.lift (.load v323 (Rect.unit (s := S256x128) ![0, 0] S128x128.size inb_S256x128_S128x128_0_0).toLoadRect (View.loadsAt_vmem h_S128x128))
  let v325 : Memref sig .tc .vmem S256x128 .bf16 := arg6.slice (Rect.unit (s := S1024x128) ![256, 0] S256x128.size inb_S1024x128_S256x128_256_0) (fun _ => rfl)
  let v326 : Vec F S128x128 .bf16 ← Prog.lift (.load v325 (Rect.unit (s := S256x128) ![128, 0] S128x128.size inb_S256x128_S128x128_128_0).toLoadRect (View.loadsAt_vmem h_S128x128))
  pure ⟨v300, v304, k0_pay76, k0_pay77, v311, v314, v316, v318, v320, v322, v324, v326, k0_pay78 v324⟩

/-- The end of a block in the printed text. -/
def p9a (i : grid0.Coords) (arg1 : BitVec 32) (v1 : BitVec 32) (v295 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) PUnit := do
  Prog.lift (.store arg15 (Rect.unit (s := S8704x128) (k0_off1 i 0#32 128#32) S640x128.size (k0_off1_inb i 0 1)) v295 Finset.univ (View.stores_vmem_bits_univ h_S640x128 rfl) (.inl rfl))

set_option maxRecDepth 65536 in
theorem part9_eq (i : grid0.Coords) (arg1 : BitVec 32) (v1 : BitVec 32) (v295 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    k0_part9_skel (F := F) i arg2 harg2 arg3 harg3 arg4 harg4 arg5 harg5 arg6 harg6 arg7 harg7 arg8 harg8 arg9 harg9 arg10 harg10 arg11 harg11 arg12 harg12 arg13 harg13 arg14 harg14 arg15 harg15 arg1 v1 v295 = (p9a i arg1 v1 v295 arg2 harg2 arg3 harg3 arg4 harg4 arg5 harg5 arg6 harg6 arg7 harg7 arg8 harg8 arg9 harg9 arg10 harg10 arg11 harg11 arg12 harg12 arg13 harg13 arg14 harg14 arg15 harg15 >>= fun _ => flushIf (k0_cond2 i) arg9 harg9 arg10 harg10 arg14 arg15 >>= fun _ => prepIf (first arg1 1#32) arg3 arg4 arg11 arg12 harg12 arg13 harg13 arg14 arg15 >>= fun _ => p9b (F := F) i arg1 arg2 harg2 arg3 harg3 arg4 harg4 arg5 harg5 arg6 harg6 arg7 harg7 arg8 harg8 arg9 harg9 arg10 harg10 arg11 harg11 arg12 harg12 arg13 harg13 arg14 harg14 arg15 harg15) := by
  have h1 : (dite (first arg1 1#32 = 1#1) (fun _ => prep arg3 arg4 arg11 arg12 harg12 arg13 harg13 arg14 arg15 >>= fun _ => p9b (F := F) i arg1 arg2 harg2 arg3 harg3 arg4 harg4 arg5 harg5 arg6 harg6 arg7 harg7 arg8 harg8 arg9 harg9 arg10 harg10 arg11 harg11 arg12 harg12 arg13 harg13 arg14 harg14 arg15 harg15) (fun _ => p9b (F := F) i arg1 arg2 harg2 arg3 harg3 arg4 harg4 arg5 harg5 arg6 harg6 arg7 harg7 arg8 harg8 arg9 harg9 arg10 harg10 arg11 harg11 arg12 harg12 arg13 harg13 arg14 harg14 arg15 harg15)) = _ :=
    dite_jp _ (prep arg3 arg4 arg11 arg12 harg12 arg13 harg13 arg14 arg15) fun _ => p9b (F := F) i arg1 arg2 harg2 arg3 harg3 arg4 harg4 arg5 harg5 arg6 harg6 arg7 harg7 arg8 harg8 arg9 harg9 arg10 harg10 arg11 harg11 arg12 harg12 arg13 harg13 arg14 harg14 arg15 harg15
  have h2 := dite_jp (k0_cond2 i = 1#1) (flush arg9 harg9 arg10 harg10 arg14 arg15) fun _ => dite (first arg1 1#32 = 1#1) (fun _ => prep arg3 arg4 arg11 arg12 harg12 arg13 harg13 arg14 arg15 >>= fun _ => p9b (F := F) i arg1 arg2 harg2 arg3 harg3 arg4 harg4 arg5 harg5 arg6 harg6 arg7 harg7 arg8 harg8 arg9 harg9 arg10 harg10 arg11 harg11 arg12 harg12 arg13 harg13 arg14 harg14 arg15 harg15) (fun _ => p9b (F := F) i arg1 arg2 harg2 arg3 harg3 arg4 harg4 arg5 harg5 arg6 harg6 arg7 harg7 arg8 harg8 arg9 harg9 arg10 harg10 arg11 harg11 arg12 harg12 arg13 harg13 arg14 harg14 arg15 harg15)
  refine Eq.trans ?_ (congrArg (fun z => p9a i arg1 v1 v295 arg2 harg2 arg3 harg3 arg4 harg4 arg5 harg5 arg6 harg6 arg7 harg7 arg8 harg8 arg9 harg9 arg10 harg10 arg11 harg11 arg12 harg12 arg13 harg13 arg14 harg14 arg15 harg15 >>= fun _ => z) (h2.trans (congrArg (fun z => flushIf (k0_cond2 i) arg9 harg9 arg10 harg10 arg14 arg15 >>= fun _ => z) h1)))
  rfl

/-- The start of a block in the printed text: its windows of the keys and values, and first rows. -/
def p17b (i : grid0.Coords) (arg1 : BitVec 32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) ((Σ' (v599 : BitVec 32) (v603 : IVec S128x128 32) (v605 : IVec S128x128 1) (v607 : IVec S128x128 1) (v610 : BitVec 32) (v613 : BitVec 32) (v615 : Vec F S640x128 .bf16) (v617 : Vec F S640x128 .bf16) (v619 : Vec F S640x128 .bf16) (v621 : Vec F S640x128 .bf16), Vec F S128x128 .bf16)) := do
  let v598 : BitVec 32 := Scalar.muli arg1 4#32
  let v599 : BitVec 32 := Scalar.addi v598 2#32
  let v600 : BitVec 1 := Scalar.cmpi .eq v599 0#32
  let v601 : BitVec 32 := Scalar.extui v600
  let v602 : BitVec 1 := Scalar.cmpi .ne v601 0#32
  have v603 : IVec S128x128 32 := iota .tc S128x128 32 [1] iota_S128x128_d1_w32
  let v608 : BitVec 32 := Scalar.muli v599 256#32
  let v609 : BitVec 32 := Scalar.addi v608 0#32
  let v610 : BitVec 32 := v609
  let v611 : BitVec 32 := Scalar.muli v599 256#32
  let v612 : BitVec 32 := Scalar.addi v611 128#32
  let v613 : BitVec 32 := v612
  let v615 : Vec F S640x128 .bf16 ← Prog.lift (.load arg12 (Rect.unit (s := S8704x128) (k0_off1 i 2#32 0#32) S640x128.size (k0_off1_inb i 2 0)).toLoadRect (View.loadsAt_vmem h_S640x128))
  let v617 : Vec F S640x128 .bf16 ← Prog.lift (.load arg12 (Rect.unit (s := S8704x128) (k0_off1 i 2#32 128#32) S640x128.size (k0_off1_inb i 2 1)).toLoadRect (View.loadsAt_vmem h_S640x128))
  let v619 : Vec F S640x128 .bf16 ← Prog.lift (.load arg13 (Rect.unit (s := S8704x128) (k0_off1 i 2#32 0#32) S640x128.size (k0_off1_inb i 2 0)).toLoadRect (View.loadsAt_vmem h_S640x128))
  let v621 : Vec F S640x128 .bf16 ← Prog.lift (.load arg13 (Rect.unit (s := S8704x128) (k0_off1 i 2#32 128#32) S640x128.size (k0_off1_inb i 2 1)).toLoadRect (View.loadsAt_vmem h_S640x128))
  let v622 : Memref sig .tc .vmem S256x128 .bf16 := arg6.slice (Rect.unit (s := S1024x128) ![512, 0] S256x128.size inb_S1024x128_S256x128_512_0) (fun _ => rfl)
  let v623 : Vec F S128x128 .bf16 ← Prog.lift (.load v622 (Rect.unit (s := S256x128) ![0, 0] S128x128.size inb_S256x128_S128x128_0_0).toLoadRect (View.loadsAt_vmem h_S128x128))
  pure ⟨v599, v603, k0_pay143, k0_pay144, v610, v613, v615, v617, v619, v621, v623⟩

/-- The end of a block in the printed text. -/
def p17a (i : grid0.Coords) (arg1 : BitVec 32) (v300 : BitVec 32) (v314 : BitVec 32) (v590 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) PUnit := do
  let v592 : Vec F S640x128 .f32 ← Prog.lift (.load arg15 (Rect.unit (s := S8704x128) (k0_off1 i 1#32 128#32) S640x128.size (k0_off1_inb i 1 1)).toLoadRect (View.loadsAt_vmem h_S640x128))
  Prog.lift (.store arg15 (Rect.unit (s := S8704x128) (k0_off1 i 1#32 128#32) S640x128.size (k0_off1_inb i 1 1)) (k0_pay133 v590) Finset.univ (View.stores_vmem_bits_univ h_S640x128 rfl) (.inl rfl))

set_option maxRecDepth 65536 in
theorem part17_eq (i : grid0.Coords) (arg1 : BitVec 32) (v300 : BitVec 32) (v314 : BitVec 32) (v590 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    k0_part17_skel (F := F) i arg2 harg2 arg3 harg3 arg4 harg4 arg5 harg5 arg6 harg6 arg7 harg7 arg8 harg8 arg9 harg9 arg10 harg10 arg11 harg11 arg12 harg12 arg13 harg13 arg14 harg14 arg15 harg15 arg1 v300 v314 v590 = (p17a i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15 >>= fun _ => flushIf (k0_cond4 i) arg9 harg9 arg10 harg10 arg14 arg15 >>= fun _ => prepIf (first arg1 2#32) arg3 arg4 arg11 arg12 harg12 arg13 harg13 arg14 arg15 >>= fun _ => p17b (F := F) i arg1 arg2 harg2 arg3 harg3 arg4 harg4 arg5 harg5 arg6 harg6 arg7 harg7 arg8 harg8 arg9 harg9 arg10 harg10 arg11 harg11 arg12 harg12 arg13 harg13 arg14 harg14 arg15 harg15) := by
  have h1 : (dite (first arg1 2#32 = 1#1) (fun _ => prep arg3 arg4 arg11 arg12 harg12 arg13 harg13 arg14 arg15 >>= fun _ => p17b (F := F) i arg1 arg2 harg2 arg3 harg3 arg4 harg4 arg5 harg5 arg6 harg6 arg7 harg7 arg8 harg8 arg9 harg9 arg10 harg10 arg11 harg11 arg12 harg12 arg13 harg13 arg14 harg14 arg15 harg15) (fun _ => p17b (F := F) i arg1 arg2 harg2 arg3 harg3 arg4 harg4 arg5 harg5 arg6 harg6 arg7 harg7 arg8 harg8 arg9 harg9 arg10 harg10 arg11 harg11 arg12 harg12 arg13 harg13 arg14 harg14 arg15 harg15)) = _ :=
    dite_jp _ (prep arg3 arg4 arg11 arg12 harg12 arg13 harg13 arg14 arg15) fun _ => p17b (F := F) i arg1 arg2 harg2 arg3 harg3 arg4 harg4 arg5 harg5 arg6 harg6 arg7 harg7 arg8 harg8 arg9 harg9 arg10 harg10 arg11 harg11 arg12 harg12 arg13 harg13 arg14 harg14 arg15 harg15
  have h2 := dite_jp (k0_cond4 i = 1#1) (flush arg9 harg9 arg10 harg10 arg14 arg15) fun _ => dite (first arg1 2#32 = 1#1) (fun _ => prep arg3 arg4 arg11 arg12 harg12 arg13 harg13 arg14 arg15 >>= fun _ => p17b (F := F) i arg1 arg2 harg2 arg3 harg3 arg4 harg4 arg5 harg5 arg6 harg6 arg7 harg7 arg8 harg8 arg9 harg9 arg10 harg10 arg11 harg11 arg12 harg12 arg13 harg13 arg14 harg14 arg15 harg15) (fun _ => p17b (F := F) i arg1 arg2 harg2 arg3 harg3 arg4 harg4 arg5 harg5 arg6 harg6 arg7 harg7 arg8 harg8 arg9 harg9 arg10 harg10 arg11 harg11 arg12 harg12 arg13 harg13 arg14 harg14 arg15 harg15)
  refine Eq.trans ?_ (congrArg (fun z => p17a i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15 >>= fun _ => z) (h2.trans (congrArg (fun z => flushIf (k0_cond4 i) arg9 harg9 arg10 harg10 arg14 arg15 >>= fun _ => z) h1)))
  rfl

/-- The start of a block in the printed text: its windows of the keys and values, and first rows. -/
def p25b (i : grid0.Coords) (arg1 : BitVec 32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) ((Σ' (v898 : BitVec 32) (v902 : IVec S128x128 32) (v904 : IVec S128x128 1) (v906 : IVec S128x128 1) (v909 : BitVec 32) (v912 : BitVec 32) (v914 : Vec F S640x128 .bf16) (v916 : Vec F S640x128 .bf16) (v918 : Vec F S640x128 .bf16), Vec F S640x128 .bf16)) := do
  let v897 : BitVec 32 := Scalar.muli arg1 4#32
  let v898 : BitVec 32 := Scalar.addi v897 3#32
  let v899 : BitVec 1 := Scalar.cmpi .eq v898 0#32
  let v900 : BitVec 32 := Scalar.extui v899
  let v901 : BitVec 1 := Scalar.cmpi .ne v900 0#32
  have v902 : IVec S128x128 32 := iota .tc S128x128 32 [1] iota_S128x128_d1_w32
  let v907 : BitVec 32 := Scalar.muli v898 256#32
  let v908 : BitVec 32 := Scalar.addi v907 0#32
  let v909 : BitVec 32 := v908
  let v910 : BitVec 32 := Scalar.muli v898 256#32
  let v911 : BitVec 32 := Scalar.addi v910 128#32
  let v912 : BitVec 32 := v911
  let v914 : Vec F S640x128 .bf16 ← Prog.lift (.load arg12 (Rect.unit (s := S8704x128) (k0_off1 i 3#32 0#32) S640x128.size (k0_off1_inb i 3 0)).toLoadRect (View.loadsAt_vmem h_S640x128))
  let v916 : Vec F S640x128 .bf16 ← Prog.lift (.load arg12 (Rect.unit (s := S8704x128) (k0_off1 i 3#32 128#32) S640x128.size (k0_off1_inb i 3 1)).toLoadRect (View.loadsAt_vmem h_S640x128))
  let v918 : Vec F S640x128 .bf16 ← Prog.lift (.load arg13 (Rect.unit (s := S8704x128) (k0_off1 i 3#32 0#32) S640x128.size (k0_off1_inb i 3 0)).toLoadRect (View.loadsAt_vmem h_S640x128))
  let v920 : Vec F S640x128 .bf16 ← Prog.lift (.load arg13 (Rect.unit (s := S8704x128) (k0_off1 i 3#32 128#32) S640x128.size (k0_off1_inb i 3 1)).toLoadRect (View.loadsAt_vmem h_S640x128))
  pure ⟨v898, v902, k0_pay210, k0_pay211, v909, v912, v914, v916, v918, v920⟩

/-- The end of a block in the printed text. -/
def p25a (i : grid0.Coords) (arg1 : BitVec 32) (v599 : BitVec 32) (v613 : BitVec 32) (v674 : Vec F S128x128 .bf16) (v677 : Vec F S128x128 .bf16) (v832 : FVec F S128x640 .bf16) (v833 : FVec F S128x640 .bf16) (v885 : Vec F S640x128 .f32) (cst_498 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) PUnit := do
  let v891 : Vec F S640x128 .f32 ← Prog.lift (.load arg15 (Rect.unit (s := S8704x128) (k0_off1 i 2#32 128#32) S640x128.size (k0_off1_inb i 2 1)).toLoadRect (View.loadsAt_vmem h_S640x128))
  Prog.lift (.store arg15 (Rect.unit (s := S8704x128) (k0_off1 i 2#32 128#32) S640x128.size (k0_off1_inb i 2 1)) (k0_pay200 v674 v677 v832 v833 v885 cst_498) Finset.univ (View.stores_vmem_bits_univ h_S640x128 rfl) (.inl rfl))

set_option maxRecDepth 65536 in
theorem part25_eq (i : grid0.Coords) (arg1 : BitVec 32) (v599 : BitVec 32) (v613 : BitVec 32) (v674 : Vec F S128x128 .bf16) (v677 : Vec F S128x128 .bf16) (v832 : FVec F S128x640 .bf16) (v833 : FVec F S128x640 .bf16) (v885 : Vec F S640x128 .f32) (cst_498 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    k0_part25_skel (F := F) i arg2 harg2 arg3 harg3 arg4 harg4 arg5 harg5 arg6 harg6 arg7 harg7 arg8 harg8 arg9 harg9 arg10 harg10 arg11 harg11 arg12 harg12 arg13 harg13 arg14 harg14 arg15 harg15 arg1 v599 v613 v674 v677 v832 v833 v885 cst_498 = (p25a i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15 >>= fun _ => flushIf (k0_cond6 i) arg9 harg9 arg10 harg10 arg14 arg15 >>= fun _ => prepIf (first arg1 3#32) arg3 arg4 arg11 arg12 harg12 arg13 harg13 arg14 arg15 >>= fun _ => p25b (F := F) i arg1 arg2 harg2 arg3 harg3 arg4 harg4 arg5 harg5 arg6 harg6 arg7 harg7 arg8 harg8 arg9 harg9 arg10 harg10 arg11 harg11 arg12 harg12 arg13 harg13 arg14 harg14 arg15 harg15) := by
  have h1 : (dite (first arg1 3#32 = 1#1) (fun _ => prep arg3 arg4 arg11 arg12 harg12 arg13 harg13 arg14 arg15 >>= fun _ => p25b (F := F) i arg1 arg2 harg2 arg3 harg3 arg4 harg4 arg5 harg5 arg6 harg6 arg7 harg7 arg8 harg8 arg9 harg9 arg10 harg10 arg11 harg11 arg12 harg12 arg13 harg13 arg14 harg14 arg15 harg15) (fun _ => p25b (F := F) i arg1 arg2 harg2 arg3 harg3 arg4 harg4 arg5 harg5 arg6 harg6 arg7 harg7 arg8 harg8 arg9 harg9 arg10 harg10 arg11 harg11 arg12 harg12 arg13 harg13 arg14 harg14 arg15 harg15)) = _ :=
    dite_jp _ (prep arg3 arg4 arg11 arg12 harg12 arg13 harg13 arg14 arg15) fun _ => p25b (F := F) i arg1 arg2 harg2 arg3 harg3 arg4 harg4 arg5 harg5 arg6 harg6 arg7 harg7 arg8 harg8 arg9 harg9 arg10 harg10 arg11 harg11 arg12 harg12 arg13 harg13 arg14 harg14 arg15 harg15
  have h2 := dite_jp (k0_cond6 i = 1#1) (flush arg9 harg9 arg10 harg10 arg14 arg15) fun _ => dite (first arg1 3#32 = 1#1) (fun _ => prep arg3 arg4 arg11 arg12 harg12 arg13 harg13 arg14 arg15 >>= fun _ => p25b (F := F) i arg1 arg2 harg2 arg3 harg3 arg4 harg4 arg5 harg5 arg6 harg6 arg7 harg7 arg8 harg8 arg9 harg9 arg10 harg10 arg11 harg11 arg12 harg12 arg13 harg13 arg14 harg14 arg15 harg15) (fun _ => p25b (F := F) i arg1 arg2 harg2 arg3 harg3 arg4 harg4 arg5 harg5 arg6 harg6 arg7 harg7 arg8 harg8 arg9 harg9 arg10 harg10 arg11 harg11 arg12 harg12 arg13 harg13 arg14 harg14 arg15 harg15)
  refine Eq.trans ?_ (congrArg (fun z => p25a i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15 >>= fun _ => z) (h2.trans (congrArg (fun z => flushIf (k0_cond6 i) arg9 harg9 arg10 harg10 arg14 arg15 >>= fun _ => z) h1)))
  rfl

/-- The printed body from its part 25 on. -/
def c25 (i : grid0.Coords) (arg1 : BitVec 32) (v599 : BitVec 32) (v613 : BitVec 32) (v674 : Vec F S128x128 .bf16) (v677 : Vec F S128x128 .bf16) (v832 : FVec F S128x640 .bf16) (v833 : FVec F S128x640 .bf16) (v885 : Vec F S640x128 .f32) (cst_498 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) PUnit := do
  let ⟨v898, v902, v904, v906, v909, v912, v914, v916, v918, v920⟩ ← k0_part25_skel (F := F) i arg2 harg2 arg3 harg3 arg4 harg4 arg5 harg5 arg6 harg6 arg7 harg7 arg8 harg8 arg9 harg9 arg10 harg10 arg11 harg11 arg12 harg12 arg13 harg13 arg14 harg14 arg15 harg15 arg1 v599 v613 v674 v677 v832 v833 v885 cst_498
  let ⟨v922, v924, v930, v936, v943, v950, v952⟩ ← k0_part26_skel (F := F) i arg2 harg2 arg3 harg3 arg4 harg4 arg5 harg5 arg6 harg6 arg7 harg7 arg8 harg8 arg9 harg9 arg10 harg10 arg11 harg11 arg12 harg12 arg13 harg13 arg14 harg14 arg15 harg15 v904 v906
  let ⟨v957, v964, v967, v970, v973, v976, v980, v984, v988, v992⟩ ← k0_part27_skel (F := F) i arg2 harg2 arg3 harg3 arg4 harg4 arg5 harg5 arg6 harg6 arg7 harg7 arg8 harg8 arg9 harg9 arg10 harg10 arg11 harg11 arg12 harg12 arg13 harg13 arg14 harg14 arg15 harg15 v904 v906 v922 v924 v930 v936 v952
  let ⟨v1004, v1016, v1028⟩ ← k0_part28_skel (F := F) i arg2 harg2 arg3 harg3 arg4 harg4 arg5 harg5 arg6 harg6 arg7 harg7 arg8 harg8 arg9 harg9 arg10 harg10 arg11 harg11 arg12 harg12 arg13 harg13 arg14 harg14 arg15 harg15 v898 v914 v916 v943 v950 v957
  let ⟨v1041, v1042, v1043, v1044, v1054, v1059, v1064, v1070⟩ ← k0_part29_skel (F := F) i arg2 harg2 arg3 harg3 arg4 harg4 arg5 harg5 arg6 harg6 arg7 harg7 arg8 harg8 arg9 harg9 arg10 harg10 arg11 harg11 arg12 harg12 arg13 harg13 arg14 harg14 arg15 harg15 v898 v916 v918 v920 v964 v967 v970 v973 v976 v1004 v1016 v1028
  let ⟨v1076, v1082, v1088, v1091, v1094, v1097, v1100, v1109⟩ ← k0_part30_skel (F := F) i arg2 harg2 arg3 harg3 arg4 harg4 arg5 harg5 arg6 harg6 arg7 harg7 arg8 harg8 arg9 harg9 arg10 harg10 arg11 harg11 arg12 harg12 arg13 harg13 arg14 harg14 arg15 harg15 v980 v984 v988 v992 v1041 v1042 v1043 v1044 v1054 v1059 v1064 v1070
  let ⟨v1125, v1126, v1127, v1128, v1129, v1130, v1131, v1132, v1135, v1136⟩ ← k0_part31_skel (F := F) i arg2 harg2 arg3 harg3 arg4 harg4 arg5 harg5 arg6 harg6 arg7 harg7 arg8 harg8 arg9 harg9 arg10 harg10 arg11 harg11 arg12 harg12 arg13 harg13 arg14 harg14 arg15 harg15 v902 v914 v916 v1070 v1076 v1082 v1088 v1091 v1094 v1097 v1100 v1109
  let v1182 : FVec F S640x128 .f32 ← k0_part32_skel (F := F) i arg2 harg2 arg3 harg3 arg4 harg4 arg5 harg5 arg6 harg6 arg7 harg7 arg8 harg8 arg9 harg9 arg10 harg10 arg11 harg11 arg12 harg12 arg13 harg13 arg14 harg14 arg15 harg15 v902 v909 v912 v943 v950 v957 v964 v967 v970 v1125 v1126 v1127 v1128 v1129 v1130 v1135 v1136
  Prog.lift (.store arg14 (Rect.unit (s := S8704x128) (k0_off1 i 3#32 128#32) S640x128.size (k0_off1_inb i 3 1)) v1182 Finset.univ (View.stores_vmem_bits_univ h_S640x128 rfl) (.inl rfl))
  let v1184 : Vec F S640x128 .f32 ← Prog.lift (.load arg15 (Rect.unit (s := S8704x128) (k0_off1 i 3#32 128#32) S640x128.size (k0_off1_inb i 3 1)).toLoadRect (View.loadsAt_vmem h_S640x128))
  let v1190 : Vec F S640x128 .f32 ← Prog.lift (.load arg15 (Rect.unit (s := S8704x128) (k0_off1 i 3#32 128#32) S640x128.size (k0_off1_inb i 3 1)).toLoadRect (View.loadsAt_vmem h_S640x128))
  Prog.lift (.store arg15 (Rect.unit (s := S8704x128) (k0_off1 i 3#32 128#32) S640x128.size (k0_off1_inb i 3 1)) (k0_pay1 v973 v976 v1131 v1132 v1184) Finset.univ (View.stores_vmem_bits_univ h_S640x128 rfl) (.inl rfl))
  if k0_h8 : k0_cond8 i = 1#1 then do
    let v1196 : Vec F S8192x128 .f32 ← Prog.lift (.load arg14 (Rect.unit (s := S8704x128) ![512, 0] S8192x128.size inb_S8704x128_S8192x128_512_0).toLoadRect (View.loadsAt_vmem h_S8192x128))
    let v1198 : Vec F S8192x128 .bf16 ← Prog.lift (.load arg9 (Rect.unit (s := S8192x128) ![0, 0] S8192x128.size inb_S8192x128_S8192x128_0_0).toLoadRect (View.loadsAt_vmem h_S8192x128))
    Prog.lift (.store arg9 (Rect.unit (s := S8192x128) ![0, 0] S8192x128.size inb_S8192x128_S8192x128_0_0) (k0_pay2 v1196) Finset.univ (View.stores_vmem h_S8192x128 (harg9.storeExact_slice rfl _ packedbf16_S8192x128_S8192x128_0_0) (fun _ => rfl)) (.inl rfl))
    let v1199 : Vec F S8192x128 .f32 ← Prog.lift (.load arg15 (Rect.unit (s := S8704x128) ![512, 0] S8192x128.size inb_S8704x128_S8192x128_512_0).toLoadRect (View.loadsAt_vmem h_S8192x128))
    let v1201 : Vec F S8192x128 .bf16 ← Prog.lift (.load arg10 (Rect.unit (s := S8192x128) ![0, 0] S8192x128.size inb_S8192x128_S8192x128_0_0).toLoadRect (View.loadsAt_vmem h_S8192x128))
    Prog.lift (.store arg10 (Rect.unit (s := S8192x128) ![0, 0] S8192x128.size inb_S8192x128_S8192x128_0_0) (k0_pay3 v1199) Finset.univ (View.stores_vmem h_S8192x128 (harg10.storeExact_slice rfl _ packedbf16_S8192x128_S8192x128_0_0) (fun _ => rfl)) (.inl rfl))
    pure ⟨⟩
  else do
    pure ⟨⟩
  pure ⟨⟩

/-- The printed body from its part 17 on. -/
def c17 (i : grid0.Coords) (arg1 : BitVec 32) (v300 : BitVec 32) (v314 : BitVec 32) (v590 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) PUnit := do
  let ⟨v599, v603, v605, v607, v610, v613, v615, v617, v619, v621, v623⟩ ← k0_part17_skel (F := F) i arg2 harg2 arg3 harg3 arg4 harg4 arg5 harg5 arg6 harg6 arg7 harg7 arg8 harg8 arg9 harg9 arg10 harg10 arg11 harg11 arg12 harg12 arg13 harg13 arg14 harg14 arg15 harg15 arg1 v300 v314 v590
  let ⟨v625, v631, v637, v644, v651, v656, cst_378⟩ ← k0_part18_skel (F := F) i arg2 harg2 arg3 harg3 arg4 harg4 arg5 harg5 arg6 harg6 arg7 harg7 arg8 harg8 arg9 harg9 arg10 harg10 arg11 harg11 arg12 harg12 arg13 harg13 arg14 harg14 arg15 harg15 v605 v607 v623
  let ⟨v658, v665, v668, v671, v674, v677, v681, v685, v689, v693, v695⟩ ← k0_part19_skel (F := F) i arg2 harg2 arg3 harg3 arg4 harg4 arg5 harg5 arg6 harg6 arg7 harg7 arg8 harg8 arg9 harg9 arg10 harg10 arg11 harg11 arg12 harg12 arg13 harg13 arg14 harg14 arg15 harg15 v605 v607 v623 v625 v631 v637 v656 cst_378
  let ⟨v705, v717, v729, v731⟩ ← k0_part20_skel (F := F) i arg2 harg2 arg3 harg3 arg4 harg4 arg5 harg5 arg6 harg6 arg7 harg7 arg8 harg8 arg9 harg9 arg10 harg10 arg11 harg11 arg12 harg12 arg13 harg13 arg14 harg14 arg15 harg15 v599 v615 v617 v644 v651 v658 v695
  let ⟨v742, v743, v744, v745, v755, v760, v765, v771, v773, v774⟩ ← k0_part21_skel (F := F) i arg2 harg2 arg3 harg3 arg4 harg4 arg5 harg5 arg6 harg6 arg7 harg7 arg8 harg8 arg9 harg9 arg10 harg10 arg11 harg11 arg12 harg12 arg13 harg13 arg14 harg14 arg15 harg15 v599 v617 v619 v621 v665 v668 v671 v674 v677 v705 v717 v729 v731
  let ⟨v777, v783, v789, v792, v795, v798, v801⟩ ← k0_part22_skel (F := F) i arg2 harg2 arg3 harg3 arg4 harg4 arg5 harg5 arg6 harg6 arg7 harg7 arg8 harg8 arg9 harg9 arg10 harg10 arg11 harg11 arg12 harg12 arg13 harg13 arg14 harg14 arg15 harg15 v681 v685 v689 v693 v742 v743 v744 v745 v755 v760 v765 v771 v773 v774
  let ⟨v826, v827, v828, v829, v830, v831, v832, v833, v848, cst_480⟩ ← k0_part23_skel (F := F) i arg2 harg2 arg3 harg3 arg4 harg4 arg5 harg5 arg6 harg6 arg7 harg7 arg8 harg8 arg9 harg9 arg10 harg10 arg11 harg11 arg12 harg12 arg13 harg13 arg14 harg14 arg15 harg15 v603 v615 v617 v771 v777 v783 v789 v792 v795 v798 v801
  let ⟨v885, cst_498⟩ ← k0_part24_skel (F := F) i arg2 harg2 arg3 harg3 arg4 harg4 arg5 harg5 arg6 harg6 arg7 harg7 arg8 harg8 arg9 harg9 arg10 harg10 arg11 harg11 arg12 harg12 arg13 harg13 arg14 harg14 arg15 harg15 v610 v613 v644 v651 v658 v665 v668 v671 v826 v827 v828 v829 v830 v831 v848 cst_480
  c25 i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15

/-- The printed body from its part 9 on. -/
def c9 (i : grid0.Coords) (arg1 : BitVec 32) (v1 : BitVec 32) (v295 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    Prog (TpuEff nD τ sig (Elt F) Λ₀ .tc) PUnit := do
  let ⟨v300, v304, v306, v308, v311, v314, v316, v318, v320, v322, v324, v326, v327⟩ ← k0_part9_skel (F := F) i arg2 harg2 arg3 harg3 arg4 harg4 arg5 harg5 arg6 harg6 arg7 harg7 arg8 harg8 arg9 harg9 arg10 harg10 arg11 harg11 arg12 harg12 arg13 harg13 arg14 harg14 arg15 harg15 arg1 v1 v295
  let ⟨v332, v338, v345, v352, v359⟩ ← k0_part10_skel (F := F) i arg2 harg2 arg3 harg3 arg4 harg4 arg5 harg5 arg6 harg6 arg7 harg7 arg8 harg8 arg9 harg9 arg10 harg10 arg11 harg11 arg12 harg12 arg13 harg13 arg14 harg14 arg15 harg15 v306 v308 v326 v327
  let ⟨v366, v369, v372, v375, v378, v382, v386, v390, v394, v396, v398, c0_i32_231⟩ ← k0_part11_skel (F := F) i arg2 harg2 arg3 harg3 arg4 harg4 arg5 harg5 arg6 harg6 arg7 harg7 arg8 harg8 arg9 harg9 arg10 harg10 arg11 harg11 arg12 harg12 arg13 harg13 arg14 harg14 arg15 harg15 v300 v306 v308 v324 v326 v332 v338
  let ⟨v406, v418, v430, v432, v434, c128_i32_255⟩ ← k0_part12_skel (F := F) i arg2 harg2 arg3 harg3 arg4 harg4 arg5 harg5 arg6 harg6 arg7 harg7 arg8 harg8 arg9 harg9 arg10 harg10 arg11 harg11 arg12 harg12 arg13 harg13 arg14 harg14 arg15 harg15 v300 v316 v318 v345 v352 v359 v396 v398 c0_i32_231
  let ⟨v443, v444, v445, v446, v461, v466, v472, v478, v479⟩ ← k0_part13_skel (F := F) i arg2 harg2 arg3 harg3 arg4 harg4 arg5 harg5 arg6 harg6 arg7 harg7 arg8 harg8 arg9 harg9 arg10 harg10 arg11 harg11 arg12 harg12 arg13 harg13 arg14 harg14 arg15 harg15 v318 v320 v322 v366 v369 v372 v375 v378 v406 v418 v430 v432 v434 c128_i32_255
  let ⟨v484, v490, v493, v496, v499, v502, v517⟩ ← k0_part14_skel (F := F) i arg2 harg2 arg3 harg3 arg4 harg4 arg5 harg5 arg6 harg6 arg7 harg7 arg8 harg8 arg9 harg9 arg10 harg10 arg11 harg11 arg12 harg12 arg13 harg13 arg14 harg14 arg15 harg15 v382 v386 v390 v394 v443 v444 v445 v446 v461 v466 v472 v478 v479
  let ⟨v527, v528, v529, v530, v531, v532, v533, v534, v552⟩ ← k0_part15_skel (F := F) i arg2 harg2 arg3 harg3 arg4 harg4 arg5 harg5 arg6 harg6 arg7 harg7 arg8 harg8 arg9 harg9 arg10 harg10 arg11 harg11 arg12 harg12 arg13 harg13 arg14 harg14 arg15 harg15 v304 v316 v318 v472 v478 v484 v490 v493 v496 v499 v502 v517
  let v590 : FVec F S640x128 .f32 ← k0_part16_skel (F := F) i arg2 harg2 arg3 harg3 arg4 harg4 arg5 harg5 arg6 harg6 arg7 harg7 arg8 harg8 arg9 harg9 arg10 harg10 arg11 harg11 arg12 harg12 arg13 harg13 arg14 harg14 arg15 harg15 v311 v314 v345 v352 v359 v366 v369 v372 v375 v378 v527 v528 v529 v530 v531 v532 v533 v534 v552
  c17 i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15

set_option maxRecDepth 65536 in
theorem seg25 (i : grid0.Coords) (arg1 : BitVec 32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) (K : Prog (TpuEff nD τ sig (Elt F) Λ₀ .tc) PUnit) :
    (do
  let ⟨v898, v902, v904, v906, v909, v912, v914, v916, v918, v920⟩ ← p25b (F := F) i arg1 arg2 harg2 arg3 harg3 arg4 harg4 arg5 harg5 arg6 harg6 arg7 harg7 arg8 harg8 arg9 harg9 arg10 harg10 arg11 harg11 arg12 harg12 arg13 harg13 arg14 harg14 arg15 harg15
  let ⟨v922, v924, v930, v936, v943, v950, v952⟩ ← k0_part26_skel (F := F) i arg2 harg2 arg3 harg3 arg4 harg4 arg5 harg5 arg6 harg6 arg7 harg7 arg8 harg8 arg9 harg9 arg10 harg10 arg11 harg11 arg12 harg12 arg13 harg13 arg14 harg14 arg15 harg15 v904 v906
  let ⟨v957, v964, v967, v970, v973, v976, v980, v984, v988, v992⟩ ← k0_part27_skel (F := F) i arg2 harg2 arg3 harg3 arg4 harg4 arg5 harg5 arg6 harg6 arg7 harg7 arg8 harg8 arg9 harg9 arg10 harg10 arg11 harg11 arg12 harg12 arg13 harg13 arg14 harg14 arg15 harg15 v904 v906 v922 v924 v930 v936 v952
  let ⟨v1004, v1016, v1028⟩ ← k0_part28_skel (F := F) i arg2 harg2 arg3 harg3 arg4 harg4 arg5 harg5 arg6 harg6 arg7 harg7 arg8 harg8 arg9 harg9 arg10 harg10 arg11 harg11 arg12 harg12 arg13 harg13 arg14 harg14 arg15 harg15 v898 v914 v916 v943 v950 v957
  let ⟨v1041, v1042, v1043, v1044, v1054, v1059, v1064, v1070⟩ ← k0_part29_skel (F := F) i arg2 harg2 arg3 harg3 arg4 harg4 arg5 harg5 arg6 harg6 arg7 harg7 arg8 harg8 arg9 harg9 arg10 harg10 arg11 harg11 arg12 harg12 arg13 harg13 arg14 harg14 arg15 harg15 v898 v916 v918 v920 v964 v967 v970 v973 v976 v1004 v1016 v1028
  let ⟨v1076, v1082, v1088, v1091, v1094, v1097, v1100, v1109⟩ ← k0_part30_skel (F := F) i arg2 harg2 arg3 harg3 arg4 harg4 arg5 harg5 arg6 harg6 arg7 harg7 arg8 harg8 arg9 harg9 arg10 harg10 arg11 harg11 arg12 harg12 arg13 harg13 arg14 harg14 arg15 harg15 v980 v984 v988 v992 v1041 v1042 v1043 v1044 v1054 v1059 v1064 v1070
  let ⟨v1125, v1126, v1127, v1128, v1129, v1130, v1131, v1132, v1135, v1136⟩ ← k0_part31_skel (F := F) i arg2 harg2 arg3 harg3 arg4 harg4 arg5 harg5 arg6 harg6 arg7 harg7 arg8 harg8 arg9 harg9 arg10 harg10 arg11 harg11 arg12 harg12 arg13 harg13 arg14 harg14 arg15 harg15 v902 v914 v916 v1070 v1076 v1082 v1088 v1091 v1094 v1097 v1100 v1109
  let v1182 : FVec F S640x128 .f32 ← k0_part32_skel (F := F) i arg2 harg2 arg3 harg3 arg4 harg4 arg5 harg5 arg6 harg6 arg7 harg7 arg8 harg8 arg9 harg9 arg10 harg10 arg11 harg11 arg12 harg12 arg13 harg13 arg14 harg14 arg15 harg15 v902 v909 v912 v943 v950 v957 v964 v967 v970 v1125 v1126 v1127 v1128 v1129 v1130 v1135 v1136
  Prog.lift (.store arg14 (Rect.unit (s := S8704x128) (k0_off1 i 3#32 128#32) S640x128.size (k0_off1_inb i 3 1)) v1182 Finset.univ (View.stores_vmem_bits_univ h_S640x128 rfl) (.inl rfl))
  let v1184 : Vec F S640x128 .f32 ← Prog.lift (.load arg15 (Rect.unit (s := S8704x128) (k0_off1 i 3#32 128#32) S640x128.size (k0_off1_inb i 3 1)).toLoadRect (View.loadsAt_vmem h_S640x128))
  let v1190 : Vec F S640x128 .f32 ← Prog.lift (.load arg15 (Rect.unit (s := S8704x128) (k0_off1 i 3#32 128#32) S640x128.size (k0_off1_inb i 3 1)).toLoadRect (View.loadsAt_vmem h_S640x128))
  Prog.lift (.store arg15 (Rect.unit (s := S8704x128) (k0_off1 i 3#32 128#32) S640x128.size (k0_off1_inb i 3 1)) (k0_pay1 v973 v976 v1131 v1132 v1184) Finset.univ (View.stores_vmem_bits_univ h_S640x128 rfl) (.inl rfl))
  K) = (sub3 i arg1 arg2 arg5 arg6 arg7 arg8 harg8 arg11 arg12 arg13 arg14 arg15 >>= fun _ => K) := rfl

theorem end_eq (i : grid0.Coords) (arg9 : Memref sig .tc .vmem S8192x128 .bf16) (harg9 : arg9.IsWhole) (arg10 : Memref sig .tc .vmem S8192x128 .bf16) (harg10 : arg10.IsWhole) (arg14 : Memref sig .tc .vmem S8704x128 .f32) (arg15 : Memref sig .tc .vmem S8704x128 .f32) :
    (do
  if k0_h8 : k0_cond8 i = 1#1 then do
    let v1196 : Vec F S8192x128 .f32 ← Prog.lift (.load arg14 (Rect.unit (s := S8704x128) ![512, 0] S8192x128.size inb_S8704x128_S8192x128_512_0).toLoadRect (View.loadsAt_vmem h_S8192x128))
    let v1198 : Vec F S8192x128 .bf16 ← Prog.lift (.load arg9 (Rect.unit (s := S8192x128) ![0, 0] S8192x128.size inb_S8192x128_S8192x128_0_0).toLoadRect (View.loadsAt_vmem h_S8192x128))
    Prog.lift (.store arg9 (Rect.unit (s := S8192x128) ![0, 0] S8192x128.size inb_S8192x128_S8192x128_0_0) (k0_pay2 v1196) Finset.univ (View.stores_vmem h_S8192x128 (harg9.storeExact_slice rfl _ packedbf16_S8192x128_S8192x128_0_0) (fun _ => rfl)) (.inl rfl))
    let v1199 : Vec F S8192x128 .f32 ← Prog.lift (.load arg15 (Rect.unit (s := S8704x128) ![512, 0] S8192x128.size inb_S8704x128_S8192x128_512_0).toLoadRect (View.loadsAt_vmem h_S8192x128))
    let v1201 : Vec F S8192x128 .bf16 ← Prog.lift (.load arg10 (Rect.unit (s := S8192x128) ![0, 0] S8192x128.size inb_S8192x128_S8192x128_0_0).toLoadRect (View.loadsAt_vmem h_S8192x128))
    Prog.lift (.store arg10 (Rect.unit (s := S8192x128) ![0, 0] S8192x128.size inb_S8192x128_S8192x128_0_0) (k0_pay3 v1199) Finset.univ (View.stores_vmem h_S8192x128 (harg10.storeExact_slice rfl _ packedbf16_S8192x128_S8192x128_0_0) (fun _ => rfl)) (.inl rfl))
    pure ⟨⟩
  else do
    pure ⟨⟩
  pure ⟨⟩) = (flushIf (k0_cond8 i) arg9 harg9 arg10 harg10 arg14 arg15 : Prog (TpuEff nD τ sig (Elt F) Λ₀ .tc) PUnit) := by
  unfold flushIf
  split <;> rfl

set_option maxRecDepth 65536 in
theorem seg17 (i : grid0.Coords) (arg1 : BitVec 32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole)
    (K : (BitVec 32) → (BitVec 32) → (BitVec 32) → (Vec F S128x128 .bf16) → (Vec F S128x128 .bf16) → (FVec F S128x640 .bf16) → (FVec F S128x640 .bf16) → (Vec F S640x128 .f32) → (FVec F S640x128 .f32) → Prog (TpuEff nD τ sig (Elt F) Λ₀ .tc) PUnit)
    (R : BitVec 32 → Prog (TpuEff nD τ sig (Elt F) Λ₀ .tc) PUnit)
    (hK : K = fun arg1 v599 v613 v674 v677 v832 v833 v885 cst_498 => p25a i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15 >>= fun _ => R arg1) :
    (do
  let ⟨v599, v603, v605, v607, v610, v613, v615, v617, v619, v621, v623⟩ ← p17b (F := F) i arg1 arg2 harg2 arg3 harg3 arg4 harg4 arg5 harg5 arg6 harg6 arg7 harg7 arg8 harg8 arg9 harg9 arg10 harg10 arg11 harg11 arg12 harg12 arg13 harg13 arg14 harg14 arg15 harg15
  let ⟨v625, v631, v637, v644, v651, v656, cst_378⟩ ← k0_part18_skel (F := F) i arg2 harg2 arg3 harg3 arg4 harg4 arg5 harg5 arg6 harg6 arg7 harg7 arg8 harg8 arg9 harg9 arg10 harg10 arg11 harg11 arg12 harg12 arg13 harg13 arg14 harg14 arg15 harg15 v605 v607 v623
  let ⟨v658, v665, v668, v671, v674, v677, v681, v685, v689, v693, v695⟩ ← k0_part19_skel (F := F) i arg2 harg2 arg3 harg3 arg4 harg4 arg5 harg5 arg6 harg6 arg7 harg7 arg8 harg8 arg9 harg9 arg10 harg10 arg11 harg11 arg12 harg12 arg13 harg13 arg14 harg14 arg15 harg15 v605 v607 v623 v625 v631 v637 v656 cst_378
  let ⟨v705, v717, v729, v731⟩ ← k0_part20_skel (F := F) i arg2 harg2 arg3 harg3 arg4 harg4 arg5 harg5 arg6 harg6 arg7 harg7 arg8 harg8 arg9 harg9 arg10 harg10 arg11 harg11 arg12 harg12 arg13 harg13 arg14 harg14 arg15 harg15 v599 v615 v617 v644 v651 v658 v695
  let ⟨v742, v743, v744, v745, v755, v760, v765, v771, v773, v774⟩ ← k0_part21_skel (F := F) i arg2 harg2 arg3 harg3 arg4 harg4 arg5 harg5 arg6 harg6 arg7 harg7 arg8 harg8 arg9 harg9 arg10 harg10 arg11 harg11 arg12 harg12 arg13 harg13 arg14 harg14 arg15 harg15 v599 v617 v619 v621 v665 v668 v671 v674 v677 v705 v717 v729 v731
  let ⟨v777, v783, v789, v792, v795, v798, v801⟩ ← k0_part22_skel (F := F) i arg2 harg2 arg3 harg3 arg4 harg4 arg5 harg5 arg6 harg6 arg7 harg7 arg8 harg8 arg9 harg9 arg10 harg10 arg11 harg11 arg12 harg12 arg13 harg13 arg14 harg14 arg15 harg15 v681 v685 v689 v693 v742 v743 v744 v745 v755 v760 v765 v771 v773 v774
  let ⟨v826, v827, v828, v829, v830, v831, v832, v833, v848, cst_480⟩ ← k0_part23_skel (F := F) i arg2 harg2 arg3 harg3 arg4 harg4 arg5 harg5 arg6 harg6 arg7 harg7 arg8 harg8 arg9 harg9 arg10 harg10 arg11 harg11 arg12 harg12 arg13 harg13 arg14 harg14 arg15 harg15 v603 v615 v617 v771 v777 v783 v789 v792 v795 v798 v801
  let ⟨v885, cst_498⟩ ← k0_part24_skel (F := F) i arg2 harg2 arg3 harg3 arg4 harg4 arg5 harg5 arg6 harg6 arg7 harg7 arg8 harg8 arg9 harg9 arg10 harg10 arg11 harg11 arg12 harg12 arg13 harg13 arg14 harg14 arg15 harg15 v610 v613 v644 v651 v658 v665 v668 v671 v826 v827 v828 v829 v830 v831 v848 cst_480
  K arg1 v599 v613 v674 v677 v832 v833 v885 cst_498) = (sub2 i arg1 arg2 arg5 arg6 arg7 arg8 harg8 arg11 arg12 arg13 arg14 arg15 >>= fun _ => R arg1) := by
  subst hK
  rfl

set_option maxRecDepth 65536 in
theorem seg9 (i : grid0.Coords) (arg1 : BitVec 32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole)
    (K : (BitVec 32) → (BitVec 32) → (BitVec 32) → (FVec F S640x128 .f32) → Prog (TpuEff nD τ sig (Elt F) Λ₀ .tc) PUnit)
    (R : BitVec 32 → Prog (TpuEff nD τ sig (Elt F) Λ₀ .tc) PUnit)
    (hK : K = fun arg1 v300 v314 v590 => p17a i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15 >>= fun _ => R arg1) :
    (do
  let ⟨v300, v304, v306, v308, v311, v314, v316, v318, v320, v322, v324, v326, v327⟩ ← p9b (F := F) i arg1 arg2 harg2 arg3 harg3 arg4 harg4 arg5 harg5 arg6 harg6 arg7 harg7 arg8 harg8 arg9 harg9 arg10 harg10 arg11 harg11 arg12 harg12 arg13 harg13 arg14 harg14 arg15 harg15
  let ⟨v332, v338, v345, v352, v359⟩ ← k0_part10_skel (F := F) i arg2 harg2 arg3 harg3 arg4 harg4 arg5 harg5 arg6 harg6 arg7 harg7 arg8 harg8 arg9 harg9 arg10 harg10 arg11 harg11 arg12 harg12 arg13 harg13 arg14 harg14 arg15 harg15 v306 v308 v326 v327
  let ⟨v366, v369, v372, v375, v378, v382, v386, v390, v394, v396, v398, c0_i32_231⟩ ← k0_part11_skel (F := F) i arg2 harg2 arg3 harg3 arg4 harg4 arg5 harg5 arg6 harg6 arg7 harg7 arg8 harg8 arg9 harg9 arg10 harg10 arg11 harg11 arg12 harg12 arg13 harg13 arg14 harg14 arg15 harg15 v300 v306 v308 v324 v326 v332 v338
  let ⟨v406, v418, v430, v432, v434, c128_i32_255⟩ ← k0_part12_skel (F := F) i arg2 harg2 arg3 harg3 arg4 harg4 arg5 harg5 arg6 harg6 arg7 harg7 arg8 harg8 arg9 harg9 arg10 harg10 arg11 harg11 arg12 harg12 arg13 harg13 arg14 harg14 arg15 harg15 v300 v316 v318 v345 v352 v359 v396 v398 c0_i32_231
  let ⟨v443, v444, v445, v446, v461, v466, v472, v478, v479⟩ ← k0_part13_skel (F := F) i arg2 harg2 arg3 harg3 arg4 harg4 arg5 harg5 arg6 harg6 arg7 harg7 arg8 harg8 arg9 harg9 arg10 harg10 arg11 harg11 arg12 harg12 arg13 harg13 arg14 harg14 arg15 harg15 v318 v320 v322 v366 v369 v372 v375 v378 v406 v418 v430 v432 v434 c128_i32_255
  let ⟨v484, v490, v493, v496, v499, v502, v517⟩ ← k0_part14_skel (F := F) i arg2 harg2 arg3 harg3 arg4 harg4 arg5 harg5 arg6 harg6 arg7 harg7 arg8 harg8 arg9 harg9 arg10 harg10 arg11 harg11 arg12 harg12 arg13 harg13 arg14 harg14 arg15 harg15 v382 v386 v390 v394 v443 v444 v445 v446 v461 v466 v472 v478 v479
  let ⟨v527, v528, v529, v530, v531, v532, v533, v534, v552⟩ ← k0_part15_skel (F := F) i arg2 harg2 arg3 harg3 arg4 harg4 arg5 harg5 arg6 harg6 arg7 harg7 arg8 harg8 arg9 harg9 arg10 harg10 arg11 harg11 arg12 harg12 arg13 harg13 arg14 harg14 arg15 harg15 v304 v316 v318 v472 v478 v484 v490 v493 v496 v499 v502 v517
  let v590 : FVec F S640x128 .f32 ← k0_part16_skel (F := F) i arg2 harg2 arg3 harg3 arg4 harg4 arg5 harg5 arg6 harg6 arg7 harg7 arg8 harg8 arg9 harg9 arg10 harg10 arg11 harg11 arg12 harg12 arg13 harg13 arg14 harg14 arg15 harg15 v311 v314 v345 v352 v359 v366 v369 v372 v375 v378 v527 v528 v529 v530 v531 v532 v533 v534 v552
  K arg1 v300 v314 v590) = (sub1 i arg1 arg2 arg5 arg6 arg7 arg8 harg8 arg11 arg12 arg13 arg14 arg15 >>= fun _ => R arg1) := by
  subst hK
  rfl

set_option maxRecDepth 65536 in
theorem seg1 (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole)
    (K : (BitVec 32) → (BitVec 32) → (FVec F S640x128 .f32) → Prog (TpuEff nD τ sig (Elt F) Λ₀ .tc) PUnit)
    (R : BitVec 32 → Prog (TpuEff nD τ sig (Elt F) Λ₀ .tc) PUnit)
    (hK : K = fun arg1 v1 v295 => p9a i arg1 v1 v295 arg2 harg2 arg3 harg3 arg4 harg4 arg5 harg5 arg6 harg6 arg7 harg7 arg8 harg8 arg9 harg9 arg10 harg10 arg11 harg11 arg12 harg12 arg13 harg13 arg14 harg14 arg15 harg15 >>= fun _ => R arg1) :
    (do
  let ⟨arg1, v1, v5, v7, v9, v12, v15, v17, v19, v21, v23, v25, v27, v28, v30⟩ ← p1b (F := F) i arg2 harg2 arg3 harg3 arg4 harg4 arg5 harg5 arg6 harg6 arg7 harg7 arg8 harg8 arg9 harg9 arg10 harg10 arg11 harg11 arg12 harg12 arg13 harg13 arg14 harg14 arg15 harg15
  let ⟨v33, v39, v46, v53, v60, v62, v63⟩ ← k0_part2_skel (F := F) i arg2 harg2 arg3 harg3 arg4 harg4 arg5 harg5 arg6 harg6 arg7 harg7 arg8 harg8 arg9 harg9 arg10 harg10 arg11 harg11 arg12 harg12 arg13 harg13 arg14 harg14 arg15 harg15 v7 v9 v27 v28 v30
  let ⟨v67, v70, v73, v76, v79, v83, v87, v91, v95, v100, v102, v103⟩ ← k0_part3_skel (F := F) i arg2 harg2 arg3 harg3 arg4 harg4 arg5 harg5 arg6 harg6 arg7 harg7 arg8 harg8 arg9 harg9 arg10 harg10 arg11 harg11 arg12 harg12 arg13 harg13 arg14 harg14 arg15 harg15 v1 v7 v9 v17 v25 v27 v33 v39 v46 v62 v63
  let ⟨v107, v119, v131, v136, v138, v139⟩ ← k0_part4_skel (F := F) i arg2 harg2 arg3 harg3 arg4 harg4 arg5 harg5 arg6 harg6 arg7 harg7 arg8 harg8 arg9 harg9 arg10 harg10 arg11 harg11 arg12 harg12 arg13 harg13 arg14 harg14 arg15 harg15 v1 v17 v19 v53 v60 v67 v100 v102 v103
  let ⟨v144, v145, v146, v147, v162, v167, v173, v179, v184⟩ ← k0_part5_skel (F := F) i arg2 harg2 arg3 harg3 arg4 harg4 arg5 harg5 arg6 harg6 arg7 harg7 arg8 harg8 arg9 harg9 arg10 harg10 arg11 harg11 arg12 harg12 arg13 harg13 arg14 harg14 arg15 harg15 v21 v23 v70 v73 v76 v79 v107 v119 v131 v136 v138 v139
  let ⟨v185, v191, v194, v197, v200, v203⟩ ← k0_part6_skel (F := F) i arg2 harg2 arg3 harg3 arg4 harg4 arg5 harg5 arg6 harg6 arg7 harg7 arg8 harg8 arg9 harg9 arg10 harg10 arg11 harg11 arg12 harg12 arg13 harg13 arg14 harg14 arg15 harg15 v83 v87 v91 v95 v144 v145 v146 v147 v162 v167 v173 v179 v184
  let ⟨v228, v229, v230, v231, v232, v233, v234, v235, k0_w2⟩ ← k0_part7_skel (F := F) i arg2 harg2 arg3 harg3 arg4 harg4 arg5 harg5 arg6 harg6 arg7 harg7 arg8 harg8 arg9 harg9 arg10 harg10 arg11 harg11 arg12 harg12 arg13 harg13 arg14 harg14 arg15 harg15 v5 v17 v19 v173 v179 v185 v191 v194 v197 v200 v203
  let v295 : FVec F S640x128 .f32 ← k0_part8_skel (F := F) i arg2 harg2 arg3 harg3 arg4 harg4 arg5 harg5 arg6 harg6 arg7 harg7 arg8 harg8 arg9 harg9 arg10 harg10 arg11 harg11 arg12 harg12 arg13 harg13 arg14 harg14 arg15 harg15 v12 v15 v46 v53 v60 v67 v70 v73 v76 v79 v228 v229 v230 v231 v232 v233 v234 v235 k0_w2
  K arg1 v1 v295) = (sub0 i (BitVec.ofNat 32 (i 1).val) arg2 arg5 arg6 arg7 arg8 harg8 arg11 arg12 arg13 arg14 arg15 >>= fun _ => R (BitVec.ofNat 32 (i 1).val)) := by
  subst hK
  rfl

theorem c25_eq (i : grid0.Coords) (arg1 : BitVec 32) (v599 : BitVec 32) (v613 : BitVec 32) (v674 : Vec F S128x128 .bf16) (v677 : Vec F S128x128 .bf16) (v832 : FVec F S128x640 .bf16) (v833 : FVec F S128x640 .bf16) (v885 : Vec F S640x128 .f32) (cst_498 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    c25 i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15 = (p25a i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15 >>= fun _ => flushIf (k0_cond6 i) arg9 harg9 arg10 harg10 arg14 arg15 >>= fun _ => prepIf (first arg1 3#32) arg3 arg4 arg11 arg12 harg12 arg13 harg13 arg14 arg15 >>= fun _ => sub3 i arg1 arg2 arg5 arg6 arg7 arg8 harg8 arg11 arg12 arg13 arg14 arg15 >>= fun _ => flushIf (k0_cond8 i) arg9 harg9 arg10 harg10 arg14 arg15) := by
  unfold c25
  rw [part25_eq]
  simp only [bind_assoc]
  refine congrArg _ (funext fun _ => congrArg _ (funext fun _ => congrArg _ (funext fun _ => ?_)))
  have h := seg25 i arg1 arg2 harg2 arg3 harg3 arg4 harg4 arg5 harg5 arg6 harg6 arg7 harg7 arg8 harg8 arg9 harg9 arg10 harg10 arg11 harg11 arg12 harg12 arg13 harg13 arg14 harg14 arg15 harg15 (flushIf (F := F) (k0_cond8 i) arg9 harg9 arg10 harg10 arg14 arg15)
  rw [← end_eq] at h
  exact h.trans (by rw [end_eq])

theorem c17_eq (i : grid0.Coords) (arg1 : BitVec 32) (v300 : BitVec 32) (v314 : BitVec 32) (v590 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    c17 i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15 = (p17a i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15 >>= fun _ => flushIf (k0_cond4 i) arg9 harg9 arg10 harg10 arg14 arg15 >>= fun _ => prepIf (first arg1 2#32) arg3 arg4 arg11 arg12 harg12 arg13 harg13 arg14 arg15 >>= fun _ => sub2 i arg1 arg2 arg5 arg6 arg7 arg8 harg8 arg11 arg12 arg13 arg14 arg15 >>= fun _ => flushIf (k0_cond6 i) arg9 harg9 arg10 harg10 arg14 arg15 >>= fun _ => prepIf (first arg1 3#32) arg3 arg4 arg11 arg12 harg12 arg13 harg13 arg14 arg15 >>= fun _ => sub3 i arg1 arg2 arg5 arg6 arg7 arg8 harg8 arg11 arg12 arg13 arg14 arg15 >>= fun _ => flushIf (k0_cond8 i) arg9 harg9 arg10 harg10 arg14 arg15) := by
  unfold c17
  rw [part17_eq]
  simp only [bind_assoc]
  refine congrArg _ (funext fun _ => congrArg _ (funext fun _ => congrArg _ (funext fun _ => ?_)))
  exact seg17 i arg1 arg2 harg2 arg3 harg3 arg4 harg4 arg5 harg5 arg6 harg6 arg7 harg7 arg8 harg8 arg9 harg9 arg10 harg10 arg11 harg11 arg12 harg12 arg13 harg13 arg14 harg14 arg15 harg15 (fun arg1 v599 v613 v674 v677 v832 v833 v885 cst_498 => c25 i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15) (fun arg1 => flushIf (k0_cond6 i) arg9 harg9 arg10 harg10 arg14 arg15 >>= fun _ => prepIf (first arg1 3#32) arg3 arg4 arg11 arg12 harg12 arg13 harg13 arg14 arg15 >>= fun _ => sub3 i arg1 arg2 arg5 arg6 arg7 arg8 harg8 arg11 arg12 arg13 arg14 arg15 >>= fun _ => flushIf (k0_cond8 i) arg9 harg9 arg10 harg10 arg14 arg15)
    (by funext arg1 v599 v613 v674 v677 v832 v833 v885 cst_498; exact c25_eq i arg1 v599 v613 v674 v677 v832 v833 v885 cst_498 arg2 harg2 arg3 harg3 arg4 harg4 arg5 harg5 arg6 harg6 arg7 harg7 arg8 harg8 arg9 harg9 arg10 harg10 arg11 harg11 arg12 harg12 arg13 harg13 arg14 harg14 arg15 harg15)

theorem c9_eq (i : grid0.Coords) (arg1 : BitVec 32) (v1 : BitVec 32) (v295 : FVec F S640x128 .f32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    c9 i arg1 v1 v295 arg2 harg2 arg3 harg3 arg4 harg4 arg5 harg5 arg6 harg6 arg7 harg7 arg8 harg8 arg9 harg9 arg10 harg10 arg11 harg11 arg12 harg12 arg13 harg13 arg14 harg14 arg15 harg15 = (p9a i arg1 v1 v295 arg2 harg2 arg3 harg3 arg4 harg4 arg5 harg5 arg6 harg6 arg7 harg7 arg8 harg8 arg9 harg9 arg10 harg10 arg11 harg11 arg12 harg12 arg13 harg13 arg14 harg14 arg15 harg15 >>= fun _ => flushIf (k0_cond2 i) arg9 harg9 arg10 harg10 arg14 arg15 >>= fun _ => prepIf (first arg1 1#32) arg3 arg4 arg11 arg12 harg12 arg13 harg13 arg14 arg15 >>= fun _ => sub1 i arg1 arg2 arg5 arg6 arg7 arg8 harg8 arg11 arg12 arg13 arg14 arg15 >>= fun _ => flushIf (k0_cond4 i) arg9 harg9 arg10 harg10 arg14 arg15 >>= fun _ => prepIf (first arg1 2#32) arg3 arg4 arg11 arg12 harg12 arg13 harg13 arg14 arg15 >>= fun _ => sub2 i arg1 arg2 arg5 arg6 arg7 arg8 harg8 arg11 arg12 arg13 arg14 arg15 >>= fun _ => flushIf (k0_cond6 i) arg9 harg9 arg10 harg10 arg14 arg15 >>= fun _ => prepIf (first arg1 3#32) arg3 arg4 arg11 arg12 harg12 arg13 harg13 arg14 arg15 >>= fun _ => sub3 i arg1 arg2 arg5 arg6 arg7 arg8 harg8 arg11 arg12 arg13 arg14 arg15 >>= fun _ => flushIf (k0_cond8 i) arg9 harg9 arg10 harg10 arg14 arg15) := by
  unfold c9
  rw [part9_eq]
  simp only [bind_assoc]
  refine congrArg _ (funext fun _ => congrArg _ (funext fun _ => congrArg _ (funext fun _ => ?_)))
  exact seg9 i arg1 arg2 harg2 arg3 harg3 arg4 harg4 arg5 harg5 arg6 harg6 arg7 harg7 arg8 harg8 arg9 harg9 arg10 harg10 arg11 harg11 arg12 harg12 arg13 harg13 arg14 harg14 arg15 harg15 (fun arg1 v300 v314 v590 => c17 i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15) (fun arg1 => flushIf (k0_cond4 i) arg9 harg9 arg10 harg10 arg14 arg15 >>= fun _ => prepIf (first arg1 2#32) arg3 arg4 arg11 arg12 harg12 arg13 harg13 arg14 arg15 >>= fun _ => sub2 i arg1 arg2 arg5 arg6 arg7 arg8 harg8 arg11 arg12 arg13 arg14 arg15 >>= fun _ => flushIf (k0_cond6 i) arg9 harg9 arg10 harg10 arg14 arg15 >>= fun _ => prepIf (first arg1 3#32) arg3 arg4 arg11 arg12 harg12 arg13 harg13 arg14 arg15 >>= fun _ => sub3 i arg1 arg2 arg5 arg6 arg7 arg8 harg8 arg11 arg12 arg13 arg14 arg15 >>= fun _ => flushIf (k0_cond8 i) arg9 harg9 arg10 harg10 arg14 arg15)
    (by funext arg1 v300 v314 v590; exact c17_eq i arg1 v300 v314 v590 arg2 harg2 arg3 harg3 arg4 harg4 arg5 harg5 arg6 harg6 arg7 harg7 arg8 harg8 arg9 harg9 arg10 harg10 arg11 harg11 arg12 harg12 arg13 harg13 arg14 harg14 arg15 harg15)

/-- The printed body is the row of its programs. -/
theorem body_eq (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole) :
    cc0_ca_bwd (F := F) i arg2 harg2 arg3 harg3 arg4 harg4 arg5 harg5 arg6 harg6 arg7 harg7 arg8 harg8 arg9 harg9 arg10 harg10 arg11 harg11 arg12 harg12 arg13 harg13 arg14 harg14 arg15 harg15 = body i arg2 harg2 arg3 harg3 arg4 harg4 arg5 harg5 arg6 harg6 arg7 harg7 arg8 harg8 arg9 harg9 arg10 harg10 arg11 harg11 arg12 harg12 arg13 harg13 arg14 harg14 arg15 harg15 := by
  rw [cc0_ca_bwd_eq_skeleton]
  have h : cc0_ca_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 = (do
      let ⟨arg1, v1, v5, v7, v9, v12, v15, v17, v19, v21, v23, v25, v27, v28, v30⟩ ← k0_part1_skel (F := F) i arg2 harg2 arg3 harg3 arg4 harg4 arg5 harg5 arg6 harg6 arg7 harg7 arg8 harg8 arg9 harg9 arg10 harg10 arg11 harg11 arg12 harg12 arg13 harg13 arg14 harg14 arg15 harg15
      let ⟨v33, v39, v46, v53, v60, v62, v63⟩ ← k0_part2_skel (F := F) i arg2 harg2 arg3 harg3 arg4 harg4 arg5 harg5 arg6 harg6 arg7 harg7 arg8 harg8 arg9 harg9 arg10 harg10 arg11 harg11 arg12 harg12 arg13 harg13 arg14 harg14 arg15 harg15 v7 v9 v27 v28 v30
      let ⟨v67, v70, v73, v76, v79, v83, v87, v91, v95, v100, v102, v103⟩ ← k0_part3_skel (F := F) i arg2 harg2 arg3 harg3 arg4 harg4 arg5 harg5 arg6 harg6 arg7 harg7 arg8 harg8 arg9 harg9 arg10 harg10 arg11 harg11 arg12 harg12 arg13 harg13 arg14 harg14 arg15 harg15 v1 v7 v9 v17 v25 v27 v33 v39 v46 v62 v63
      let ⟨v107, v119, v131, v136, v138, v139⟩ ← k0_part4_skel (F := F) i arg2 harg2 arg3 harg3 arg4 harg4 arg5 harg5 arg6 harg6 arg7 harg7 arg8 harg8 arg9 harg9 arg10 harg10 arg11 harg11 arg12 harg12 arg13 harg13 arg14 harg14 arg15 harg15 v1 v17 v19 v53 v60 v67 v100 v102 v103
      let ⟨v144, v145, v146, v147, v162, v167, v173, v179, v184⟩ ← k0_part5_skel (F := F) i arg2 harg2 arg3 harg3 arg4 harg4 arg5 harg5 arg6 harg6 arg7 harg7 arg8 harg8 arg9 harg9 arg10 harg10 arg11 harg11 arg12 harg12 arg13 harg13 arg14 harg14 arg15 harg15 v21 v23 v70 v73 v76 v79 v107 v119 v131 v136 v138 v139
      let ⟨v185, v191, v194, v197, v200, v203⟩ ← k0_part6_skel (F := F) i arg2 harg2 arg3 harg3 arg4 harg4 arg5 harg5 arg6 harg6 arg7 harg7 arg8 harg8 arg9 harg9 arg10 harg10 arg11 harg11 arg12 harg12 arg13 harg13 arg14 harg14 arg15 harg15 v83 v87 v91 v95 v144 v145 v146 v147 v162 v167 v173 v179 v184
      let ⟨v228, v229, v230, v231, v232, v233, v234, v235, k0_w2⟩ ← k0_part7_skel (F := F) i arg2 harg2 arg3 harg3 arg4 harg4 arg5 harg5 arg6 harg6 arg7 harg7 arg8 harg8 arg9 harg9 arg10 harg10 arg11 harg11 arg12 harg12 arg13 harg13 arg14 harg14 arg15 harg15 v5 v17 v19 v173 v179 v185 v191 v194 v197 v200 v203
      let v295 : FVec F S640x128 .f32 ← k0_part8_skel (F := F) i arg2 harg2 arg3 harg3 arg4 harg4 arg5 harg5 arg6 harg6 arg7 harg7 arg8 harg8 arg9 harg9 arg10 harg10 arg11 harg11 arg12 harg12 arg13 harg13 arg14 harg14 arg15 harg15 v12 v15 v46 v53 v60 v67 v70 v73 v76 v79 v228 v229 v230 v231 v232 v233 v234 v235 k0_w2
      c9 i arg1 v1 v295 arg2 harg2 arg3 harg3 arg4 harg4 arg5 harg5 arg6 harg6 arg7 harg7 arg8 harg8 arg9 harg9 arg10 harg10 arg11 harg11 arg12 harg12 arg13 harg13 arg14 harg14 arg15 harg15) := by
    unfold cc0_ca_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    rfl
  rw [h, part1_eq, bind_assoc]
  refine congrArg _ (funext fun _ => ?_)
  exact seg1 i arg2 harg2 arg3 harg3 arg4 harg4 arg5 harg5 arg6 harg6 arg7 harg7 arg8 harg8 arg9 harg9 arg10 harg10 arg11 harg11 arg12 harg12 arg13 harg13 arg14 harg14 arg15 harg15 (fun arg1 v1 v295 => c9 i arg1 v1 v295 arg2 harg2 arg3 harg3 arg4 harg4 arg5 harg5 arg6 harg6 arg7 harg7 arg8 harg8 arg9 harg9 arg10 harg10 arg11 harg11 arg12 harg12 arg13 harg13 arg14 harg14 arg15 harg15) (fun arg1 => flushIf (k0_cond2 i) arg9 harg9 arg10 harg10 arg14 arg15 >>= fun _ => prepIf (first arg1 1#32) arg3 arg4 arg11 arg12 harg12 arg13 harg13 arg14 arg15 >>= fun _ => sub1 i arg1 arg2 arg5 arg6 arg7 arg8 harg8 arg11 arg12 arg13 arg14 arg15 >>= fun _ => flushIf (k0_cond4 i) arg9 harg9 arg10 harg10 arg14 arg15 >>= fun _ => prepIf (first arg1 2#32) arg3 arg4 arg11 arg12 harg12 arg13 harg13 arg14 arg15 >>= fun _ => sub2 i arg1 arg2 arg5 arg6 arg7 arg8 harg8 arg11 arg12 arg13 arg14 arg15 >>= fun _ => flushIf (k0_cond6 i) arg9 harg9 arg10 harg10 arg14 arg15 >>= fun _ => prepIf (first arg1 3#32) arg3 arg4 arg11 arg12 harg12 arg13 harg13 arg14 arg15 >>= fun _ => sub3 i arg1 arg2 arg5 arg6 arg7 arg8 harg8 arg11 arg12 arg13 arg14 arg15 >>= fun _ => flushIf (k0_cond8 i) arg9 harg9 arg10 harg10 arg14 arg15)
    (by funext arg1 v1 v295; exact c9_eq i arg1 v1 v295 arg2 harg2 arg3 harg3 arg4 harg4 arg5 harg5 arg6 harg6 arg7 harg7 arg8 harg8 arg9 harg9 arg10 harg10 arg11 harg11 arg12 harg12 arg13 harg13 arg14 harg14 arg15 harg15)

end Cert.KernelIdeal.CaBwd

end
-- ==== Proof.KI.Triple.lean ====
/-
  What the programs of the backward kernel's body do to the buffers: from the buffers' contents, the contents they leave,
  as functions of vectors (`nDq`, `nDb`, `nSum`, `padded`).
-/
module

public import proofs.«01_k».proof.Proof.KI.Sub
public import Idealize.ShloMosaic.Lib.VecWindow
public import Idealize.ShloMosaic.Lib.Pipeline.TableIdle
public import Idealize.ShloMosaic.Lib.Pipeline.FrameBody
public import Idealize.ShloMosaic.Lib.Tactic
public import Idealize.ShloMosaic.Lib.Pointwise.Reshape

@[expose] public section

set_option maxRecDepth 16384

noncomputable section

namespace Cert.KernelIdeal.CaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first 128 of the 256 rows from `rs`. -/
def rows0 (x : Vec F S1024x128 .bf16) (rs : Fin 2 → ℕ) (hrs : ∀ a, rs a + S256x128.size a ≤ S1024x128.size a) : Vec F S128x128 .bf16 :=
  VecWindow.window (VecWindow.window x rs S256x128.size hrs) ![0, 0] S128x128.size inb_S256x128_S128x128_0_0

/-- The second 128 of the 256 rows from `rs`. -/
def rows1 (x : Vec F S1024x128 .bf16) (rs : Fin 2 → ℕ) (hrs : ∀ a, rs a + S256x128.size a ≤ S1024x128.size a) : Vec F S128x128 .bf16 :=
  VecWindow.window (VecWindow.window x rs S256x128.size hrs) ![128, 0] S128x128.size inb_S256x128_S128x128_128_0

/-- A window of 640 rows. -/
def keys {e : EltTy} (x : Vec F S8704x128 e) (off : Fin 2 → ℕ) (hoff : ∀ a, off a + S640x128.size a ≤ S8704x128.size a) : Vec F S640x128 e :=
  VecWindow.window x off S640x128.size hoff

/-- The bias of head `r` (0 or 1) for half-block `h`: a [128, 640] piece of the table. -/
def bias00 (x : Vec F S2x256x768 .f32) : Vec F S1x128x640 .f32 := VecWindow.window x ![0, 0, 0] S1x128x640.size inb_S2x256x768_S1x128x640_0_0_0
@[inherit_doc bias00] def bias01 (x : Vec F S2x256x768 .f32) : Vec F S1x128x640 .f32 := VecWindow.window x ![1, 0, 0] S1x128x640.size inb_S2x256x768_S1x128x640_1_0_0
@[inherit_doc bias00] def bias10 (x : Vec F S2x256x768 .f32) : Vec F S1x128x640 .f32 := VecWindow.window x ![0, 128, 128] S1x128x640.size inb_S2x256x768_S1x128x640_0_128_128
@[inherit_doc bias00] def bias11 (x : Vec F S2x256x768 .f32) : Vec F S1x128x640 .f32 := VecWindow.window x ![1, 128, 128] S1x128x640.size inb_S2x256x768_S1x128x640_1_128_128

/-- The scores' gradients of a half-block's two heads, from what the buffers hold. -/
abbrev D00 (lim : BitVec 32) (off : Fin 2 → ℕ) (hoff : ∀ a, off a + S640x128.size a ≤ S8704x128.size a) (rs : Fin 2 → ℕ) (hrs : ∀ a, rs a + S256x128.size a ≤ S1024x128.size a)
    (x2 x5 x6 : Vec F S1024x128 .bf16) (x7 : Vec F S2x256x768 .f32) (x12 x13 : Vec F S8704x128 .bf16) : FVec F S128x640 .f32 :=
  D lo lim (rows0 x2 rs hrs) (rows0 x6 rs hrs) (rows0 x5 rs hrs) (keys x12 off hoff) (keys x13 off hoff) (bias00 x7)
@[inherit_doc D00] abbrev D01 (lim : BitVec 32) (off : Fin 2 → ℕ) (hoff : ∀ a, off a + S640x128.size a ≤ S8704x128.size a) (rs : Fin 2 → ℕ) (hrs : ∀ a, rs a + S256x128.size a ≤ S1024x128.size a)
    (x2 x5 x6 : Vec F S1024x128 .bf16) (x7 : Vec F S2x256x768 .f32) (x12 x13 : Vec F S8704x128 .bf16) : FVec F S128x640 .f32 :=
  D hi lim (rows0 x2 rs hrs) (rows0 x6 rs hrs) (rows0 x5 rs hrs) (keys x12 off hoff) (keys x13 off hoff) (bias01 x7)
@[inherit_doc D00] abbrev D10 (lim : BitVec 32) (off : Fin 2 → ℕ) (hoff : ∀ a, off a + S640x128.size a ≤ S8704x128.size a) (rs : Fin 2 → ℕ) (hrs : ∀ a, rs a + S256x128.size a ≤ S1024x128.size a)
    (x2 x5 x6 : Vec F S1024x128 .bf16) (x7 : Vec F S2x256x768 .f32) (x12 x13 : Vec F S8704x128 .bf16) : FVec F S128x640 .f32 :=
  D lo lim (rows1 x2 rs hrs) (rows1 x6 rs hrs) (rows1 x5 rs hrs) (keys x12 off hoff) (keys x13 off hoff) (bias10 x7)
@[inherit_doc D00] abbrev D11 (lim : BitVec 32) (off : Fin 2 → ℕ) (hoff : ∀ a, off a + S640x128.size a ≤ S8704x128.size a) (rs : Fin 2 → ℕ) (hrs : ∀ a, rs a + S256x128.size a ≤ S1024x128.size a)
    (x2 x5 x6 : Vec F S1024x128 .bf16) (x7 : Vec F S2x256x768 .f32) (x12 x13 : Vec F S8704x128 .bf16) : FVec F S128x640 .f32 :=
  D hi lim (rows1 x2 rs hrs) (rows1 x6 rs hrs) (rows1 x5 rs hrs) (keys x12 off hoff) (keys x13 off hoff) (bias11 x7)

/-- The bias gradient after a block: the four pieces added, each to its own part. -/
def nDb (x : Vec F S2x256x768 .f32) (d00 d01 d10 d11 : FVec F S128x640 .f32) : Vec F S2x256x768 .f32 :=
  VecWindow.put (VecWindow.put (VecWindow.put (VecWindow.put x
    ![0, 0, 0] S1x128x640.size (addBias (VecWindow.window x ![0, 0, 0] S1x128x640.size inb_S2x256x768_S1x128x640_0_0_0) d00))
    ![1, 0, 0] S1x128x640.size (addBias (VecWindow.window x ![1, 0, 0] S1x128x640.size inb_S2x256x768_S1x128x640_1_0_0) d01))
    ![0, 128, 128] S1x128x640.size (addBias (VecWindow.window x ![0, 128, 128] S1x128x640.size inb_S2x256x768_S1x128x640_0_128_128) d10))
    ![1, 128, 128] S1x128x640.size (addBias (VecWindow.window x ![1, 128, 128] S1x128x640.size inb_S2x256x768_S1x128x640_1_128_128) d11)

/-- The queries' gradient after a block: its two halves put. -/
def nDq (x : Vec F S1024x128 .bf16) (rd0 rd1 : Fin 2 → ℕ) (e0 e1 : Vec F S128x128 .bf16) : Vec F S1024x128 .bf16 :=
  VecWindow.put (VecWindow.put x rd0 S128x128.size e0) rd1 S128x128.size e1

/-- A sum over windows of 640 rows with one window's share added. -/
def addRows (x : Vec F S8704x128 .f32) (off : Fin 2 → ℕ) (h : ∀ a, off a + S640x128.size a ≤ S8704x128.size a) (s : FVec F S640x128 .f32) : Vec F S8704x128 .f32 :=
  VecWindow.put x off S640x128.size (addShare (keys x off h) s)

/-- A load of a window, of any contents. -/
theorem ld_unit {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

/-- A load of a window of a window. -/
theorem ld_within {κ : Kind} {sp : Space} {s : Shape} {e : EltTy} (v : View sig κ sp s e) (x : s.Idx → Elt F e) {off size : Fin s.rank → ℕ}
    (inb : ∀ a, off a + size a ≤ s.size a) {off2 size2 : Fin s.rank → ℕ} (inb2 : ∀ a, off2 a + size2 a ≤ size a) (h₀) :
    v.readAt (Elt F) ((Rect.unit off size inb).withinL (Rect.unit (s := (Rect.unit off size inb).shape) off2 size2 inb2).toLoadRect h₀) (v.rep x)
      = VecWindow.window (VecWindow.window x off size inb) off2 size2 inb2 :=
  View.readAt_withinL_rep_unit v x inb rfl inb inb2 h₀

/-- A store over a list of earlier ones. -/
theorem st_cons {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

variable (𝒱₀ : Variants)

/-- A block's triple. -/
theorem sub_run (c : Dev nD) (lim0 lim1 : BitVec 32)
    (off0 off1 : Fin 2 → ℕ) (hoff0 : ∀ a, off0 a + S640x128.size a ≤ S8704x128.size a) (hoff1 : ∀ a, off1 a + S640x128.size a ≤ S8704x128.size a)
    (rs rd0 rd1 : Fin 2 → ℕ) (hrs : ∀ a, rs a + S256x128.size a ≤ S1024x128.size a) (hrd0 : ∀ a, rd0 a + S128x128.size a ≤ S1024x128.size a) (hrd1 : ∀ a, rd1 a + S128x128.size a ≤ S1024x128.size a)
    (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32)
    (hst0 : (arg8.access (Rect.unit (s := S1024x128) rd0 S128x128.size hrd0)).Stores Finset.univ)
    (hst1 : (arg8.access (Rect.unit (s := S1024x128) rd1 S128x128.size hrd1)).Stores Finset.univ)
    (s2 s5 s6 s7 : PosShare TreeShare) (x2 x5 x6 x8 : Vec F S1024x128 .bf16) (x7 x11 : Vec F S2x256x768 .f32) (x12 x13 : Vec F S8704x128 .bf16) (x14 x15 : Vec F S8704x128 .f32)
    (Q : PUnit → sProp 𝕄) :
    iprop(owns (c : Thread nD τ) arg2 s2 x2 ∗ owns (c : Thread nD τ) arg5 s5 x5 ∗ owns (c : Thread nD τ) arg6 s6 x6 ∗ owns (c : Thread nD τ) arg7 s7 x7
      ∗ owns (c : Thread nD τ) arg8 fullShare x8 ∗ owns (c : Thread nD τ) arg11 fullShare x11 ∗ owns (c : Thread nD τ) arg12 fullShare x12 ∗ owns (c : Thread nD τ) arg13 fullShare x13
      ∗ owns (c : Thread nD τ) arg14 fullShare x14 ∗ owns (c : Thread nD τ) arg15 fullShare x15
      ∗ (iprop(owns (c : Thread nD τ) arg2 s2 x2 ∗ owns (c : Thread nD τ) arg5 s5 x5 ∗ owns (c : Thread nD τ) arg6 s6 x6 ∗ owns (c : Thread nD τ) arg7 s7 x7
        ∗ owns (c : Thread nD τ) arg8 fullShare (nDq x8 rd0 rd1
            (dq (D00 lim0 off0 hoff0 rs hrs x2 x5 x6 x7 x12 x13) (D01 lim0 off0 hoff0 rs hrs x2 x5 x6 x7 x12 x13) (keys x12 off0 hoff0))
            (dq (D10 lim1 off1 hoff1 rs hrs x2 x5 x6 x7 x12 x13) (D11 lim1 off1 hoff1 rs hrs x2 x5 x6 x7 x12 x13) (keys x12 off1 hoff1)))
        ∗ owns (c : Thread nD τ) arg11 fullShare (nDb x11 (D00 lim0 off0 hoff0 rs hrs x2 x5 x6 x7 x12 x13) (D01 lim0 off0 hoff0 rs hrs x2 x5 x6 x7 x12 x13)
            (D10 lim1 off1 hoff1 rs hrs x2 x5 x6 x7 x12 x13) (D11 lim1 off1 hoff1 rs hrs x2 x5 x6 x7 x12 x13))
        ∗ owns (c : Thread nD τ) arg12 fullShare x12 ∗ owns (c : Thread nD τ) arg13 fullShare x13
        ∗ owns (c : Thread nD τ) arg14 fullShare (addRows (addRows x14 off0 hoff0
            (share (D00 lim0 off0 hoff0 rs hrs x2 x5 x6 x7 x12 x13) (D01 lim0 off0 hoff0 rs hrs x2 x5 x6 x7 x12 x13) (scaled lo (rows0 x2 rs hrs)) (scaled hi (rows0 x2 rs hrs)))) off1 hoff1
            (share (D10 lim1 off1 hoff1 rs hrs x2 x5 x6 x7 x12 x13) (D11 lim1 off1 hoff1 rs hrs x2 x5 x6 x7 x12 x13) (scaled lo (rows1 x2 rs hrs)) (scaled hi (rows1 x2 rs hrs))))
        ∗ owns (c : Thread nD τ) arg15 fullShare (addRows (addRows x15 off0 hoff0
            (share (P lo lim0 (rows0 x2 rs hrs) (keys x12 off0 hoff0) (bias00 x7)) (P hi lim0 (rows0 x2 rs hrs) (keys x12 off0 hoff0) (bias01 x7)) (half lo (rows0 x6 rs hrs)) (half hi (rows0 x6 rs hrs)))) off1 hoff1
            (share (P lo lim1 (rows1 x2 rs hrs) (keys x12 off1 hoff1) (bias10 x7)) (P hi lim1 (rows1 x2 rs hrs) (keys x12 off1 hoff1) (bias11 x7)) (half lo (rows1 x6 rs hrs)) (half hi (rows1 x6 rs hrs))))) -∗ Q ⟨⟩))
    ⊢ wp frame (wpE (defs₀ (F := F)) 𝒱₀ (c : Thread nD τ) none) Set.univ (sub lim0 lim1 off0 off1 hoff0 hoff1 rs rd0 rd1 hrs hrd0 hrd1 arg2 arg5 arg6 arg7 arg8 arg11 arg12 arg13 arg14 arg15 hst0 hst1) Q := by
  simp only [owns_eq_rep]
  iintro ⟨H2, H5, H6, H7, H8, H11, H12, H13, H14, H15, HQ⟩
  unfold sub
  sl_exec
  sl_step
  iapply HQ
  isplitl [H2]; · iexact H2
  isplitl [H5]; · iexact H5
  isplitl [H6]; · iexact H6
  isplitl [H7]; · iexact H7
  isplitl [H8]
  · iapply (pointsTo_rep_of_read (c : Thread nD τ) arg8 _ fullShare _ ?_) $$ H8
    try delta sub_run.sl.H8_1
    simp only [ld_unit, ld_within, st_cons, View.writes_nil, View.read_rep]
    rfl
  isplitl [H11]
  · iapply (pointsTo_rep_of_read (c : Thread nD τ) arg11 _ fullShare _ ?_) $$ H11
    delta sub_run.sl.e01 sub_run.sl.e10 sub_run.sl.e11
    simp only [ld_unit, ld_within, st_cons, View.writes_nil, View.read_rep]
    rfl
  isplitl [H12]; · iexact H12
  isplitl [H13]; · iexact H13
  isplitl [H14]
  · iapply (pointsTo_rep_of_read (c : Thread nD τ) arg14 _ fullShare _ ?_) $$ H14
    try delta sub_run.sl.H14_1
    simp only [ld_unit, ld_within, st_cons, View.writes_nil, View.read_rep]
    rfl
  · iapply (pointsTo_rep_of_read (c : Thread nD τ) arg15 _ fullShare _ ?_) $$ H15
    try delta sub_run.sl.H15_1
    simp only [ld_unit, ld_within, st_cons, View.writes_nil, View.read_rep]
    rfl

/-- `x` behind 512 rows of zeros. -/
def padded (x : Vec F S8192x128 .bf16) : Vec F S8704x128 .bf16 :=
  VecWindow.put (fun _ => (Scalar.ofBits .bf16 0x0000#16 : F .bf16)) ![512, 0] S8192x128.size x

/-- Zeros over the first 512 rows and `x` over the others leave nothing of what was there. -/
theorem put_put_padded (y : Vec F S8704x128 .bf16) (z : Vec F S512x128 .bf16) (hz : z = fun _ => (Scalar.ofBits .bf16 0x0000#16 : F .bf16))
    (x x' : Vec F S8192x128 .bf16) (hx : x' = x) :
    VecWindow.put (VecWindow.put y ![0, 0] S512x128.size z) ![512, 0] S8192x128.size x' = padded x := by
  subst hz hx
  funext i
  unfold padded VecWindow.put
  by_cases h : ∀ a, (![512, 0] : Fin 2 → ℕ) a ≤ (i a).val ∧ (i a).val < (![512, 0] : Fin 2 → ℕ) a + S8192x128.size a
  · rw [dif_pos h, dif_pos h]
  · rw [dif_neg h, dif_neg h]
    have h0 : (i 0).val < 8704 := (i 0).isLt
    have h1 : (i 1).val < 128 := (i 1).isLt
    rw [dif_pos]
    intro a
    match a with
    | ⟨0, _⟩ =>
      refine ⟨Nat.zero_le _, ?_⟩
      by_contra hc
      refine h fun a => ?_
      match a with
      | ⟨0, _⟩ => exact ⟨by show 512 ≤ (i 0).val; have : ¬ (i 0).val < 0 + 512 := hc; omega, by show (i 0).val < 512 + 8192; omega⟩
      | ⟨1, _⟩ => exact ⟨Nat.zero_le _, by show (i 1).val < 0 + 128; omega⟩
    | ⟨1, _⟩ => exact ⟨Nat.zero_le _, by show (i 1).val < 0 + 128; omega⟩

/-- The window of everything. -/
theorem window_full {α : Type} {s : Shape} (x : s.Idx → α) {off : Fin s.rank → ℕ} (inb : ∀ a, off a + s.size a ≤ s.size a) :
    VecWindow.window x off s.size inb = x := funext fun y => congrArg x (Rect.emb_unit_full inb y)

/-- A load of everything. -/
theorem ld_full {κ : Kind} {sp : Space} {s : Shape} {e : EltTy} (v : View sig κ sp s e) (f : v.ty.Contents (Elt F)) {off : Fin s.rank → ℕ}
    (inb : ∀ a, off a + s.size a ≤ s.size a) :
    v.readAt (Elt F) (Rect.unit off s.size inb).toLoadRect f = v.read (Elt F) f := View.readAt_full v f inb

/-- A store of everything. -/
theorem st_full {κ : Kind} {sp : Space} {s : Shape} {e : EltTy} (v : View sig κ sp s e) (f : v.ty.Contents (Elt F)) {off : Fin s.rank → ℕ}
    (inb : ∀ a, off a + s.size a ≤ s.size a) (w : (Rect.unit off s.size inb).shape.Idx → Elt F e) (L : List (View.Piece (Elt F) s e)) :
    v.read (Elt F) (v.writes (Elt F) f (⟨Rect.unit off s.size inb, w⟩ :: L)) = w := View.read_writes_full v f inb w L

/-- The preparation's triple. -/
theorem prep_run (c : Dev nD) (arg3 : Memref sig .tc .vmem S8192x128 .bf16) (arg4 : Memref sig .tc .vmem S8192x128 .bf16) (arg11 : Memref sig .tc .vmem S2x256x768 .f32)
    (arg12 : Memref sig .tc .vmem S8704x128 .bf16) (harg12 : arg12.IsWhole) (arg13 : Memref sig .tc .vmem S8704x128 .bf16) (harg13 : arg13.IsWhole)
    (arg14 : Memref sig .tc .vmem S8704x128 .f32) (arg15 : Memref sig .tc .vmem S8704x128 .f32)
    (s3 s4 : PosShare TreeShare) (x3 x4 : Vec F S8192x128 .bf16) (x11 : Vec F S2x256x768 .f32) (x12 x13 : Vec F S8704x128 .bf16) (x14 x15 : Vec F S8704x128 .f32)
    (Q : PUnit → sProp 𝕄) :
    iprop(owns (c : Thread nD τ) arg3 s3 x3 ∗ owns (c : Thread nD τ) arg4 s4 x4 ∗ owns (c : Thread nD τ) arg11 fullShare x11 ∗ owns (c : Thread nD τ) arg12 fullShare x12
      ∗ owns (c : Thread nD τ) arg13 fullShare x13 ∗ owns (c : Thread nD τ) arg14 fullShare x14 ∗ owns (c : Thread nD τ) arg15 fullShare x15
      ∗ (iprop(owns (c : Thread nD τ) arg3 s3 x3 ∗ owns (c : Thread nD τ) arg4 s4 x4 ∗ owns (c : Thread nD τ) arg11 fullShare (k0_pay10 (F := F)) ∗ owns (c : Thread nD τ) arg12 fullShare (padded x3)
        ∗ owns (c : Thread nD τ) arg13 fullShare (padded x4) ∗ owns (c : Thread nD τ) arg14 fullShare (k0_pay8 (F := F)) ∗ owns (c : Thread nD τ) arg15 fullShare (k0_pay9 (F := F))) -∗ Q ⟨⟩))
    ⊢ wp frame (wpE (defs₀ (F := F)) 𝒱₀ (c : Thread nD τ) none) Set.univ (prep arg3 arg4 arg11 arg12 harg12 arg13 harg13 arg14 arg15) Q := by
  simp only [owns_eq_rep]
  iintro ⟨H3, H4, H11, H12, H13, H14, H15, HQ⟩
  unfold prep
  sl_exec
  sl_step
  iapply HQ
  isplitl [H3]; · iexact H3
  isplitl [H4]; · iexact H4
  isplitl [H11]
  · iapply (pointsTo_rep_of_read (c : Thread nD τ) arg11 _ fullShare _ ?_) $$ H11
    exact st_full _ _ _ _ _
  isplitl [H12]
  · iapply (pointsTo_rep_of_read (c : Thread nD τ) arg12 _ fullShare _ ?_) $$ H12
    simp only [ld_unit, st_cons, View.writes_nil, View.read_rep]
    refine put_put_padded _ _ ?_ _ _ ?_
    · exact shapeCast_id _ _
    · exact (shapeCast_id _ _).trans (window_full _ _)
  isplitl [H13]
  · iapply (pointsTo_rep_of_read (c : Thread nD τ) arg13 _ fullShare _ ?_) $$ H13
    simp only [ld_unit, st_cons, View.writes_nil, View.read_rep]
    refine put_put_padded _ _ ?_ _ _ ?_
    · exact shapeCast_id _ _
    · exact (shapeCast_id _ _).trans (window_full _ _)
  isplitl [H14]
  · iapply (pointsTo_rep_of_read (c : Thread nD τ) arg14 _ fullShare _ ?_) $$ H14
    exact st_full _ _ _ _ _
  · iapply (pointsTo_rep_of_read (c : Thread nD τ) arg15 _ fullShare _ ?_) $$ H15
    exact st_full _ _ _ _ _

/-- The rows from 512 on, rounded: what the copy out leaves. -/
def outRows (x : Vec F S8704x128 .f32) : Vec F S8192x128 .bf16 :=
  (truncf .bf16 (VecWindow.window x ![512, 0] S8192x128.size inb_S8704x128_S8192x128_512_0 : FVec F S8192x128 .f32) bitsLt_bf16_f32 : FVec F S8192x128 .bf16)

/-- The copy out's triple. -/
theorem flush_run (c : Dev nD) (arg9 : Memref sig .tc .vmem S8192x128 .bf16) (harg9 : arg9.IsWhole) (arg10 : Memref sig .tc .vmem S8192x128 .bf16) (harg10 : arg10.IsWhole)
    (arg14 : Memref sig .tc .vmem S8704x128 .f32) (arg15 : Memref sig .tc .vmem S8704x128 .f32)
    (x9 x10 : Vec F S8192x128 .bf16) (x14 x15 : Vec F S8704x128 .f32)
    (Q : PUnit → sProp 𝕄) :
    iprop(owns (c : Thread nD τ) arg9 fullShare x9 ∗ owns (c : Thread nD τ) arg10 fullShare x10 ∗ owns (c : Thread nD τ) arg14 fullShare x14 ∗ owns (c : Thread nD τ) arg15 fullShare x15
      ∗ (iprop(owns (c : Thread nD τ) arg9 fullShare (outRows x14) ∗ owns (c : Thread nD τ) arg10 fullShare (outRows x15)
        ∗ owns (c : Thread nD τ) arg14 fullShare x14 ∗ owns (c : Thread nD τ) arg15 fullShare x15) -∗ Q ⟨⟩))
    ⊢ wp frame (wpE (defs₀ (F := F)) 𝒱₀ (c : Thread nD τ) none) Set.univ (flush arg9 harg9 arg10 harg10 arg14 arg15) Q := by
  simp only [owns_eq_rep]
  iintro ⟨H9, H10, H14, H15, HQ⟩
  unfold flush
  sl_exec
  sl_step
  iapply HQ
  isplitl [H9]
  · iapply (pointsTo_rep_of_read (c : Thread nD τ) arg9 _ fullShare _ ?_) $$ H9
    refine (st_full _ _ _ _ _).trans ?_
    simp only [ld_unit, View.read_rep]
    rfl
  isplitl [H10]
  · iapply (pointsTo_rep_of_read (c : Thread nD τ) arg10 _ fullShare _ ?_) $$ H10
    refine (st_full _ _ _ _ _).trans ?_
    simp only [ld_unit, View.read_rep]
    rfl
  isplitl [H14]; · iexact H14
  · iexact H15

end Cert.KernelIdeal.CaBwd

end
-- ==== Proof.KI.Body.lean ====
/-
  The body of the backward kernel at one grid point: the state it carries in its scratch and in the bias gradient's
  block (`St`), the state after one block of 256 queries (`next`) and after a point's four (`after4`), the queries' gradient it
  leaves (`dqOf`), and the body's triple (`body_run`).
-/
module

public import proofs.«01_k».proof.Proof.KI.Triple

@[expose] public section

set_option maxRecDepth 16384

noncomputable section

namespace Cert.KernelIdeal.CaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body carries from block to block: the padded keys and values, and the sums for the bias, the keys and the values. -/
structure St (F : FTy → Type) where
  /-- the padded keys -/
  kp : Vec F S8704x128 .bf16
  /-- the padded values -/
  vp : Vec F S8704x128 .bf16
  /-- the bias gradient's block -/
  db : Vec F S2x256x768 .f32
  /-- the keys' gradient, padded -/
  ka : Vec F S8704x128 .f32
  /-- the values' gradient, padded -/
  va : Vec F S8704x128 .f32

/-- The state at the start of a pair of heads. -/
def ini (x3 x4 : Vec F S8192x128 .bf16) : St F := ⟨padded x3, padded x4, k0_pay10 (F := F), k0_pay8 (F := F), k0_pay9 (F := F)⟩

/-- The first column of a window that half-block `r` of block `u` lets through. -/
def lim (a : BitVec 32) (u : Fin 4) (r : Fin 2) : BitVec 32 :=
  Scalar.subi (Scalar.subi 512#32 (Scalar.muli (Scalar.addi (Scalar.muli a 4#32) (BitVec.ofNat 32 u.val)) 256#32)) (BitVec.ofNat 32 (128 * r.val))

/-- Where the window of half-block `r` of block `u` starts. -/
def off (i : grid0.Coords) (u : Fin 4) (r : Fin 2) : Fin 2 → ℕ := k0_off1 i (BitVec.ofNat 32 u.val) (BitVec.ofNat 32 (128 * r.val))

theorem off_inb (i : grid0.Coords) (u : Fin 4) (r : Fin 2) : ∀ a, off i u r a + S640x128.size a ≤ S8704x128.size a := k0_off1_inb i u r

/-- The rows of block `u`. -/
def rs (u : Fin 4) : Fin 2 → ℕ := ![256 * u.val, 0]

theorem rs_inb (u : Fin 4) : ∀ a, rs u a + S256x128.size a ≤ S1024x128.size a := by revert u; decide

/-- The first row of half-block `r` of block `u`. -/
def rd (u : Fin 4) (r : Fin 2) : Fin 2 → ℕ := ![256 * u.val + 128 * r.val, 0]

theorem rd_inb (u : Fin 4) (r : Fin 2) : ∀ a, rd u r a + S128x128.size a ≤ S1024x128.size a := by revert u r; decide

/-- The state after block `u`. -/
def next (i : grid0.Coords) (a : BitVec 32) (u : Fin 4) (x2 x5 x6 : Vec F S1024x128 .bf16) (x7 : Vec F S2x256x768 .f32) (s : St F) : St F where
  kp := s.kp
  vp := s.vp
  db := nDb s.db (D00 (lim a u 0) (off i u 0) (off_inb i u 0) (rs u) (rs_inb u) x2 x5 x6 x7 s.kp s.vp) (D01 (lim a u 0) (off i u 0) (off_inb i u 0) (rs u) (rs_inb u) x2 x5 x6 x7 s.kp s.vp)
      (D10 (lim a u 1) (off i u 1) (off_inb i u 1) (rs u) (rs_inb u) x2 x5 x6 x7 s.kp s.vp) (D11 (lim a u 1) (off i u 1) (off_inb i u 1) (rs u) (rs_inb u) x2 x5 x6 x7 s.kp s.vp)
  ka := addRows (addRows s.ka (off i u 0) (off_inb i u 0)
      (share (D00 (lim a u 0) (off i u 0) (off_inb i u 0) (rs u) (rs_inb u) x2 x5 x6 x7 s.kp s.vp) (D01 (lim a u 0) (off i u 0) (off_inb i u 0) (rs u) (rs_inb u) x2 x5 x6 x7 s.kp s.vp)
        (scaled lo (rows0 x2 (rs u) (rs_inb u))) (scaled hi (rows0 x2 (rs u) (rs_inb u))))) (off i u 1) (off_inb i u 1)
      (share (D10 (lim a u 1) (off i u 1) (off_inb i u 1) (rs u) (rs_inb u) x2 x5 x6 x7 s.kp s.vp) (D11 (lim a u 1) (off i u 1) (off_inb i u 1) (rs u) (rs_inb u) x2 x5 x6 x7 s.kp s.vp)
        (scaled lo (rows1 x2 (rs u) (rs_inb u))) (scaled hi (rows1 x2 (rs u) (rs_inb u))))
  va := addRows (addRows s.va (off i u 0) (off_inb i u 0)
      (share (P lo (lim a u 0) (rows0 x2 (rs u) (rs_inb u)) (keys s.kp (off i u 0) (off_inb i u 0)) (bias00 x7)) (P hi (lim a u 0) (rows0 x2 (rs u) (rs_inb u)) (keys s.kp (off i u 0) (off_inb i u 0)) (bias01 x7))
        (half lo (rows0 x6 (rs u) (rs_inb u))) (half hi (rows0 x6 (rs u) (rs_inb u))))) (off i u 1) (off_inb i u 1)
      (share (P lo (lim a u 1) (rows1 x2 (rs u) (rs_inb u)) (keys s.kp (off i u 1) (off_inb i u 1)) (bias10 x7)) (P hi (lim a u 1) (rows1 x2 (rs u) (rs_inb u)) (keys s.kp (off i u 1) (off_inb i u 1)) (bias11 x7))
        (half lo (rows1 x6 (rs u) (rs_inb u))) (half hi (rows1 x6 (rs u) (rs_inb u))))

/-- The queries' gradient after block `u`. -/
def nextDq (i : grid0.Coords) (a : BitVec 32) (u : Fin 4) (x2 x5 x6 : Vec F S1024x128 .bf16) (x7 : Vec F S2x256x768 .f32) (kp vp : Vec F S8704x128 .bf16) (x8 : Vec F S1024x128 .bf16) : Vec F S1024x128 .bf16 :=
  nDq x8 (rd u 0) (rd u 1)
    (dq (D00 (lim a u 0) (off i u 0) (off_inb i u 0) (rs u) (rs_inb u) x2 x5 x6 x7 kp vp) (D01 (lim a u 0) (off i u 0) (off_inb i u 0) (rs u) (rs_inb u) x2 x5 x6 x7 kp vp) (keys kp (off i u 0) (off_inb i u 0)))
    (dq (D10 (lim a u 1) (off i u 1) (off_inb i u 1) (rs u) (rs_inb u) x2 x5 x6 x7 kp vp) (D11 (lim a u 1) (off i u 1) (off_inb i u 1) (rs u) (rs_inb u) x2 x5 x6 x7 kp vp) (keys kp (off i u 1) (off_inb i u 1)))

/-- The state held in the bias gradient's block and the four scratch buffers. -/
def holds (c : Dev nD) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) (s : St F) : sProp 𝕄 :=
  iprop(owns (c : Thread nD τ) arg12 fullShare s.kp ∗ owns (c : Thread nD τ) arg13 fullShare s.vp ∗ owns (c : Thread nD τ) arg11 fullShare s.db
    ∗ owns (c : Thread nD τ) arg14 fullShare s.ka ∗ owns (c : Thread nD τ) arg15 fullShare s.va)

variable (𝒱₀ : Variants)

/-- The stores of a block's two halves into the queries' gradient. -/
theorem stores_dq (arg8 : Memref sig .tc .vmem S1024x128 .bf16) (harg8 : arg8.IsWhole) (u : Fin 4) (r : Fin 2) :
    (arg8.access (Rect.unit (s := S1024x128) (rd u r) S128x128.size (rd_inb u r))).Stores Finset.univ := by
  match u, r with
  | 0, 0 => exact View.stores_vmem h_S128x128 (harg8.storeExact_slice rfl _ packedbf16_S1024x128_S128x128_0_0) (fun _ => rfl)
  | 0, 1 => exact View.stores_vmem h_S128x128 (harg8.storeExact_slice rfl _ packedbf16_S1024x128_S128x128_128_0) (fun _ => rfl)
  | 1, 0 => exact View.stores_vmem h_S128x128 (harg8.storeExact_slice rfl _ packedbf16_S1024x128_S128x128_256_0) (fun _ => rfl)
  | 1, 1 => exact View.stores_vmem h_S128x128 (harg8.storeExact_slice rfl _ packedbf16_S1024x128_S128x128_384_0) (fun _ => rfl)
  | 2, 0 => exact View.stores_vmem h_S128x128 (harg8.storeExact_slice rfl _ packedbf16_S1024x128_S128x128_512_0) (fun _ => rfl)
  | 2, 1 => exact View.stores_vmem h_S128x128 (harg8.storeExact_slice rfl _ packedbf16_S1024x128_S128x128_640_0) (fun _ => rfl)
  | 3, 0 => exact View.stores_vmem h_S128x128 (harg8.storeExact_slice rfl _ packedbf16_S1024x128_S128x128_768_0) (fun _ => rfl)
  | 3, 1 => exact View.stores_vmem h_S128x128 (harg8.storeExact_slice rfl _ packedbf16_S1024x128_S128x128_896_0) (fun _ => rfl)

/-- Block `u` of a point. -/
def block (u : Fin 4) (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) : Prog (TpuEff nD τ sig (Elt F) Λ₀ .tc) PUnit :=
  sub (lim a u 0) (lim a u 1) (off i u 0) (off i u 1) (off_inb i u 0) (off_inb i u 1) (rs u) (rd u 0) (rd u 1) (rs_inb u) (rd_inb u 0) (rd_inb u 1)
    arg2 arg5 arg6 arg7 arg8 arg11 arg12 arg13 arg14 arg15 (stores_dq arg8 harg8 u 0) (stores_dq arg8 harg8 u 1)

theorem sub0_eq (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    sub0 (F := F) i a arg2 arg5 arg6 arg7 arg8 harg8 arg11 arg12 arg13 arg14 arg15 = block 0 i a arg2 arg5 arg6 arg7 arg8 harg8 arg11 arg12 arg13 arg14 arg15 := rfl

theorem sub1_eq (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    sub1 (F := F) i a arg2 arg5 arg6 arg7 arg8 harg8 arg11 arg12 arg13 arg14 arg15 = block 1 i a arg2 arg5 arg6 arg7 arg8 harg8 arg11 arg12 arg13 arg14 arg15 := rfl

theorem sub2_eq (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    sub2 (F := F) i a arg2 arg5 arg6 arg7 arg8 harg8 arg11 arg12 arg13 arg14 arg15 = block 2 i a arg2 arg5 arg6 arg7 arg8 harg8 arg11 arg12 arg13 arg14 arg15 := rfl

theorem sub3_eq (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) :
    sub3 (F := F) i a arg2 arg5 arg6 arg7 arg8 harg8 arg11 arg12 arg13 arg14 arg15 = block 3 i a arg2 arg5 arg6 arg7 arg8 harg8 arg11 arg12 arg13 arg14 arg15 := rfl

/-- A block's triple. -/
theorem block_run (u : Fin 4) (c : Dev nD) (i : grid0.Coords) (a : BitVec 32) (arg2 : Memref sig .tc .vmem S1024x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (harg8 : arg8.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32)
    (x2 x5 x6 x8 : Vec F S1024x128 .bf16) (x7 : Vec F S2x256x768 .f32) (s : St F) (Q : PUnit → sProp 𝕄) :
    iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ holds c arg11 arg12 arg13 arg14 arg15 s
      ∗ (iprop(iprop(owns (c : Thread nD τ) arg2 fullShare x2 ∗ owns (c : Thread nD τ) arg5 fullShare x5 ∗ owns (c : Thread nD τ) arg6 fullShare x6 ∗ owns (c : Thread nD τ) arg7 fullShare x7) ∗ owns (c : Thread nD τ) arg8 fullShare (nextDq i a u x2 x5 x6 x7 s.kp s.vp x8) ∗ holds c arg11 arg12 arg13 arg14 arg15 (next i a u x2 x5 x6 x7 s)) -∗ Q ⟨⟩))
    ⊢ wp frame (wpE (defs₀ (F := F)) 𝒱₀ (c : Thread nD τ) none) Set.univ (block u i a arg2 arg5 arg6 arg7 arg8 harg8 arg11 arg12 arg13 arg14 arg15) Q := by
  have h := sub_run 𝒱₀ c (lim a u 0) (lim a u 1) (off i u 0) (off i u 1) (off_inb i u 0) (off_inb i u 1) (rs u) (rd u 0) (rd u 1) (rs_inb u) (rd_inb u 0) (rd_inb u 1)
    arg2 arg5 arg6 arg7 arg8 arg11 arg12 arg13 arg14 arg15
    (stores_dq arg8 harg8 u 0) (stores_dq arg8 harg8 u 1)
    fullShare fullShare fullShare fullShare x2 x5 x6 x8 x7 s.db s.kp s.vp s.ka s.va Q
  refine triple_restated h rfl ?_ fun _ => .rfl
  unfold holds
  iintro ⟨H2, H5, H6, H7, H8, ⟨H12, H13, H11, H14, H15⟩, HQ⟩
  isplitl [H2]; · iexact H2
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexact H15
  iintro ⟨H2, H5, H6, H7, H8, H11, H12, H13, H14, H15⟩
  iapply HQ
  isplitl [H2 H5 H6 H7]
  · isplitl [H2]; · iexact H2
    isplitl [H5]; · iexact H5
    isplitl [H6]; · iexact H6
    iexact H7
  isplitl [H8]; · iexact H8
  isplitl [H12]; · iexact H12
  isplitl [H13]; · iexact H13
  isplitl [H11]; · iexact H11
  isplitl [H14]; · iexact H14
  iexact H15

/-- The preparation's triple, taken or not. -/
theorem prepIf_run (c : Dev nD) (b : BitVec 1) (arg3 : Memref sig .tc .vmem S8192x128 .bf16) (arg4 : Memref sig .tc .vmem S8192x128 .bf16) (arg11 : Memref sig .tc .vmem S2x256x768 .f32) (arg12 : Memref sig .tc .vmem S8704x128 .bf16) (harg12 : arg12.IsWhole) (arg13 : Memref sig .tc .vmem S8704x128 .bf16) (harg13 : arg13.IsWhole) (arg14 : Memref sig .tc .vmem S8704x128 .f32) (arg15 : Memref sig .tc .vmem S8704x128 .f32)
    (x3 x4 : Vec F S8192x128 .bf16) (s : St F) (Q : PUnit → sProp 𝕄) :
    iprop(owns (c : Thread nD τ) arg3 fullShare x3 ∗ owns (c : Thread nD τ) arg4 fullShare x4 ∗ holds c arg11 arg12 arg13 arg14 arg15 s
      ∗ (iprop(owns (c : Thread nD τ) arg3 fullShare x3 ∗ owns (c : Thread nD τ) arg4 fullShare x4 ∗ holds c arg11 arg12 arg13 arg14 arg15 (if b = 1#1 then ini x3 x4 else s)) -∗ Q ⟨⟩))
    ⊢ wp frame (wpE (defs₀ (F := F)) 𝒱₀ (c : Thread nD τ) none) Set.univ (prepIf b arg3 arg4 arg11 arg12 harg12 arg13 harg13 arg14 arg15) Q := by
  unfold prepIf
  by_cases hb : b = 1#1
  · rw [dif_pos hb, if_pos hb]
    refine BIBase.Entails.trans ?_ (prep_run 𝒱₀ c arg3 arg4 arg11 arg12 harg12 arg13 harg13 arg14 arg15 fullShare fullShare x3 x4 s.db s.kp s.vp s.ka s.va Q)
    unfold holds
    iintro ⟨H3, H4, ⟨H12, H13, H11, H14, H15⟩, HQ⟩
    isplitl [H3]; · iexact H3
    isplitl [H4]; · iexact H4
    isplitl [H11]; · iexact H11
    isplitl [H12]; · iexact H12
    isplitl [H13]; · iexact H13
    isplitl [H14]; · iexact H14
    isplitl [H15]; · iexact H15
    iintro ⟨H3, H4, H11, H12, H13, H14, H15⟩
    iapply HQ
    isplitl [H3]; · iexact H3
    isplitl [H4]; · iexact H4
    isplitl [H12]; · iexact H12
    isplitl [H13]; · iexact H13
    isplitl [H11]; · iexact H11
    isplitl [H14]; · iexact H14
    iexact H15
  · rw [dif_neg hb, if_neg hb]
    iintro ⟨H3, H4, Hs, HQ⟩
    sl_step
    iapply HQ
    isplitl [H3]; · iexact H3
    isplitl [H4]; · iexact H4
    iexact Hs

/-- The copy out's triple, taken or not. -/
theorem flushIf_run (c : Dev nD) (b : BitVec 1) (arg9 : Memref sig .tc .vmem S8192x128 .bf16) (harg9 : arg9.IsWhole) (arg10 : Memref sig .tc .vmem S8192x128 .bf16) (harg10 : arg10.IsWhole) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32)
    (x9 x10 : Vec F S8192x128 .bf16) (s : St F) (Q : PUnit → sProp 𝕄) :
    iprop(owns (c : Thread nD τ) arg9 fullShare x9 ∗ owns (c : Thread nD τ) arg10 fullShare x10 ∗ holds c arg11 arg12 arg13 arg14 arg15 s
      ∗ (iprop(owns (c : Thread nD τ) arg9 fullShare (if b = 1#1 then outRows s.ka else x9) ∗ owns (c : Thread nD τ) arg10 fullShare (if b = 1#1 then outRows s.va else x10) ∗ holds c arg11 arg12 arg13 arg14 arg15 s) -∗ Q ⟨⟩))
    ⊢ wp frame (wpE (defs₀ (F := F)) 𝒱₀ (c : Thread nD τ) none) Set.univ (flushIf b arg9 harg9 arg10 harg10 arg14 arg15) Q := by
  unfold flushIf
  by_cases hb : b = 1#1
  · rw [dif_pos hb, if_pos hb, if_pos hb]
    refine BIBase.Entails.trans ?_ (flush_run 𝒱₀ c arg9 harg9 arg10 harg10 arg14 arg15 x9 x10 s.ka s.va Q)
    unfold holds
    iintro ⟨H9, H10, ⟨H12, H13, H11, H14, H15⟩, HQ⟩
    isplitl [H9]; · iexact H9
    isplitl [H10]; · iexact H10
    isplitl [H14]; · iexact H14
    isplitl [H15]; · iexact H15
    iintro ⟨H9, H10, H14, H15⟩
    iapply HQ
    isplitl [H9]; · iexact H9
    isplitl [H10]; · iexact H10
    isplitl [H12]; · iexact H12
    isplitl [H13]; · iexact H13
    isplitl [H11]; · iexact H11
    isplitl [H14]; · iexact H14
    iexact H15
  · rw [dif_neg hb, if_neg hb, if_neg hb]
    iintro ⟨H9, H10, Hs, HQ⟩
    sl_step
    iapply HQ
    isplitl [H9]; · iexact H9
    isplitl [H10]; · iexact H10
    iexact Hs

/-- The word of a point's second coordinate. -/
abbrev wd (i : grid0.Coords) : BitVec 32 := BitVec.ofNat 32 (i 1).val

/-- The state after a point's four blocks. -/
def after4 (i : grid0.Coords) (x2 x5 x6 : Vec F S1024x128 .bf16) (x7 : Vec F S2x256x768 .f32) (s : St F) : St F :=
  next i (wd i) 3 x2 x5 x6 x7 (next i (wd i) 2 x2 x5 x6 x7 (next i (wd i) 1 x2 x5 x6 x7 (next i (wd i) 0 x2 x5 x6 x7 s)))

/-- The queries' gradient after a point's four blocks. -/
def after4Dq (i : grid0.Coords) (x2 x5 x6 : Vec F S1024x128 .bf16) (x7 : Vec F S2x256x768 .f32) (kp vp : Vec F S8704x128 .bf16) (x8 : Vec F S1024x128 .bf16) : Vec F S1024x128 .bf16 :=
  nextDq i (wd i) 3 x2 x5 x6 x7 kp vp (nextDq i (wd i) 2 x2 x5 x6 x7 kp vp (nextDq i (wd i) 1 x2 x5 x6 x7 kp vp (nextDq i (wd i) 0 x2 x5 x6 x7 kp vp x8)))

/-- Everything that the body holds. -/
def bag (c : Dev nD) (arg2 : Memref sig .tc .vmem S1024x128 .bf16) (arg3 : Memref sig .tc .vmem S8192x128 .bf16) (arg4 : Memref sig .tc .vmem S8192x128 .bf16) (arg5 : Memref sig .tc .vmem S1024x128 .bf16) (arg6 : Memref sig .tc .vmem S1024x128 .bf16) (arg7 : Memref sig .tc .vmem S2x256x768 .f32) (arg8 : Memref sig .tc .vmem S1024x128 .bf16) (arg9 : Memref sig .tc .vmem S8192x128 .bf16) (arg10 : Memref sig .tc .vmem S8192x128 .bf16) (arg11 : Memref sig .tc .vmem S2x256x768 .f32) (arg12 : Memref sig .tc .vmem S8704x128 .bf16) (arg13 : Memref sig .tc .vmem S8704x128 .bf16) (arg14 : Memref sig .tc .vmem S8704x128 .f32) (arg15 : Memref sig .tc .vmem S8704x128 .f32) (x2 : Vec F S1024x128 .bf16) (x3 x4 : Vec F S8192x128 .bf16) (x5 x6 : Vec F S1024x128 .bf16) (x7 : Vec F S2x256x768 .f32)
    (x8 : Vec F S1024x128 .bf16) (x9 x10 : Vec F S8192x128 .bf16) (s : St F) : sProp 𝕄 :=
  iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare x8 ∗ owns (c : Thread nD τ) arg9 fullShare x9 ∗ owns (c : Thread nD τ) arg10 fullShare x10 ∗ holds c arg11 arg12 arg13 arg14 arg15 s)

/-- The triple of a block with its preparation and its copy out, each taken or not. -/
theorem step_run (u : Fin 4) (b b' : BitVec 1) (c : Dev nD) (i : grid0.Coords) (a : BitVec 32) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole)
    (x2 x5 x6 x8 : Vec F S1024x128 .bf16) (x7 : Vec F S2x256x768 .f32) (x3 x4 x9 x10 : Vec F S8192x128 .bf16) (s s' : St F) (hs' : s' = if b = 1#1 then ini x3 x4 else s) (Q : PUnit → sProp 𝕄) :
    iprop(bag c arg2 arg3 arg4 arg5 arg6 arg7 arg8 arg9 arg10 arg11 arg12 arg13 arg14 arg15 x2 x3 x4 x5 x6 x7 x8 x9 x10 s
      ∗ (bag c arg2 arg3 arg4 arg5 arg6 arg7 arg8 arg9 arg10 arg11 arg12 arg13 arg14 arg15 x2 x3 x4 x5 x6 x7 (nextDq i a u x2 x5 x6 x7 s'.kp s'.vp x8) (if b' = 1#1 then outRows (next i a u x2 x5 x6 x7 s').ka else x9)
          (if b' = 1#1 then outRows (next i a u x2 x5 x6 x7 s').va else x10) (next i a u x2 x5 x6 x7 s') -∗ Q ⟨⟩))
    ⊢ wp frame (wpE (defs₀ (F := F)) 𝒱₀ (c : Thread nD τ) none) Set.univ (prepIf b arg3 arg4 arg11 arg12 harg12 arg13 harg13 arg14 arg15) fun (_ : PUnit) =>
        wp frame (wpE (defs₀ (F := F)) 𝒱₀ (c : Thread nD τ) none) Set.univ (block u i a arg2 arg5 arg6 arg7 arg8 harg8 arg11 arg12 arg13 arg14 arg15) fun (_ : PUnit) =>
          wp frame (wpE (defs₀ (F := F)) 𝒱₀ (c : Thread nD τ) none) Set.univ (flushIf b' arg9 harg9 arg10 harg10 arg14 arg15) Q := by
  subst hs'
  unfold bag
  iintro ⟨⟨H2, H3, H4, H5, H6, H7, H8, H9, H10, Hs⟩, HQ⟩
  iapply (prepIf_run 𝒱₀ c _ arg3 arg4 arg11 arg12 harg12 arg13 harg13 arg14 arg15 x3 x4 _ _)
  isplitl [H3]; · iexact H3
  isplitl [H4]; · iexact H4
  isplitl [Hs]; · iexact Hs
  iintro ⟨H3, H4, Hs⟩
  iapply (block_run 𝒱₀ u c i _ arg2 arg5 arg6 arg7 arg8 harg8 arg11 arg12 arg13 arg14 arg15 x2 x5 x6 _ x7 _ _)
  isplitl [H2]; · iexact H2
  isplitl [H5]; · iexact H5
  isplitl [H6]; · iexact H6
  isplitl [H7]; · iexact H7
  isplitl [H8]; · iexact H8
  isplitl [Hs]; · iexact Hs
  iintro ⟨⟨H2, H5, H6, H7⟩, H8, Hs⟩
  iapply (flushIf_run 𝒱₀ c _ arg9 harg9 arg10 harg10 arg11 arg12 arg13 arg14 arg15 _ _ _ _)
  isplitl [H9]; · iexact H9
  isplitl [H10]; · iexact H10
  isplitl [Hs]; · iexact Hs
  iintro ⟨H9, H10, Hs⟩
  iapply HQ
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hs

/-- The body's triple at a point: the first six facts say that only its first block can be a pair's first, and only its last a pair's last. -/
theorem body_run (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S2x256x768 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S2x256x768 .f32) (harg11 : arg11.IsWhole) (arg12 : Memref sig .tc .vmem S8704x128 .bf16) (harg12 : arg12.IsWhole) (arg13 : Memref sig .tc .vmem S8704x128 .bf16) (harg13 : arg13.IsWhole) (arg14 : Memref sig .tc .vmem S8704x128 .f32) (harg14 : arg14.IsWhole) (arg15 : Memref sig .tc .vmem S8704x128 .f32) (harg15 : arg15.IsWhole)
    (hf1 : first (wd i) 1#32 ≠ 1#1) (hf2 : first (wd i) 2#32 ≠ 1#1) (hf3 : first (wd i) 3#32 ≠ 1#1)
    (hl1 : k0_cond2 i ≠ 1#1) (hl2 : k0_cond4 i ≠ 1#1) (hl3 : k0_cond6 i ≠ 1#1)
    (x2 x5 x6 x8 : Vec F S1024x128 .bf16) (x7 : Vec F S2x256x768 .f32) (x3 x4 x9 x10 : Vec F S8192x128 .bf16) (s s' : St F) (hs' : s' = if first (wd i) 0#32 = 1#1 then ini x3 x4 else s) (Q : PUnit → sProp 𝕄) :
    iprop(bag c arg2 arg3 arg4 arg5 arg6 arg7 arg8 arg9 arg10 arg11 arg12 arg13 arg14 arg15 x2 x3 x4 x5 x6 x7 x8 x9 x10 s
      ∗ (bag c arg2 arg3 arg4 arg5 arg6 arg7 arg8 arg9 arg10 arg11 arg12 arg13 arg14 arg15 x2 x3 x4 x5 x6 x7 (after4Dq i x2 x5 x6 x7 s'.kp s'.vp x8)
          (if k0_cond8 i = 1#1 then outRows (after4 i x2 x5 x6 x7 s').ka else x9)
          (if k0_cond8 i = 1#1 then outRows (after4 i x2 x5 x6 x7 s').va else x10) (after4 i x2 x5 x6 x7 s') -∗ Q ⟨⟩))
    ⊢ wp frame (wpE (defs₀ (F := F)) 𝒱₀ (c : Thread nD τ) none) Set.univ (cc0_ca_bwd (F := F) i arg2 harg2 arg3 harg3 arg4 harg4 arg5 harg5 arg6 harg6 arg7 harg7 arg8 harg8 arg9 harg9 arg10 harg10 arg11 harg11 arg12 harg12 arg13 harg13 arg14 harg14 arg15 harg15) Q := by
  rw [body_eq]
  unfold body
  simp only [wp_bind, sub0_eq, sub1_eq, sub2_eq, sub3_eq]
  iintro ⟨H, HQ⟩
  iapply (step_run 𝒱₀ 0 _ _ c i _ arg2 harg2 arg3 harg3 arg4 harg4 arg5 harg5 arg6 harg6 arg7 harg7 arg8 harg8 arg9 harg9 arg10 harg10 arg11 harg11 arg12 harg12 arg13 harg13 arg14 harg14 arg15 harg15 x2 x5 x6 _ x7 x3 x4 _ _ _ _ hs' _)
  isplitl [H]; · iexact H
  iintro H
  rw [if_neg hl1, if_neg hl1]
  iapply (step_run 𝒱₀ 1 _ _ c i _ arg2 harg2 arg3 harg3 arg4 harg4 arg5 harg5 arg6 harg6 arg7 harg7 arg8 harg8 arg9 harg9 arg10 harg10 arg11 harg11 arg12 harg12 arg13 harg13 arg14 harg14 arg15 harg15 x2 x5 x6 _ x7 x3 x4 _ _ _ _ (if_neg hf1).symm _)
  isplitl [H]; · iexact H
  iintro H
  rw [if_neg hl2, if_neg hl2]
  iapply (step_run 𝒱₀ 2 _ _ c i _ arg2 harg2 arg3 harg3 arg4 harg4 arg5 harg5 arg6 harg6 arg7 harg7 arg8 harg8 arg9 harg9 arg10 harg10 arg11 harg11 arg12 harg12 arg13 harg13 arg14 harg14 arg15 harg15 x2 x5 x6 _ x7 x3 x4 _ _ _ _ (if_neg hf2).symm _)
  isplitl [H]; · iexact H
  iintro H
  rw [if_neg hl3, if_neg hl3]
  iapply (step_run 𝒱₀ 3 _ _ c i _ arg2 harg2 arg3 harg3 arg4 harg4 arg5 harg5 arg6 harg6 arg7 harg7 arg8 harg8 arg9 harg9 arg10 harg10 arg11 harg11 arg12 harg12 arg13 harg13 arg14 harg14 arg15 harg15 x2 x5 x6 _ x7 x3 x4 _ _ _ _ (if_neg hf3).symm _)
  isplitl [H]; · iexact H
  iintro H
  iapply HQ
  iexact H

/-- A window of rows [n, n + 128) put over two arrays that agree on the rows before `n` makes them agree on the rows before `n + 128`. -/
theorem put_agree (x x' : Vec F S1024x128 .bf16) (n : ℕ) (off : Fin 2 → ℕ) (ho : off = ![n, 0]) (e : Vec F S128x128 .bf16)
    (h : ∀ j : S1024x128.Idx, (j 0).val < n → x j = x' j) :
    ∀ j : S1024x128.Idx, (j 0).val < n + 128 → VecWindow.put x off S128x128.size e j = VecWindow.put x' off S128x128.size e j := by
  subst ho
  intro j hj
  unfold VecWindow.put
  by_cases hm : ∀ a, (![n, 0] : Fin 2 → ℕ) a ≤ (j a).val ∧ (j a).val < (![n, 0] : Fin 2 → ℕ) a + S128x128.size a
  · rw [dif_pos hm, dif_pos hm]
  · rw [dif_neg hm, dif_neg hm]
    refine h j ?_
    by_contra hc
    refine hm fun a => ?_
    have h1 : (j 1).val < 128 := (j 1).isLt
    match a with
    | ⟨0, _⟩ => exact ⟨by show n ≤ (j 0).val; omega, hj⟩
    | ⟨1, _⟩ => exact ⟨Nat.zero_le _, by show (j 1).val < 0 + 128; omega⟩

/-- A block's two halves, likewise. -/
theorem nextDq_agree (i : grid0.Coords) (a : BitVec 32) (u : Fin 4) (x2 x5 x6 : Vec F S1024x128 .bf16) (x7 : Vec F S2x256x768 .f32) (kp vp : Vec F S8704x128 .bf16) (x x' : Vec F S1024x128 .bf16)
    (h : ∀ j : S1024x128.Idx, (j 0).val < 256 * u.val → x j = x' j) :
    ∀ j : S1024x128.Idx, (j 0).val < 256 * u.val + 128 + 128 → nextDq i a u x2 x5 x6 x7 kp vp x j = nextDq i a u x2 x5 x6 x7 kp vp x' j :=
  put_agree _ _ (256 * u.val + 128) _ rfl _ (put_agree x x' (256 * u.val) _ rfl _ h)

/-- The queries' gradient does not depend on what the buffer held. -/
theorem after4Dq_indep (i : grid0.Coords) (x2 x5 x6 : Vec F S1024x128 .bf16) (x7 : Vec F S2x256x768 .f32) (kp vp : Vec F S8704x128 .bf16) (x x' : Vec F S1024x128 .bf16) :
    after4Dq i x2 x5 x6 x7 kp vp x = after4Dq i x2 x5 x6 x7 kp vp x' := by
  funext j
  have h0 := nextDq_agree i (wd i) 0 x2 x5 x6 x7 kp vp x x' (fun j hj => absurd hj (Nat.not_lt_zero _))
  have h1 := nextDq_agree i (wd i) 1 x2 x5 x6 x7 kp vp _ _ h0
  have h2 := nextDq_agree i (wd i) 2 x2 x5 x6 x7 kp vp _ _ h1
  exact nextDq_agree i (wd i) 3 x2 x5 x6 x7 kp vp _ _ h2 j (j 0).isLt

end Cert.KernelIdeal.CaBwd

end
-- ==== Proof.KI.Data.lean ====
/-
  The proof data of the backward call: what each buffer holds at each grid point, and the body's obligation there.
-/
module

public import proofs.«01_k».proof.Proof.KI.Body
public import proofs.«01_k».proof.Proof.Gen.KernelIdeal.Frame

@[expose] public section

set_option maxRecDepth 16384

noncomputable section

namespace Cert.KernelIdeal.CaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- Only a point's first block can be a pair's first. -/
theorem first_0 : ∀ t : Fin cfg0.N, first (wd (grid0.coords t)) 0#32 = 1#1 ↔ t.val % 8 = 0 := by decide +kernel
theorem first_1 : ∀ t : Fin cfg0.N, first (wd (grid0.coords t)) 1#32 ≠ 1#1 := by decide +kernel
theorem first_2 : ∀ t : Fin cfg0.N, first (wd (grid0.coords t)) 2#32 ≠ 1#1 := by decide +kernel
theorem first_3 : ∀ t : Fin cfg0.N, first (wd (grid0.coords t)) 3#32 ≠ 1#1 := by decide +kernel

/-- Only a point's last block can be a pair's last. -/
theorem last_0 : ∀ t : Fin cfg0.N, k0_cond2 (grid0.coords t) ≠ 1#1 := by decide +kernel
theorem last_1 : ∀ t : Fin cfg0.N, k0_cond4 (grid0.coords t) ≠ 1#1 := by decide +kernel
theorem last_2 : ∀ t : Fin cfg0.N, k0_cond6 (grid0.coords t) ≠ 1#1 := by decide +kernel
theorem last_3 : ∀ t : Fin cfg0.N, k0_cond8 (grid0.coords t) = 1#1 ↔ t.val % 8 = 7 := by decide +kernel

theorem idle_7 : ∀ t : Fin cfg0.N, idle0 7 (grid0.coords t) = !decide (t.val % 8 = 7) := by decide +kernel
theorem idle_8 : ∀ t : Fin cfg0.N, idle0 8 (grid0.coords t) = !decide (t.val % 8 = 7) := by decide +kernel

variable (m : (ℓ : Loc nD τ sig) → Buf (Elt F) ℓ) (c : Dev nD)

/-- The queries' block at a point. -/
def qB (t : Fin cfg0.N) : Vec F S1024x128 .bf16 := iblk m c 0 t
/-- The keys of the point's two heads. -/
def kB (t : Fin cfg0.N) : Vec F S8192x128 .bf16 := iblk m c 1 t
/-- The values of the point's two heads. -/
def vB (t : Fin cfg0.N) : Vec F S8192x128 .bf16 := iblk m c 2 t
/-- The output's block at a point. -/
def oB (t : Fin cfg0.N) : Vec F S1024x128 .bf16 := iblk m c 3 t
/-- The cotangent's block at a point. -/
def gB (t : Fin cfg0.N) : Vec F S1024x128 .bf16 := iblk m c 4 t
/-- The two heads' bias lines. -/
def tB (t : Fin cfg0.N) : Vec F S2x256x768 .f32 := iblk m c 5 t

/-- A point's four blocks, from a state. -/
def pt (t : Fin cfg0.N) (s : St F) : St F := after4 (grid0.coords t) (qB m c t) (oB m c t) (gB m c t) (tB m c t) s

/-- The state after point `n`. -/
def aft : (n : ℕ) → n < cfg0.N → St F
  | 0, h => pt m c ⟨0, h⟩ (ini (kB m c ⟨0, h⟩) (vB m c ⟨0, h⟩))
  | n + 1, h => pt m c ⟨n + 1, h⟩ (if (n + 1) % 8 = 0 then ini (kB m c ⟨n + 1, h⟩) (vB m c ⟨n + 1, h⟩) else aft n (Nat.lt_of_succ_lt h))

/-- The state with which point `t`'s first block starts. -/
def entry (t : Fin cfg0.N) : St F :=
  if t.val % 8 = 0 then ini (kB m c t) (vB m c t) else aft m c (t.val - 1) (Nat.lt_of_le_of_lt (Nat.sub_le _ _) t.isLt)

theorem aft_eq (t : Fin cfg0.N) : aft m c t.val t.isLt = pt m c t (entry m c t) := by
  obtain ⟨n, h⟩ := t
  cases n with
  | zero => rfl
  | succ n => rfl

/-- The queries' gradient that a point leaves. -/
def dqB (t : Fin cfg0.N) : Vec F S1024x128 .bf16 :=
  after4Dq (grid0.coords t) (qB m c t) (oB m c t) (gB m c t) (tB m c t) (entry m c t).kp (entry m c t).vp (fun _ => (Scalar.ofBits .bf16 0x0000#16 : F .bf16))

/-- The four scratch buffers at a state. -/
def scr (s : St F) : sProp 𝕄 :=
  iprop(owns (c : Thread nD τ) (Memref.whole cc0_scratch0) fullShare s.kp ∗ owns (c : Thread nD τ) (Memref.whole cc0_scratch1) fullShare s.vp
    ∗ owns (c : Thread nD τ) (Memref.whole cc0_scratch2) fullShare s.ka ∗ owns (c : Thread nD τ) (Memref.whole cc0_scratch3) fullShare s.va
    ∗ ∃ r, prngReg c r)

/-- What is held between points `n - 1` and `n`. -/
def inv (n : ℕ) (h : n ≤ cfg0.N) : sProp 𝕄 :=
  if h0 : n % 8 = 0 then Pipeline.ΦA spec0 c
  else scr c (aft m c (n - 1) (Nat.lt_of_lt_of_le (Nat.sub_lt (Nat.pos_of_ne_zero fun e => h0 (by rw [e])) Nat.one_pos) h))

/-- What window `w`'s buffer holds when the body has run at point `t`. -/
def leaves : (w : Fin cfg0.W) → (t : Fin cfg0.N) → (cfg0.win w).block.Idx → Elt F (cfg0.win w).elt
  | 0, t => iblk m c 0 t
  | 1, t => iblk m c 1 t
  | 2, t => iblk m c 2 t
  | 3, t => iblk m c 3 t
  | 4, t => iblk m c 4 t
  | 5, t => iblk m c 5 t
  | 6, t => dqB m c t
  | 7, t => outRows (aft m c t.val t.isLt).ka
  | 8, t => outRows (aft m c t.val t.isLt).va
  | 9, t => (aft m c t.val t.isLt).db

/-- The call's proof data. -/
def dats (p : Fin 1) (c : Dev nD) : Dat τ (Elt F) Unit ℕ (UR sig nD τ) ℕ (cfgs p) c :=
  match p with
  | 0 =>
    { A := fun w => V m c (Pipeline.arrRef spec0 w)
      after := leaves m c
      Φ := fun t => inv m c t.val (Nat.le_of_lt_succ t.isLt)
      q := fun w => Pipeline.shareOf spec0 w
      owed := fun _ => 0 }

variable (𝒱₀ : Variants)

/-- The defining program's row at point `t` is the body there. -/
theorem defs₀_row (t : Fin cfg0.N) : defs₀ (F := F) .tc cfg0.body (cfg0.bodyArgs t (cfg0.slots t)) = bodyAt0 t := by
  unfold defs₀
  rw [Defs.onTc_tc]

/-- Before point `t` the scratch and the bias gradient's buffer hold a state from which the point's entry follows. -/
theorem inv_open (t : Fin cfg0.N) (x9 : Vec F S2x256x768 .f32)
    (hx : ¬ t.val % 8 = 0 → x9 = (aft m c (t.val - 1) (Nat.lt_of_le_of_lt (Nat.sub_le _ _) t.isLt)).db)
    (arg11 : Memref sig .tc .vmem S2x256x768 .f32) :
    iprop(inv m c t.val (Nat.le_of_lt t.isLt) ∗ owns (c : Thread nD τ) arg11 fullShare x9)
    ⊢ iprop(∃ s : St F, ⌜entry m c t = if first (wd (grid0.coords t)) 0#32 = 1#1 then ini (kB m c t) (vB m c t) else s⌝
        ∗ holds c arg11 (Memref.whole cc0_scratch0) (Memref.whole cc0_scratch1) (Memref.whole cc0_scratch2) (Memref.whole cc0_scratch3) s ∗ ∃ r, prngReg c r) := by
  unfold inv holds
  by_cases h0 : t.val % 8 = 0
  · rw [dif_pos h0]
    unfold Pipeline.ΦA
    rw [scopedRest0_eq]
    iintro ⟨⟨⟨⟨%f0, H0⟩, ⟨%f1, H1⟩, ⟨%f2, H2⟩, ⟨%f3, H3⟩⟩, Hp⟩, H9⟩
    iexists (⟨f0, f1, x9, f2, f3⟩ : St F)
    isplitr [H0 H1 H2 H3 Hp H9]
    · ipureintro
      unfold entry
      rw [if_pos h0, if_pos ((first_0 t).2 h0)]
    simp only [owns_whole]
    isplitl [H0 H1 H2 H3 H9]
    · isplitl [H0]; · iexact H0
      isplitl [H1]; · iexact H1
      isplitl [H9]; · iexact H9
      isplitl [H2]; · iexact H2
      iexact H3
    · iexact Hp
  · rw [dif_neg h0, hx h0]
    unfold scr
    iintro ⟨⟨H0, H1, H2, H3, Hp⟩, H9⟩
    iexists (aft m c (t.val - 1) (Nat.lt_of_le_of_lt (Nat.sub_le _ _) t.isLt))
    isplitr [H0 H1 H2 H3 Hp H9]
    · ipureintro
      unfold entry
      rw [if_neg h0, if_neg (fun h => h0 ((first_0 t).1 h))]
    isplitl [H0 H1 H2 H3 H9]
    · isplitl [H0]; · iexact H0
      isplitl [H1]; · iexact H1
      isplitl [H9]; · iexact H9
      isplitl [H2]; · iexact H2
      iexact H3
    · iexact Hp

/-- After point `t` the scratch holds the next invariant, and the bias gradient's buffer its state. -/
theorem inv_close (t : Fin cfg0.N) (arg11 : Memref sig .tc .vmem S2x256x768 .f32) :
    iprop(holds c arg11 (Memref.whole cc0_scratch0) (Memref.whole cc0_scratch1) (Memref.whole cc0_scratch2) (Memref.whole cc0_scratch3) (aft m c t.val t.isLt) ∗ ∃ r, prngReg c r)
    ⊢ iprop(inv m c (t.val + 1) t.isLt ∗ owns (c : Thread nD τ) arg11 fullShare (aft m c t.val t.isLt).db) := by
  unfold inv holds
  by_cases h0 : (t.val + 1) % 8 = 0
  · rw [dif_pos h0]
    unfold Pipeline.ΦA
    rw [scopedRest0_eq]
    simp only [owns_whole]
    iintro ⟨⟨H0, H1, H9, H2, H3⟩, Hp⟩
    isplitr [H9]
    · isplitl [H0 H1 H2 H3]
      · isplitl [H0]; · iexists _; iexact H0
        isplitl [H1]; · iexists _; iexact H1
        isplitl [H2]; · iexists _; iexact H2
        iexists _; iexact H3
      · iexact Hp
    · iexact H9
  · rw [dif_neg h0]
    unfold scr
    iintro ⟨⟨H0, H1, H9, H2, H3⟩, Hp⟩
    isplitr [H9]
    · isplitl [H0]; · iexact H0
      isplitl [H1]; · iexact H1
      isplitl [H2]; · iexact H2
      isplitl [H3]; · iexact H3
      iexact Hp
    · iexact H9

/-- The bias gradient's buffer before point `t`, past a pair's first. -/
theorem before_9 (t : Fin cfg0.N) (d) (h0 : ¬ t.val % 8 = 0) :
    (dats m 0 c).before 9 t d = (aft m c (t.val - 1) (Nat.lt_of_le_of_lt (Nat.sub_le _ _) t.isLt)).db :=
  (dats m 0 c).before_out_kept 9 rfl t (fun h => h0 (by rw [h]))
    (by rw [← Bool.not_eq_true]; intro h; have := (flush0_9 _).1 h; simp only at this; omega) (fun _ => rfl) (fun _ _ => rfl) d

end Cert.KernelIdeal.CaBwd

end
-- ==== Proof.KI.Oblig.lean ====
/-
  The proof data of the backward call: what each buffer holds at each grid point, and the body's obligation there.
-/
module

public import proofs.«01_k».proof.Proof.KI.Body
public import proofs.«01_k».proof.Proof.KI.Data

@[expose] public section

set_option maxRecDepth 16384

noncomputable section

namespace Cert.KernelIdeal.CaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (c : Dev nD) (𝒱₀ : Variants)

theorem opens_0 (t : Fin cfg0.N) : iprop(∃ d, owns (c : Thread nD τ) (st0_0 t) fullShare ((dats m 0 c).before 0 t d)) ⊢ (owns (c : Thread nD τ) (st0_0 t) fullShare (iblk m c 0 t) : sProp 𝕄) := by
  iintro ⟨%d, H⟩
  rw [before0_0_of m (dats m 0 c) rfl (fun _ => rfl) t d]
  iexact H

theorem opens_1 (t : Fin cfg0.N) : iprop(∃ d, owns (c : Thread nD τ) (st0_1 t) fullShare ((dats m 0 c).before 1 t d)) ⊢ (owns (c : Thread nD τ) (st0_1 t) fullShare (iblk m c 1 t) : sProp 𝕄) := by
  iintro ⟨%d, H⟩
  rw [before0_1_of m (dats m 0 c) rfl (fun _ => rfl) t d]
  iexact H

theorem opens_2 (t : Fin cfg0.N) : iprop(∃ d, owns (c : Thread nD τ) (st0_2 t) fullShare ((dats m 0 c).before 2 t d)) ⊢ (owns (c : Thread nD τ) (st0_2 t) fullShare (iblk m c 2 t) : sProp 𝕄) := by
  iintro ⟨%d, H⟩
  rw [before0_2_of m (dats m 0 c) rfl (fun _ => rfl) t d]
  iexact H

theorem opens_3 (t : Fin cfg0.N) : iprop(∃ d, owns (c : Thread nD τ) (st0_3 t) fullShare ((dats m 0 c).before 3 t d)) ⊢ (owns (c : Thread nD τ) (st0_3 t) fullShare (iblk m c 3 t) : sProp 𝕄) := by
  iintro ⟨%d, H⟩
  rw [before0_3_of m (dats m 0 c) rfl (fun _ => rfl) t d]
  iexact H

theorem opens_4 (t : Fin cfg0.N) : iprop(∃ d, owns (c : Thread nD τ) (st0_4 t) fullShare ((dats m 0 c).before 4 t d)) ⊢ (owns (c : Thread nD τ) (st0_4 t) fullShare (iblk m c 4 t) : sProp 𝕄) := by
  iintro ⟨%d, H⟩
  rw [before0_4_of m (dats m 0 c) rfl (fun _ => rfl) t d]
  iexact H

theorem opens_5 (t : Fin cfg0.N) : iprop(∃ d, owns (c : Thread nD τ) (st0_5 t) fullShare ((dats m 0 c).before 5 t d)) ⊢ (owns (c : Thread nD τ) (st0_5 t) fullShare (iblk m c 5 t) : sProp 𝕄) := by
  iintro ⟨%d, H⟩
  rw [before0_5_of m (dats m 0 c) rfl (fun _ => rfl) t d]
  iexact H

/-- The bias gradient's buffer before point `t`. -/
theorem opens_9 (t : Fin cfg0.N) : iprop(∃ d, owns (c : Thread nD τ) (st0_9 t) fullShare ((dats m 0 c).before 9 t d))
    ⊢ (iprop(∃ x : Vec F S2x256x768 .f32, ⌜¬ t.val % 8 = 0 → x = (aft m c (t.val - 1) (Nat.lt_of_le_of_lt (Nat.sub_le _ _) t.isLt)).db⌝ ∗ owns (c : Thread nD τ) (st0_9 t) fullShare x) : sProp 𝕄) := by
  iintro ⟨%d, H⟩
  iexists ((dats m 0 c).before 9 t d : Vec F S2x256x768 .f32)
  isplitr [H]
  · ipureintro
    exact fun h0 => before_9 m c t d h0
  · iexact H

theorem if_last {α : Type} (t : Fin cfg0.N) (x y : α) : (if k0_cond8 (grid0.coords t) = 1#1 then x else y) = if t.val % 8 = 7 then x else y :=
  if_congr (last_3 t) rfl rfl

/-- The body at point `t`, from what the windows' buffers and the scratch hold. -/
theorem point_run (t : Fin cfg0.N) (x6 : Vec F S1024x128 .bf16) (x7 x8 : Vec F S8192x128 .bf16) (x9 : Vec F S2x256x768 .f32)
    (hx : ¬ t.val % 8 = 0 → x9 = (aft m c (t.val - 1) (Nat.lt_of_le_of_lt (Nat.sub_le _ _) t.isLt)).db) (Q : PUnit → sProp 𝕄) :
    iprop(inv m c t.val (Nat.le_of_lt t.isLt) ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare x6 ∗ owns (c : Thread nD τ) (st0_7 t) fullShare x7 ∗ owns (c : Thread nD τ) (st0_8 t) fullShare x8 ∗ owns (c : Thread nD τ) (st0_9 t) fullShare x9
      ∗ (iprop(inv m c (t.val + 1) t.isLt ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (dqB m c t)
        ∗ owns (c : Thread nD τ) (st0_7 t) fullShare (if t.val % 8 = 7 then outRows (aft m c t.val t.isLt).ka else x7)
        ∗ owns (c : Thread nD τ) (st0_8 t) fullShare (if t.val % 8 = 7 then outRows (aft m c t.val t.isLt).va else x8) ∗ owns (c : Thread nD τ) (st0_9 t) fullShare (aft m c t.val t.isLt).db) -∗ Q ⟨⟩))
    ⊢ wp frame (wpE (defs₀ (F := F)) 𝒱₀ (c : Thread nD τ) none) Set.univ (bodyAt0 t) Q := by
  iintro ⟨HΦ, H0, H1, H2, H3, H4, H5, H6, H7, H8, H9, HQ⟩
  ihave Hs := inv_open m c t x9 hx (st0_9 t) $$ [HΦ H9]
  · isplitl [HΦ]; · iexact HΦ
    iexact H9
  icases Hs with ⟨%s, %hs, Hs, Hp⟩
  iapply (body_run 𝒱₀ c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (first_1 t) (first_2 t) (first_3 t) (last_0 t) (last_1 t) (last_2 t)
    (qB m c t) (oB m c t) (gB m c t) x6 (tB m c t) (kB m c t) (vB m c t) x7 x8 s (entry m c t) hs Q)
  unfold bag
  isplitl [H0 H1 H2 H3 H4 H5 H6 H7 H8 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  iintro ⟨H0, H1, H2, H3, H4, H5, H6, H7, H8, Hs⟩
  ihave Hc := inv_close m c t (st0_9 t) $$ [Hs Hp]
  · isplitl [Hs]
    · rw [aft_eq]; iexact Hs
    · iexact Hp
  icases Hc with ⟨HΦ, H9⟩
  iapply HQ
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]
  · rw [show dqB m c t = _ from after4Dq_indep (grid0.coords t) (qB m c t) (oB m c t) (gB m c t) (tB m c t) (entry m c t).kp (entry m c t).vp _ x6]; iexact H6
  isplitl [H7]
  · rw [aft_eq, ← if_last t]; iexact H7
  isplitl [H8]
  · rw [aft_eq, ← if_last t]; iexact H8
  iexact H9

/-- The body's triple at a pair's last point. -/
theorem point_last (t : Fin cfg0.N) (h7 : t.val % 8 = 7) (O O' : sProp 𝕄) (hO : O ⊢ O') :
    iprop(inv m c t.val (Nat.le_of_lt t.isLt) ∗ O ∗ iprop(∃ d, owns (c : Thread nD τ) (st0_0 t) fullShare ((dats m 0 c).before 0 t d)) ∗ iprop(∃ d, owns (c : Thread nD τ) (st0_1 t) fullShare ((dats m 0 c).before 1 t d)) ∗ iprop(∃ d, owns (c : Thread nD τ) (st0_2 t) fullShare ((dats m 0 c).before 2 t d)) ∗ iprop(∃ d, owns (c : Thread nD τ) (st0_3 t) fullShare ((dats m 0 c).before 3 t d)) ∗ iprop(∃ d, owns (c : Thread nD τ) (st0_4 t) fullShare ((dats m 0 c).before 4 t d)) ∗ iprop(∃ d, owns (c : Thread nD τ) (st0_5 t) fullShare ((dats m 0 c).before 5 t d)) ∗ iprop(∃ d, owns (c : Thread nD τ) (st0_6 t) fullShare ((dats m 0 c).before 6 t d)) ∗ iprop(∃ d, owns (c : Thread nD τ) (st0_7 t) fullShare ((dats m 0 c).before 7 t d)) ∗ iprop(∃ d, owns (c : Thread nD τ) (st0_8 t) fullShare ((dats m 0 c).before 8 t d)) ∗ iprop(∃ d, owns (c : Thread nD τ) (st0_9 t) fullShare ((dats m 0 c).before 9 t d)))
    ⊢ wp frame (wpE (defs₀ (F := F)) 𝒱₀ (c : Thread nD τ) none) Set.univ (bodyAt0 t) fun _ =>
      iprop(inv m c (t.val + 1) t.isLt ∗ O' ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (dqB m c t) ∗ owns (c : Thread nD τ) (st0_7 t) fullShare (outRows (aft m c t.val t.isLt).ka) ∗ owns (c : Thread nD τ) (st0_8 t) fullShare (outRows (aft m c t.val t.isLt).va) ∗ owns (c : Thread nD τ) (st0_9 t) fullShare (aft m c t.val t.isLt).db) := by
  iintro ⟨HΦ, Ho, H0, H1, H2, H3, H4, H5, ⟨%d6, H6⟩, ⟨%d7, H7⟩, ⟨%d8, H8⟩, H9⟩
  ihave H9' := opens_9 m c t $$ [H9]
  · iexact H9
  icases H9' with ⟨%x9, %hx, H9⟩
  iapply (point_run m c 𝒱₀ t ((dats m 0 c).before 6 t d6) ((dats m 0 c).before 7 t d7) ((dats m 0 c).before 8 t d8) x9 hx _)
  isplitl [HΦ]; · iexact HΦ
  isplitl [H0]; · iapply (opens_0 m c t) $$ H0
  isplitl [H1]; · iapply (opens_1 m c t) $$ H1
  isplitl [H2]; · iapply (opens_2 m c t) $$ H2
  isplitl [H3]; · iapply (opens_3 m c t) $$ H3
  isplitl [H4]; · iapply (opens_4 m c t) $$ H4
  isplitl [H5]; · iapply (opens_5 m c t) $$ H5
  isplitl [H6]; · iexact H6
  isplitl [H7]; · iexact H7
  isplitl [H8]; · iexact H8
  isplitl [H9]; · iexact H9
  rw [if_pos h7, if_pos h7]
  iintro ⟨HΦ, H0, H1, H2, H3, H4, H5, H6, H7, H8, H9⟩
  isplitl [HΦ]; · iexact HΦ
  isplitl [Ho]; · iapply hO; iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's triple at every other point. -/
theorem point_mid (t : Fin cfg0.N) (h7 : ¬ t.val % 8 = 7) (O O' : sProp 𝕄) (hO : O ⊢ O') :
    iprop(inv m c t.val (Nat.le_of_lt t.isLt) ∗ O ∗ iprop(∃ d, owns (c : Thread nD τ) (st0_0 t) fullShare ((dats m 0 c).before 0 t d)) ∗ iprop(∃ d, owns (c : Thread nD τ) (st0_1 t) fullShare ((dats m 0 c).before 1 t d)) ∗ iprop(∃ d, owns (c : Thread nD τ) (st0_2 t) fullShare ((dats m 0 c).before 2 t d)) ∗ iprop(∃ d, owns (c : Thread nD τ) (st0_3 t) fullShare ((dats m 0 c).before 3 t d)) ∗ iprop(∃ d, owns (c : Thread nD τ) (st0_4 t) fullShare ((dats m 0 c).before 4 t d)) ∗ iprop(∃ d, owns (c : Thread nD τ) (st0_5 t) fullShare ((dats m 0 c).before 5 t d)) ∗ iprop(∃ d, owns (c : Thread nD τ) (st0_6 t) fullShare ((dats m 0 c).before 6 t d)) ∗ iprop(∃ d, owns (c : Thread nD τ) (st0_7 t) fullShare ((dats m 0 c).before 7 t d)) ∗ iprop(∃ d, owns (c : Thread nD τ) (st0_8 t) fullShare ((dats m 0 c).before 8 t d)) ∗ iprop(∃ d, owns (c : Thread nD τ) (st0_9 t) fullShare ((dats m 0 c).before 9 t d)))
    ⊢ wp frame (wpE (defs₀ (F := F)) 𝒱₀ (c : Thread nD τ) none) Set.univ (bodyAt0 t) fun _ =>
      iprop(inv m c (t.val + 1) t.isLt ∗ O' ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (dqB m c t) ∗ iprop(∃ d, owns (c : Thread nD τ) (st0_7 t) fullShare ((dats m 0 c).before 7 t d)) ∗ iprop(∃ d, owns (c : Thread nD τ) (st0_8 t) fullShare ((dats m 0 c).before 8 t d)) ∗ owns (c : Thread nD τ) (st0_9 t) fullShare (aft m c t.val t.isLt).db) := by
  iintro ⟨HΦ, Ho, H0, H1, H2, H3, H4, H5, ⟨%d6, H6⟩, ⟨%d7, H7⟩, ⟨%d8, H8⟩, H9⟩
  ihave H9' := opens_9 m c t $$ [H9]
  · iexact H9
  icases H9' with ⟨%x9, %hx, H9⟩
  iapply (point_run m c 𝒱₀ t ((dats m 0 c).before 6 t d6) ((dats m 0 c).before 7 t d7) ((dats m 0 c).before 8 t d8) x9 hx _)
  isplitl [HΦ]; · iexact HΦ
  isplitl [H0]; · iapply (opens_0 m c t) $$ H0
  isplitl [H1]; · iapply (opens_1 m c t) $$ H1
  isplitl [H2]; · iapply (opens_2 m c t) $$ H2
  isplitl [H3]; · iapply (opens_3 m c t) $$ H3
  isplitl [H4]; · iapply (opens_4 m c t) $$ H4
  isplitl [H5]; · iapply (opens_5 m c t) $$ H5
  isplitl [H6]; · iexact H6
  isplitl [H7]; · iexact H7
  isplitl [H8]; · iexact H8
  isplitl [H9]; · iexact H9
  rw [if_neg h7, if_neg h7]
  iintro ⟨HΦ, H0, H1, H2, H3, H4, H5, H6, H7, H8, H9⟩
  isplitl [HΦ]; · iexact HΦ
  isplitl [Ho]; · iapply hO; iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexact H9

end Cert.KernelIdeal.CaBwd

end
-- ==== Proof.KI.Oblig2.lean ====
/-
  The proof data of the backward call: what each buffer holds at each grid point, and the body's obligation there.
-/
module

public import proofs.«01_k».proof.Proof.KI.Body
public import proofs.«01_k».proof.Proof.KI.Oblig

@[expose] public section

set_option maxRecDepth 16384

noncomputable section

namespace Cert.KernelIdeal.CaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (c : Dev nD) (𝒱₀ : Variants)

theorem after_0 (t : Fin cfg0.N) : (dats m 0 c).after 0 t = iblk m c 0 t := rfl
theorem after_1 (t : Fin cfg0.N) : (dats m 0 c).after 1 t = iblk m c 1 t := rfl
theorem after_2 (t : Fin cfg0.N) : (dats m 0 c).after 2 t = iblk m c 2 t := rfl
theorem after_3 (t : Fin cfg0.N) : (dats m 0 c).after 3 t = iblk m c 3 t := rfl
theorem after_4 (t : Fin cfg0.N) : (dats m 0 c).after 4 t = iblk m c 4 t := rfl
theorem after_5 (t : Fin cfg0.N) : (dats m 0 c).after 5 t = iblk m c 5 t := rfl
theorem after_6 (t : Fin cfg0.N) : (dats m 0 c).after 6 t = dqB m c t := rfl
theorem after_7 (t : Fin cfg0.N) : (dats m 0 c).after 7 t = outRows (aft m c t.val t.isLt).ka := rfl
theorem after_8 (t : Fin cfg0.N) : (dats m 0 c).after 8 t = outRows (aft m c t.val t.isLt).va := rfl
theorem after_9 (t : Fin cfg0.N) : (dats m 0 c).after 9 t = (aft m c t.val t.isLt).db := rfl
theorem inv_at (t : Fin cfg0.N) : (dats m 0 c).Φ t.castSucc = inv m c t.val (Nat.le_of_lt t.isLt) := rfl
theorem inv_next (t : Fin cfg0.N) : (dats m 0 c).Φ t.succ = inv m c (t.val + 1) t.isLt := rfl
theorem owes_next (t : Fin cfg0.N) : (dats m 0 c).owesAt () t.castSucc = (dats m 0 c).owesAt () t.succ := rfl
/-- The body's obligation at every point. -/
theorem body_obligation : BodyObligationLoose (dats m 0 c) (defs₀ (F := F)) 𝒱₀ () Set.univ := by
  intro t
  rw [bigSep_W0, bigSep_W0, defs₀_row, inv_at, inv_next, owes_next, after_0, after_1, after_2, after_3, after_4, after_5, after_6, after_7, after_8, after_9]
  by_cases h7 : t.val % 8 = 7
  · have i7 : (cfgs 0).idle 7 ((cfgs 0).grid.coords t) = false := (idle_7 t).trans (by simp [h7])
    rw [i7]
    exact triple_restated (point_last m c 𝒱₀ t h7 _ _ .rfl) rfl .rfl fun _ => .rfl
  · have i7 : (cfgs 0).idle 7 ((cfgs 0).grid.coords t) = true := (idle_7 t).trans (by simp [h7])
    have f7 : ((cfgs 0).win 7).flush t = false := by rw [← Bool.not_eq_true]; exact fun h => h7 ((flush0_7 t).1 h)
    have f8 : ((cfgs 0).win 8).flush t = false := by rw [← Bool.not_eq_true]; exact fun h => h7 ((flush0_8 t).1 h)
    rw [i7]
    simp only [f7, f8]
    exact triple_restated (point_mid m c 𝒱₀ t h7 _ _ .rfl) rfl .rfl fun _ => .rfl

end Cert.KernelIdeal.CaBwd

end
-- ==== Proof.KI.Run.lean ====
/-
  The run of the backward call: every window's array ends as the proof data say, and the semaphores at zero.
-/
module

public import proofs.«01_k».proof.Proof.KI.Body
public import proofs.«01_k».proof.Proof.KI.Oblig2

@[expose] public section

set_option maxRecDepth 16384

noncomputable section

namespace Cert.KernelIdeal.CaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem shared_q (c : Dev nD) (w : Fin cfg0.W) (h : (spec0 w).isOut = false) : (dats m 0 c).q w = Pipeline.shareOf spec0 w := rfl

theorem inv_first (c : Dev nD) : Pipeline.ΦA spec0 c ⊢ (dats m 0 c).Φ 0 := .rfl

theorem inv_last (c : Dev nD) : (dats m 0 c).Φ (Fin.last cfg0.N) ⊢ Pipeline.ΦA spec0 c := by
  have e : (dats m 0 c).Φ (Fin.last cfg0.N) = inv m c cfg0.N (Nat.le_refl _) := rfl
  rw [e, inv, dif_pos (by decide)]

/-- The run: each window's array ends at the folded contents, every other array at what the region found, the counters at zero. -/
theorem run : θ_run defs (onTc (τ := τ) (main (F := F))) (s₀ m ρ) (fun r => Pipeline.FramePost cfgs (dats m) 0 (V m) r ∧ r.2.sem = fun _ => 0) :=
  Pipeline.θ_run_frame_track_shared cfgs (dats m) 0 launch₀0 defs₀ Variants.none m ρ main
    (fun c => body_obligation m c _) (fun c w h => shared_q m c w h) (fun _ _ => rfl) (V m) (hmain m _) (fun _ _ => rfl)
    (inv_first m) (inv_last m) _ (fun _ h => h)

/-- The frame: the arguments are left unchanged and the counters at zero. -/
theorem frame_and : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 1).trans (((dats m 0 c).arrAt_in 1 rfl _).trans (V_main_arg0 m c)),
      ((h.1 c).1 2).trans (((dats m 0 c).arrAt_in 2 rfl _).trans (V_main_arg1 m c)),
      ((h.1 c).2 main_arg2 (Pipeline.mem_restRefs_of main_arg2 (by decide) (by decide))).trans (V_main_arg2 m c),
      ((h.1 c).1 4).trans (((dats m 0 c).arrAt_in 4 rfl _).trans (V_main_arg3 m c))⟩, h.2⟩) (run m ρ)

end Cert.KernelIdeal.CaBwd

end
-- ==== Proof.Frames.lean ====
/-
  The claims that are no value claims: the three programs' frames, and the named constant.
-/
module

public import proofs.«01_k».proof.Defs
public import proofs.«01_k».proof.Proof.KI.Run
public import proofs.«01_k».proof.Proof.K.Run
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's frame. -/
theorem frame_kernel : Cert.quiescent_Kernel := fun m g _ => Cert.Kernel.CaBwd.frame_and (F := Bits) m g

/-- The ideal kernel's frame. -/
theorem frame_ideal : Cert.quiescent_KernelIdeal := fun m g _ => Cert.KernelIdeal.CaBwd.frame_and (F := Ideal) m g

/-- The reference's frame: it has no semaphore. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The mask's constant is −∞ over the extended reals. -/
theorem preserves : Cert.preserves_Kernel_KernelIdeal := IdealRules.named_const.statement _ _ _ _ _ rfl

end Cert.Proof

end
-- ==== Proof.Value.Stages.lean ====
/-
  The reference's results, and the output and the bias lines the kernel's program computes before its call, as chains of
  named steps.
-/
module

public import proofs.«01_k».proof.Proof.Gen.ReferenceIdeal.Run
public import proofs.«01_k».proof.Proof.Gen.KernelIdeal.Frame
public import Idealize.ShloMosaic.Lib.Claim

@[expose] public section

set_option maxRecDepth 16384

noncomputable section

namespace Cert.ReferenceIdeal.Steps

open Cert.ReferenceIdeal Cert.ReferenceIdeal.Gen
open Idealize.ShloMosaic Idealize.ShloMosaic.TcCoe Idealize.SL.Sem

/-- A matrix of all heads side by side, head by head. -/
def heads (x : FVec Ideal S8192x1024 .f32) : FVec Ideal S16x8192x64 .f32 :=
  transpose S16x8192x64 [1, 0, 2] (shapeCast _ x shapeCasts_S8192x1024_S8192x16x64) transposes_S8192x16x64_S16x8192x64_1_0_2

/-- All heads side by side again, rounded. -/
def flat (x : FVec Ideal S16x8192x64 .f32) : FVec Ideal S8192x1024 .bf16 :=
  truncf .bf16 (shapeCast _ (transpose S8192x16x64 [1, 0, 2] x transposes_S16x8192x64_S8192x16x64_1_0_2) shapeCasts_S8192x16x64_S8192x1024) bitsLt_bf16_f32

/-- The queries. -/
def qh (x0 : FVec Ideal S8192x2048 .bf16) : FVec Ideal S16x8192x64 .f32 :=
  heads (extractStridedSlice S8192x1024 ![0, 0] (extf .f32 x0 bitsLt_bf16_f32) slices_S8192x2048_S8192x1024_0_0)

/-- The keys. -/
def kh (x0 : FVec Ideal S8192x2048 .bf16) : FVec Ideal S16x8192x64 .f32 :=
  heads (extractStridedSlice S8192x1024 ![0, 1024] (extf .f32 x0 bitsLt_bf16_f32) slices_S8192x2048_S8192x1024_0_1024)

/-- The values. -/
def vh (x1 : FVec Ideal S8192x3072 .bf16) : FVec Ideal S16x8192x64 .f32 :=
  heads (extractStridedSlice S8192x1024 ![0, 2048] (extf .f32 x1 bitsLt_bf16_f32) slices_S8192x3072_S8192x1024_0_2048)

/-- The output's cotangent. -/
def gh (x3 : FVec Ideal S8192x1024 .bf16) : FVec Ideal S16x8192x64 .f32 :=
  heads (extf .f32 x3 bitsLt_bf16_f32)

/-- One number everywhere. -/
def all2 (b : BitVec 32) : IVec S8192x8192 32 := broadcastInDim S8192x8192 ![] bcast_S_S8192x8192 (constantI S_ 32 b)

/-- The bias line of query and key. -/
def line : IVec S8192x8192 32 :=
  addi (minsi (all2 256#32) (maxsi (all2 4294967040#32) (subi (iotaInDim S8192x8192 32 0) (iotaInDim S8192x8192 32 1)))) (all2 256#32)

/-- The bias line, wrapped as an index. -/
def idx : IVec S8192x8192x1 32 :=
  broadcastInDim S8192x8192x1 ![0, 1] bcast_S8192x8192_S8192x8192x1_0_1 (select (cmpi .slt line (all2 0#32)) (addi line (all2 513#32)) line)

/-- By how many blocks the key lies behind the query. -/
def behind : IVec S8192x8192 32 :=
  subi (Host.divsi (iotaInDim S8192x8192 32 0) (all2 64#32)) (Host.divsi (iotaInDim S8192x8192 32 1) (all2 64#32))

/-- Whether the query sees the key. -/
def ok : IVec S16x8192x8192 1 :=
  broadcastInDim S16x8192x8192 ![0, 1, 2] bcast_S1x8192x8192_S16x8192x8192_0_1_2
    (broadcastInDim S1x8192x8192 ![1, 2] bcast_S8192x8192_S1x8192x8192_1_2 (andi (cmpi .sge behind (all2 0#32)) (cmpi .sle behind (all2 8#32))))

/-- One number everywhere. -/
def all3 (b : BitVec 32) : FVec Ideal S16x8192x8192 .f32 := broadcastInDim S16x8192x8192 ![] bcast_S_S16x8192x8192 (constant S_ .f32 b)

/-- The masked scores. -/
def sc (x0 : FVec Ideal S8192x2048 .bf16) (x2 : FVec Ideal S16x513 .f32) : FVec Ideal S16x8192x8192 .f32 :=
  select ok (addf (mulf (Host.dotGeneral dot_S16x8192x64_S16x8192x64_S16x8192x8192_2_2_1_1_0_0 none (qh x0) (kh x0)) (all3 0x3E000000#32))
    (Host.gather gather_S16x513_S8192x8192x1_S16x8192x8192_0_1_n_n_1_2_161 x2 idx)) (all3 0xFF800000#32)

/-- A row's number in one column. -/
def col1 (x : FVec Ideal S16x8192 .f32) : FVec Ideal S16x8192x1 .f32 := broadcastInDim S16x8192x1 ![0, 1] bcast_S16x8192_S16x8192x1_0_1 x

/-- One column's numbers along the rows. -/
def wide (x : FVec Ideal S16x8192x1 .f32) : FVec Ideal S16x8192x8192 .f32 := broadcastInDim S16x8192x8192 ![0, 1, 2] bcast_S16x8192x1_S16x8192x8192_0_1_2 x

/-- A row's sum. -/
def rsum (x : FVec Ideal S16x8192x8192 .f32) : FVec Ideal S16x8192 .f32 :=
  Host.reduceAdd x (constant S_ .f32 0x00000000#32) reducesTo_S16x8192x8192_S16x8192_d2 h_S_

/-- The exponentials of scores less their row's largest. -/
def ex (y : FVec Ideal S16x8192x8192 .f32) : FVec Ideal S16x8192x8192 .f32 :=
  Host.exp (subf y (wide (col1 (maximumf (broadcastInDim S16x8192 ![] bcast_S_S16x8192 (constant S_ .f32 0xFF800000#32))
    (Host.reduce FloatOps.maximumf y (constant S_ .f32 0xFF800000#32) reducesTo_S16x8192x8192_S16x8192_d2 h_S_)))))

/-- The weights. -/
def wt (y : FVec Ideal S16x8192x8192 .f32) : FVec Ideal S16x8192x8192 .f32 := Host.divf (ex y) (wide (col1 (rsum (ex y))))

/-- The attention's output. -/
def out (x0 : FVec Ideal S8192x2048 .bf16) (x1 : FVec Ideal S8192x3072 .bf16) (x2 : FVec Ideal S16x513 .f32) : FVec Ideal S8192x1024 .bf16 :=
  flat (Host.dotGeneral dot_S16x8192x8192_S16x8192x64_S16x8192x64_2_1_1_2_0_0 none (wt (sc x0 x2)) (vh x1))

/-- The cotangent's product with the values. -/
def dp (x1 : FVec Ideal S8192x3072 .bf16) (x3 : FVec Ideal S8192x1024 .bf16) : FVec Ideal S16x8192x8192 .f32 :=
  Host.dotGeneral dot_S16x8192x64_S16x8192x64_S16x8192x8192_2_2_1_1_0_0 none (gh x3) (vh x1)

/-- What the quotient's divisor takes off a row. -/
def off (e d : FVec Ideal S16x8192x8192 .f32) : FVec Ideal S16x8192 .f32 :=
  Host.reduceAdd (Host.negf (shapeCast S16x8192x1
    (rsum (mulf (mulf d (wide (Host.divf (broadcastInDim S16x8192x1 ![] bcast_S_S16x8192x1 (constant S_ .f32 0x3F800000#32)) (mulf (col1 (rsum e)) (col1 (rsum e)))))) e))
    shapeCasts_S16x8192_S16x8192x1)) (constant S_ .f32 0x00000000#32) reducesTo_S16x8192x1_S16x8192_d2 h_S_

/-- The scores' gradient, scaled. -/
def ds (e d : FVec Ideal S16x8192x8192 .f32) : FVec Ideal S16x8192x8192 .f32 :=
  mulf (select ok (mulf (addf (Host.divf d (wide (col1 (rsum e)))) (broadcastInDim S16x8192x8192 ![0, 1] bcast_S16x8192_S16x8192x8192_0_1 (off e d))) e) (all3 0x00000000#32))
    (all3 0x3E000000#32)

/-- The queries' gradient. -/
def dq (x0 : FVec Ideal S8192x2048 .bf16) (x1 : FVec Ideal S8192x3072 .bf16) (x2 : FVec Ideal S16x513 .f32) (x3 : FVec Ideal S8192x1024 .bf16) : FVec Ideal S8192x1024 .bf16 :=
  flat (Host.dotGeneral dot_S16x8192x8192_S16x8192x64_S16x8192x64_2_1_1_2_0_0 none (ds (ex (sc x0 x2)) (dp x1 x3)) (kh x0))

/-- The keys' gradient. -/
def dk (x0 : FVec Ideal S8192x2048 .bf16) (x1 : FVec Ideal S8192x3072 .bf16) (x2 : FVec Ideal S16x513 .f32) (x3 : FVec Ideal S8192x1024 .bf16) : FVec Ideal S8192x1024 .bf16 :=
  flat (Host.dotGeneral dot_S16x8192x8192_S16x8192x64_S16x8192x64_1_1_2_2_0_0 none (ds (ex (sc x0 x2)) (dp x1 x3)) (qh x0))

/-- The values' gradient. -/
def dv (x0 : FVec Ideal S8192x2048 .bf16) (x2 : FVec Ideal S16x513 .f32) (x3 : FVec Ideal S8192x1024 .bf16) : FVec Ideal S8192x1024 .bf16 :=
  flat (transpose S16x8192x64 [0, 2, 1] (Host.dotGeneral dot_S16x8192x64_S16x8192x8192_S16x64x8192_1_1_2_2_0_0 none (gh x3) (wt (sc x0 x2))) transposes_S16x64x8192_S16x8192x64_0_2_1)

variable (m : (ℓ : Loc nD τ sig) → Buf (Elt Ideal) ℓ) (c : Dev nD)

theorem out0_eq : Value.res_out0 m c = dq (m ((c.tc : Thread nD τ).loc main_arg0)) (m ((c.tc : Thread nD τ).loc main_arg1)) (m ((c.tc : Thread nD τ).loc main_arg2)) (m ((c.tc : Thread nD τ).loc main_arg3)) := rfl

theorem out1_eq : Value.res_out1 m c = dk (m ((c.tc : Thread nD τ).loc main_arg0)) (m ((c.tc : Thread nD τ).loc main_arg1)) (m ((c.tc : Thread nD τ).loc main_arg2)) (m ((c.tc : Thread nD τ).loc main_arg3)) := rfl

theorem out2_eq : Value.res_out2 m c = dv (m ((c.tc : Thread nD τ).loc main_arg0)) (m ((c.tc : Thread nD τ).loc main_arg2)) (m ((c.tc : Thread nD τ).loc main_arg3)) := rfl

end Cert.ReferenceIdeal.Steps
end
-- ==== Proof.Value.Host.lean ====
/-
  What the kernel's program holds before its call: the attention's output and the bias lines of a block of queries.
-/
module

public import proofs.«01_k».proof.Proof.Value.Stages
public import Idealize.ShloMosaic.Lib.StableHlo.RunRead
public import Idealize.ShloMosaic.Lib.StableHlo.RunClose

@[expose] public section

set_option maxRecDepth 16384

noncomputable section

namespace Cert.KernelIdeal.Steps

open Cert.KernelIdeal Cert.KernelIdeal.Gen
open Idealize.ShloMosaic Idealize.ShloMosaic.TcCoe Idealize.SL.Sem

/-- One number everywhere. -/
def all2 (b : BitVec 32) : IVec S256x768 32 := broadcastInDim S256x768 ![] bcast_S_S256x768 (constantI S_ 32 b)

/-- The bias line of a query of the block and a position of its window. -/
def line : IVec S256x768 32 :=
  addi (minsi (all2 256#32) (maxsi (all2 4294967040#32) (subi (addi (iotaInDim S256x768 32 0) (all2 512#32)) (iotaInDim S256x768 32 1)))) (all2 256#32)

/-- The bias line, wrapped as an index. -/
def idx : IVec S256x768x1 32 :=
  broadcastInDim S256x768x1 ![0, 1] bcast_S256x768_S256x768x1_0_1 (select (cmpi .slt line (all2 0#32)) (addi line (all2 513#32)) line)

/-- By how many blocks the position lies behind the query. -/
def behind : IVec S256x768 32 :=
  subi (addi (Host.divsi (iotaInDim S256x768 32 0) (all2 64#32)) (all2 8#32)) (Host.divsi (iotaInDim S256x768 32 1) (all2 64#32))

/-- The bias lines, masked. -/
def table (x2 : FVec Ideal S16x513 .f32) : FVec Ideal S16x256x768 .f32 :=
  select (broadcastInDim S16x256x768 ![0, 1, 2] bcast_S1x256x768_S16x256x768_0_1_2
    (broadcastInDim S1x256x768 ![1, 2] bcast_S256x768_S1x256x768_1_2 (andi (cmpi .sge behind (all2 0#32)) (cmpi .sle behind (all2 8#32)))))
    (Host.gather gather_S16x513_S256x768x1_S16x256x768_0_1_n_n_1_2_161 x2 idx)
    (broadcastInDim S16x256x768 ![] bcast_S_S16x256x768 (constant S_ .f32 0xFF800000#32))

variable (m : (ℓ : Loc nD τ sig) → Buf (Elt Ideal) ℓ) (c : Dev nD)

theorem table_eq : V m c main_v84 = table (m ((c : Thread nD τ).loc main_arg2)) := by
  show StableHlo.after (hostOps0 ++ (hostOps0_1 ++ (hostOps0_2 ++ (hostOps0_3 ++ (hostOps0_4 ++ (hostOps0_5 ++ (hostOps0_6 ++ (hostOps0_7 ++ [])))))))) (fun b => m (c, b)) (Proc.devRef .tc main_v84) = _
  after_reads_simp
  simp only [StableHlo.TRef.ofBuf_toBuf, id_eq, StableHlo.TRef.toBuf, StableHlo.TRef.ofBuf, StableHlo.dropContentsCast]
  rfl

theorem out_eq : V m c main_v55 = Cert.ReferenceIdeal.Steps.out (m ((c : Thread nD τ).loc main_arg0)) (m ((c : Thread nD τ).loc main_arg1)) (m ((c : Thread nD τ).loc main_arg2)) := by
  show StableHlo.after (hostOps0 ++ (hostOps0_1 ++ (hostOps0_2 ++ (hostOps0_3 ++ (hostOps0_4 ++ (hostOps0_5 ++ (hostOps0_6 ++ (hostOps0_7 ++ [])))))))) (fun b => m (c, b)) (Proc.devRef .tc main_v55) = _
  after_reads_simp
  simp only [StableHlo.TRef.ofBuf_toBuf, id_eq, StableHlo.TRef.toBuf, StableHlo.TRef.ofBuf, StableHlo.dropContentsCast]
  rfl

end Cert.KernelIdeal.Steps
end
-- ==== Proof.Value.Math.lean ====
/-
  The mathematics of the chunked attention's gradient, apart from any program: rows of scores that are real or −∞, their
  softmax, the gradient of a row, and windows of a padded axis. Positions of the padded axis are natural numbers: key
  `s` is at position `512 + s`, and the 512 positions before are empty.
-/
module

public import Idealize.ShloMosaic.PureOps.Ideal
public import Idealize.ShloMosaic.Lib.Pointwise

@[expose] public section

noncomputable section

namespace Cert.CaMath

open Idealize.ShloMosaic

/-- A sum of reals, read in the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The exponential of a difference that is real or −∞. -/
theorem exp_cases (y : EReal) (h : y ≠ ⊤) (r : ℝ) : (y = ⊥ ∧ Ideal.exp (y - (r : EReal)) = 0) ∨ (y ≠ ⊥ ∧ ∃ a : ℝ, 0 < a ∧ Ideal.exp (y - (r : EReal)) = (a : EReal)) := by
  induction y using EReal.rec with
  | bot => exact .inl ⟨rfl, by rw [show ((⊥ : EReal) - (r : EReal)) = ⊥ from rfl, Ideal.exp_bot]⟩
  | coe a => exact .inr ⟨EReal.coe_ne_bot a, _, Real.exp_pos (a - r), by rw [← EReal.coe_sub, Ideal.exp_coe]⟩
  | top => exact absurd rfl h

section Row
variable {ι : Type} [Fintype ι] (x : ι → EReal)

/-- The row's exponentials, less the row's maximum. -/
def ex (i : ι) : ℝ := (Ideal.exp (x i - Finset.univ.sup x)).toReal
/-- Their sum. -/
def tot : ℝ := ∑ i, ex x i
/-- The row's softmax. -/
def wt (i : ι) : ℝ := ex x i / tot x

variable {x} (hx : ∀ i, x i ≠ ⊤) (hi : ∃ i, x i ≠ ⊥)
include hx hi

theorem sup_real : ∃ r : ℝ, Finset.univ.sup x = (r : EReal) := by
  obtain ⟨i, hi⟩ := hi
  obtain ⟨j, _, hj⟩ := Finset.exists_mem_eq_sup Finset.univ ⟨i, Finset.mem_univ i⟩ x
  have h1 : Finset.univ.sup x ≠ ⊤ := by rw [hj]; exact hx j
  have h2 : Finset.univ.sup x ≠ ⊥ := fun h => hi (le_bot_iff.1 (h ▸ Finset.le_sup (f := x) (Finset.mem_univ i)))
  exact ⟨_, (EReal.coe_toReal h1 h2).symm⟩

theorem exp_eq (i : ι) : Ideal.exp (x i - Finset.univ.sup x) = ((ex x i : ℝ) : EReal) := by
  obtain ⟨r, hr⟩ := sup_real hx hi
  unfold ex
  rw [hr]
  rcases exp_cases (x i) (hx i) r with ⟨_, h⟩ | ⟨_, a, _, h⟩
  · rw [h, EReal.toReal_zero, EReal.coe_zero]
  · rw [h, EReal.toReal_coe]

theorem ex_nonneg (i : ι) : 0 ≤ ex x i := by
  obtain ⟨r, hr⟩ := sup_real hx hi
  unfold ex
  rw [hr]
  rcases exp_cases (x i) (hx i) r with ⟨_, h⟩ | ⟨_, a, ha, h⟩
  · rw [h, EReal.toReal_zero]
  · rw [h, EReal.toReal_coe]
    exact ha.le

theorem tot_pos : 0 < tot x := by
  obtain ⟨r, hr⟩ := sup_real hx hi
  obtain ⟨i, h⟩ := hi
  refine Finset.sum_pos' (fun j _ => ex_nonneg hx ⟨i, h⟩ j) ⟨i, Finset.mem_univ i, ?_⟩
  unfold ex
  rw [hr]
  rcases exp_cases (x i) (hx i) r with ⟨h', _⟩ | ⟨_, a, ha, h'⟩
  · exact absurd h' h
  · rw [h', EReal.toReal_coe]
    exact ha

theorem tot_eq : ∑ i, Ideal.exp (x i - Finset.univ.sup x) = ((tot x : ℝ) : EReal) := by
  unfold tot
  rw [coe_sum]
  exact Finset.sum_congr rfl fun i _ => exp_eq hx hi i

/-- The softmax as a product with the reciprocal of the sum. -/
theorem wt_mul (i : ι) : Ideal.exp (x i - Finset.univ.sup x) * Ideal.div 1 (∑ j, Ideal.exp (x j - Finset.univ.sup x)) = ((wt x i : ℝ) : EReal) := by
  rw [tot_eq hx hi, exp_eq hx hi, Ideal.div_coe (tot_pos hx hi).ne', one_mul, ← EReal.coe_mul]
  unfold wt
  rw [mul_one_div]

/-- The softmax as a quotient. -/
theorem wt_div (i : ι) : Ideal.div (Ideal.exp (x i - Finset.univ.sup x)) (∑ j, Ideal.exp (x j - Finset.univ.sup x)) = ((wt x i : ℝ) : EReal) := by
  rw [tot_eq hx hi, exp_eq hx hi, Ideal.div_coe (tot_pos hx hi).ne', ← EReal.coe_mul]
  unfold wt
  rw [mul_one_div]

/-- The gradient of a row as the derivative of a quotient. -/
theorem grad_div (p : ι → ℝ) (i : ι) :
    (Ideal.div (p i : EReal) (∑ j, Ideal.exp (x j - Finset.univ.sup x))
      + -(∑ j, (p j : EReal) * Ideal.div 1 ((∑ j, Ideal.exp (x j - Finset.univ.sup x)) * (∑ j, Ideal.exp (x j - Finset.univ.sup x)))
          * Ideal.exp (x j - Finset.univ.sup x)))
      * Ideal.exp (x i - Finset.univ.sup x) = ((wt x i * (p i - ∑ j, wt x j * p j) : ℝ) : EReal) := by
  have h0 := (tot_pos hx hi).ne'
  have h1 : tot x * tot x ≠ 0 := mul_ne_zero h0 h0
  have e : ∀ j, (p j : EReal) * Ideal.div 1 ((∑ j, Ideal.exp (x j - Finset.univ.sup x)) * (∑ j, Ideal.exp (x j - Finset.univ.sup x)))
          * Ideal.exp (x j - Finset.univ.sup x) = ((p j * (1 / (tot x * tot x)) * ex x j : ℝ) : EReal) := fun j => by
    rw [tot_eq hx hi, exp_eq hx hi, ← EReal.coe_mul, Ideal.div_coe h1, one_mul, ← EReal.coe_mul, ← EReal.coe_mul]
  rw [Finset.sum_congr rfl fun j _ => e j, ← coe_sum, tot_eq hx hi, exp_eq hx hi, Ideal.div_coe h0, ← EReal.coe_mul, ← EReal.coe_neg, ← EReal.coe_add, ← EReal.coe_mul]
  congr 1
  have s : ∑ j, p j * (1 / (tot x * tot x)) * ex x j = (∑ j, wt x j * p j) * (1 / tot x) := by
    rw [Finset.sum_mul]
    refine Finset.sum_congr rfl fun j _ => ?_
    unfold wt
    field_simp
  rw [s]
  unfold wt
  field_simp
  ring

end Row

section Window

/-- A sum over a window of 640 padded positions is the sum over all keys, where nothing is outside the window. -/
theorem sum_window {M : Type} [AddCommMonoid M] (u : ℕ) (hu : u < 64) (f : ℕ → M) (h : ∀ n, f n ≠ 0 → 512 ≤ n ∧ 128 * u ≤ n ∧ n < 128 * u + 640) :
    ∑ j : Fin 640, f (128 * u + j.val) = ∑ s : Fin 8192, f (512 + s.val) := by
  have a : ∑ j : Fin 640, f (128 * u + j.val) = ∑ n ∈ Finset.Ico (128 * u) (128 * u + 640), f n := by
    rw [Finset.sum_Ico_eq_sum_range, show 128 * u + 640 - 128 * u = 640 by omega, Finset.sum_range]
  have b : ∑ s : Fin 8192, f (512 + s.val) = ∑ n ∈ Finset.Ico 512 8704, f n := by
    rw [Finset.sum_Ico_eq_sum_range, show 8704 - 512 = 8192 by omega, Finset.sum_range]
  rw [a, b]
  classical
  have c : ∀ s : Finset ℕ, ∑ n ∈ s, f n = ∑ n ∈ s with f n ≠ 0, f n := fun s => (Finset.sum_filter_ne_zero s).symm
  rw [c, c (Finset.Ico 512 8704)]
  refine Finset.sum_congr (Finset.ext fun n => ?_) fun _ _ => rfl
  simp only [Finset.mem_filter, Finset.mem_Ico]
  constructor
  · rintro ⟨⟨h1, h2⟩, h3⟩
    have := h n h3
    exact ⟨⟨by omega, by omega⟩, h3⟩
  · rintro ⟨⟨h1, h2⟩, h3⟩
    have := h n h3
    exact ⟨⟨by omega, by omega⟩, h3⟩

/-- The same for a maximum. -/
theorem sup_window (u : ℕ) (hu : u < 64) (f : ℕ → EReal) (h : ∀ n, f n ≠ ⊥ → 512 ≤ n ∧ 128 * u ≤ n ∧ n < 128 * u + 640) :
    Finset.univ.sup (fun j : Fin 640 => f (128 * u + j.val)) = Finset.univ.sup (fun s : Fin 8192 => f (512 + s.val)) := by
  apply le_antisymm
  · refine Finset.sup_le fun j _ => ?_
    by_cases hb : f (128 * u + j.val) = ⊥
    · rw [hb]; exact bot_le
    · have := h _ hb
      have e : f (128 * u + j.val) = (fun s : Fin 8192 => f (512 + s.val)) ⟨128 * u + j.val - 512, by omega⟩ := by
        show _ = f (512 + (128 * u + j.val - 512))
        congr 1
        omega
      rw [e]
      exact Finset.le_sup (f := fun s : Fin 8192 => f (512 + s.val)) (Finset.mem_univ _)
  · refine Finset.sup_le fun s _ => ?_
    by_cases hb : f (512 + s.val) = ⊥
    · rw [hb]; exact bot_le
    · have := h _ hb
      have e : f (512 + s.val) = (fun j : Fin 640 => f (128 * u + j.val)) ⟨512 + s.val - 128 * u, by omega⟩ := by
        show _ = f (128 * u + (512 + s.val - 128 * u))
        congr 1
        omega
      rw [e]
      exact Finset.le_sup (f := fun j : Fin 640 => f (128 * u + j.val)) (Finset.mem_univ _)

/-- The softmax of a padded row of scores, at a padded position. -/
def padW (f : ℕ → EReal) (n : ℕ) : ℝ :=
  (Ideal.exp (f n - Finset.univ.sup fun s : Fin 8192 => f (512 + s.val))).toReal / tot fun s : Fin 8192 => f (512 + s.val)

theorem wt_whole (f : ℕ → EReal) (s : Fin 8192) : wt (fun s : Fin 8192 => f (512 + s.val)) s = padW f (512 + s.val) := rfl

theorem padW_zero (f : ℕ → EReal) (hx : ∀ n, f n ≠ ⊤) (hi : ∃ s : Fin 8192, f (512 + s.val) ≠ ⊥) {n : ℕ} (hn : f n = ⊥) : padW f n = 0 := by
  obtain ⟨r, hr⟩ := sup_real (x := fun s : Fin 8192 => f (512 + s.val)) (fun s => hx _) hi
  unfold padW
  rw [hr, hn, show ((⊥ : EReal) - (r : EReal)) = ⊥ from rfl, Ideal.exp_bot, EReal.toReal_zero, zero_div]

/-- A window's softmax is the whole row's. -/
theorem wt_window (u : ℕ) (hu : u < 64) (f : ℕ → EReal) (h : ∀ n, f n ≠ ⊥ → 512 ≤ n ∧ 128 * u ≤ n ∧ n < 128 * u + 640)
    (hx : ∀ n, f n ≠ ⊤) (hi : ∃ s : Fin 8192, f (512 + s.val) ≠ ⊥) (j : Fin 640) :
    wt (fun j : Fin 640 => f (128 * u + j.val)) j = padW f (128 * u + j.val) := by
  obtain ⟨r, hr⟩ := sup_real (x := fun s : Fin 8192 => f (512 + s.val)) (fun s => hx _) hi
  have e : tot (fun j : Fin 640 => f (128 * u + j.val)) = tot (fun s : Fin 8192 => f (512 + s.val)) := by
    unfold tot ex
    rw [sup_window u hu f h]
    refine sum_window u hu (fun n => (Ideal.exp (f n - Finset.univ.sup fun s : Fin 8192 => f (512 + s.val))).toReal) fun n hn => h n fun hb => hn ?_
    show (Ideal.exp (f n - _)).toReal = 0
    rw [hr, hb, show ((⊥ : EReal) - (r : EReal)) = ⊥ from rfl, Ideal.exp_bot, EReal.toReal_zero]
  unfold wt
  rw [e]
  unfold ex
  rw [sup_window u hu f h]
  rfl

/-- 64 half-blocks of 128 rows are all the rows. -/
theorem sum_rows {M : Type} [AddCommMonoid M] (f : ℕ → M) : ∑ u : Fin 64, ∑ i : Fin 128, f (128 * u.val + i.val) = ∑ t : Fin 8192, f t.val := by
  rw [← Fintype.sum_prod_type' (fun (u : Fin 64) (i : Fin 128) => f (128 * u.val + i.val))]
  refine Fintype.sum_equiv (finProdFinEquiv (m := 64) (n := 128)) _ _ fun p => ?_
  show f _ = f (p.2.val + 128 * p.1.val)
  rw [add_comm]

/-- A sum over the 128 lanes of what is zero outside one head's 64. -/
theorem sum_half {M : Type} [AddCommMonoid M] (r : Fin 2) (f : ℕ → M) :
    ∑ l : Fin 128, (if l.val / 64 = r.val then f l.val else 0) = ∑ d : Fin 64, f (64 * r.val + d.val) := by
  have e : ∑ l : Fin 128, (if l.val / 64 = r.val then f l.val else 0) = ∑ p : Fin 2 × Fin 64, (if p.1 = r then f (64 * p.1.val + p.2.val) else 0) := by
    refine (Fintype.sum_equiv (finProdFinEquiv (m := 2) (n := 64)) _ _ fun p => ?_).symm
    show _ = if (p.2.val + 64 * p.1.val) / 64 = r.val then f (p.2.val + 64 * p.1.val) else 0
    have hp := p.2.isLt
    have : (p.2.val + 64 * p.1.val) / 64 = p.1.val := by omega
    rw [this, add_comm p.2.val]
    simp only [Fin.ext_iff]
  rw [e, Fintype.sum_prod_type]
  rw [Finset.sum_eq_single r (fun a _ ha => Finset.sum_eq_zero fun d _ => if_neg ha) (fun h => absurd (Finset.mem_univ _) h)]
  exact Finset.sum_congr rfl fun d _ => if_pos rfl

end Window

/-! ### One head -/

/-- Which keys a query sees: those of its own chunk of 64 and of the eight chunks before. -/
def vis (t s : ℕ) : Prop := s / 64 ≤ t / 64 ∧ t / 64 ≤ s / 64 + 8

instance (t s : ℕ) : Decidable (vis t s) := by unfold vis; infer_instance

/-- The bias line of a distance. -/
def bin (d : ℤ) : ℕ := (max (-256) (min d 256) + 256).toNat

theorem bin_lt (d : ℤ) : bin d < 513 := by unfold bin; omega

/-- One head's data: queries, keys, values and the output's cotangent; keys and values at padded positions. -/
structure Head where
  /-- the queries -/
  q : ℕ → ℕ → ℝ
  /-- the keys, padded -/
  k : ℕ → ℕ → ℝ
  /-- the values, padded -/
  v : ℕ → ℕ → ℝ
  /-- the cotangent -/
  g : ℕ → ℕ → ℝ
  /-- the bias -/
  b : ℕ → ℝ

namespace Head
variable (H : Head)

/-- The scores of query `t` at padded positions. -/
def X (t n : ℕ) : EReal :=
  if 512 ≤ n ∧ n < 8704 ∧ vis t (n - 512) then (((∑ d : Fin 64, H.q t d.val * H.k n d.val) * (1 / 8) + H.b (bin ((t : ℤ) + 512 - n)) : ℝ) : EReal) else ⊥

theorem X_top (t n : ℕ) : H.X t n ≠ ⊤ := by
  unfold X
  split_ifs
  · exact EReal.coe_ne_top _
  · exact bot_ne_top

theorem X_window {t n : ℕ} (h : H.X t n ≠ ⊥) (u : ℕ) (ht : 128 * u ≤ t) (ht' : t < 128 * u + 128) : 512 ≤ n ∧ 128 * u ≤ n ∧ n < 128 * u + 640 := by
  unfold X at h
  split_ifs at h with hv
  · obtain ⟨h1, h2, h3, h4⟩ := hv
    omega
  · exact absurd rfl h

theorem X_self {t : ℕ} (ht : t < 8192) : ∃ s : Fin 8192, H.X t (512 + s.val) ≠ ⊥ := by
  refine ⟨⟨t, ht⟩, ?_⟩
  unfold X
  rw [if_pos]
  · exact EReal.coe_ne_bot _
  · refine ⟨by omega, by show 512 + t < 8704; omega, ?_⟩
    show vis t (512 + t - 512)
    unfold vis
    omega

/-- The weights. -/
def W (t n : ℕ) : ℝ := padW (H.X t) n

/-- The values' product with the cotangent. -/
def dP (t n : ℕ) : ℝ := ∑ d : Fin 64, H.g t d.val * H.v n d.val

/-- The attention's output. -/
def O (t d : ℕ) : ℝ := ∑ s : Fin 8192, H.W t (512 + s.val) * H.v (512 + s.val) d

/-- The output's product with its cotangent. -/
def del (t : ℕ) : ℝ := ∑ d : Fin 64, H.g t d.val * H.O t d.val

/-- The gradient of the scores. -/
def dS (t n : ℕ) : ℝ := H.W t n * (H.dP t n - H.del t)

/-- The queries' gradient. -/
def dQ (t d : ℕ) : ℝ := (∑ s : Fin 8192, H.dS t (512 + s.val) * H.k (512 + s.val) d) * (1 / 8)

/-- The keys' gradient. -/
def dK (s d : ℕ) : ℝ := ∑ t : Fin 8192, H.dS t.val (512 + s) * (H.q t.val d * (1 / 8))

/-- The values' gradient. -/
def dV (s d : ℕ) : ℝ := ∑ t : Fin 8192, H.W t.val (512 + s) * H.g t.val d

theorem del_eq (t : ℕ) : H.del t = ∑ s : Fin 8192, H.W t (512 + s.val) * H.dP t (512 + s.val) := by
  unfold del O dP
  simp only [Finset.mul_sum]
  rw [Finset.sum_comm]
  exact Finset.sum_congr rfl fun s _ => Finset.sum_congr rfl fun d _ => by ring

theorem W_zero {t n : ℕ} (ht : t < 8192) (h : H.X t n = ⊥) : H.W t n = 0 := padW_zero _ (H.X_top t) (H.X_self ht) h

theorem W_window {t n : ℕ} (ht8 : t < 8192) (h : H.W t n ≠ 0) (u : ℕ) (ht : 128 * u ≤ t) (ht' : t < 128 * u + 128) : 512 ≤ n ∧ 128 * u ≤ n ∧ n < 128 * u + 640 :=
  H.X_window (fun hb => h (H.W_zero ht8 hb)) u ht ht'

theorem dS_window {t n : ℕ} (ht8 : t < 8192) (h : H.dS t n ≠ 0) (u : ℕ) (ht : 128 * u ≤ t) (ht' : t < 128 * u + 128) : 512 ≤ n ∧ 128 * u ≤ n ∧ n < 128 * u + 640 :=
  H.W_window ht8 (fun hb => h (by unfold dS; rw [hb, zero_mul])) u ht ht'

/-- The queries' gradient over a window. -/
theorem dQ_window (u : Fin 64) (i : Fin 128) (d : ℕ) :
    (∑ j : Fin 640, H.dS (128 * u.val + i.val) (128 * u.val + j.val) * H.k (128 * u.val + j.val) d) * (1 / 8) = H.dQ (128 * u.val + i.val) d := by
  unfold dQ
  rw [sum_window u.val u.isLt (fun n => H.dS (128 * u.val + i.val) n * H.k n d) fun n hn => H.dS_window (t := 128 * u.val + i.val) (by omega) (fun h => hn (by rw [h, zero_mul])) u.val (by omega) (by omega)]

/-- The keys' gradient half-block by half-block: those whose window does not hold the key add nothing. -/
theorem dK_blocks (s d : ℕ) :
    (∑ u : Fin 64, if 128 * u.val ≤ 512 + s ∧ 512 + s < 128 * u.val + 640 then ∑ i : Fin 128, H.dS (128 * u.val + i.val) (512 + s) * (H.q (128 * u.val + i.val) d * (1 / 8)) else 0) = H.dK s d := by
  unfold dK
  rw [← sum_rows (fun t => H.dS t (512 + s) * (H.q t d * (1 / 8)))]
  refine Finset.sum_congr rfl fun u _ => ?_
  split_ifs with hc
  · rfl
  · refine (Finset.sum_eq_zero fun i _ => ?_).symm
    by_contra hne
    exact hc (H.dS_window (t := 128 * u.val + i.val) (by omega) (fun h => hne (by rw [h, zero_mul])) u.val (by omega) (by omega)).2

/-- The values' gradient half-block by half-block. -/
theorem dV_blocks (s d : ℕ) :
    (∑ u : Fin 64, if 128 * u.val ≤ 512 + s ∧ 512 + s < 128 * u.val + 640 then ∑ i : Fin 128, H.W (128 * u.val + i.val) (512 + s) * H.g (128 * u.val + i.val) d else 0) = H.dV s d := by
  unfold dV
  rw [← sum_rows (fun t => H.W t (512 + s) * H.g t d)]
  refine Finset.sum_congr rfl fun u _ => ?_
  split_ifs with hc
  · rfl
  · refine (Finset.sum_eq_zero fun i _ => ?_).symm
    by_contra hne
    exact hc (H.W_window (t := 128 * u.val + i.val) (by omega) (fun h => hne (by rw [h, zero_mul])) u.val (by omega) (by omega)).2

/-- The weights of a window, as the product with the reciprocal of the window's sum. -/
theorem W_mul (u : Fin 64) (i : Fin 128) (j : Fin 640) :
    Ideal.exp (H.X (128 * u.val + i.val) (128 * u.val + j.val) - Finset.univ.sup fun j : Fin 640 => H.X (128 * u.val + i.val) (128 * u.val + j.val))
      * Ideal.div 1 (∑ j : Fin 640, Ideal.exp (H.X (128 * u.val + i.val) (128 * u.val + j.val) - Finset.univ.sup fun j : Fin 640 => H.X (128 * u.val + i.val) (128 * u.val + j.val)))
      = ((H.W (128 * u.val + i.val) (128 * u.val + j.val) : ℝ) : EReal) := by
  have hw : ∀ n, H.X (128 * u.val + i.val) n ≠ ⊥ → 512 ≤ n ∧ 128 * u.val ≤ n ∧ n < 128 * u.val + 640 := fun n hn => H.X_window hn u.val (by omega) (by omega)
  obtain ⟨s, hs⟩ := H.X_self (t := 128 * u.val + i.val) (by omega)
  have hj := hw _ hs
  refine (wt_mul (x := fun j : Fin 640 => H.X (128 * u.val + i.val) (128 * u.val + j.val)) (fun _ => H.X_top _ _) ⟨⟨512 + s.val - 128 * u.val, by omega⟩, ?_⟩ j).trans ?_
  · show H.X _ (128 * u.val + (512 + s.val - 128 * u.val)) ≠ ⊥
    rw [show 128 * u.val + (512 + s.val - 128 * u.val) = 512 + s.val by omega]
    exact hs
  · rw [wt_window u.val u.isLt (H.X (128 * u.val + i.val)) hw (H.X_top _) (H.X_self (by omega))]
    rfl

/-- The weights of the whole row, as a quotient. -/
theorem W_div (t s : Fin 8192) :
    Ideal.div (Ideal.exp (H.X t.val (512 + s.val) - Finset.univ.sup fun s : Fin 8192 => H.X t.val (512 + s.val)))
      (∑ s : Fin 8192, Ideal.exp (H.X t.val (512 + s.val) - Finset.univ.sup fun s : Fin 8192 => H.X t.val (512 + s.val)))
      = ((H.W t.val (512 + s.val) : ℝ) : EReal) :=
  wt_div (x := fun s : Fin 8192 => H.X t.val (512 + s.val)) (fun _ => H.X_top _ _) (H.X_self t.isLt) s

/-- The gradient of the scores of the whole row, as the derivative of a quotient. -/
theorem dS_div (t s : Fin 8192) :
    (Ideal.div (H.dP t.val (512 + s.val) : EReal) (∑ s : Fin 8192, Ideal.exp (H.X t.val (512 + s.val) - Finset.univ.sup fun s : Fin 8192 => H.X t.val (512 + s.val)))
      + -(∑ s : Fin 8192, (H.dP t.val (512 + s.val) : EReal) * Ideal.div 1 ((∑ s : Fin 8192, Ideal.exp (H.X t.val (512 + s.val) - Finset.univ.sup fun s : Fin 8192 => H.X t.val (512 + s.val)))
            * (∑ s : Fin 8192, Ideal.exp (H.X t.val (512 + s.val) - Finset.univ.sup fun s : Fin 8192 => H.X t.val (512 + s.val))))
          * Ideal.exp (H.X t.val (512 + s.val) - Finset.univ.sup fun s : Fin 8192 => H.X t.val (512 + s.val))))
      * Ideal.exp (H.X t.val (512 + s.val) - Finset.univ.sup fun s : Fin 8192 => H.X t.val (512 + s.val)) = ((H.dS t.val (512 + s.val) : ℝ) : EReal) := by
  refine (grad_div (x := fun s : Fin 8192 => H.X t.val (512 + s.val)) (fun _ => H.X_top _ _) (H.X_self t.isLt) (fun s => H.dP t.val (512 + s.val)) s).trans ?_
  unfold dS
  rw [del_eq]
  rfl

end Head

end Cert.CaMath

end
-- ==== Proof.Value.Score.lean ====
/-
  The half-block's functions read at an index, at the extended reals: with real queries, keys, values and cotangents, the
  weights and the scores' gradient of a half-block are the mathematics' own.
-/
module

public import proofs.«01_k».proof.Proof.KI.Chain
public import proofs.«01_k».proof.Proof.Value.Math
public import Idealize.ShloMosaic.Lib.Pointwise
public import Idealize.ShloMosaic.Lib.IdealHost
public import Idealize.ShloMosaic.PureOps.IdealRules

@[expose] public section

set_option maxRecDepth 16384

noncomputable section

namespace Cert.KernelIdeal.CaBwd

open Cert.KernelIdeal Cert.KernelIdeal.Gen Cert.CaMath
open Idealize.ShloMosaic Idealize.SL.Sem

theorem sel_one {α : Type} (a b : α) : Scalar.select (1#1) a b = a := rfl
theorem sel_zero {α : Type} (a b : α) : Scalar.select (0#1) a b = b := rfl

/-- `M` lets through the lanes of the pair's head `r`. -/
def IsHead (M : IVec S128x128 1) (r : Fin 2) : Prop := ∀ i l : Fin 128, M (ix2 i l) = if l.val / 64 = r.val then 1#1 else 0#1

theorem slt_64 : ∀ l : Fin 128, IntOp.cmpi CmpIPredicate.slt (BitVec.ofNat 32 l.val) 64#32 = if l.val / 64 = 0 then 1#1 else 0#1 := by decide
theorem sge_64 : ∀ l : Fin 128, IntOp.cmpi CmpIPredicate.sge (BitVec.ofNat 32 l.val) 64#32 = if l.val / 64 = 1 then 1#1 else 0#1 := by decide

theorem isHead_lo : IsHead lo 0 := fun i l => by
  refine Eq.trans ?_ (slt_64 l)
  pointwise [lo]

theorem isHead_hi : IsHead hi 1 := fun i l => by
  refine Eq.trans ?_ (sge_64 l)
  pointwise [hi]

theorem eighth_bf16 : Ideal.ofBits .bf16 0x3E00#16 = ((1 / 8 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

theorem bot_f32 : Ideal.ofBits .f32 0xFF800000#32 = (⊥ : EReal) := by
  simp [Ideal.ofBits, Ideal.ieee]

theorem mask_bot : Named.named (F := Ideal) (φ := .f32) κ "mask" 0xF149F2CA#32 = (⊥ : EReal) :=
  IdealRules.named_const.ideal_named_scalar (φ := .f32) κ "mask" 0xF149F2CA#32 ⊥ rfl

theorem half_read (M : IVec S128x128 1) (x : Vec Ideal S128x128 .bf16) (j l : Fin 128) : half M x (ix2 j l) = Scalar.select (M (ix2 j l)) (x (ix2 j l)) (((0#32 : BitVec 32).toInt : ℝ) : EReal) := by
  pointwise [half]

theorem scaled_read (M : IVec S128x128 1) (x : Vec Ideal S128x128 .bf16) (j l : Fin 128) : scaled M x (ix2 j l) = half M x (ix2 j l) * Ideal.ofBits .bf16 0x3E00#16 := by
  pointwise [scaled]

theorem rowDot_read (M : IVec S128x128 1) (g o : Vec Ideal S128x128 .bf16) (j : Fin 128) :
    rowDot M g o (ix2 j 0) = ∑ l : Fin 128, Scalar.select (M (ix2 j l)) ((g (ix2 j l) : EReal) * (o (ix2 j l) : EReal)) (0 : EReal) := by
  pointwise [rowDot, prods]

theorem score_read (lim : BitVec 32) (qh : FVec Ideal S128x128 .bf16) (kw : Vec Ideal S640x128 .bf16) (b : Vec Ideal S1x128x640 .f32) (i : Fin 128) (j : Fin 640) :
    score lim qh kw b (ix2 i j) = Scalar.select (IntOp.cmpi CmpIPredicate.sge (BitVec.ofNat 32 j.val) lim)
      ((∑ l : Fin 128, (qh (ix2 i l) : EReal) * (kw (ix2 j l) : EReal)) + (b (ix3 0 i j) : EReal)) (Named.named (F := Ideal) (φ := .f32) κ "mask" 0xF149F2CA#32) := by
  pointwise [score]

theorem prob_read (s : FVec Ideal S128x640 .f32) (i : Fin 128) (j : Fin 640) :
    prob s (ix2 i j) = Ideal.exp ((s (ix2 i j) : EReal) - Finset.univ.sup fun x : Fin 640 => (s (ix2 i x) : EReal))
      * Ideal.div 1 (∑ x : Fin 640, Ideal.exp ((s (ix2 i x) : EReal) - Finset.univ.sup fun x : Fin 640 => (s (ix2 i x) : EReal))) := by
  have h : ∀ f : Fin 640 → EReal, Finset.fold max (Ideal.ofBits .f32 0xFF800000#32) f Finset.univ = Finset.univ.sup f := fun f => by rw [bot_f32]; rfl
  simp only [← h]
  pointwise [prob, expo]

theorem dscore_read (p : FVec Ideal S128x640 .f32) (gh : Vec Ideal S128x128 .bf16) (vw : Vec Ideal S640x128 .bf16) (d : FVec Ideal S128x1 .f32) (i : Fin 128) (j : Fin 640) :
    dscore p gh vw d (ix2 i j) = (p (ix2 i j) : EReal) * ((∑ l : Fin 128, (gh (ix2 i l) : EReal) * (vw (ix2 j l) : EReal)) - (d (ix2 i 0) : EReal)) := by
  pointwise [dscore]

theorem dq_read (d0 d1 : FVec Ideal S128x640 .f32) (kw : Vec Ideal S640x128 .bf16) (i l : Fin 128) :
    dq d0 d1 kw (ix2 i l) = Scalar.select (lo (ix2 i l)) (∑ j : Fin 640, (d0 (ix2 i j) : EReal) * (kw (ix2 j l) : EReal)) (∑ j : Fin 640, (d1 (ix2 i j) : EReal) * (kw (ix2 j l) : EReal))
      * Ideal.ofBits .f32 0x3E000000#32 := by
  pointwise [dq, rnd]

theorem share_read (d0 d1 : FVec Ideal S128x640 .f32) (x0 x1 : FVec Ideal S128x128 .bf16) (j : Fin 640) (l : Fin 128) :
    share d0 d1 x0 x1 (ix2 j l) = (∑ i : Fin 128, (d0 (ix2 i j) : EReal) * (x0 (ix2 i l) : EReal)) + ∑ i : Fin 128, (d1 (ix2 i j) : EReal) * (x1 (ix2 i l) : EReal) := by
  pointwise [share, rnd]

theorem addShare_read (x : Vec Ideal S640x128 .f32) (s : FVec Ideal S640x128 .f32) (j : Fin 640) (l : Fin 128) :
    addShare x s (ix2 j l) = (x (ix2 j l) : EReal) + (s (ix2 j l) : EReal) := by
  pointwise [addShare]

/-- What a half-block's vectors are: rows `128w …` of head `H` in the lanes of the pair's head `r`. -/
structure At (H : Head) (r : Fin 2) (w : Fin 64) (M : IVec S128x128 1) (lim : BitVec 32) (q g o : Vec Ideal S128x128 .bf16)
    (kw vw : Vec Ideal S640x128 .bf16) (b : Vec Ideal S1x128x640 .f32) : Prop where
  hM : IsHead M r
  hlim : ∀ j : Fin 640, IntOp.cmpi CmpIPredicate.sge (BitVec.ofNat 32 j.val) lim = if 512 ≤ 128 * w.val + j.val then 1#1 else 0#1
  hq : ∀ i l : Fin 128, l.val / 64 = r.val → q (ix2 i l) = ((H.q (128 * w.val + i.val) (l.val % 64) : ℝ) : EReal)
  hg : ∀ i l : Fin 128, l.val / 64 = r.val → g (ix2 i l) = ((H.g (128 * w.val + i.val) (l.val % 64) : ℝ) : EReal)
  ho : ∀ i l : Fin 128, l.val / 64 = r.val → o (ix2 i l) = ((H.O (128 * w.val + i.val) (l.val % 64) : ℝ) : EReal)
  hk : ∀ (j : Fin 640) (l : Fin 128), l.val / 64 = r.val → kw (ix2 j l) = ((H.k (128 * w.val + j.val) (l.val % 64) : ℝ) : EReal)
  hv : ∀ (j : Fin 640) (l : Fin 128), l.val / 64 = r.val → vw (ix2 j l) = ((H.v (128 * w.val + j.val) (l.val % 64) : ℝ) : EReal)
  hb : ∀ (i : Fin 128) (j : Fin 640), b (ix3 0 i j) = if j.val / 64 ≤ i.val / 64 + 8 ∧ i.val / 64 ≤ j.val / 64 then ((H.b (bin ((i.val : ℤ) + 512 - j.val)) : ℝ) : EReal) else (⊥ : EReal)

/-- A sum over the lanes of what is zero outside one head's. -/
theorem sum_lanes (r : Fin 2) (x : Fin 128 → EReal) (f : ℕ → ℝ) (h : ∀ l : Fin 128, x l = if l.val / 64 = r.val then ((f (l.val % 64) : ℝ) : EReal) else 0) :
    ∑ l, x l = ((∑ d : Fin 64, f d.val : ℝ) : EReal) := by
  rw [Finset.sum_congr rfl fun l _ => h l, sum_half r (fun n => ((f (n % 64) : ℝ) : EReal)), coe_sum]
  refine Finset.sum_congr rfl fun d _ => ?_
  rw [show (64 * r.val + d.val) % 64 = d.val by omega]

section
variable {H : Head} {r : Fin 2} {w : Fin 64} {M : IVec S128x128 1} {lim : BitVec 32} {q g o : Vec Ideal S128x128 .bf16}
    {kw vw : Vec Ideal S640x128 .bf16} {b : Vec Ideal S1x128x640 .f32}

theorem half_real (hM : IsHead M r) (x : Vec Ideal S128x128 .bf16) (f : ℕ → ℕ → ℝ)
    (hx : ∀ i l : Fin 128, l.val / 64 = r.val → x (ix2 i l) = ((f i.val (l.val % 64) : ℝ) : EReal)) (i l : Fin 128) :
    half M x (ix2 i l) = if l.val / 64 = r.val then ((f i.val (l.val % 64) : ℝ) : EReal) else (0 : EReal) := by
  rw [half_read, hM i l]
  split_ifs with h
  · rw [sel_one, hx i l h]
  · rw [sel_zero]
    simp

theorem scaled_real (hM : IsHead M r) (x : Vec Ideal S128x128 .bf16) (f : ℕ → ℕ → ℝ)
    (hx : ∀ i l : Fin 128, l.val / 64 = r.val → x (ix2 i l) = ((f i.val (l.val % 64) : ℝ) : EReal)) (i l : Fin 128) :
    scaled M x (ix2 i l) = if l.val / 64 = r.val then ((f i.val (l.val % 64) * (1 / 8) : ℝ) : EReal) else (0 : EReal) := by
  rw [scaled_read, half_real hM x f hx, eighth_bf16]
  split_ifs with h
  · rw [EReal.coe_mul]
  · rw [zero_mul]

variable (hA : At H r w M lim q g o kw vw b)
include hA

theorem score_real (i : Fin 128) (j : Fin 640) : score lim (scaled M q) kw b (ix2 i j) = H.X (128 * w.val + i.val) (128 * w.val + j.val) := by
  rw [score_read, hA.hlim j, mask_bot]
  have hi := i.isLt
  have hj := j.isLt
  have hw := w.isLt
  unfold Head.X
  split_ifs with h1 h2 h2
  · rw [sel_one, hA.hb i j, if_pos (by obtain ⟨_, _, h3, h4⟩ := h2; omega)]
    rw [sum_lanes r _ (fun d => (H.q (128 * w.val + i.val) d * H.k (128 * w.val + j.val) d) * (1 / 8)) fun l => ?_]
    · rw [← EReal.coe_add, ← Finset.sum_mul]
      congr 4
      push_cast
      ring
    · rw [scaled_real hA.hM q (fun i d => H.q (128 * w.val + i) d) hA.hq]
      split_ifs with h3
      · rw [hA.hk j l h3, ← EReal.coe_mul]
        congr 1
        ring
      · rw [zero_mul]
  · rw [sel_one, hA.hb i j, if_neg (fun h => h2 ⟨h1, by omega, by unfold vis; omega⟩)]
    exact EReal.add_bot _
  · exact absurd h2.1 h1
  · rw [sel_zero]

theorem P_real (i : Fin 128) (j : Fin 640) : P M lim q kw b (ix2 i j) = ((H.W (128 * w.val + i.val) (128 * w.val + j.val) : ℝ) : EReal) := by
  unfold P
  rw [prob_read]
  simp only [score_real hA]
  exact H.W_mul w i j

theorem D_real (i : Fin 128) (j : Fin 640) : D M lim q g o kw vw b (ix2 i j) = ((H.dS (128 * w.val + i.val) (128 * w.val + j.val) : ℝ) : EReal) := by
  unfold D
  rw [dscore_read, P_real hA, rowDot_read]
  rw [sum_lanes r _ (fun d => H.g (128 * w.val + i.val) d * H.v (128 * w.val + j.val) d) fun l => ?_,
    sum_lanes r _ (fun d => H.g (128 * w.val + i.val) d * H.O (128 * w.val + i.val) d) fun l => ?_]
  · rw [← EReal.coe_sub, ← EReal.coe_mul]
    rfl
  · rw [hA.hM i l]
    split_ifs with h3
    · rw [sel_one, hA.hg i l h3, hA.ho i l h3, ← EReal.coe_mul]
    · rw [sel_zero]
  · rw [half_real hA.hM g (fun i d => H.g (128 * w.val + i) d) hA.hg]
    split_ifs with h3
    · rw [hA.hv j l h3, ← EReal.coe_mul]
    · rw [zero_mul]

end

section Pair
variable {H0 H1 : Head} {w : Fin 64} {lim : BitVec 32} {q g o : Vec Ideal S128x128 .bf16} {kw vw : Vec Ideal S640x128 .bf16} {b0 b1 : Vec Ideal S1x128x640 .f32}
  (hA : At H0 0 w lo lim q g o kw vw b0) (hB : At H1 1 w hi lim q g o kw vw b1)
include hA hB

/-- The head of a lane. -/
def pick (H0 H1 : Head) (l : ℕ) : Head := if l / 64 = 0 then H0 else H1

theorem dq_real (i l : Fin 128) : dq (D lo lim q g o kw vw b0) (D hi lim q g o kw vw b1) kw (ix2 i l) = (((pick H0 H1 l.val).dQ (128 * w.val + i.val) (l.val % 64) : ℝ) : EReal) := by
  rw [dq_read, isHead_lo i l, eighth_f32]
  unfold pick
  by_cases h : l.val / 64 = 0
  · rw [if_pos h, if_pos (show l.val / 64 = (0 : Fin 2).val from h), sel_one, ← H0.dQ_window w i (l.val % 64), EReal.coe_mul, coe_sum]
    congr 1
    refine Finset.sum_congr rfl fun j _ => ?_
    rw [D_real hA, hA.hk j l h, ← EReal.coe_mul]
  · have h1 : l.val / 64 = 1 := by omega
    rw [if_neg h, if_neg (show ¬ l.val / 64 = (0 : Fin 2).val from h), sel_zero, ← H1.dQ_window w i (l.val % 64), EReal.coe_mul, coe_sum]
    congr 1
    refine Finset.sum_congr rfl fun j _ => ?_
    rw [D_real hB, hB.hk j l h1, ← EReal.coe_mul]

omit hA hB in
theorem share_real (d0 d1 : FVec Ideal S128x640 .f32) (x0 x1 : FVec Ideal S128x128 .bf16) (e0 e1 : ℕ → ℕ → ℝ) (f0 f1 : ℕ → ℕ → ℝ)
    (h0 : ∀ (i : Fin 128) (j : Fin 640), d0 (ix2 i j) = ((e0 i.val j.val : ℝ) : EReal)) (h1 : ∀ (i : Fin 128) (j : Fin 640), d1 (ix2 i j) = ((e1 i.val j.val : ℝ) : EReal))
    (k0 : ∀ i l : Fin 128, x0 (ix2 i l) = if l.val / 64 = (0 : Fin 2).val then ((f0 i.val (l.val % 64) : ℝ) : EReal) else (0 : EReal))
    (k1 : ∀ i l : Fin 128, x1 (ix2 i l) = if l.val / 64 = (1 : Fin 2).val then ((f1 i.val (l.val % 64) : ℝ) : EReal) else (0 : EReal)) (j : Fin 640) (l : Fin 128) :
    share d0 d1 x0 x1 (ix2 j l) = ((if l.val / 64 = 0 then ∑ i : Fin 128, e0 i.val j.val * f0 i.val (l.val % 64) else ∑ i : Fin 128, e1 i.val j.val * f1 i.val (l.val % 64) : ℝ) : EReal) := by
  rw [share_read]
  have hl := l.isLt
  by_cases h : l.val / 64 = 0
  · rw [if_pos h, coe_sum, Finset.sum_congr rfl fun i _ => show (d1 (ix2 i j) : EReal) * x1 (ix2 i l) = 0 by rw [k1, if_neg (by show ¬ l.val / 64 = 1; omega), mul_zero], Finset.sum_const_zero, add_zero]
    refine Finset.sum_congr rfl fun i _ => ?_
    rw [h0, k0, if_pos (show l.val / 64 = (0 : Fin 2).val from h), EReal.coe_mul]
  · rw [if_neg h, coe_sum, Finset.sum_congr rfl fun i _ => show (d0 (ix2 i j) : EReal) * x0 (ix2 i l) = 0 by rw [k0, if_neg (show ¬ l.val / 64 = (0 : Fin 2).val from h), mul_zero], Finset.sum_const_zero, zero_add]
    refine Finset.sum_congr rfl fun i _ => ?_
    rw [h1, k1, if_pos (by show l.val / 64 = 1; omega), EReal.coe_mul]

/-- What a half-block adds to the keys' gradient. -/
theorem shareK_real (j : Fin 640) (l : Fin 128) :
    share (D lo lim q g o kw vw b0) (D hi lim q g o kw vw b1) (scaled lo q) (scaled hi q) (ix2 j l)
      = ((∑ i : Fin 128, (pick H0 H1 l.val).dS (128 * w.val + i.val) (128 * w.val + j.val) * ((pick H0 H1 l.val).q (128 * w.val + i.val) (l.val % 64) * (1 / 8)) : ℝ) : EReal) := by
  rw [share_real _ _ _ _ (fun i j => H0.dS (128 * w.val + i) (128 * w.val + j)) (fun i j => H1.dS (128 * w.val + i) (128 * w.val + j))
    (fun i d => H0.q (128 * w.val + i) d * (1 / 8)) (fun i d => H1.q (128 * w.val + i) d * (1 / 8)) (D_real hA) (D_real hB)
    (scaled_real hA.hM q (fun i d => H0.q (128 * w.val + i) d) hA.hq) (scaled_real hB.hM q (fun i d => H1.q (128 * w.val + i) d) hB.hq)]
  unfold pick
  split_ifs <;> rfl

/-- What a half-block adds to the values' gradient. -/
theorem shareV_real (j : Fin 640) (l : Fin 128) :
    share (P lo lim q kw b0) (P hi lim q kw b1) (half lo g) (half hi g) (ix2 j l)
      = ((∑ i : Fin 128, (pick H0 H1 l.val).W (128 * w.val + i.val) (128 * w.val + j.val) * (pick H0 H1 l.val).g (128 * w.val + i.val) (l.val % 64) : ℝ) : EReal) := by
  rw [share_real _ _ _ _ (fun i j => H0.W (128 * w.val + i) (128 * w.val + j)) (fun i j => H1.W (128 * w.val + i) (128 * w.val + j))
    (fun i d => H0.g (128 * w.val + i) d) (fun i d => H1.g (128 * w.val + i) d) (P_real hA) (P_real hB)
    (half_real hA.hM g (fun i d => H0.g (128 * w.val + i) d) hA.hg) (half_real hB.hM g (fun i d => H1.g (128 * w.val + i) d) hB.hg)]
  unfold pick
  split_ifs <;> rfl

end Pair

end Cert.KernelIdeal.CaBwd

end
-- ==== Proof.Value.Lines.lean ====
/-
  The bias lines and the mask as numbers, and the arguments' heads.
-/
module

public import proofs.«01_k».proof.Proof.Value.Math
public import Idealize.ShloMosaic.Lib.Pointwise
public import Idealize.ShloMosaic.Lib.Affine
public import Idealize.ShloMosaic.Lib.Routing.Words

@[expose] public section

set_option maxRecDepth 16384

noncomputable section

namespace Cert.CaMath

open Idealize.ShloMosaic

/-- The bias line of each pair of a query and a key, looked up for all heads. -/
theorem gather_line {R C : ℕ} (wf : GatherDims.WF ⟨2, ![16, 513]⟩ ⟨3, ![R, C, 1]⟩ ⟨3, ![16, R, C]⟩ [0] [1] [] [1] [] 2 ![16, 1])
    (x : (⟨2, ![16, 513]⟩ : Shape).Idx → EReal) (idx : IVec ⟨3, ![R, C, 1]⟩ 32) (h : Fin 16) (t : Fin R) (s : Fin C) :
    Host.gather (⟨[0], [1], [], [], [1], 2, ![16, 1], wf⟩ : GatherDims ⟨2, ![16, 513]⟩ ⟨3, ![R, C, 1]⟩ ⟨3, ![16, R, C]⟩) x idx (ix3 h t s)
      = x (ix2 h ⟨min (idx (ix3 t s 0)).toInt.toNat 512, by omega⟩) := by
  generalize hd : (⟨[0], [1], [], [], [1], 2, ![16, 1], wf⟩ : GatherDims ⟨2, ![16, 513]⟩ ⟨3, ![R, C, 1]⟩ ⟨3, ![16, R, C]⟩) = D
  have hcoll : D.collapsedSliceDims = [1] := by rw [← hd]
  have hsim : D.startIndexMap = [1] := by rw [← hd]
  have hob : ∀ a, a ∉ D.operandBatchingDims := by rw [← hd]; exact fun a => List.not_mem_nil
  unfold Host.gather
  refine congrArg x (funext fun a => Fin.ext ?_)
  match a with
  | ⟨0, _⟩ =>
    have hm : (0 : Fin 2) ∉ D.startIndexMap := by rw [hsim]; decide
    have hk : (0 : Fin 2) ∈ D.sKept := (D.mem_sKept 0).2 ⟨by rw [hcoll]; decide, hob 0⟩
    show D.start (ix3 h t s) idx 0 + D.batchCoord (ix3 h t s) 0 + D.offCoord (ix3 h t s) 0 = h.val
    rw [D.batchCoord_eq_zero _ _ (hob 0)]
    unfold GatherDims.start GatherDims.offCoord
    rw [dif_neg hm, dif_pos hk]
    subst hd
    simp only [Nat.zero_add, Nat.add_zero]
    rfl
  | ⟨1, _⟩ =>
    have hm : (1 : Fin 2) ∈ D.startIndexMap := by rw [hsim]; decide
    have hk : (1 : Fin 2) ∉ D.sKept := fun h => ((D.mem_sKept 1).1 h).1 (by rw [hcoll]; decide)
    show D.start (ix3 h t s) idx 1 + D.batchCoord (ix3 h t s) 1 + D.offCoord (ix3 h t s) 1 = min (idx (ix3 t s 0)).toInt.toNat 512
    rw [D.batchCoord_eq_zero _ _ (hob 1), D.offCoord_eq_zero _ _ hk]
    simp only [Nat.add_zero]
    unfold GatherDims.start
    rw [dif_pos hm]
    have hsi : D.siIdx (ix3 h t s) ⟨D.startIndexMap.idxOf 1, List.idxOf_lt_length_iff.2 hm⟩ = ix3 t s (0 : Fin 1) := by
      subst hd
      funext b; refine Fin.ext ?_
      match b with
      | ⟨0, _⟩ => rfl
      | ⟨1, _⟩ => rfl
      | ⟨2, _⟩ => rfl
    rw [hsi]
    subst hd
    rfl

/-- The wrapped bias line as a word. -/
theorem line_word {x : BitVec 32} {e : ℤ} (hx : Affine.IsInt x e) (h1 : -(2 ^ 20) ≤ e) (h2 : e ≤ 2 ^ 20) :
    Scalar.select (IntOp.cmpi CmpIPredicate.slt (IntOp.addi (IntOp.minsi (256#32) (IntOp.maxsi (4294967040#32) x)) 256#32) 0#32)
      (IntOp.addi (IntOp.addi (IntOp.minsi (256#32) (IntOp.maxsi (4294967040#32) x)) 256#32) 513#32)
      (IntOp.addi (IntOp.minsi (256#32) (IntOp.maxsi (4294967040#32) x)) 256#32) = BitVec.ofNat 32 (bin e) := by
  have ha : Affine.IsInt (Scalar.maxsi 4294967040#32 x) (max (-256) e) := Affine.maxsi (Affine.ofNat_neg 4294967040 (e := -256) (by omega)) hx rfl
  have hb : Affine.IsInt (Scalar.minsi 256#32 (Scalar.maxsi 4294967040#32 x)) (min 256 (max (-256) e)) := Affine.minsi (Affine.ofNat 256 (e := 256) (by omega)) ha rfl
  have hc : Affine.IsInt (Scalar.addi (Scalar.minsi 256#32 (Scalar.maxsi 4294967040#32 x)) 256#32) (min 256 (max (-256) e) + 256) :=
    Affine.addi hb (Affine.ofNat 256 (e := 256) (by omega)) (by omega)
  have hf := Affine.slt_fails hc (Affine.ofNat 0 (e := 0) (by omega)) (by omega)
  have hz : IntOp.cmpi CmpIPredicate.slt (IntOp.addi (IntOp.minsi (256#32) (IntOp.maxsi (4294967040#32) x)) 256#32) 0#32 = 0#1 :=
    (BitVec.eq_zero_or_eq_one _).resolve_right hf
  rw [hz]
  refine Affine.eq_of hc (bin e) ?_
  unfold bin
  omega

/-- Whether a position is seen, as a word. -/
theorem seen_word {x : BitVec 32} {a b : ℕ} (hx : Affine.IsInt x ((a : ℤ) - b)) :
    IntOp.andi (IntOp.cmpi CmpIPredicate.sge x 0#32) (IntOp.cmpi CmpIPredicate.sle x 8#32) = if b ≤ a ∧ a ≤ b + 8 then 1#1 else 0#1 := by
  have h0 := Affine.ofNat 0 (e := 0) (by omega)
  have h8 := Affine.ofNat 8 (e := 8) (by omega)
  by_cases h1 : b ≤ a
  · have e1 := Affine.sge_holds hx h0 (by omega)
    by_cases h2 : a ≤ b + 8
    · rw [if_pos ⟨h1, h2⟩]
      exact Affine.andi_holds e1 (Affine.sle_holds hx h8 (by omega))
    · rw [if_neg fun h => h2 h.2]
      exact (BitVec.eq_zero_or_eq_one _).resolve_right (Affine.andi_fails_right trivial (Affine.sle_fails hx h8 (by omega)))
  · rw [if_neg fun h => h1 h.1]
    exact (BitVec.eq_zero_or_eq_one _).resolve_right (Affine.andi_fails_left (Affine.sge_fails hx h0 (by omega)) trivial)

/-- The block of a position, as a word. -/
theorem block_word (t : ℕ) (h : t < 2 ^ 20) : Affine.IsInt (IntOp.divsi ArithUnit.host (BitVec.ofNat 32 t) 64#32) ((t / 64 : ℕ) : ℤ) := by
  rw [show (64#32 : BitVec 32) = BitVec.ofNat 32 64 from rfl, Routing.divsi_word _ (by omega) (by omega) (by omega)]
  exact Affine.ofNat _ ⟨rfl, by omega⟩

/-- A matrix's entry as a real number, zero outside. -/
def rd {n0 n1 : ℕ} (x : (⟨2, ![n0, n1]⟩ : Shape).Idx → EReal) (t c : ℕ) : ℝ :=
  if h : t < n0 ∧ c < n1 then (x (ix2 ⟨t, h.1⟩ ⟨c, h.2⟩)).toReal else 0

section Args
variable (x0 : (⟨2, ![8192, 2048]⟩ : Shape).Idx → EReal) (x1 : (⟨2, ![8192, 3072]⟩ : Shape).Idx → EReal)
  (x2 : (⟨2, ![16, 513]⟩ : Shape).Idx → EReal) (x3 : (⟨2, ![8192, 1024]⟩ : Shape).Idx → EReal)

/-- The arguments' heads. -/
def Hd (h : ℕ) : Head where
  q t d := rd x0 t (64 * h + d)
  k n d := if 512 ≤ n then rd x0 (n - 512) (1024 + (64 * h + d)) else 0
  v n d := if 512 ≤ n then rd x1 (n - 512) (2048 + (64 * h + d)) else 0
  g t d := rd x3 t (64 * h + d)
  b n := rd x2 h n

/-- The arguments the kernel reads are finite. -/
structure Fine : Prop where
  h0 : ∀ (t : Fin 8192) (c : Fin 2048), x0 (ix2 t c) = ((rd x0 t.val c.val : ℝ) : EReal)
  h1 : ∀ (t : Fin 8192) (c : Fin 3072), 2048 ≤ c.val → x1 (ix2 t c) = ((rd x1 t.val c.val : ℝ) : EReal)
  h2 : ∀ (t : Fin 16) (c : Fin 513), x2 (ix2 t c) = ((rd x2 t.val c.val : ℝ) : EReal)
  h3 : ∀ (t : Fin 8192) (c : Fin 1024), x3 (ix2 t c) = ((rd x3 t.val c.val : ℝ) : EReal)

end Args

end Cert.CaMath

end
-- ==== Proof.Value.Reads.lean ====
/-
  The reference's steps at an index, in a head's numbers.
-/
module

public import proofs.«01_k».proof.Proof.Value.Host
public import proofs.«01_k».proof.Proof.Value.Score
public import proofs.«01_k».proof.Proof.Value.Lines

@[expose] public section

set_option maxRecDepth 16384

noncomputable section

namespace Cert.ReferenceIdeal.Steps

open Cert.ReferenceIdeal Cert.ReferenceIdeal.Gen Cert.CaMath
open Idealize.ShloMosaic Idealize.ShloMosaic.TcCoe Idealize.SL.Sem
open Cert.KernelIdeal.CaBwd (sel_one sel_zero eighth_f32 bot_f32)

section
variable {x0 : FVec Ideal S8192x2048 .bf16} {x1 : FVec Ideal S8192x3072 .bf16} {x2 : FVec Ideal S16x513 .f32} {x3 : FVec Ideal S8192x1024 .bf16}
variable (hF : Fine x0 x1 x2 x3)
variable (h : Fin 16) (t s : Fin 8192) (d : Fin 64)

theorem heads_read (x : FVec Ideal S8192x1024 .f32) : heads x (ix3 h t d) = x (ix2 t ⟨h.val * 64 + d.val, by omega⟩) := by
  pointwise [heads]

theorem flat_read (x : FVec Ideal S16x8192x64 .f32) (c : Fin 1024) : flat x (ix2 t c) = x (ix3 ⟨c.val / 64, by omega⟩ t ⟨c.val % 64, by omega⟩) := by
  pointwise [flat]

theorem idx_read : (idx (ix3 t s 0)) = BitVec.ofNat 32 (bin ((t.val : ℤ) - s.val)) := by
  refine Eq.trans ?_ (line_word (Affine.subi (Affine.ofNat t.val (e := t.val) (by omega)) (Affine.ofNat s.val (e := s.val) (by omega)) (e := (t.val : ℤ) - s.val) (by omega)) (by omega) (by omega))
  pointwise [idx, line, all2]
  rfl

theorem ok_read : ok (ix3 h t s) = if vis t.val s.val then 1#1 else 0#1 := by
  refine Eq.trans ?_ (seen_word (a := t.val / 64) (b := s.val / 64) (Affine.subi (block_word t.val (by omega)) (block_word s.val (by omega)) (by omega)))
  pointwise [ok, behind, all2]
  rfl

theorem bias_read : Host.gather gather_S16x513_S8192x8192x1_S16x8192x8192_0_1_n_n_1_2_161 x2 idx (ix3 h t s) = x2 (ix2 h ⟨bin ((t.val : ℤ) - s.val), bin_lt _⟩) := by
  have hl := bin_lt ((t.val : ℤ) - s.val)
  have hi : min (idx (ix3 t s 0)).toInt.toNat 512 = bin ((t.val : ℤ) - s.val) := by
    rw [idx_read, StableHlo.Predicate.toInt_ofNat_small _ (by omega)]
    omega
  refine (gather_line _ x2 idx h t s).trans ?_
  exact congrArg (fun n : Fin 513 => x2 (ix2 h n)) (Fin.ext hi)

end

section
variable (y z : FVec Ideal S16x8192x8192 .f32) (x : FVec Ideal S16x8192 .f32) (h : Fin 16) (t s : Fin 8192) (d : Fin 64)

theorem max_read : Host.reduce FloatOps.maximumf y (constant (F := Ideal) S_ .f32 0xFF800000#32) reducesTo_S16x8192x8192_S16x8192_d2 h_S_ (ix2 h t)
    = Finset.fold max (Ideal.ofBits .f32 0xFF800000#32) (fun s : Fin 8192 => y (ix3 h t s)) Finset.univ := by
  pointwise

theorem rsum_read : rsum y (ix2 h t) = ∑ s : Fin 8192, y (ix3 h t s) := by
  pointwise [rsum]

theorem row_read : wide (col1 x) (ix3 h t s) = x (ix2 h t) := by
  pointwise [wide, col1]

theorem expsub_read : Host.exp (subf y z) (ix3 h t s) = Ideal.exp (y (ix3 h t s) - z (ix3 h t s)) := by
  pointwise

theorem maxbot_read : maximumf (broadcastInDim S16x8192 ![] bcast_S_S16x8192 (constant (F := Ideal) S_ .f32 0xFF800000#32)) x (ix2 h t) = max (Ideal.ofBits .f32 0xFF800000#32) (x (ix2 h t)) := by
  pointwise

theorem fold_sup (f : Fin 8192 → EReal) : Finset.fold max (Ideal.ofBits .f32 0xFF800000#32) f Finset.univ = Finset.univ.sup f := by rw [bot_f32]; rfl

theorem ex_read : ex y (ix3 h t s) = Ideal.exp (y (ix3 h t s) - Finset.univ.sup fun s' : Fin 8192 => y (ix3 h t s')) := by
  rw [ex, expsub_read, row_read, maxbot_read, max_read, fold_sup, bot_f32, max_eq_right bot_le]

theorem quot_read : Host.divf y z (ix3 h t s) = Ideal.div (y (ix3 h t s)) (z (ix3 h t s)) := by
  pointwise

theorem wt_read : wt y (ix3 h t s) = Ideal.div (ex y (ix3 h t s)) (∑ s', ex y (ix3 h t s')) := by
  rw [wt, quot_read, row_read, rsum_read]

theorem scale_read : wide (Host.divf (broadcastInDim S16x8192x1 ![] bcast_S_S16x8192x1 (constant (F := Ideal) S_ .f32 0x3F800000#32)) (mulf (col1 x) (col1 x))) (ix3 h t s)
    = Ideal.div 1 (x (ix2 h t) * x (ix2 h t)) := by
  pointwise [wide, col1]

theorem neg_read : Host.reduceAdd (Host.negf (shapeCast S16x8192x1 x shapeCasts_S16x8192_S16x8192x1)) (constant (F := Ideal) S_ .f32 0x00000000#32) reducesTo_S16x8192x1_S16x8192_d2 h_S_ (ix2 h t)
    = -(x (ix2 h t)) := by
  pointwise
  exact Fin.sum_univ_one _

theorem prod_read : mulf y z (ix3 h t s) = y (ix3 h t s) * z (ix3 h t s) := by
  pointwise

theorem off_read : off y z (ix2 h t) = -(∑ s, z (ix3 h t s) * Ideal.div 1 ((∑ s, y (ix3 h t s)) * (∑ s, y (ix3 h t s))) * y (ix3 h t s)) := by
  rw [off, neg_read, rsum_read]
  exact congrArg Neg.neg (Finset.sum_congr rfl fun s _ => by rw [prod_read, prod_read, scale_read, rsum_read])

theorem ds_read : ds y z (ix3 h t s) = Scalar.select (ok (ix3 h t s)) ((Ideal.div (z (ix3 h t s)) (rsum y (ix2 h t)) + off y z (ix2 h t)) * y (ix3 h t s)) 0 * Ideal.ofBits .f32 0x3E000000#32 := by
  pointwise [ds, wide, col1, all3]

end

section
variable (x0 : FVec Ideal S8192x2048 .bf16) (x1 : FVec Ideal S8192x3072 .bf16) (x2 : FVec Ideal S16x513 .f32) (x3 : FVec Ideal S8192x1024 .bf16)
variable (h : Fin 16) (t s : Fin 8192) (d : Fin 64) (c : Fin 1024)

theorem qcol_read : extractStridedSlice S8192x1024 ![0, 0] (extf .f32 x0 bitsLt_bf16_f32) slices_S8192x2048_S8192x1024_0_0 (ix2 t c) = x0 (ix2 t ⟨c.val, by omega⟩) := by
  pointwise

theorem kcol_read : extractStridedSlice S8192x1024 ![0, 1024] (extf .f32 x0 bitsLt_bf16_f32) slices_S8192x2048_S8192x1024_0_1024 (ix2 t c) = x0 (ix2 t ⟨1024 + c.val, by omega⟩) := by
  pointwise

theorem vcol_read : extractStridedSlice S8192x1024 ![0, 2048] (extf .f32 x1 bitsLt_bf16_f32) slices_S8192x3072_S8192x1024_0_2048 (ix2 t c) = x1 (ix2 t ⟨2048 + c.val, by omega⟩) := by
  pointwise

variable {x0 x1 x2 x3} (hF : Fine x0 x1 x2 x3)
include hF

theorem qh_read : qh x0 (ix3 h t d) = (((Hd x0 x1 x2 x3 h.val).q t.val d.val : ℝ) : EReal) := by
  rw [qh, heads_read, qcol_read, hF.h0]
  show ((rd x0 t.val (h.val * 64 + d.val) : ℝ) : EReal) = ((rd x0 t.val (64 * h.val + d.val) : ℝ) : EReal)
  rw [Nat.mul_comm]

theorem kh_read : kh x0 (ix3 h t d) = (((Hd x0 x1 x2 x3 h.val).k (512 + t.val) d.val : ℝ) : EReal) := by
  rw [kh, heads_read, kcol_read, hF.h0]
  show ((rd x0 t.val (1024 + (h.val * 64 + d.val)) : ℝ) : EReal) = (((if 512 ≤ 512 + t.val then rd x0 (512 + t.val - 512) (1024 + (64 * h.val + d.val)) else 0 : ℝ)) : EReal)
  rw [if_pos (Nat.le_add_right _ _), Nat.mul_comm, Nat.add_sub_cancel_left]

theorem vh_read : vh x1 (ix3 h t d) = (((Hd x0 x1 x2 x3 h.val).v (512 + t.val) d.val : ℝ) : EReal) := by
  rw [vh, heads_read, vcol_read, hF.h1 _ _ (Nat.le_add_right _ _)]
  show ((rd x1 t.val (2048 + (h.val * 64 + d.val)) : ℝ) : EReal) = (((if 512 ≤ 512 + t.val then rd x1 (512 + t.val - 512) (2048 + (64 * h.val + d.val)) else 0 : ℝ)) : EReal)
  rw [if_pos (Nat.le_add_right _ _), Nat.mul_comm, Nat.add_sub_cancel_left]

theorem gh_read : gh x3 (ix3 h t d) = (((Hd x0 x1 x2 x3 h.val).g t.val d.val : ℝ) : EReal) := by
  rw [gh, heads_read]
  show x3 (ix2 t _) = _
  rw [hF.h3]
  show ((rd x3 t.val (h.val * 64 + d.val) : ℝ) : EReal) = ((rd x3 t.val (64 * h.val + d.val) : ℝ) : EReal)
  rw [Nat.mul_comm]

end

section
variable (y y' : FVec Ideal S16x8192x8192 .f32) (a b : FVec Ideal S16x8192x64 .f32) (h : Fin 16) (t s : Fin 8192) (d : Fin 64)

theorem dot_t_read : Host.dotGeneral dot_S16x8192x64_S16x8192x64_S16x8192x8192_2_2_1_1_0_0 none a b (ix3 h t s) = ∑ d : Fin 64, (a (ix3 h t d) : EReal) * b (ix3 h s d) := by
  pointwise

theorem dot_n_read : Host.dotGeneral dot_S16x8192x8192_S16x8192x64_S16x8192x64_2_1_1_2_0_0 none y b (ix3 h t d) = ∑ s : Fin 8192, (y (ix3 h t s) : EReal) * b (ix3 h s d) := by
  pointwise

theorem dot_q_read : Host.dotGeneral dot_S16x8192x8192_S16x8192x64_S16x8192x64_1_1_2_2_0_0 none y b (ix3 h s d) = ∑ t : Fin 8192, (y (ix3 h t s) : EReal) * b (ix3 h t d) := by
  pointwise

theorem dot_g_read : transpose S16x8192x64 [0, 2, 1] (Host.dotGeneral dot_S16x8192x64_S16x8192x8192_S16x64x8192_1_1_2_2_0_0 none b y) transposes_S16x64x8192_S16x8192x64_0_2_1 (ix3 h s d)
    = ∑ t : Fin 8192, (b (ix3 h t d) : EReal) * y (ix3 h t s) := by
  pointwise

theorem mask_read : select ok (addf (mulf y (all3 0x3E000000#32)) y') (all3 0xFF800000#32) (ix3 h t s)
    = Scalar.select (ok (ix3 h t s)) (y (ix3 h t s) * Ideal.ofBits .f32 0x3E000000#32 + y' (ix3 h t s)) (Ideal.ofBits .f32 0xFF800000#32) := by
  pointwise [all3]

end

section
variable {x0 : FVec Ideal S8192x2048 .bf16} {x1 : FVec Ideal S8192x3072 .bf16} {x2 : FVec Ideal S16x513 .f32} {x3 : FVec Ideal S8192x1024 .bf16}
variable (hF : Fine x0 x1 x2 x3) (h : Fin 16) (t s : Fin 8192) (d : Fin 64) (c : Fin 1024)
include hF

theorem sc_read : sc x0 x2 (ix3 h t s) = (Hd x0 x1 x2 x3 h.val).X t.val (512 + s.val) := by
  rw [sc, mask_read, ok_read, dot_t_read, bias_read, eighth_f32, bot_f32, hF.h2]
  have e : (∑ d : Fin 64, (qh x0 (ix3 h t d) : EReal) * kh x0 (ix3 h s d))
      = ((∑ d : Fin 64, (Hd x0 x1 x2 x3 h.val).q t.val d.val * (Hd x0 x1 x2 x3 h.val).k (512 + s.val) d.val : ℝ) : EReal) := by
    rw [coe_sum]
    exact Finset.sum_congr rfl fun d _ => by rw [qh_read h t d hF, kh_read h s d hF, EReal.coe_mul]
  rw [e]
  unfold Head.X
  by_cases hv : vis t.val s.val
  · rw [if_pos hv, sel_one, if_pos ⟨Nat.le_add_right _ _, by omega, by rw [Nat.add_sub_cancel_left]; exact hv⟩, ← EReal.coe_mul, ← EReal.coe_add]
    rw [show (t.val : ℤ) + 512 - ((512 + s.val : ℕ) : ℤ) = (t.val : ℤ) - s.val from by push_cast; ring]
    rfl
  · rw [if_neg hv, sel_zero, if_neg fun h => hv (by rw [Nat.add_sub_cancel_left] at h; exact h.2.2)]

theorem ex_real : ex (sc x0 x2) (ix3 h t s) = Ideal.exp ((Hd x0 x1 x2 x3 h.val).X t.val (512 + s.val) - Finset.univ.sup fun s : Fin 8192 => (Hd x0 x1 x2 x3 h.val).X t.val (512 + s.val)) := by
  rw [ex_read, sc_read hF]
  simp only [sc_read hF]

theorem wt_real : wt (sc x0 x2) (ix3 h t s) = (((Hd x0 x1 x2 x3 h.val).W t.val (512 + s.val) : ℝ) : EReal) := by
  rw [wt_read]
  simp only [ex_real hF]
  exact Head.W_div _ t s

theorem out_real : out x0 x1 x2 (ix2 t c) = (((Hd x0 x1 x2 x3 (c.val / 64)).O t.val (c.val % 64) : ℝ) : EReal) := by
  rw [out, flat_read, dot_n_read]
  unfold Head.O
  rw [coe_sum]
  exact Finset.sum_congr rfl fun s _ => by rw [wt_real hF, vh_read _ _ _ hF, EReal.coe_mul]

theorem dp_real : dp x1 x3 (ix3 h t s) = (((Hd x0 x1 x2 x3 h.val).dP t.val (512 + s.val) : ℝ) : EReal) := by
  rw [dp, dot_t_read]
  unfold Head.dP
  rw [coe_sum]
  exact Finset.sum_congr rfl fun d _ => by rw [gh_read _ _ _ hF, vh_read _ _ _ hF, EReal.coe_mul]

theorem ds_real : ds (ex (sc x0 x2)) (dp x1 x3) (ix3 h t s) = (((Hd x0 x1 x2 x3 h.val).dS t.val (512 + s.val) * (1 / 8) : ℝ) : EReal) := by
  rw [ds_read, off_read, rsum_read, eighth_f32, ok_read]
  simp only [ex_real hF, dp_real hF]
  rw [Head.dS_div, EReal.coe_mul]
  congr 1
  by_cases hv : vis t.val s.val
  · rw [if_pos hv, sel_one]
  · rw [if_neg hv, sel_zero]
    have hx : (Hd x0 x1 x2 x3 h.val).X t.val (512 + s.val) = ⊥ := if_neg fun h => hv (by rw [Nat.add_sub_cancel_left] at h; exact h.2.2)
    unfold Head.dS
    rw [Head.W_zero _ t.isLt hx, zero_mul, EReal.coe_zero]

theorem dq_real : dq x0 x1 x2 x3 (ix2 t c) = (((Hd x0 x1 x2 x3 (c.val / 64)).dQ t.val (c.val % 64) : ℝ) : EReal) := by
  rw [dq, flat_read, dot_n_read]
  unfold Head.dQ
  rw [Finset.sum_mul, coe_sum]
  exact Finset.sum_congr rfl fun s _ => by rw [ds_real hF, kh_read _ _ _ hF, ← EReal.coe_mul]; congr 1; ring

theorem dk_real : dk x0 x1 x2 x3 (ix2 s c) = (((Hd x0 x1 x2 x3 (c.val / 64)).dK s.val (c.val % 64) : ℝ) : EReal) := by
  rw [dk, flat_read, dot_q_read]
  unfold Head.dK
  rw [coe_sum]
  exact Finset.sum_congr rfl fun t _ => by rw [ds_real hF, qh_read _ _ _ hF, ← EReal.coe_mul]; congr 1; ring

theorem dv_real : dv x0 x2 x3 (ix2 s c) = (((Hd x0 x1 x2 x3 (c.val / 64)).dV s.val (c.val % 64) : ℝ) : EReal) := by
  rw [dv, flat_read, dot_g_read]
  unfold Head.dV
  rw [coe_sum]
  exact Finset.sum_congr rfl fun t _ => by rw [wt_real hF, gh_read _ _ _ hF, ← EReal.coe_mul, mul_comm]

end

end Cert.ReferenceIdeal.Steps
end
-- ==== Proof.Value.Sweep.lean ====
/-
  The sweep over a pair of heads: from the blocks' contents at the grid points, what the queries' block holds after a
  point and what the sums for the keys and the values hold after the pair's last point.
-/
module

public import proofs.«01_k».proof.Proof.KI.Data
public import proofs.«01_k».proof.Proof.Value.Score

@[expose] public section

set_option maxRecDepth 16384

noncomputable section

namespace Cert.KernelIdeal.CaBwd

open Cert.KernelIdeal Cert.KernelIdeal.Gen Cert.CaMath
open Idealize.ShloMosaic Idealize.SL.Sem

/-! ### Windows at an index -/

section Window
variable {α : Type} {n0 n1 : ℕ}

theorem window2 (x : (⟨2, ![n0, n1]⟩ : Shape).Idx → α) (off : Fin 2 → ℕ) (s0 s1 : ℕ) (inb : ∀ a, off a + (![s0, s1] : Fin 2 → ℕ) a ≤ (⟨2, ![n0, n1]⟩ : Shape).size a)
    (i : Fin s0) (l : Fin s1) (i' : Fin n0) (l' : Fin n1) (h0 : i'.val = off 0 + i.val) (h1 : l'.val = off 1 + l.val) :
    VecWindow.window (s := ⟨2, ![n0, n1]⟩) x off ![s0, s1] inb (ix2 i l) = x (ix2 i' l') := by
  unfold VecWindow.window
  congr 1
  funext a
  match a with
  | ⟨0, _⟩ => exact Fin.ext (by rw [Rect.emb_apply]; simp [ix2, h0])
  | ⟨1, _⟩ => exact Fin.ext (by rw [Rect.emb_apply]; simp [ix2, h1])

theorem put2_in (x : (⟨2, ![n0, n1]⟩ : Shape).Idx → α) (off : Fin 2 → ℕ) (s0 s1 : ℕ) (w : (⟨2, ![s0, s1]⟩ : Shape).Idx → α)
    (i : Fin s0) (l : Fin s1) (i' : Fin n0) (l' : Fin n1) (h0 : i'.val = off 0 + i.val) (h1 : l'.val = off 1 + l.val) :
    VecWindow.put (s := ⟨2, ![n0, n1]⟩) x off ![s0, s1] w (ix2 i' l') = w (ix2 i l) := by
  unfold VecWindow.put
  have hi := i.isLt
  have hl := l.isLt
  rw [dif_pos]
  · congr 1
    funext a
    match a with
    | ⟨0, _⟩ => exact Fin.ext (by show i'.val - off 0 = i.val; omega)
    | ⟨1, _⟩ => exact Fin.ext (by show l'.val - off 1 = l.val; omega)
  · intro a
    match a with
    | ⟨0, _⟩ => exact ⟨by show off 0 ≤ i'.val; omega, by show i'.val < off 0 + s0; omega⟩
    | ⟨1, _⟩ => exact ⟨by show off 1 ≤ l'.val; omega, by show l'.val < off 1 + s1; omega⟩

theorem put2_out (x : (⟨2, ![n0, n1]⟩ : Shape).Idx → α) (off : Fin 2 → ℕ) (s0 s1 : ℕ) (w : (⟨2, ![s0, s1]⟩ : Shape).Idx → α)
    (i' : Fin n0) (l' : Fin n1) (h : ¬ (off 0 ≤ i'.val ∧ i'.val < off 0 + s0)) :
    VecWindow.put (s := ⟨2, ![n0, n1]⟩) x off ![s0, s1] w (ix2 i' l') = x (ix2 i' l') := by
  unfold VecWindow.put
  rw [dif_neg]
  exact fun hh => h (hh 0)

theorem window3 {m0 m1 m2 : ℕ} (x : (⟨3, ![m0, m1, m2]⟩ : Shape).Idx → α) (off : Fin 3 → ℕ) (s0 s1 s2 : ℕ) (inb : ∀ a, off a + (![s0, s1, s2] : Fin 3 → ℕ) a ≤ (⟨3, ![m0, m1, m2]⟩ : Shape).size a)
    (i : Fin s0) (j : Fin s1) (k : Fin s2) (i' : Fin m0) (j' : Fin m1) (k' : Fin m2) (h0 : i'.val = off 0 + i.val) (h1 : j'.val = off 1 + j.val) (h2 : k'.val = off 2 + k.val) :
    VecWindow.window (s := ⟨3, ![m0, m1, m2]⟩) x off ![s0, s1, s2] inb (ix3 i j k) = x (ix3 i' j' k') := by
  unfold VecWindow.window
  congr 1
  funext a
  match a with
  | ⟨0, _⟩ => exact Fin.ext (by rw [Rect.emb_apply]; simp [ix3, h0])
  | ⟨1, _⟩ => exact Fin.ext (by rw [Rect.emb_apply]; simp [ix3, h1])
  | ⟨2, _⟩ => exact Fin.ext (by rw [Rect.emb_apply]; simp [ix3, h2])

end Window

/-- The half-block of rows that half `r` of block `u` of point `t` is. -/
def hb (t : Fin cfg0.N) (u : Fin 4) (r : Fin 2) : Fin 64 := ⟨8 * (t.val % 8) + 2 * u.val + r.val, by omega⟩

theorem off_0 : ∀ (t : Fin cfg0.N) (u : Fin 4) (r : Fin 2), off (grid0.coords t) u r 0 = 128 * (8 * (t.val % 8) + 2 * u.val + r.val) := by decide +kernel
theorem off_1 : ∀ (t : Fin cfg0.N) (u : Fin 4) (r : Fin 2), off (grid0.coords t) u r 1 = 0 := by decide +kernel
theorem lim_toInt : ∀ (t : Fin cfg0.N) (u : Fin 4) (r : Fin 2), (lim (wd (grid0.coords t)) u r).toInt = 512 - 128 * ((8 * (t.val % 8) + 2 * u.val + r.val : ℕ) : ℤ) := by decide +kernel
theorem col_toInt : ∀ j : Fin 640, (BitVec.ofNat 32 j.val).toInt = (j.val : ℤ) := by decide +kernel

theorem lim_sge (t : Fin cfg0.N) (u : Fin 4) (r : Fin 2) (j : Fin 640) :
    IntOp.cmpi CmpIPredicate.sge (BitVec.ofNat 32 j.val) (lim (wd (grid0.coords t)) u r) = if 512 ≤ 128 * (hb t u r).val + j.val then 1#1 else 0#1 := by
  have h1 := lim_toInt t u r
  have h2 := col_toInt j
  show BitVec.ofBool (BitVec.sle _ _) = _
  rw [BitVec.sle, h1, h2]
  show BitVec.ofBool (decide (512 - 128 * ((8 * (t.val % 8) + 2 * u.val + r.val : ℕ) : ℤ) ≤ (j.val : ℤ))) = if 512 ≤ 128 * (8 * (t.val % 8) + 2 * u.val + r.val) + j.val then 1#1 else 0#1
  by_cases h : 512 ≤ 128 * (8 * (t.val % 8) + 2 * u.val + r.val) + j.val
  · rw [if_pos h, decide_eq_true (by omega)]; rfl
  · rw [if_neg h, decide_eq_false (by omega)]; rfl

theorem rows0_read (x : Vec Ideal S1024x128 .bf16) (u : Fin 4) (i l : Fin 128) (i' : Fin 1024) (h : i'.val = 256 * u.val + i.val) : rows0 x (rs u) (rs_inb u) (ix2 i l) = x (ix2 i' l) := by
  have hi := i.isLt
  unfold rows0
  rw [window2 (n0 := 256) (n1 := 128) _ _ 128 128 _ i l ⟨i.val, by omega⟩ l (by show i.val = 0 + i.val; omega) (by show l.val = 0 + l.val; omega)]
  exact window2 (n0 := 1024) (n1 := 128) x (rs u) 256 128 _ _ _ _ _ (by show i'.val = 256 * u.val + i.val; omega) (by show l.val = 0 + l.val; omega)

theorem rows1_read (x : Vec Ideal S1024x128 .bf16) (u : Fin 4) (i l : Fin 128) (i' : Fin 1024) (h : i'.val = 256 * u.val + 128 + i.val) : rows1 x (rs u) (rs_inb u) (ix2 i l) = x (ix2 i' l) := by
  have hi := i.isLt
  unfold rows1
  rw [window2 (n0 := 256) (n1 := 128) _ _ 128 128 _ i l ⟨128 + i.val, by omega⟩ l (by show 128 + i.val = 128 + i.val; omega) (by show l.val = 0 + l.val; omega)]
  exact window2 (n0 := 1024) (n1 := 128) x (rs u) 256 128 _ _ _ _ _ (by show i'.val = 256 * u.val + (128 + i.val); omega) (by show l.val = 0 + l.val; omega)

theorem keys_read {e : EltTy} (x : Vec Ideal S8704x128 e) (t : Fin cfg0.N) (u : Fin 4) (r : Fin 2) (h) (j : Fin 640) (l : Fin 128) (n : Fin 8704) (hn : n.val = 128 * (hb t u r).val + j.val) :
    keys x (off (grid0.coords t) u r) h (ix2 j l) = x (ix2 n l) :=
  window2 (n0 := 8704) (n1 := 128) x _ 640 128 _ _ _ _ _ (by rw [off_0]; exact hn) (by rw [off_1]; omega)

theorem addRows_in (x : Vec Ideal S8704x128 .f32) (t : Fin cfg0.N) (u : Fin 4) (r : Fin 2) (h) (s : FVec Ideal S640x128 .f32) (n : Fin 8704) (l : Fin 128) (j : Fin 640) (hn : n.val = 128 * (hb t u r).val + j.val) :
    addRows x (off (grid0.coords t) u r) h s (ix2 n l) = (x (ix2 n l) : EReal) + (s (ix2 j l) : EReal) := by
  unfold addRows
  rw [put2_in (n0 := 8704) (n1 := 128) x _ 640 128 _ j l n l (by rw [off_0]; exact hn) (by rw [off_1]; omega), addShare_read, keys_read x t u r h j l n hn]

theorem addRows_out (x : Vec Ideal S8704x128 .f32) (t : Fin cfg0.N) (u : Fin 4) (r : Fin 2) (h) (s : FVec Ideal S640x128 .f32) (n : Fin 8704) (l : Fin 128)
    (hn : ¬ (128 * (hb t u r).val ≤ n.val ∧ n.val < 128 * (hb t u r).val + 640)) :
    addRows x (off (grid0.coords t) u r) h s (ix2 n l) = x (ix2 n l) := by
  unfold addRows
  exact put2_out (n0 := 8704) (n1 := 128) x _ 640 128 _ n l (by rw [off_0]; exact hn)

/-! ### A point's data -/

/-- What a point's blocks are: rows `1024 (t mod 8) …` of two heads, and their bias lines. -/
structure Inp (H0 H1 : Head) (t : Fin cfg0.N) (x2 x5 x6 : Vec Ideal S1024x128 .bf16) (x7 : Vec Ideal S2x256x768 .f32) : Prop where
  hq : ∀ (i : Fin 1024) (l : Fin 128), x2 (ix2 i l) = (((pick H0 H1 l.val).q (1024 * (t.val % 8) + i.val) (l.val % 64) : ℝ) : EReal)
  ho : ∀ (i : Fin 1024) (l : Fin 128), x5 (ix2 i l) = (((pick H0 H1 l.val).O (1024 * (t.val % 8) + i.val) (l.val % 64) : ℝ) : EReal)
  hg : ∀ (i : Fin 1024) (l : Fin 128), x6 (ix2 i l) = (((pick H0 H1 l.val).g (1024 * (t.val % 8) + i.val) (l.val % 64) : ℝ) : EReal)
  hb0 : ∀ (i : Fin 256) (k : Fin 768), x7 (ix3 0 i k) = if k.val / 64 ≤ i.val / 64 + 8 ∧ i.val / 64 ≤ k.val / 64 then ((H0.b (bin ((i.val : ℤ) + 512 - k.val)) : ℝ) : EReal) else (⊥ : EReal)
  hb1 : ∀ (i : Fin 256) (k : Fin 768), x7 (ix3 1 i k) = if k.val / 64 ≤ i.val / 64 + 8 ∧ i.val / 64 ≤ k.val / 64 then ((H1.b (bin ((i.val : ℤ) + 512 - k.val)) : ℝ) : EReal) else (⊥ : EReal)

/-- What a padded buffer holds of two heads. -/
def Padded (f : Head → ℕ → ℕ → ℝ) (H0 H1 : Head) {e : EltTy} (h : Elt Ideal e = EReal) (x : Vec Ideal S8704x128 e) : Prop :=
  ∀ (n : Fin 8704) (l : Fin 128), cast h (x (ix2 n l)) = ((f (pick H0 H1 l.val) n.val (l.val % 64) : ℝ) : EReal)

theorem pick_lo {H0 H1 : Head} {l : ℕ} (h : l / 64 = (0 : Fin 2).val) : pick H0 H1 l = H0 := if_pos h
theorem pick_hi {H0 H1 : Head} {l : ℕ} (h : l / 64 = (1 : Fin 2).val) : pick H0 H1 l = H1 := if_neg (by have : l / 64 = 1 := h; omega)

section Point
variable {H0 H1 : Head} {t : Fin cfg0.N} {x2 x5 x6 : Vec Ideal S1024x128 .bf16} {x7 : Vec Ideal S2x256x768 .f32} {kp vp : Vec Ideal S8704x128 .bf16}
  (hI : Inp H0 H1 t x2 x5 x6 x7) (hk : Padded Head.k H0 H1 (e := .bf16) rfl kp) (hv : Padded Head.v H0 H1 (e := .bf16) rfl vp)
include hI hk hv

theorem at_of (u : Fin 4) (r h : Fin 2) (H : Head) (hH : ∀ l : ℕ, l / 64 = h.val → pick H0 H1 l = H) (M : IVec S128x128 1) (hM : IsHead M h)
    (rw : Vec Ideal S1024x128 .bf16 → Vec Ideal S128x128 .bf16) (hrw : ∀ x (i l : Fin 128) (i' : Fin 1024), i'.val = 256 * u.val + 128 * r.val + i.val → rw x (ix2 i l) = x (ix2 i' l))
    (b : Vec Ideal S1x128x640 .f32) (hbb : ∀ (i : Fin 128) (j : Fin 640), b (ix3 0 i j) = if j.val / 64 ≤ i.val / 64 + 8 ∧ i.val / 64 ≤ j.val / 64 then ((H.b (bin ((i.val : ℤ) + 512 - j.val)) : ℝ) : EReal) else (⊥ : EReal)) :
    At H h (hb t u r) M (lim (wd (grid0.coords t)) u r) (rw x2) (rw x6) (rw x5) (keys kp (off (grid0.coords t) u r) (off_inb _ u r)) (keys vp (off (grid0.coords t) u r) (off_inb _ u r)) b := by
  have e : ∀ i : Fin 128, 1024 * (t.val % 8) + (256 * u.val + 128 * r.val + i.val) = 128 * (hb t u r).val + i.val := fun i => by
    show _ = 128 * (8 * (t.val % 8) + 2 * u.val + r.val) + i.val
    omega
  have b1 : ∀ i : Fin 128, 256 * u.val + 128 * r.val + i.val < 1024 := fun i => by omega
  have b2 : ∀ j : Fin 640, 128 * (hb t u r).val + j.val < 8704 := fun j => by have := (hb t u r).isLt; omega
  refine ⟨hM, lim_sge t u r, fun i l hl => ?_, fun i l hl => ?_, fun i l hl => ?_, fun j l hl => ?_, fun j l hl => ?_, hbb⟩
  · rw [hrw x2 i l ⟨_, b1 i⟩ rfl, hI.hq, hH _ hl, e i]
  · rw [hrw x6 i l ⟨_, b1 i⟩ rfl, hI.hg, hH _ hl, e i]
  · rw [hrw x5 i l ⟨_, b1 i⟩ rfl, hI.ho, hH _ hl, e i]
  · rw [keys_read kp t u r _ j l ⟨_, b2 j⟩ rfl]
    exact (hk _ l).trans (by rw [hH _ hl])
  · rw [keys_read vp t u r _ j l ⟨_, b2 j⟩ rfl]
    exact (hv _ l).trans (by rw [hH _ hl])

theorem at00 (u : Fin 4) : At H0 0 (hb t u 0) lo (lim (wd (grid0.coords t)) u 0) (rows0 x2 (rs u) (rs_inb u)) (rows0 x6 (rs u) (rs_inb u)) (rows0 x5 (rs u) (rs_inb u))
    (keys kp (off (grid0.coords t) u 0) (off_inb _ u 0)) (keys vp (off (grid0.coords t) u 0) (off_inb _ u 0)) (bias00 x7) :=
  at_of hI hk hv u 0 0 H0 (fun l => pick_lo) lo isHead_lo (fun x => rows0 x (rs u) (rs_inb u)) (fun x i l i' h => rows0_read x u i l i' h) _ fun i j => by
    unfold bias00
    rw [window3 (m0 := 2) (m1 := 256) (m2 := 768) x7 _ 1 128 640 _ 0 i j 0 ⟨i.val, by omega⟩ ⟨j.val, by omega⟩ rfl (by show i.val = 0 + i.val; omega) (by show j.val = 0 + j.val; omega), hI.hb0]

theorem at01 (u : Fin 4) : At H1 1 (hb t u 0) hi (lim (wd (grid0.coords t)) u 0) (rows0 x2 (rs u) (rs_inb u)) (rows0 x6 (rs u) (rs_inb u)) (rows0 x5 (rs u) (rs_inb u))
    (keys kp (off (grid0.coords t) u 0) (off_inb _ u 0)) (keys vp (off (grid0.coords t) u 0) (off_inb _ u 0)) (bias01 x7) :=
  at_of hI hk hv u 0 1 H1 (fun l => pick_hi) hi isHead_hi (fun x => rows0 x (rs u) (rs_inb u)) (fun x i l i' h => rows0_read x u i l i' h) _ fun i j => by
    unfold bias01
    rw [window3 (m0 := 2) (m1 := 256) (m2 := 768) x7 _ 1 128 640 _ 0 i j 1 ⟨i.val, by omega⟩ ⟨j.val, by omega⟩ rfl (by show i.val = 0 + i.val; omega) (by show j.val = 0 + j.val; omega), hI.hb1]

omit hI hk hv in
theorem shift_bias (i : Fin 128) (j : Fin 640) (b : ℕ → ℝ) :
    (if (128 + j.val) / 64 ≤ (128 + i.val) / 64 + 8 ∧ (128 + i.val) / 64 ≤ (128 + j.val) / 64 then ((b (bin (((128 + i.val : ℕ) : ℤ) + 512 - ((128 + j.val : ℕ) : ℤ))) : ℝ) : EReal) else (⊥ : EReal))
      = if j.val / 64 ≤ i.val / 64 + 8 ∧ i.val / 64 ≤ j.val / 64 then ((b (bin ((i.val : ℤ) + 512 - j.val)) : ℝ) : EReal) else (⊥ : EReal) := by
  have e : ((128 + i.val : ℕ) : ℤ) + 512 - ((128 + j.val : ℕ) : ℤ) = (i.val : ℤ) + 512 - j.val := by push_cast; ring
  rw [e]
  by_cases h : j.val / 64 ≤ i.val / 64 + 8 ∧ i.val / 64 ≤ j.val / 64
  · rw [if_pos h, if_pos (by omega)]
  · rw [if_neg h, if_neg (by omega)]

theorem at10 (u : Fin 4) : At H0 0 (hb t u 1) lo (lim (wd (grid0.coords t)) u 1) (rows1 x2 (rs u) (rs_inb u)) (rows1 x6 (rs u) (rs_inb u)) (rows1 x5 (rs u) (rs_inb u))
    (keys kp (off (grid0.coords t) u 1) (off_inb _ u 1)) (keys vp (off (grid0.coords t) u 1) (off_inb _ u 1)) (bias10 x7) :=
  at_of hI hk hv u 1 0 H0 (fun l => pick_lo) lo isHead_lo (fun x => rows1 x (rs u) (rs_inb u)) (fun x i l i' h => rows1_read x u i l i' h) _ fun i j => by
    unfold bias10
    rw [window3 (m0 := 2) (m1 := 256) (m2 := 768) x7 _ 1 128 640 _ 0 i j 0 ⟨128 + i.val, by omega⟩ ⟨128 + j.val, by omega⟩ rfl rfl rfl, hI.hb0]
    exact shift_bias i j H0.b

theorem at11 (u : Fin 4) : At H1 1 (hb t u 1) hi (lim (wd (grid0.coords t)) u 1) (rows1 x2 (rs u) (rs_inb u)) (rows1 x6 (rs u) (rs_inb u)) (rows1 x5 (rs u) (rs_inb u))
    (keys kp (off (grid0.coords t) u 1) (off_inb _ u 1)) (keys vp (off (grid0.coords t) u 1) (off_inb _ u 1)) (bias11 x7) :=
  at_of hI hk hv u 1 1 H1 (fun l => pick_hi) hi isHead_hi (fun x => rows1 x (rs u) (rs_inb u)) (fun x i l i' h => rows1_read x u i l i' h) _ fun i j => by
    unfold bias11
    rw [window3 (m0 := 2) (m1 := 256) (m2 := 768) x7 _ 1 128 640 _ 0 i j 1 ⟨128 + i.val, by omega⟩ ⟨128 + j.val, by omega⟩ rfl rfl rfl, hI.hb1]
    exact shift_bias i j H1.b

/-- The queries' gradient after block `u`: the block's 256 rows are the mathematics', the others as before. -/
theorem nextDq_read (u : Fin 4) (x8 : Vec Ideal S1024x128 .bf16) (i : Fin 1024) (l : Fin 128) :
    nextDq (grid0.coords t) (wd (grid0.coords t)) u x2 x5 x6 x7 kp vp x8 (ix2 i l)
      = if 256 * u.val ≤ i.val ∧ i.val < 256 * u.val + 256 then (((pick H0 H1 l.val).dQ (1024 * (t.val % 8) + i.val) (l.val % 64) : ℝ) : EReal) else x8 (ix2 i l) := by
  unfold nextDq nDq
  by_cases h1 : 256 * u.val + 128 ≤ i.val ∧ i.val < 256 * u.val + 256
  · rw [if_pos (by omega), put2_in (n0 := 1024) (n1 := 128) _ (rd u 1) 128 128 _ ⟨i.val - (256 * u.val + 128), by omega⟩ l i l (by show i.val = 256 * u.val + 128 * 1 + (i.val - (256 * u.val + 128)); omega) (by show l.val = 0 + l.val; omega)]
    rw [dq_real (at10 hI hk hv u) (at11 hI hk hv u)]
    rw [show 128 * (hb t u 1).val + (i.val - (256 * u.val + 128)) = 1024 * (t.val % 8) + i.val by
      show 128 * (8 * (t.val % 8) + 2 * u.val + 1) + (i.val - (256 * u.val + 128)) = _
      omega]
  · rw [put2_out (n0 := 1024) (n1 := 128) _ (rd u 1) 128 128 _ i l (by show ¬ (256 * u.val + 128 * 1 ≤ i.val ∧ i.val < 256 * u.val + 128 * 1 + 128); omega)]
    by_cases h0 : 256 * u.val ≤ i.val ∧ i.val < 256 * u.val + 128
    · rw [if_pos (by omega), put2_in (n0 := 1024) (n1 := 128) _ (rd u 0) 128 128 _ ⟨i.val - 256 * u.val, by omega⟩ l i l (by show i.val = 256 * u.val + 128 * 0 + (i.val - 256 * u.val); omega) (by show l.val = 0 + l.val; omega)]
      rw [dq_real (at00 hI hk hv u) (at01 hI hk hv u)]
      rw [show 128 * (hb t u 0).val + (i.val - 256 * u.val) = 1024 * (t.val % 8) + i.val by
        show 128 * (8 * (t.val % 8) + 2 * u.val + 0) + (i.val - 256 * u.val) = _
        omega]
    · rw [if_neg (by omega), put2_out (n0 := 1024) (n1 := 128) _ (rd u 0) 128 128 _ i l (by show ¬ (256 * u.val + 128 * 0 ≤ i.val ∧ i.val < 256 * u.val + 128 * 0 + 128); omega)]

/-- After the four blocks every row is the mathematics'. -/
theorem after4Dq_read (x8 : Vec Ideal S1024x128 .bf16) (i : Fin 1024) (l : Fin 128) :
    after4Dq (grid0.coords t) x2 x5 x6 x7 kp vp x8 (ix2 i l) = (((pick H0 H1 l.val).dQ (1024 * (t.val % 8) + i.val) (l.val % 64) : ℝ) : EReal) := by
  have hi := i.isLt
  unfold after4Dq
  rw [nextDq_read hI hk hv]
  split_ifs with h3
  · rfl
  rw [nextDq_read hI hk hv]
  split_ifs with h2
  · rfl
  rw [nextDq_read hI hk hv]
  split_ifs with h1
  · rfl
  rw [nextDq_read hI hk hv]
  split_ifs with h0
  · rfl
  · exfalso
    simp only [Fin.val_zero, Fin.val_one, Fin.val_two, show ((3 : Fin 4) : ℕ) = 3 from rfl] at h0 h1 h2 h3
    omega

end Point

/-! ### The sums over half-blocks -/

/-- The first `n` half-blocks' shares of the keys' gradient. -/
def accK (H : Head) (n ρ d : ℕ) : ℝ := ∑ w ∈ Finset.range n, if 128 * w ≤ ρ ∧ ρ < 128 * w + 640 then ∑ i : Fin 128, H.dS (128 * w + i.val) ρ * (H.q (128 * w + i.val) d * (1 / 8)) else 0
/-- The first `n` half-blocks' shares of the values' gradient. -/
def accV (H : Head) (n ρ d : ℕ) : ℝ := ∑ w ∈ Finset.range n, if 128 * w ≤ ρ ∧ ρ < 128 * w + 640 then ∑ i : Fin 128, H.W (128 * w + i.val) ρ * H.g (128 * w + i.val) d else 0

/-- What the carried buffers hold after `n` half-blocks. -/
structure Inv (H0 H1 : Head) (n : ℕ) (s : St Ideal) : Prop where
  hk : Padded Head.k H0 H1 (e := .bf16) rfl s.kp
  hv : Padded Head.v H0 H1 (e := .bf16) rfl s.vp
  ha : Padded (fun H => accK H n) H0 H1 (e := .f32) rfl s.ka
  hc : Padded (fun H => accV H n) H0 H1 (e := .f32) rfl s.va

/-- One more half-block's share. -/
theorem acc_step {H0 H1 : Head} (f : Head → ℕ → ℕ → ℕ → ℝ) (t : Fin cfg0.N) (u : Fin 4) (r : Fin 2) (h) (x : Vec Ideal S8704x128 .f32) (s : FVec Ideal S640x128 .f32)
    (hx : Padded (fun H ρ d => ∑ w ∈ Finset.range (hb t u r).val, if 128 * w ≤ ρ ∧ ρ < 128 * w + 640 then f H w ρ d else 0) H0 H1 (e := .f32) rfl x)
    (hs : ∀ (j : Fin 640) (l : Fin 128), s (ix2 j l) = ((f (pick H0 H1 l.val) (hb t u r).val (128 * (hb t u r).val + j.val) (l.val % 64) : ℝ) : EReal)) :
    Padded (fun H ρ d => ∑ w ∈ Finset.range ((hb t u r).val + 1), if 128 * w ≤ ρ ∧ ρ < 128 * w + 640 then f H w ρ d else 0) H0 H1 (e := .f32) rfl (addRows x (off (grid0.coords t) u r) h s) := by
  intro n l
  show (addRows x (off (grid0.coords t) u r) h s (ix2 n l) : EReal) = _
  have hx' : (x (ix2 n l) : EReal) = _ := hx n l
  simp only [Finset.sum_range_succ]
  by_cases hn : 128 * (hb t u r).val ≤ n.val ∧ n.val < 128 * (hb t u r).val + 640
  · rw [addRows_in x t u r h s n l ⟨n.val - 128 * (hb t u r).val, by omega⟩ (by show n.val = 128 * (hb t u r).val + (n.val - 128 * (hb t u r).val); omega), hx', hs, if_pos hn, EReal.coe_add]
    congr 4
    show 128 * (hb t u r).val + (n.val - 128 * (hb t u r).val) = n.val
    omega
  · rw [addRows_out x t u r h s n l hn, hx', if_neg hn, add_zero]

/-- One block's step. -/
theorem next_inv {H0 H1 : Head} {t : Fin cfg0.N} {x2 x5 x6 : Vec Ideal S1024x128 .bf16} {x7 : Vec Ideal S2x256x768 .f32} (hI : Inp H0 H1 t x2 x5 x6 x7) (u : Fin 4) (s : St Ideal)
    (hs : Inv H0 H1 (8 * (t.val % 8) + 2 * u.val) s) : Inv H0 H1 (8 * (t.val % 8) + 2 * u.val + 2) (next (grid0.coords t) (wd (grid0.coords t)) u x2 x5 x6 x7 s) := by
  have fk : ∀ r : Fin 2, ∀ n, n = (hb t u r).val → ∀ x : Vec Ideal S8704x128 .f32, Padded (fun H => accK H n) H0 H1 (e := .f32) rfl x → ∀ s : FVec Ideal S640x128 .f32,
      (∀ (j : Fin 640) (l : Fin 128), s (ix2 j l) = ((∑ i : Fin 128, (pick H0 H1 l.val).dS (128 * (hb t u r).val + i.val) (128 * (hb t u r).val + j.val) * ((pick H0 H1 l.val).q (128 * (hb t u r).val + i.val) (l.val % 64) * (1 / 8)) : ℝ) : EReal)) →
      Padded (fun H => accK H (n + 1)) H0 H1 (e := .f32) rfl (addRows x (off (grid0.coords t) u r) (off_inb _ u r) s) := by
    intro r n hn x hx s h
    subst hn
    exact acc_step (fun H w ρ d => ∑ i : Fin 128, H.dS (128 * w + i.val) ρ * (H.q (128 * w + i.val) d * (1 / 8))) t u r _ x s hx h
  have fv : ∀ r : Fin 2, ∀ n, n = (hb t u r).val → ∀ x : Vec Ideal S8704x128 .f32, Padded (fun H => accV H n) H0 H1 (e := .f32) rfl x → ∀ s : FVec Ideal S640x128 .f32,
      (∀ (j : Fin 640) (l : Fin 128), s (ix2 j l) = ((∑ i : Fin 128, (pick H0 H1 l.val).W (128 * (hb t u r).val + i.val) (128 * (hb t u r).val + j.val) * (pick H0 H1 l.val).g (128 * (hb t u r).val + i.val) (l.val % 64) : ℝ) : EReal)) →
      Padded (fun H => accV H (n + 1)) H0 H1 (e := .f32) rfl (addRows x (off (grid0.coords t) u r) (off_inb _ u r) s) := by
    intro r n hn x hx s h
    subst hn
    exact acc_step (fun H w ρ d => ∑ i : Fin 128, H.W (128 * w + i.val) ρ * H.g (128 * w + i.val) d) t u r _ x s hx h
  refine ⟨hs.hk, hs.hv, ?_, ?_⟩
  · exact fk 1 _ rfl _ (fk 0 _ rfl _ hs.ha _ (shareK_real (at00 hI hs.hk hs.hv u) (at01 hI hs.hk hs.hv u))) _ (shareK_real (at10 hI hs.hk hs.hv u) (at11 hI hs.hk hs.hv u))
  · exact fv 1 _ rfl _ (fv 0 _ rfl _ hs.hc _ (shareV_real (at00 hI hs.hk hs.hv u) (at01 hI hs.hk hs.hv u))) _ (shareV_real (at10 hI hs.hk hs.hv u) (at11 hI hs.hk hs.hv u))

/-- A point's step. -/
theorem after4_inv {H0 H1 : Head} {t : Fin cfg0.N} {x2 x5 x6 : Vec Ideal S1024x128 .bf16} {x7 : Vec Ideal S2x256x768 .f32} (hI : Inp H0 H1 t x2 x5 x6 x7) (s : St Ideal)
    (hs : Inv H0 H1 (8 * (t.val % 8)) s) : Inv H0 H1 (8 * (t.val % 8) + 8) (after4 (grid0.coords t) x2 x5 x6 x7 s) :=
  next_inv hI 3 _ (next_inv hI 2 _ (next_inv hI 1 _ (next_inv hI 0 s hs)))

/-- The keys of two heads in their 128 lanes. -/
def Rows (f : Head → ℕ → ℕ → ℝ) (H0 H1 : Head) (x : Vec Ideal S8192x128 .bf16) : Prop :=
  ∀ (s : Fin 8192) (l : Fin 128), x (ix2 s l) = ((f (pick H0 H1 l.val) (512 + s.val) (l.val % 64) : ℝ) : EReal)

theorem padded_real (f : Head → ℕ → ℕ → ℝ) {H0 H1 : Head} (x : Vec Ideal S8192x128 .bf16) (hx : Rows f H0 H1 x) (h0 : ∀ l n d, n < 512 → f (pick H0 H1 l) n d = 0) :
    Padded f H0 H1 (e := .bf16) rfl (padded x) := by
  intro n l
  show (padded x (ix2 n l) : EReal) = _
  unfold padded
  by_cases h : 512 ≤ n.val
  · rw [put2_in (n0 := 8704) (n1 := 128) _ _ 8192 128 x ⟨n.val - 512, by omega⟩ l n l (by show n.val = 512 + (n.val - 512); omega) (by show l.val = 0 + l.val; omega), hx]
    congr 3
    show 512 + (n.val - 512) = n.val
    omega
  · rw [put2_out (n0 := 8704) (n1 := 128) _ _ 8192 128 x n l (by show ¬ (512 ≤ n.val ∧ _); omega), h0 _ _ _ (by omega)]
    exact Ideal.ofBits_zero_bf16

theorem ini_inv {H0 H1 : Head} (x3 x4 : Vec Ideal S8192x128 .bf16) (h3 : Rows Head.k H0 H1 x3) (h4 : Rows Head.v H0 H1 x4)
    (k0 : ∀ l n d, n < 512 → (pick H0 H1 l).k n d = 0) (v0 : ∀ l n d, n < 512 → (pick H0 H1 l).v n d = 0) : Inv H0 H1 0 (ini x3 x4) :=
  ⟨padded_real Head.k x3 h3 k0, padded_real Head.v x4 h4 v0, fun n l => Ideal.ofBits_zero_f32, fun n l => Ideal.ofBits_zero_f32⟩

/-- What the copy out holds. -/
theorem outRows_read (x : Vec Ideal S8704x128 .f32) (s : Fin 8192) (l : Fin 128) : outRows x (ix2 s l) = (x (ix2 ⟨512 + s.val, by omega⟩ l) : EReal) :=
  window2 (n0 := 8704) (n1 := 128) x _ 8192 128 _ s l ⟨512 + s.val, by omega⟩ l rfl (by show l.val = 0 + l.val; omega)

section Grid
variable (m : (ℓ : Loc nD τ sig) → Buf (Elt Ideal) ℓ) (c : Dev nD) (Hd : ℕ → Head)
  (k0 : ∀ h n d, n < 512 → (Hd h).k n d = 0) (v0 : ∀ h n d, n < 512 → (Hd h).v n d = 0)
  (hI : ∀ t : Fin cfg0.N, Inp (Hd (2 * (t.val / 8))) (Hd (2 * (t.val / 8) + 1)) t (qB m c t) (oB m c t) (gB m c t) (tB m c t))
  (hK : ∀ t : Fin cfg0.N, Rows Head.k (Hd (2 * (t.val / 8))) (Hd (2 * (t.val / 8) + 1)) (kB m c t))
  (hV : ∀ t : Fin cfg0.N, Rows Head.v (Hd (2 * (t.val / 8))) (Hd (2 * (t.val / 8) + 1)) (vB m c t))
include k0 v0 hI hK hV

theorem ini_at (t : Fin cfg0.N) : Inv (Hd (2 * (t.val / 8))) (Hd (2 * (t.val / 8) + 1)) 0 (ini (kB m c t) (vB m c t)) := by
  refine ini_inv _ _ (hK t) (hV t) (fun l n d hn => ?_) (fun l n d hn => ?_)
  · unfold pick; split_ifs
    · exact k0 _ _ _ hn
    · exact k0 _ _ _ hn
  · unfold pick; split_ifs
    · exact v0 _ _ _ hn
    · exact v0 _ _ _ hn

theorem aft_inv : ∀ (n : ℕ) (h : n < cfg0.N), Inv (Hd (2 * (n / 8))) (Hd (2 * (n / 8) + 1)) (8 * (n % 8) + 8) (aft m c n h)
  | 0, h => after4_inv (hI ⟨0, h⟩) _ (ini_at m c Hd k0 v0 hI hK hV ⟨0, h⟩)
  | n + 1, h => by
    refine after4_inv (hI ⟨n + 1, h⟩) _ ?_
    show Inv (Hd (2 * ((n + 1) / 8))) (Hd (2 * ((n + 1) / 8) + 1)) (8 * ((n + 1) % 8)) _
    by_cases h0 : (n + 1) % 8 = 0
    · rw [if_pos h0, h0]
      exact ini_at m c Hd k0 v0 hI hK hV ⟨n + 1, h⟩
    · rw [if_neg h0, show 8 * ((n + 1) % 8) = 8 * (n % 8) + 8 by omega, show (n + 1) / 8 = n / 8 by omega]
      exact aft_inv n _

theorem entry_inv (t : Fin cfg0.N) : Inv (Hd (2 * (t.val / 8))) (Hd (2 * (t.val / 8) + 1)) (8 * (t.val % 8)) (entry m c t) := by
  unfold entry
  by_cases h0 : t.val % 8 = 0
  · rw [if_pos h0, h0]
    exact ini_at m c Hd k0 v0 hI hK hV t
  · rw [if_neg h0, show 8 * (t.val % 8) = 8 * ((t.val - 1) % 8) + 8 by omega, show t.val / 8 = (t.val - 1) / 8 by omega]
    exact aft_inv m c Hd k0 v0 hI hK hV _ _

/-- The queries' gradient that a point leaves. -/
theorem dqB_read (t : Fin cfg0.N) (i : Fin 1024) (l : Fin 128) :
    dqB m c t (ix2 i l) = (((Hd (2 * (t.val / 8) + l.val / 64)).dQ (1024 * (t.val % 8) + i.val) (l.val % 64) : ℝ) : EReal) := by
  have hs := entry_inv m c Hd k0 v0 hI hK hV t
  refine (after4Dq_read (hI t) hs.hk hs.hv _ i l).trans ?_
  have hl := l.isLt
  unfold pick
  split_ifs with h
  · rw [h]; rfl
  · rw [show l.val / 64 = 1 by omega]

/-- The keys' gradient after a pair's last point. -/
theorem dkB_read (t : Fin cfg0.N) (ht : t.val % 8 = 7) (s : Fin 8192) (l : Fin 128) :
    outRows (aft m c t.val t.isLt).ka (ix2 s l) = (((Hd (2 * (t.val / 8) + l.val / 64)).dK s.val (l.val % 64) : ℝ) : EReal) := by
  have hs := aft_inv m c Hd k0 v0 hI hK hV t.val t.isLt
  have ha : (_ : EReal) = _ := hs.ha ⟨512 + s.val, by omega⟩ l
  rw [outRows_read]
  refine ha.trans ?_
  have hl := l.isLt
  rw [ht, show Hd (2 * (t.val / 8) + l.val / 64) = pick (Hd (2 * (t.val / 8))) (Hd (2 * (t.val / 8) + 1)) l.val by
    unfold pick
    split_ifs with h
    · rw [h]; rfl
    · rw [show l.val / 64 = 1 by omega], ← Head.dK_blocks]
  show ((accK _ 64 (512 + s.val) _ : ℝ) : EReal) = _
  unfold accK
  rw [Finset.sum_range]

/-- The values' gradient after a pair's last point. -/
theorem dvB_read (t : Fin cfg0.N) (ht : t.val % 8 = 7) (s : Fin 8192) (l : Fin 128) :
    outRows (aft m c t.val t.isLt).va (ix2 s l) = (((Hd (2 * (t.val / 8) + l.val / 64)).dV s.val (l.val % 64) : ℝ) : EReal) := by
  have hs := aft_inv m c Hd k0 v0 hI hK hV t.val t.isLt
  have ha : (_ : EReal) = _ := hs.hc ⟨512 + s.val, by omega⟩ l
  rw [outRows_read]
  refine ha.trans ?_
  have hl := l.isLt
  rw [ht, show Hd (2 * (t.val / 8) + l.val / 64) = pick (Hd (2 * (t.val / 8))) (Hd (2 * (t.val / 8) + 1)) l.val by
    unfold pick
    split_ifs with h
    · rw [h]; rfl
    · rw [show l.val / 64 = 1 by omega], ← Head.dV_blocks]
  show ((accV _ 64 (512 + s.val) _ : ℝ) : EReal) = _
  unfold accV
  rw [Finset.sum_range]

end Grid

end Cert.KernelIdeal.CaBwd

end
-- ==== Proof.Value.Blocks.lean ====
/-
  The blocks a grid point reads, in the heads' numbers, and the three gradients the call leaves.
-/
module

public import proofs.«01_k».proof.Proof.Value.Reads
public import proofs.«01_k».proof.Proof.Value.Sweep
public import Idealize.ShloMosaic.Lib.Pipeline.ValueKit

@[expose] public section

set_option maxRecDepth 16384

noncomputable section

namespace Cert.KernelIdeal.Steps

open Cert.KernelIdeal Cert.KernelIdeal.Gen Cert.CaMath
open Idealize.ShloMosaic Idealize.ShloMosaic.TcCoe Idealize.SL.Sem
open Cert.KernelIdeal.CaBwd (sel_one sel_zero bot_f32)

section Table
variable {x0 : FVec Ideal S8192x2048 .bf16} {x1 : FVec Ideal S8192x3072 .bf16} {x2 : FVec Ideal S16x513 .f32} {x3 : FVec Ideal S8192x1024 .bf16}
variable (hF : Fine x0 x1 x2 x3) (h : Fin 16) (i : Fin 256) (k : Fin 768)

theorem idx_read : (idx (ix3 i k 0)) = BitVec.ofNat 32 (bin ((i.val : ℤ) + 512 - k.val)) := by
  refine Eq.trans ?_ (line_word (Affine.subi (Affine.addi (Affine.ofNat i.val (e := i.val) (by omega)) (Affine.ofNat 512 (e := 512) (by omega)) (e := (i.val : ℤ) + 512) (by omega))
    (Affine.ofNat k.val (e := k.val) (by omega)) (e := (i.val : ℤ) + 512 - k.val) (by omega)) (by omega) (by omega))
  pointwise [idx, line, all2]
  rfl

theorem bias_read : Host.gather gather_S16x513_S256x768x1_S16x256x768_0_1_n_n_1_2_161 x2 idx (ix3 h i k) = x2 (ix2 h ⟨bin ((i.val : ℤ) + 512 - k.val), bin_lt _⟩) := by
  have hl := bin_lt ((i.val : ℤ) + 512 - k.val)
  have hi : min (idx (ix3 i k 0)).toInt.toNat 512 = bin ((i.val : ℤ) + 512 - k.val) := by
    rw [idx_read, StableHlo.Predicate.toInt_ofNat_small _ (by omega)]
    omega
  refine (gather_line _ x2 idx h i k).trans ?_
  exact congrArg (fun n : Fin 513 => x2 (ix2 h n)) (Fin.ext hi)

theorem seen_read : broadcastInDim S16x256x768 ![0, 1, 2] bcast_S1x256x768_S16x256x768_0_1_2
    (broadcastInDim S1x256x768 ![1, 2] bcast_S256x768_S1x256x768_1_2 (andi (cmpi .sge behind (all2 0#32)) (cmpi .sle behind (all2 8#32)))) (ix3 h i k)
    = if k.val / 64 ≤ i.val / 64 + 8 ∧ i.val / 64 + 8 ≤ k.val / 64 + 8 then 1#1 else 0#1 := by
  refine Eq.trans ?_ (seen_word (a := i.val / 64 + 8) (b := k.val / 64) (Affine.subi (Affine.addi (block_word i.val (by omega)) (Affine.ofNat 8 (e := 8) (by omega)) (e := ((i.val / 64 + 8 : ℕ) : ℤ)) (by omega)) (block_word k.val (by omega)) (by omega)))
  pointwise [behind, all2]
  rfl

theorem pick_read (c : IVec S16x256x768 1) (y : FVec Ideal S16x256x768 .f32) :
    select c y (broadcastInDim S16x256x768 ![] bcast_S_S16x256x768 (constant (F := Ideal) S_ .f32 0xFF800000#32)) (ix3 h i k)
      = Scalar.select (c (ix3 h i k)) (y (ix3 h i k)) (Ideal.ofBits .f32 0xFF800000#32) := by
  pointwise

include hF

theorem table_real : table x2 (ix3 h i k)
    = if k.val / 64 ≤ i.val / 64 + 8 ∧ i.val / 64 ≤ k.val / 64 then (((Hd x0 x1 x2 x3 h.val).b (bin ((i.val : ℤ) + 512 - k.val)) : ℝ) : EReal) else ⊥ := by
  rw [table, pick_read, seen_read, bias_read, bot_f32, hF.h2]
  by_cases hv : k.val / 64 ≤ i.val / 64 + 8 ∧ i.val / 64 ≤ k.val / 64
  · rw [if_pos hv, if_pos ⟨hv.1, by omega⟩, sel_one]
    rfl
  · rw [if_neg hv, if_neg fun h => hv ⟨h.1, by omega⟩, sel_zero]

end Table

end Cert.KernelIdeal.Steps

namespace Cert.KernelIdeal.CaBwd

open Cert.KernelIdeal Cert.KernelIdeal.Gen Cert.CaMath Cert.KernelIdeal.Steps
open Idealize.ShloMosaic Idealize.ShloMosaic.TcCoe Idealize.SL.Sem
open Idealize.ShloMosaic.Pipeline (Dat Cfg Window)

theorem index_0 : ∀ t : Fin cfg0.N, (cfg0.win 0).index t = ![t.val % 8, t.val / 8] := by decide +kernel
theorem index_1 : ∀ t : Fin cfg0.N, (cfg0.win 1).index t = ![0, 8 + t.val / 8] := by decide +kernel
theorem index_2 : ∀ t : Fin cfg0.N, (cfg0.win 2).index t = ![0, 16 + t.val / 8] := by decide +kernel
theorem index_3 : ∀ t : Fin cfg0.N, (cfg0.win 3).index t = ![t.val % 8, t.val / 8] := by decide +kernel
theorem index_4 : ∀ t : Fin cfg0.N, (cfg0.win 4).index t = ![t.val % 8, t.val / 8] := by decide +kernel
theorem index_5 : ∀ t : Fin cfg0.N, (cfg0.win 5).index t = ![t.val / 8, 0, 0] := by decide +kernel
theorem index_6 : ∀ t : Fin cfg0.N, (cfg0.win 6).index t = ![t.val % 8, t.val / 8] := by decide +kernel
theorem index_7 : ∀ t : Fin cfg0.N, (cfg0.win 7).index t = ![0, t.val / 8] := by decide +kernel
theorem index_8 : ∀ t : Fin cfg0.N, (cfg0.win 8).index t = ![0, t.val / 8] := by decide +kernel

theorem lt_N (t : Fin cfg0.N) : t.val < 64 := t.isLt

variable (m : (ℓ : Loc nD τ sig) → Buf (Elt Ideal) ℓ) (c : Dev nD)

/-- The launch contents' heads. -/
def heads (h : ℕ) : Head := Hd (m ((c : Thread nD τ).loc main_arg0)) (m ((c : Thread nD τ).loc main_arg1)) (m ((c : Thread nD τ).loc main_arg2)) (m ((c : Thread nD τ).loc main_arg3)) h

/-- The launch contents the kernel reads are finite. -/
def Finite : Prop := Fine (m ((c : Thread nD τ).loc main_arg0)) (m ((c : Thread nD τ).loc main_arg1)) (m ((c : Thread nD τ).loc main_arg2)) (m ((c : Thread nD τ).loc main_arg3))

theorem pick_heads (f : ℕ → Head) (p : ℕ) (l : Fin 128) : pick (f (2 * p)) (f (2 * p + 1)) l.val = f (2 * p + l.val / 64) := by
  have := l.isLt
  unfold pick
  by_cases h : l.val / 64 = 0
  · rw [if_pos h, h, Nat.add_zero]
  · rw [if_neg h, show l.val / 64 = 1 by omega]

theorem qB_at (t : Fin cfg0.N) (i : Fin 1024) (l : Fin 128) :
    qB m c t (ix2 i l) = m ((c : Thread nD τ).loc main_arg0) (ix2 ⟨1024 * (t.val % 8) + i.val, by omega⟩ ⟨128 * (t.val / 8) + l.val, by have := lt_N t; omega⟩) := by
  have := lt_N t
  unfold qB
  blk_ext [iblk, V_main_arg0, index_0 t]

theorem kB_at (t : Fin cfg0.N) (s : Fin 8192) (l : Fin 128) :
    kB m c t (ix2 s l) = m ((c : Thread nD τ).loc main_arg0) (ix2 s ⟨1024 + (128 * (t.val / 8) + l.val), by have := lt_N t; omega⟩) := by
  have := lt_N t
  unfold kB
  blk_ext [iblk, V_main_arg0, index_1 t]

theorem vB_at (t : Fin cfg0.N) (s : Fin 8192) (l : Fin 128) :
    vB m c t (ix2 s l) = m ((c : Thread nD τ).loc main_arg1) (ix2 s ⟨2048 + (128 * (t.val / 8) + l.val), by have := lt_N t; omega⟩) := by
  have := lt_N t
  unfold vB
  blk_ext [iblk, V_main_arg1, index_2 t]

theorem oB_at (t : Fin cfg0.N) (i : Fin 1024) (l : Fin 128) :
    oB m c t (ix2 i l) = V m c main_v55 (ix2 ⟨1024 * (t.val % 8) + i.val, by omega⟩ ⟨128 * (t.val / 8) + l.val, by have := lt_N t; omega⟩) := by
  have := lt_N t
  unfold oB
  blk_ext [iblk, index_3 t]

theorem gB_at (t : Fin cfg0.N) (i : Fin 1024) (l : Fin 128) :
    gB m c t (ix2 i l) = m ((c : Thread nD τ).loc main_arg3) (ix2 ⟨1024 * (t.val % 8) + i.val, by omega⟩ ⟨128 * (t.val / 8) + l.val, by have := lt_N t; omega⟩) := by
  have := lt_N t
  unfold gB
  blk_ext [iblk, V_main_arg3, index_4 t]

theorem tB_at (t : Fin cfg0.N) (r : Fin 2) (i : Fin 256) (k : Fin 768) :
    tB m c t (ix3 r i k) = V m c main_v84 (ix3 ⟨2 * (t.val / 8) + r.val, by have := lt_N t; omega⟩ i k) := by
  have := lt_N t
  unfold tB
  blk_ext [iblk, index_5 t]

section Values
variable (hF : Finite m c)
include hF

theorem inp (t : Fin cfg0.N) : Inp (heads m c (2 * (t.val / 8))) (heads m c (2 * (t.val / 8) + 1)) t (qB m c t) (oB m c t) (gB m c t) (tB m c t) where
  hq i l := by
    have := lt_N t
    rw [qB_at, pick_heads (heads m c), hF.h0]
    show ((Cert.CaMath.rd _ _ (128 * (t.val / 8) + l.val) : ℝ) : EReal) = ((Cert.CaMath.rd _ _ (64 * (2 * (t.val / 8) + l.val / 64) + l.val % 64) : ℝ) : EReal)
    rw [show 64 * (2 * (t.val / 8) + l.val / 64) + l.val % 64 = 128 * (t.val / 8) + l.val by omega]
  ho i l := by
    have := lt_N t
    rw [oB_at, pick_heads (heads m c), out_eq, Cert.ReferenceIdeal.Steps.out_real hF]
    show (((heads m c ((128 * (t.val / 8) + l.val) / 64)).O (1024 * (t.val % 8) + i.val) ((128 * (t.val / 8) + l.val) % 64) : ℝ) : EReal) = _
    rw [show (128 * (t.val / 8) + l.val) / 64 = 2 * (t.val / 8) + l.val / 64 by omega, show (128 * (t.val / 8) + l.val) % 64 = l.val % 64 by omega]
  hg i l := by
    have := lt_N t
    rw [gB_at, pick_heads (heads m c), hF.h3]
    show ((Cert.CaMath.rd _ _ (128 * (t.val / 8) + l.val) : ℝ) : EReal) = ((Cert.CaMath.rd _ _ (64 * (2 * (t.val / 8) + l.val / 64) + l.val % 64) : ℝ) : EReal)
    rw [show 64 * (2 * (t.val / 8) + l.val / 64) + l.val % 64 = 128 * (t.val / 8) + l.val by omega]
  hb0 i k := by
    rw [tB_at, table_eq]
    exact table_real hF _ i k
  hb1 i k := by
    rw [tB_at, table_eq]
    exact table_real hF _ i k

theorem rowsK (t : Fin cfg0.N) : Rows Head.k (heads m c (2 * (t.val / 8))) (heads m c (2 * (t.val / 8) + 1)) (kB m c t) := fun s l => by
  have := lt_N t
  rw [kB_at, pick_heads (heads m c), hF.h0]
  show ((Cert.CaMath.rd _ s.val (1024 + (128 * (t.val / 8) + l.val)) : ℝ) : EReal) = (((if 512 ≤ 512 + s.val then Cert.CaMath.rd _ (512 + s.val - 512) (1024 + (64 * (2 * (t.val / 8) + l.val / 64) + l.val % 64)) else 0 : ℝ)) : EReal)
  rw [if_pos (Nat.le_add_right _ _), Nat.add_sub_cancel_left, show 64 * (2 * (t.val / 8) + l.val / 64) + l.val % 64 = 128 * (t.val / 8) + l.val by omega]

theorem rowsV (t : Fin cfg0.N) : Rows Head.v (heads m c (2 * (t.val / 8))) (heads m c (2 * (t.val / 8) + 1)) (vB m c t) := fun s l => by
  have := lt_N t
  rw [vB_at, pick_heads (heads m c), hF.h1 _ _ (Nat.le_add_right _ _)]
  show ((Cert.CaMath.rd _ s.val (2048 + (128 * (t.val / 8) + l.val)) : ℝ) : EReal) = (((if 512 ≤ 512 + s.val then Cert.CaMath.rd _ (512 + s.val - 512) (2048 + (64 * (2 * (t.val / 8) + l.val / 64) + l.val % 64)) else 0 : ℝ)) : EReal)
  rw [if_pos (Nat.le_add_right _ _), Nat.add_sub_cancel_left, show 64 * (2 * (t.val / 8) + l.val / 64) + l.val % 64 = 128 * (t.val / 8) + l.val by omega]

omit hF in
theorem k_low (h n d : ℕ) (hn : n < 512) : (heads m c h).k n d = 0 := if_neg (by omega)

omit hF in
theorem v_low (h n d : ℕ) (hn : n < 512) : (heads m c h).v n d = 0 := if_neg (by omega)

/-- A gradient of all heads side by side. -/
def side (f : Head → ℕ → ℕ → ℝ) : Vec Ideal S8192x1024 .bf16 := fun y => ((f (heads m c ((y 1).val / 64)) (y 0).val ((y 1).val % 64) : ℝ) : EReal)

omit hF in
theorem side_at (f : Head → ℕ → ℕ → ℝ) (y : S8192x1024.Idx) {n p l : ℕ} (hl : l < 128) (e0 : (y 0).val = n) (e1 : (y 1).val = 128 * p + l) :
    side m c f y = ((f (heads m c (2 * p + l / 64)) n (l % 64) : ℝ) : EReal) := by
  unfold side
  rw [e0, e1, show (128 * p + l) / 64 = 2 * p + l / 64 by omega, show (128 * p + l) % 64 = l % 64 by omega]

omit hF in
theorem flush7 (t : Fin cfg0.N) (h : (cfg0.win 7).flush t = true) : t.val % 8 = 7 := by
  revert t
  decide +kernel

omit hF in
theorem flush8 (t : Fin cfg0.N) (h : (cfg0.win 8).flush t = true) : t.val % 8 = 7 := by
  revert t
  decide +kernel

theorem out6 : (dats m 0 c).arrAt 6 cfg0.N = side m c Head.dQ := by
  refine (dats m 0 c).arrAt_eq_of_covers 6 _ (by decide +kernel) fun t hf y => ?_
  blk_simp
  have ht := lt_N t
  have e0 : ((win0_6.blk t).view.emb y 0).val = 1024 * (t.val % 8) + (y 0).val := by
    blk_simp [index_6 t]
    try omega
  have e1 : ((win0_6.blk t).view.emb y 1).val = 128 * (t.val / 8) + (y 1).val := by
    blk_simp [index_6 t]
    try omega
  refine Eq.trans ?_ (side_at m c Head.dQ _ (y 1).isLt e0 e1).symm
  exact (congrArg (dqB m c t) (ix2_eta (show S1024x128.Idx from y)).symm).trans (dqB_read m c (heads m c) (k_low m c) (v_low m c) (inp m c hF) (rowsK m c hF) (rowsV m c hF) t (y 0) (y 1))

theorem out7 : (dats m 0 c).arrAt 7 cfg0.N = side m c Head.dK := by
  refine (dats m 0 c).arrAt_eq_of_covers 7 _ (by decide +kernel) fun t hf y => ?_
  blk_simp
  have ht := lt_N t
  have h7 := flush7 t hf
  have e0 : ((win0_7.blk t).view.emb y 0).val = (y 0).val := by
    blk_simp [index_7 t]
    try omega
  have e1 : ((win0_7.blk t).view.emb y 1).val = 128 * (t.val / 8) + (y 1).val := by
    blk_simp [index_7 t]
    try omega
  refine Eq.trans ?_ (side_at m c Head.dK _ (y 1).isLt e0 e1).symm
  exact (congrArg (outRows (aft m c t.val t.isLt).ka) (ix2_eta (show S8192x128.Idx from y)).symm).trans (dkB_read m c (heads m c) (k_low m c) (v_low m c) (inp m c hF) (rowsK m c hF) (rowsV m c hF) t h7 (y 0) (y 1))

theorem out8 : (dats m 0 c).arrAt 8 cfg0.N = side m c Head.dV := by
  refine (dats m 0 c).arrAt_eq_of_covers 8 _ (by decide +kernel) fun t hf y => ?_
  blk_simp
  have ht := lt_N t
  have h7 := flush8 t hf
  have e0 : ((win0_8.blk t).view.emb y 0).val = (y 0).val := by
    blk_simp [index_8 t]
    try omega
  have e1 : ((win0_8.blk t).view.emb y 1).val = 128 * (t.val / 8) + (y 1).val := by
    blk_simp [index_8 t]
    try omega
  refine Eq.trans ?_ (side_at m c Head.dV _ (y 1).isLt e0 e1).symm
  exact (congrArg (outRows (aft m c t.val t.isLt).va) (ix2_eta (show S8192x128.Idx from y)).symm).trans (dvB_read m c (heads m c) (k_low m c) (v_low m c) (inp m c hF) (rowsK m c hF) (rowsV m c hF) t h7 (y 0) (y 1))

end Values

end Cert.KernelIdeal.CaBwd
end
-- ==== Proof.Value.Finish.lean ====
/-
  The precondition read as numbers, and the value claim.
-/
module

public import proofs.«01_k».proof.Defs
public import proofs.«01_k».proof.Proof.Value.Blocks
public import proofs.«01_k».proof.Proof.KI.Run
public import proofs.«01_k».proof.Proof.Gen.Pre_finite
public import proofs.«01_k».proof.Proof.Gen.ReferenceIdeal.Run
public import Idealize.ShloMosaic.Lib.ReduceAll
public import Idealize.ShloMosaic.Lib.Affine

@[expose] public section

set_option maxRecDepth 16384

noncomputable section

namespace Cert.Pre_finite.Read

open Cert.Pre_finite Cert.Pre_finite.Gen Cert.CaMath
open Idealize.ShloMosaic Idealize.SL.Sem

theorem top_f32 : Ideal.ofBits .f32 0x7F800000#32 = ⊤ := by
  simp [Ideal.ofBits, Ideal.ieee]

/-- A number whose absolute value is below the infinity is a real number. -/
theorem real_of_lt (x : EReal) (h : Ideal.cmp .olt (max x (-x)) (Ideal.ofBits .f32 0x7F800000#32) = 1#1) : x = ((x.toReal : ℝ) : EReal) := by
  rw [top_f32] at h
  have hlt : max x (-x) < ⊤ := by
    by_contra hn
    simp [Ideal.cmp, hn] at h
  refine (EReal.coe_toReal ?_ ?_).symm
  · rintro rfl
    simp at hlt
  · rintro rfl
    simp at hlt

instance : Subsingleton S_.Idx := ⟨fun a b => funext fun d => d.elim0⟩

theorem rd_eq {n0 n1 : ℕ} (x : (⟨2, ![n0, n1]⟩ : Shape).Idx → EReal) (t : Fin n0) (c : Fin n1)
    (h : x (ix2 t c) = (((x (ix2 t c)).toReal : ℝ) : EReal)) : x (ix2 t c) = ((rd x t.val c.val : ℝ) : EReal) := by
  rw [rd, dif_pos ⟨t.isLt, c.isLt⟩]
  exact h

variable {x0 : FVec Ideal S8192x2048 .bf16} {x1 : FVec Ideal S8192x3072 .bf16} {x2 : FVec Ideal S16x513 .f32} {x3 : FVec Ideal S8192x1024 .bf16}

/-- The precondition's five conjuncts, at an index. -/
theorem fine (h : fn (F := Ideal) x0 x1 x2 x3 = fun _ => 1#1) : Fine x0 x1 x2 x3 := by
  have e := congrFun h ix0
  unfold fn fn_part1 at e
  obtain ⟨e, eb⟩ := IntOp.andi_eq_one.1 e
  obtain ⟨e, eg⟩ := IntOp.andi_eq_one.1 e
  obtain ⟨e, ev⟩ := IntOp.andi_eq_one.1 e
  obtain ⟨eq, ek⟩ := IntOp.andi_eq_one.1 e
  refine ⟨fun t c => rd_eq _ _ _ (real_of_lt _ ?_), fun t c hc => rd_eq _ _ _ (real_of_lt _ ?_), fun t c => rd_eq _ _ _ (real_of_lt _ ?_), fun t c => rd_eq _ _ _ (real_of_lt _ ?_)⟩
  · by_cases hc : c.val < 1024
    · have := Host.reduce_andi_all _ _ _ _ _ eq (ix2 t ⟨c.val, hc⟩)
      refine Eq.trans ?_ this
      pointwise
      rfl
    · have := Host.reduce_andi_all _ _ _ _ _ ek (ix2 t ⟨c.val - 1024, by omega⟩)
      refine Eq.trans ?_ this
      pointwise
      rw [show (⟨1024 + (c.val - 1024), by omega⟩ : Fin 2048) = c from Fin.ext (by show 1024 + (c.val - 1024) = c.val; omega)]
      rfl
  · have := Host.reduce_andi_all _ _ _ _ _ ev (ix2 t ⟨c.val - 2048, by omega⟩)
    refine Eq.trans ?_ this
    pointwise
    rw [show (⟨2048 + (c.val - 2048), by omega⟩ : Fin 3072) = c from Fin.ext (by show 2048 + (c.val - 2048) = c.val; omega)]
    rfl
  · exact Host.reduce_andi_all _ _ _ _ _ eb (ix2 t c)
  · exact Host.reduce_andi_all _ _ _ _ _ eg (ix2 t c)

end Cert.Pre_finite.Read

namespace Cert.Proof

open Idealize.ShloMosaic Idealize.SL.Sem Cert.KernelIdeal.CaBwd Cert.CaMath

/-- The kernel and the reference leave the same three gradients. -/
theorem algebraic : Cert.algebraic_KernelIdeal_ReferenceIdeal_pre_finite := by
  intro m g m' g' hp ha
  have hF : ∀ c, Finite m c := fun c => Cert.Pre_finite.Read.fine (hp c)
  refine ⟨fun c => side m c Head.dQ, fun c => side m c Head.dK, fun c => side m c Head.dV, ?_, ?_⟩
  · refine (θ_run Cert.KernelIdeal.defs _ _).mono (fun r h c => ?_) (θ_run_and (Cert.KernelIdeal.CaBwd.run m g) (Cert.KernelIdeal.CaBwd.frame_and m g))
    obtain ⟨h0, h1⟩ := h
    exact ⟨(h0.1.out_eq c 6).trans (out6 m c (hF c)), (h0.1.out_eq c 7).trans (out7 m c (hF c)), (h0.1.out_eq c 8).trans (out8 m c (hF c)), h1.1 c⟩
  · refine (θ_run Cert.ReferenceIdeal.defs _ _).mono (fun r h c => ?_) (Cert.ReferenceIdeal.Value.run (F := Ideal) m' g')
    obtain ⟨h0, h1, h2, h3⟩ := h c
    obtain ⟨a0, a1, a2, a3⟩ := ha c
    refine ⟨h0.trans ?_, h1.trans ?_, h2.trans ?_, h3⟩
    · refine (Cert.ReferenceIdeal.Steps.out0_eq m' c).trans ?_
      rw [a0, a1, a2, a3]
      funext y
      rw [eq_ix2 y]
      exact Cert.ReferenceIdeal.Steps.dq_real (hF c) _ _
    · refine (Cert.ReferenceIdeal.Steps.out1_eq m' c).trans ?_
      rw [a0, a1, a2, a3]
      funext y
      rw [eq_ix2 y]
      exact Cert.ReferenceIdeal.Steps.dk_real (hF c) _ _
    · refine (Cert.ReferenceIdeal.Steps.out2_eq m' c).trans ?_
      rw [a0, a2, a3]
      funext y
      rw [eq_ix2 y]
      exact Cert.ReferenceIdeal.Steps.dv_real (hF c) _ _

end Cert.Proof
end
-- ==== Proof.Dense.Frames.lean ====
/-
  The claims of the product calls that are no value claims.
-/
module

public import proofs.«01_k».proof.Defs
public import proofs.«01_k».proof.Proof.Gen.KernelDwDown
public import proofs.«01_k».proof.Proof.Gen.KernelDwDownIdeal.Frame
public import proofs.«01_k».proof.Proof.Gen.ReferenceDwDownIdeal.Run
public import proofs.«01_k».proof.Proof.Gen.KernelDPre
public import proofs.«01_k».proof.Proof.Gen.KernelDPreIdeal.Frame
public import proofs.«01_k».proof.Proof.Gen.ReferenceDPreIdeal.Run
public import proofs.«01_k».proof.Proof.Gen.KernelDwUp
public import proofs.«01_k».proof.Proof.Gen.KernelDwUpIdeal.Frame
public import proofs.«01_k».proof.Proof.Gen.ReferenceDwUpIdeal.Run
public import proofs.«01_k».proof.Proof.Gen.KernelDwQkv
public import proofs.«01_k».proof.Proof.Gen.KernelDwQkvIdeal.Frame
public import proofs.«01_k».proof.Proof.Gen.ReferenceDwQkvIdeal.Run
public import proofs.«01_k».proof.Proof.Gen.KernelDwO
public import proofs.«01_k».proof.Proof.Gen.KernelDwOIdeal.Frame
public import proofs.«01_k».proof.Proof.Gen.ReferenceDwOIdeal.Run
public import proofs.«01_k».proof.Proof.Gen.KernelDO
public import proofs.«01_k».proof.Proof.Gen.KernelDOIdeal.Frame
public import proofs.«01_k».proof.Proof.Gen.ReferenceDOIdeal.Run
public import proofs.«01_k».proof.Proof.Gen.KernelQkv
public import proofs.«01_k».proof.Proof.Gen.KernelQkvIdeal.Frame
public import proofs.«01_k».proof.Proof.Gen.ReferenceQkvIdeal.Run
public import proofs.«01_k».proof.Proof.Gen.KernelUp
public import proofs.«01_k».proof.Proof.Gen.KernelUpIdeal.Frame
public import proofs.«01_k».proof.Proof.Gen.ReferenceUpIdeal.Run
public import proofs.«01_k».proof.Proof.Gen.KernelAttnOut
public import proofs.«01_k».proof.Proof.Gen.KernelAttnOutIdeal.Frame
public import proofs.«01_k».proof.Proof.Gen.ReferenceAttnOutIdeal.Run
public import proofs.«01_k».proof.Proof.Gen.KernelDown
public import proofs.«01_k».proof.Proof.Gen.KernelDownIdeal.Frame
public import proofs.«01_k».proof.Proof.Gen.ReferenceDownIdeal.Run
public import proofs.«01_k».proof.Proof.Gen.KernelLast
public import proofs.«01_k».proof.Proof.Gen.KernelLastIdeal.Frame
public import proofs.«01_k».proof.Proof.Gen.ReferenceLastIdeal.Run
public import proofs.«01_k».proof.Proof.Gen.KernelDH1
public import proofs.«01_k».proof.Proof.Gen.KernelDH1Ideal.Frame
public import proofs.«01_k».proof.Proof.Gen.ReferenceDH1Ideal.Run
public import proofs.«01_k».proof.Proof.Gen.KernelDH0
public import proofs.«01_k».proof.Proof.Gen.KernelDH0Ideal.Frame
public import proofs.«01_k».proof.Proof.Gen.ReferenceDH0Ideal.Run

@[expose] public section

set_option maxRecDepth 65536

noncomputable section

namespace Cert.Proof

open Idealize.ShloMosaic Idealize.SL.Sem

/-- The two programs have the same body table. -/
theorem defsDwDown : Cert.KernelDwDown.defs (F := Bits) = Cert.KernelDwDownIdeal.defs (F := Bits) :=
  congrArg (Pipeline.defs Cert.KernelDwDownIdeal.pcfgs) (congrArg Defs.onTc (funext fun l => funext fun x => by
    match l, x with
    | ⟨0, _⟩, (t, s) => rfl))

/-- The kernel's frame, from the ideal program's run: the two have the same text. -/
theorem frame_kernelDwDown : Cert.quiescent_KernelDwDown := fun m g _ =>
  (congrArg (fun d => θ_run d (onTc (τ := Cert.KernelDwDownIdeal.τ) (Cert.KernelDwDownIdeal.main (F := Bits))) ⟨m, fun _ => 0, g⟩ _)
    defsDwDown).mpr (Cert.KernelDwDownIdeal.Gen.frame (F := Bits) m g)

theorem frame_kernelDwDownIdeal : Cert.quiescent_KernelDwDownIdeal := fun m g _ => Cert.KernelDwDownIdeal.Gen.frame (F := Ideal) m g

theorem frame_referenceDwDown : Cert.quiescent_ReferenceDwDownIdeal := fun m g _ =>
  (θ_run Cert.ReferenceDwDownIdeal.defs _ _).mono (fun r h => ⟨fun c => (h c).2, sem_eq_zero_of_no_sems (by decide) r.2⟩)
    (Cert.ReferenceDwDownIdeal.Value.run (F := Ideal) m g)

theorem preservesDwDown : Cert.preserves_KernelDwDown_KernelDwDownIdeal := trivial

/-- The two programs have the same body table. -/
theorem defsDPre : Cert.KernelDPre.defs (F := Bits) = Cert.KernelDPreIdeal.defs (F := Bits) :=
  congrArg (Pipeline.defs Cert.KernelDPreIdeal.pcfgs) (congrArg Defs.onTc (funext fun l => funext fun x => by
    match l, x with
    | ⟨0, _⟩, (t, s) => rfl))

/-- The kernel's frame, from the ideal program's run: the two have the same text. -/
theorem frame_kernelDPre : Cert.quiescent_KernelDPre := fun m g _ =>
  (congrArg (fun d => θ_run d (onTc (τ := Cert.KernelDPreIdeal.τ) (Cert.KernelDPreIdeal.main (F := Bits))) ⟨m, fun _ => 0, g⟩ _)
    defsDPre).mpr (Cert.KernelDPreIdeal.Gen.frame (F := Bits) m g)

theorem frame_kernelDPreIdeal : Cert.quiescent_KernelDPreIdeal := fun m g _ => Cert.KernelDPreIdeal.Gen.frame (F := Ideal) m g

theorem frame_referenceDPre : Cert.quiescent_ReferenceDPreIdeal := fun m g _ =>
  (θ_run Cert.ReferenceDPreIdeal.defs _ _).mono (fun r h => ⟨fun c => (h c).2, sem_eq_zero_of_no_sems (by decide) r.2⟩)
    (Cert.ReferenceDPreIdeal.Value.run (F := Ideal) m g)

theorem preservesDPre : Cert.preserves_KernelDPre_KernelDPreIdeal := trivial

/-- The two programs have the same body table. -/
theorem defsDwUp : Cert.KernelDwUp.defs (F := Bits) = Cert.KernelDwUpIdeal.defs (F := Bits) :=
  congrArg (Pipeline.defs Cert.KernelDwUpIdeal.pcfgs) (congrArg Defs.onTc (funext fun l => funext fun x => by
    match l, x with
    | ⟨0, _⟩, (t, s) => rfl))

/-- The kernel's frame, from the ideal program's run: the two have the same text. -/
theorem frame_kernelDwUp : Cert.quiescent_KernelDwUp := fun m g _ =>
  (congrArg (fun d => θ_run d (onTc (τ := Cert.KernelDwUpIdeal.τ) (Cert.KernelDwUpIdeal.main (F := Bits))) ⟨m, fun _ => 0, g⟩ _)
    defsDwUp).mpr (Cert.KernelDwUpIdeal.Gen.frame (F := Bits) m g)

theorem frame_kernelDwUpIdeal : Cert.quiescent_KernelDwUpIdeal := fun m g _ => Cert.KernelDwUpIdeal.Gen.frame (F := Ideal) m g

theorem frame_referenceDwUp : Cert.quiescent_ReferenceDwUpIdeal := fun m g _ =>
  (θ_run Cert.ReferenceDwUpIdeal.defs _ _).mono (fun r h => ⟨fun c => (h c).2, sem_eq_zero_of_no_sems (by decide) r.2⟩)
    (Cert.ReferenceDwUpIdeal.Value.run (F := Ideal) m g)

theorem preservesDwUp : Cert.preserves_KernelDwUp_KernelDwUpIdeal := trivial

/-- The two programs have the same body table. -/
theorem defsDwQkv : Cert.KernelDwQkv.defs (F := Bits) = Cert.KernelDwQkvIdeal.defs (F := Bits) :=
  congrArg (Pipeline.defs Cert.KernelDwQkvIdeal.pcfgs) (congrArg Defs.onTc (funext fun l => funext fun x => by
    match l, x with
    | ⟨0, _⟩, (t, s) => rfl))

/-- The kernel's frame, from the ideal program's run: the two have the same text. -/
theorem frame_kernelDwQkv : Cert.quiescent_KernelDwQkv := fun m g _ =>
  (congrArg (fun d => θ_run d (onTc (τ := Cert.KernelDwQkvIdeal.τ) (Cert.KernelDwQkvIdeal.main (F := Bits))) ⟨m, fun _ => 0, g⟩ _)
    defsDwQkv).mpr (Cert.KernelDwQkvIdeal.Gen.frame (F := Bits) m g)

theorem frame_kernelDwQkvIdeal : Cert.quiescent_KernelDwQkvIdeal := fun m g _ => Cert.KernelDwQkvIdeal.Gen.frame (F := Ideal) m g

theorem frame_referenceDwQkv : Cert.quiescent_ReferenceDwQkvIdeal := fun m g _ =>
  (θ_run Cert.ReferenceDwQkvIdeal.defs _ _).mono (fun r h => ⟨fun c => (h c).2, sem_eq_zero_of_no_sems (by decide) r.2⟩)
    (Cert.ReferenceDwQkvIdeal.Value.run (F := Ideal) m g)

theorem preservesDwQkv : Cert.preserves_KernelDwQkv_KernelDwQkvIdeal := trivial

/-- The two programs have the same body table. -/
theorem defsDwO : Cert.KernelDwO.defs (F := Bits) = Cert.KernelDwOIdeal.defs (F := Bits) :=
  congrArg (Pipeline.defs Cert.KernelDwOIdeal.pcfgs) (congrArg Defs.onTc (funext fun l => funext fun x => by
    match l, x with
    | ⟨0, _⟩, (t, s) => rfl))

/-- The kernel's frame, from the ideal program's run: the two have the same text. -/
theorem frame_kernelDwO : Cert.quiescent_KernelDwO := fun m g _ =>
  (congrArg (fun d => θ_run d (onTc (τ := Cert.KernelDwOIdeal.τ) (Cert.KernelDwOIdeal.main (F := Bits))) ⟨m, fun _ => 0, g⟩ _)
    defsDwO).mpr (Cert.KernelDwOIdeal.Gen.frame (F := Bits) m g)

theorem frame_kernelDwOIdeal : Cert.quiescent_KernelDwOIdeal := fun m g _ => Cert.KernelDwOIdeal.Gen.frame (F := Ideal) m g

theorem frame_referenceDwO : Cert.quiescent_ReferenceDwOIdeal := fun m g _ =>
  (θ_run Cert.ReferenceDwOIdeal.defs _ _).mono (fun r h => ⟨fun c => (h c).2, sem_eq_zero_of_no_sems (by decide) r.2⟩)
    (Cert.ReferenceDwOIdeal.Value.run (F := Ideal) m g)

theorem preservesDwO : Cert.preserves_KernelDwO_KernelDwOIdeal := trivial

/-- The two programs have the same body table. -/
theorem defsDO : Cert.KernelDO.defs (F := Bits) = Cert.KernelDOIdeal.defs (F := Bits) :=
  congrArg (Pipeline.defs Cert.KernelDOIdeal.pcfgs) (congrArg Defs.onTc (funext fun l => funext fun x => by
    match l, x with
    | ⟨0, _⟩, (t, s) => rfl))

/-- The kernel's frame, from the ideal program's run: the two have the same text. -/
theorem frame_kernelDO : Cert.quiescent_KernelDO := fun m g _ =>
  (congrArg (fun d => θ_run d (onTc (τ := Cert.KernelDOIdeal.τ) (Cert.KernelDOIdeal.main (F := Bits))) ⟨m, fun _ => 0, g⟩ _)
    defsDO).mpr (Cert.KernelDOIdeal.Gen.frame (F := Bits) m g)

theorem frame_kernelDOIdeal : Cert.quiescent_KernelDOIdeal := fun m g _ => Cert.KernelDOIdeal.Gen.frame (F := Ideal) m g

theorem frame_referenceDO : Cert.quiescent_ReferenceDOIdeal := fun m g _ =>
  (θ_run Cert.ReferenceDOIdeal.defs _ _).mono (fun r h => ⟨fun c => (h c).2, sem_eq_zero_of_no_sems (by decide) r.2⟩)
    (Cert.ReferenceDOIdeal.Value.run (F := Ideal) m g)

theorem preservesDO : Cert.preserves_KernelDO_KernelDOIdeal := trivial

/-- The two programs have the same body table. -/
theorem defsQkv : Cert.KernelQkv.defs (F := Bits) = Cert.KernelQkvIdeal.defs (F := Bits) :=
  congrArg (Pipeline.defs Cert.KernelQkvIdeal.pcfgs) (congrArg Defs.onTc (funext fun l => funext fun x => by
    match l, x with
    | ⟨0, _⟩, (t, s) => rfl))

/-- The kernel's frame, from the ideal program's run: the two have the same text. -/
theorem frame_kernelQkv : Cert.quiescent_KernelQkv := fun m g _ =>
  (congrArg (fun d => θ_run d (onTc (τ := Cert.KernelQkvIdeal.τ) (Cert.KernelQkvIdeal.main (F := Bits))) ⟨m, fun _ => 0, g⟩ _)
    defsQkv).mpr (Cert.KernelQkvIdeal.Gen.frame (F := Bits) m g)

theorem frame_kernelQkvIdeal : Cert.quiescent_KernelQkvIdeal := fun m g _ => Cert.KernelQkvIdeal.Gen.frame (F := Ideal) m g

theorem frame_referenceQkv : Cert.quiescent_ReferenceQkvIdeal := fun m g _ =>
  (θ_run Cert.ReferenceQkvIdeal.defs _ _).mono (fun r h => ⟨fun c => (h c).2, sem_eq_zero_of_no_sems (by decide) r.2⟩)
    (Cert.ReferenceQkvIdeal.Value.run (F := Ideal) m g)

theorem preservesQkv : Cert.preserves_KernelQkv_KernelQkvIdeal := trivial

/-- The two programs have the same body table. -/
theorem defsUp : Cert.KernelUp.defs (F := Bits) = Cert.KernelUpIdeal.defs (F := Bits) :=
  congrArg (Pipeline.defs Cert.KernelUpIdeal.pcfgs) (congrArg Defs.onTc (funext fun l => funext fun x => by
    match l, x with
    | ⟨0, _⟩, (t, s) => rfl))

/-- The kernel's frame, from the ideal program's run: the two have the same text. -/
theorem frame_kernelUp : Cert.quiescent_KernelUp := fun m g _ =>
  (congrArg (fun d => θ_run d (onTc (τ := Cert.KernelUpIdeal.τ) (Cert.KernelUpIdeal.main (F := Bits))) ⟨m, fun _ => 0, g⟩ _)
    defsUp).mpr (Cert.KernelUpIdeal.Gen.frame (F := Bits) m g)

theorem frame_kernelUpIdeal : Cert.quiescent_KernelUpIdeal := fun m g _ => Cert.KernelUpIdeal.Gen.frame (F := Ideal) m g

theorem frame_referenceUp : Cert.quiescent_ReferenceUpIdeal := fun m g _ =>
  (θ_run Cert.ReferenceUpIdeal.defs _ _).mono (fun r h => ⟨fun c => (h c).2, sem_eq_zero_of_no_sems (by decide) r.2⟩)
    (Cert.ReferenceUpIdeal.Value.run (F := Ideal) m g)

theorem preservesUp : Cert.preserves_KernelUp_KernelUpIdeal := trivial

/-- The two programs have the same body table. -/
theorem defsAttnOut : Cert.KernelAttnOut.defs (F := Bits) = Cert.KernelAttnOutIdeal.defs (F := Bits) :=
  congrArg (Pipeline.defs Cert.KernelAttnOutIdeal.pcfgs) (congrArg Defs.onTc (funext fun l => funext fun x => by
    match l, x with
    | ⟨0, _⟩, (t, s) => rfl))

/-- The kernel's frame, from the ideal program's run: the two have the same text. -/
theorem frame_kernelAttnOut : Cert.quiescent_KernelAttnOut := fun m g _ =>
  (congrArg (fun d => θ_run d (onTc (τ := Cert.KernelAttnOutIdeal.τ) (Cert.KernelAttnOutIdeal.main (F := Bits))) ⟨m, fun _ => 0, g⟩ _)
    defsAttnOut).mpr (Cert.KernelAttnOutIdeal.Gen.frame (F := Bits) m g)

theorem frame_kernelAttnOutIdeal : Cert.quiescent_KernelAttnOutIdeal := fun m g _ => Cert.KernelAttnOutIdeal.Gen.frame (F := Ideal) m g

theorem frame_referenceAttnOut : Cert.quiescent_ReferenceAttnOutIdeal := fun m g _ =>
  (θ_run Cert.ReferenceAttnOutIdeal.defs _ _).mono (fun r h => ⟨fun c => (h c).2.2, sem_eq_zero_of_no_sems (by decide) r.2⟩)
    (Cert.ReferenceAttnOutIdeal.Value.run (F := Ideal) m g)

theorem preservesAttnOut : Cert.preserves_KernelAttnOut_KernelAttnOutIdeal := trivial

/-- The two programs have the same body table. -/
theorem defsDown : Cert.KernelDown.defs (F := Bits) = Cert.KernelDownIdeal.defs (F := Bits) :=
  congrArg (Pipeline.defs Cert.KernelDownIdeal.pcfgs) (congrArg Defs.onTc (funext fun l => funext fun x => by
    match l, x with
    | ⟨0, _⟩, (t, s) => rfl))

/-- The kernel's frame, from the ideal program's run: the two have the same text. -/
theorem frame_kernelDown : Cert.quiescent_KernelDown := fun m g _ =>
  (congrArg (fun d => θ_run d (onTc (τ := Cert.KernelDownIdeal.τ) (Cert.KernelDownIdeal.main (F := Bits))) ⟨m, fun _ => 0, g⟩ _)
    defsDown).mpr (Cert.KernelDownIdeal.Gen.frame (F := Bits) m g)

theorem frame_kernelDownIdeal : Cert.quiescent_KernelDownIdeal := fun m g _ => Cert.KernelDownIdeal.Gen.frame (F := Ideal) m g

theorem frame_referenceDown : Cert.quiescent_ReferenceDownIdeal := fun m g _ =>
  (θ_run Cert.ReferenceDownIdeal.defs _ _).mono (fun r h => ⟨fun c => (h c).2.2, sem_eq_zero_of_no_sems (by decide) r.2⟩)
    (Cert.ReferenceDownIdeal.Value.run (F := Ideal) m g)

theorem preservesDown : Cert.preserves_KernelDown_KernelDownIdeal := trivial

/-- The two programs have the same body table. -/
theorem defsLast : Cert.KernelLast.defs (F := Bits) = Cert.KernelLastIdeal.defs (F := Bits) :=
  congrArg (Pipeline.defs Cert.KernelLastIdeal.pcfgs) (congrArg Defs.onTc (funext fun l => funext fun x => by
    match l, x with
    | ⟨0, _⟩, (t, s) => rfl))

/-- The kernel's frame, from the ideal program's run: the two have the same text. -/
theorem frame_kernelLast : Cert.quiescent_KernelLast := fun m g _ =>
  (congrArg (fun d => θ_run d (onTc (τ := Cert.KernelLastIdeal.τ) (Cert.KernelLastIdeal.main (F := Bits))) ⟨m, fun _ => 0, g⟩ _)
    defsLast).mpr (Cert.KernelLastIdeal.Gen.frame (F := Bits) m g)

theorem frame_kernelLastIdeal : Cert.quiescent_KernelLastIdeal := fun m g _ => Cert.KernelLastIdeal.Gen.frame (F := Ideal) m g

theorem frame_referenceLast : Cert.quiescent_ReferenceLastIdeal := fun m g _ =>
  (θ_run Cert.ReferenceLastIdeal.defs _ _).mono (fun r h => ⟨fun c => (h c).2, sem_eq_zero_of_no_sems (by decide) r.2⟩)
    (Cert.ReferenceLastIdeal.Value.run (F := Ideal) m g)

theorem preservesLast : Cert.preserves_KernelLast_KernelLastIdeal := trivial

/-- The two programs have the same body table. -/
theorem defsDH1 : Cert.KernelDH1.defs (F := Bits) = Cert.KernelDH1Ideal.defs (F := Bits) :=
  congrArg (Pipeline.defs Cert.KernelDH1Ideal.pcfgs) (congrArg Defs.onTc (funext fun l => funext fun x => by
    match l, x with
    | ⟨0, _⟩, (t, s) => rfl))

/-- The kernel's frame, from the ideal program's run: the two have the same text. -/
theorem frame_kernelDH1 : Cert.quiescent_KernelDH1 := fun m g _ =>
  (congrArg (fun d => θ_run d (onTc (τ := Cert.KernelDH1Ideal.τ) (Cert.KernelDH1Ideal.main (F := Bits))) ⟨m, fun _ => 0, g⟩ _)
    defsDH1).mpr (Cert.KernelDH1Ideal.Gen.frame (F := Bits) m g)

theorem frame_kernelDH1Ideal : Cert.quiescent_KernelDH1Ideal := fun m g _ => Cert.KernelDH1Ideal.Gen.frame (F := Ideal) m g

theorem frame_referenceDH1 : Cert.quiescent_ReferenceDH1Ideal := fun m g _ =>
  (θ_run Cert.ReferenceDH1Ideal.defs _ _).mono (fun r h => ⟨fun c => (h c).2.2, sem_eq_zero_of_no_sems (by decide) r.2⟩)
    (Cert.ReferenceDH1Ideal.Value.run (F := Ideal) m g)

theorem preservesDH1 : Cert.preserves_KernelDH1_KernelDH1Ideal := trivial

/-- The two programs have the same body table. -/
theorem defsDH0 : Cert.KernelDH0.defs (F := Bits) = Cert.KernelDH0Ideal.defs (F := Bits) :=
  congrArg (Pipeline.defs Cert.KernelDH0Ideal.pcfgs) (congrArg Defs.onTc (funext fun l => funext fun x => by
    match l, x with
    | ⟨0, _⟩, (t, s) => rfl))

/-- The kernel's frame, from the ideal program's run: the two have the same text. -/
theorem frame_kernelDH0 : Cert.quiescent_KernelDH0 := fun m g _ =>
  (congrArg (fun d => θ_run d (onTc (τ := Cert.KernelDH0Ideal.τ) (Cert.KernelDH0Ideal.main (F := Bits))) ⟨m, fun _ => 0, g⟩ _)
    defsDH0).mpr (Cert.KernelDH0Ideal.Gen.frame (F := Bits) m g)

theorem frame_kernelDH0Ideal : Cert.quiescent_KernelDH0Ideal := fun m g _ => Cert.KernelDH0Ideal.Gen.frame (F := Ideal) m g

theorem frame_referenceDH0 : Cert.quiescent_ReferenceDH0Ideal := fun m g _ =>
  (θ_run Cert.ReferenceDH0Ideal.defs _ _).mono (fun r h => ⟨fun c => (h c).2.2, sem_eq_zero_of_no_sems (by decide) r.2⟩)
    (Cert.ReferenceDH0Ideal.Value.run (F := Ideal) m g)

theorem preservesDH0 : Cert.preserves_KernelDH0_KernelDH0Ideal := trivial

end Cert.Proof
end
-- ==== Proof.Dense.Sums.lean ====
/-
  Sums over the rows of a two-dimensional array, cut into tiles of 1024 rows.
-/
module

public import Idealize.ShloMosaic.Lib.Pipeline.ValueKit

@[expose] public section

noncomputable section

namespace Cert.DenseMath

open Idealize.ShloMosaic Idealize.SL.Sem

/-- An element by its two numbers, zero outside the array. -/
def el {n0 n1 : ℕ} (x : (⟨2, ![n0, n1]⟩ : Shape).Idx → EReal) (i j : ℕ) : EReal :=
  if h : i < n0 ∧ j < n1 then x (ix2 ⟨i, h.1⟩ ⟨j, h.2⟩) else 0

theorem el_eq {n0 n1 : ℕ} (x : (⟨2, ![n0, n1]⟩ : Shape).Idx → EReal) (i : Fin n0) (j : Fin n1) :
    el x i.val j.val = x (ix2 i j) := by
  unfold el
  rw [dif_pos ⟨i.isLt, j.isLt⟩]

/-- Two sums of products with equal factors are equal. -/
theorem sum_eq {n : ℕ} {a b a' b' : Fin n → EReal} (ha : ∀ k, a k = a' k) (hb : ∀ k, b k = b' k) :
    ∑ k : Fin n, a k * b k = ∑ k : Fin n, a' k * b' k :=
  Finset.sum_congr rfl fun k _ => congrArg₂ (· * ·) (ha k) (hb k)

/-- A sum over tiles is the sum over all rows. -/
theorem sum_tiles (f : ℕ → EReal) (n : ℕ) :
    ∑ k ∈ Finset.range n, ∑ j : Fin 1024, f (1024 * k + j.val) = ∑ i : Fin (1024 * n), f i.val := by
  rw [Fin.sum_univ_eq_sum_range (fun i => f i)]
  induction n with
  | zero => simp
  | succ n ih =>
    rw [Finset.sum_range_succ, ih, Nat.mul_succ, Finset.sum_range_add]
    rw [Fin.sum_univ_eq_sum_range (fun j => f (1024 * n + j))]

theorem zero_f32 : Ideal.ofBits .f32 0x00000000#32 = 0 := by
  simp [Ideal.ofBits, Ideal.ieee]

/-- One tile of 1024 rows: the first block transposed, under `f`, times the second. -/
def tile {a b : ℕ} (f : EReal → EReal) (X0 : (⟨2, ![1024, a]⟩ : Shape).Idx → EReal) (X1 : (⟨2, ![1024, b]⟩ : Shape).Idx → EReal)
    (y : (⟨2, ![a, b]⟩ : Shape).Idx) : EReal :=
  ∑ k : Fin 1024, f (X0 (ix2 k (y 0))) * X1 (ix2 k (y 1))

/-- The product of one tile of rows, at a row `i` and a column `j` of the result. -/
def term {a b : ℕ} (f : EReal → EReal) (A0 : (⟨2, ![8192, a]⟩ : Shape).Idx → EReal) (A1 : (⟨2, ![8192, b]⟩ : Shape).Idx → EReal) (i j s : ℕ) : EReal :=
  ∑ k : Fin 1024, f (el A0 (1024 * s + k.val) i) * el A1 (1024 * s + k.val) j

/-- The whole product: all rows. -/
def whole {a b : ℕ} (f : EReal → EReal) (A0 : (⟨2, ![8192, a]⟩ : Shape).Idx → EReal) (A1 : (⟨2, ![8192, b]⟩ : Shape).Idx → EReal)
    (y : (⟨2, ![a, b]⟩ : Shape).Idx) : EReal :=
  ∑ k : Fin 8192, f (A0 (ix2 k (y 0))) * A1 (ix2 k (y 1))

theorem tile_eq_term {a b a' b' : ℕ} (f : EReal → EReal) {X0 : (⟨2, ![1024, a]⟩ : Shape).Idx → EReal} {X1 : (⟨2, ![1024, b]⟩ : Shape).Idx → EReal}
    {A0 : (⟨2, ![8192, a']⟩ : Shape).Idx → EReal} {A1 : (⟨2, ![8192, b']⟩ : Shape).Idx → EReal} (y : (⟨2, ![a, b]⟩ : Shape).Idx) (i : Fin a') (j : Fin b') (s : ℕ) (hs : s < 8)
    (h0 : ∀ k : Fin 1024, X0 (ix2 k (y 0)) = A0 (ix2 ⟨1024 * s + k.val, by omega⟩ i)) (h1 : ∀ k : Fin 1024, X1 (ix2 k (y 1)) = A1 (ix2 ⟨1024 * s + k.val, by omega⟩ j)) :
    tile f X0 X1 y = term f A0 A1 i.val j.val s :=
  sum_eq (fun k => congrArg f ((h0 k).trans (el_eq A0 ⟨1024 * s + k.val, by omega⟩ i).symm)) (fun k => (h1 k).trans (el_eq A1 ⟨1024 * s + k.val, by omega⟩ j).symm)

/-- The eight tiles' products are the whole product. -/
theorem sum_term {a b : ℕ} (f : EReal → EReal) (A0 : (⟨2, ![8192, a]⟩ : Shape).Idx → EReal) (A1 : (⟨2, ![8192, b]⟩ : Shape).Idx → EReal)
    (y : (⟨2, ![a, b]⟩ : Shape).Idx) (i j : ℕ) (h0 : (y 0).val = i) (h1 : (y 1).val = j) :
    ∑ s ∈ Finset.range 8, term f A0 A1 i j s = whole f A0 A1 y := by
  subst h0 h1
  refine (sum_tiles (fun k => f (el A0 k (y 0).val) * el A1 k (y 1).val) 8).trans ?_
  exact sum_eq (fun k => congrArg f (el_eq A0 k (y 0))) (fun k => el_eq A1 k (y 1))

/-- A total kept over eight points, started at the first and grown at each by a tile's product, is at the last the whole product. -/
theorem result {a b a' b' N : ℕ} (f : EReal → EReal) (A0 : (⟨2, ![8192, a']⟩ : Shape).Idx → EReal) (A1 : (⟨2, ![8192, b']⟩ : Shape).Idx → EReal)
    (p q : ℕ → ℕ → ℕ) (O : ∀ n, n < N → (⟨2, ![a, b]⟩ : Shape).Idx → EReal)
    (hA : ∀ t : Fin N, t.val % 8 = 0 → ∀ y, O t.val t.isLt y = 0 + term f A0 A1 (p (t.val / 8) (y 0).val) (q (t.val / 8) (y 1).val) (t.val % 8))
    (hB : ∀ t : Fin N, ¬t.val % 8 = 0 → ∀ y, O t.val t.isLt y = O (t.val - 1) (Nat.lt_of_le_of_lt (Nat.sub_le _ _) t.isLt) y
      + term f A0 A1 (p (t.val / 8) (y 0).val) (q (t.val / 8) (y 1).val) (t.val % 8))
    (t : Fin N) (h7 : t.val % 8 = 7) (y : (⟨2, ![a, b]⟩ : Shape).Idx) (i : (⟨2, ![a', b']⟩ : Shape).Idx)
    (h0 : (i 0).val = p (t.val / 8) (y 0).val) (h1 : (i 1).val = q (t.val / 8) (y 1).val) : O t.val t.isLt y = whole f A0 A1 i := by
  refine (Pipeline.eq_sum_of_reset_step_apply (M := EReal) O 8 (fun _ => 0)
    (fun n y => term f A0 A1 (p (n / 8) (y 0).val) (q (n / 8) (y 1).val) (n % 8)) hA hB t y).trans ?_
  rw [h7, zero_add]
  refine Eq.trans (Finset.sum_congr rfl fun k hk => ?_) (sum_term f A0 A1 i _ _ h0 h1)
  have hk' : k < 8 := Finset.mem_range.mp hk
  show term f A0 A1 (p ((8 * (t.val / 8) + k) / 8) (y 0).val) (q ((8 * (t.val / 8) + k) / 8) (y 1).val) ((8 * (t.val / 8) + k) % 8) = _
  rw [show (8 * (t.val / 8) + k) % 8 = k by omega, show (8 * (t.val / 8) + k) / 8 = t.val / 8 by omega]

/-- A band of columns holds the indices whose column is in it. -/
theorem mem_cols {a b o w : ℕ} (inb : ∀ d, (![0, o] : Fin 2 → ℕ) d + (![a, w] : Fin 2 → ℕ) d ≤ (⟨2, ![a, b]⟩ : Shape).size d) (y : (⟨2, ![a, b]⟩ : Shape).Idx)
    (h : o ≤ (y 1).val) (h' : (y 1).val < o + w) : y ∈ (Rect.unit (s := ⟨2, ![a, b]⟩) ![0, o] ![a, w] inb).set := by
  have h0 : (y 0).val < a := (y 0).isLt
  rw [Rect.mem_set_unit]
  intro d
  match d with
  | ⟨0, _⟩ => exact ⟨Nat.zero_le _, (by omega : (y 0).val < 0 + a)⟩
  | ⟨1, _⟩ => exact ⟨h, h'⟩

end Cert.DenseMath
end
-- ==== Proof.Dense.DwDown.lean ====
/-
  The call `dw_down`: the gradient of the down projection, the rows summed tile by tile.
-/
module

public import proofs.«01_k».proof.Defs
public import proofs.«01_k».proof.Proof.Gen.KernelDwDownIdeal.Value
public import proofs.«01_k».proof.Proof.Gen.ReferenceDwDownIdeal.Run
public import proofs.«01_k».proof.Proof.Gen.ReferenceDwDownIdeal.Read
public import proofs.«01_k».proof.Proof.Dense.Sums
public import Idealize.ShloMosaic.Lib.Pipeline.ReadBack

@[expose] public section

set_option maxRecDepth 16384

noncomputable section

namespace Cert.KernelDwDownIdeal.Dense

open Cert.KernelDwDownIdeal Cert.KernelDwDownIdeal.Gen
open Idealize.ShloMosaic Idealize.SL.Sem Cert.DenseMath

variable (m : (ℓ : Loc nD τ sig) → Buf (Elt Ideal) ℓ) (ρ : Dev nD → PrngReg)

/-- The first argument's array. -/
abbrev A0 (c : Dev nD) : FVec Ideal S8192x4096 .bf16 := m ((c.tc : Thread nD τ).loc main_arg0)
/-- The second argument's array. -/
abbrev A1 (c : Dev nD) : FVec Ideal S8192x1024 .f32 := m ((c.tc : Thread nD τ).loc main_arg1)

theorem index_0 : ∀ t : Fin cfg0.N, (cfg0.win 0).index t = ![t.val % 8, t.val / 8] := by decide +kernel
theorem index_1 : ∀ t : Fin cfg0.N, (cfg0.win 1).index t = ![t.val % 8, 0] := by decide +kernel
theorem index_2 : ∀ t : Fin cfg0.N, win0_2.index t = ![t.val / 8, 0] := by decide +kernel

/-- The forward's squared ReLU. -/
def act (x : EReal) : EReal := max x 0 * max x 0

/-- What the store of columns 0 to 512 holds. -/
theorem pay0 (X0 : Vec Ideal S1024x2048 .bf16) (X1 : Vec Ideal S1024x1024 .f32) (P : Vec Ideal S2048x512 .f32)
    (x : S2048x512.Idx) (y : S2048x1024.Idx) (h0 : (y 0).val = (x 0).val) (h1 : (y 1).val = (x 1).val) :
    k0_pay3 (F := Ideal) X0 P (View.ld (Val := Elt Ideal) (e' := .f32) X1 (Rect.unit ![0, 0] ![1024, 512] inb_S1024x1024_S1024x512_0_0)) x
      = (P x + tile act X0 X1 y : EReal) := by
  unfold k0_pay3 k0_pay2 tile act
  pointwise
  exact congrArg (P x + ·) (sum_eq (fun k => congrArg (fun i => act (X0 (ix2 k i))) (Fin.ext h0.symm)) (fun k => congrArg (fun i => X1 (ix2 k i)) (Fin.ext h1.symm)))

/-- What the store of columns 512 to 1024 holds. -/
theorem pay1 (X0 : Vec Ideal S1024x2048 .bf16) (X1 : Vec Ideal S1024x1024 .f32) (P : Vec Ideal S2048x512 .f32)
    (x : S2048x512.Idx) (y : S2048x1024.Idx) (h0 : (y 0).val = (x 0).val) (h1 : (y 1).val = 512 + (x 1).val) :
    k0_pay4 (F := Ideal) X0 P (View.ld (Val := Elt Ideal) (e' := .f32) X1 (Rect.unit ![0, 512] ![1024, 512] inb_S1024x1024_S1024x512_0_512)) x
      = (P x + tile act X0 X1 y : EReal) := by
  unfold k0_pay4 k0_pay2 tile act
  pointwise
  exact congrArg (P x + ·) (sum_eq (fun k => congrArg (fun i => act (X0 (ix2 k i))) (Fin.ext h0.symm)) (fun k => congrArg (fun i => X1 (ix2 k i)) (Fin.ext h1.symm)))

/-- Every index is in one of the stores. -/
theorem bands (P0 P1 : Vec Ideal S2048x512 .f32) (y : S2048x1024.Idx) :
    ∃ p ∈ ([⟨Rect.unit ![0, 512] ![2048, 512] inb_S2048x1024_S2048x512_0_512, P1⟩,
      ⟨Rect.unit ![0, 0] ![2048, 512] inb_S2048x1024_S2048x512_0_0, P0⟩] : List (View.Piece (Elt Ideal) S2048x1024 .f32)), y ∈ p.1.set := by
  have h1 : (y 1).val < 1024 := (y 1).isLt
  by_cases c0 : (y 1).val < 512
  · exact ⟨_, List.mem_cons_of_mem _ ((List.mem_cons_self ..)), mem_cols inb_S2048x1024_S2048x512_0_0 y (by omega) (by omega)⟩
  exact ⟨_, (List.mem_cons_self ..), mem_cols inb_S2048x1024_S2048x512_0_512 y (by omega) (by omega)⟩

/-- The stores leave the tile's product added to what stood there. -/
theorem pieces (X0 : Vec Ideal S1024x2048 .bf16) (X1 : Vec Ideal S1024x1024 .f32) (Z : Vec Ideal S2048x1024 .f32) (P0 P1 : Vec Ideal S2048x512 .f32)
    (L : List (View.Piece (Elt Ideal) S2048x1024 .f32))
    (h0 : P0 = View.ld (Val := Elt Ideal) (e' := .f32) Z (Rect.unit ![0, 0] ![2048, 512] inb_S2048x1024_S2048x512_0_0))
    (h1 : P1 = View.ld (Val := Elt Ideal) (e' := .f32) Z (Rect.unit ![0, 512] ![2048, 512] inb_S2048x1024_S2048x512_0_512)) (y : S2048x1024.Idx) :
    View.canon (Val := Elt Ideal) (e := .f32)
      (⟨Rect.unit ![0, 512] ![2048, 512] inb_S2048x1024_S2048x512_0_512,
        k0_pay4 (F := Ideal) X0 P1 (View.ld (Val := Elt Ideal) (e' := .f32) X1 (Rect.unit ![0, 512] ![1024, 512] inb_S1024x1024_S1024x512_0_512))⟩
      :: ⟨Rect.unit ![0, 0] ![2048, 512] inb_S2048x1024_S2048x512_0_0,
        k0_pay3 (F := Ideal) X0 P0 (View.ld (Val := Elt Ideal) (e' := .f32) X1 (Rect.unit ![0, 0] ![1024, 512] inb_S1024x1024_S1024x512_0_0))⟩
      :: L) y = (Z y + tile act X0 X1 y : EReal) := by
  subst h0 h1
  refine View.canon_append_of_piecesOf (Val := Elt Ideal) (e := .f32) (fun y => (Z y + tile act X0 X1 y : EReal)) L [_, _] ⟨fun x => ?_, fun x => ?_, trivial⟩ y (bands _ _ y)
  · exact pay1 X0 X1 _ x _ (by show 0 + 1 * (x 0).val = (x 0).val; omega) (by show 512 + 1 * (x 1).val = 512 + (x 1).val; omega)
  · exact pay0 X0 X1 _ x _ (by show 0 + 1 * (x 0).val = (x 0).val; omega) (by show 0 + 1 * (x 1).val = (x 1).val; omega)

theorem stepA (c : Dev nD) (t : Fin cfg0.N) (h0 : t.val % 8 = 0) (y : S2048x1024.Idx) :
    (outsAt0 m c t.val t.isLt).2 y = (0 + tile act (iblk m c 0 t) (iblk m c 1 t) y : EReal) := by
  rw [outsAt0_A m c t h0 (by omega)]
  frame_out
  refine (pieces _ _ (k0_pay1 (F := Ideal)) _ _ _ ?_ ?_ y).trans ?_
  · exact View.readCov_fill _ _ _ _ _ (by decide)
  · refine (View.readCov_skip _ _ _ _ _ (by decide)).trans ?_
    exact View.readCov_fill _ _ _ _ _ (by decide)
  · refine congrArg (· + tile act (iblk m c 0 t) (iblk m c 1 t) y) ?_
    unfold k0_pay1
    pointwise

theorem stepBC (c : Dev nD) (t : Fin cfg0.N) (h0 : ¬t.val % 8 = 0) (y : S2048x1024.Idx) :
    (outsAt0 m c t.val t.isLt).2 y = ((outsAt0 m c (t.val - 1) (Nat.lt_of_le_of_lt (Nat.sub_le _ _) t.isLt)).2 y
      + tile act (iblk m c 0 t) (iblk m c 1 t) y : EReal) := by
  by_cases h1 : t.val % 8 = 7
  · rw [outsAt0_C m c t h0 h1]
    frame_out
    simp only [read_unread_whole]
    exact pieces _ _ _ _ _ [] rfl rfl y
  · rw [outsAt0_B m c t h0 h1]
    frame_out
    simp only [read_unread_whole]
    exact pieces _ _ _ _ _ [] rfl rfl y

theorem stepO (c : Dev nD) (t : Fin cfg0.N) (h0 : ¬t.val % 8 = 0) (h1 : t.val % 8 = 7) (y : S2048x1024.Idx) :
    (outsAt0 m c t.val t.isLt).1 y = ((outsAt0 m c (t.val - 1) (Nat.lt_of_le_of_lt (Nat.sub_le _ _) t.isLt)).2 y
      + tile act (iblk m c 0 t) (iblk m c 1 t) y : EReal) := by
  rw [outsAt0_C m c t h0 h1]
  frame_out
  simp only [read_unread_whole]
  rw [View.readCov_eq_canon']
  unfold k0_pay5
  pointwise
  exact pieces _ _ _ _ _ [] rfl rfl y

theorem tile_eq (c : Dev nD) (t : Fin cfg0.N) (y : S2048x1024.Idx) :
    tile act (iblk m c 0 t) (iblk m c 1 t) y = term act (A0 m c) (A1 m c) ((fun n r => 2048 * n + r) (t.val / 8) (y 0).val) ((fun _ r => r) (t.val / 8) (y 1).val) (t.val % 8) := by
  have ht : t.val < 16 := lt_of_lt_of_eq t.isLt N_0
  have h0 : (y 0).val < 2048 := (y 0).isLt
  have h1 : (y 1).val < 1024 := (y 1).isLt
  refine tile_eq_term act y (⟨2048 * (t.val / 8) + (y 0).val, by omega⟩) (y 1) (t.val % 8) (by omega) (fun k => ?_) (fun k => ?_)
  · unfold A0
    blk_ext [iblk, V_main_arg0, index_0 t]
  · unfold A1
    blk_ext [iblk, V_main_arg1, index_1 t]

/-- The gradient. -/
def G (c : Dev nD) : Vec Ideal S4096x1024 .bf16 := whole act (A0 m c) (A1 m c)

theorem out (c : Dev nD) : (dats m 0 c).arrAt 2 cfg0.N = G m c := by
  refine (dats m 0 c).arrAt_eq_of_covers 2 _ (by decide +kernel) fun t hf y => ?_
  have h7 : t.val % 8 = 7 := (flush0_2 t).mp hf
  have h0 : ¬t.val % 8 = 0 := by omega
  blk_simp
  rw [after0_2]
  refine (stepO m c t h0 h7 y).trans ((stepBC m c t h0 y).symm.trans ?_)
  have e0 : ((win0_2.blk t).view.emb y 0).val = (fun n r => 2048 * n + r) (t.val / 8) (y 0).val := by blk_simp [index_2 t]; try omega
  have e1 : ((win0_2.blk t).view.emb y 1).val = (fun _ r => r) (t.val / 8) (y 1).val := by blk_simp [index_2 t]; try omega
  exact result act (A0 m c) (A1 m c) (fun n r => 2048 * n + r) (fun _ r => r) (fun n h => (outsAt0 m c n h).2)
    (fun t h y => (stepA m c t h y).trans (congrArg (0 + ·) (tile_eq m c t y)))
    (fun t h y => (stepBC m c t h y).trans (congrArg (_ + ·) (tile_eq m c t y))) t h7 y _ e0 e1

/-- The reference's result is the same gradient. -/
theorem ref (c : Dev nD) : Cert.ReferenceDwDownIdeal.Read.val_main_v7 (F := Ideal) (A0 m c) (A1 m c) = G m c := by
  funext i
  rw [Cert.ReferenceDwDownIdeal.Read.val_main_v7_apply]
  show Cert.ReferenceDwDownIdeal.Read.val_main_v6 (F := Ideal) (A0 m c) (A1 m c) i = _
  rw [Cert.ReferenceDwDownIdeal.Read.val_main_v6_apply, Cert.ReferenceDwDownIdeal.Read.val_main_v5_apply]
  unfold G whole
  refine Finset.sum_congr rfl fun k _ => (mul_comm _ _).trans (congrArg₂ (· * ·) ?_ (congrArg (A1 m c) (eq_ix2 _)))
  rw [Cert.ReferenceDwDownIdeal.Read.val_main_v3_apply, Cert.ReferenceDwDownIdeal.Read.val_main_v2_apply, Cert.ReferenceDwDownIdeal.Read.val_main_v1_apply,
    Cert.ReferenceDwDownIdeal.Read.val_main_call0_v0_apply, Cert.ReferenceDwDownIdeal.Read.val_main_call0_cst_apply]
  show max (A0 m c _) (Ideal.ofBits .f32 0x00000000#32) * max (A0 m c _) (Ideal.ofBits .f32 0x00000000#32) = _
  rw [zero_f32]
  exact congrArg (fun i => act (A0 m c i)) (eq_ix2 _)

end Cert.KernelDwDownIdeal.Dense

namespace Cert.Proof

open Idealize.ShloMosaic Idealize.SL.Sem Cert.KernelDwDownIdeal.Dense

/-- The kernel and the reference leave the same gradient. -/
theorem algebraicDwDown : Cert.algebraic_KernelDwDownIdeal_ReferenceDwDownIdeal := by
  intro m g m' g' _ ha
  refine ⟨fun c => G m c, ?_, ?_⟩
  · exact (θ_run Cert.KernelDwDownIdeal.defs _ _).mono (fun r h c => ⟨(h c).1.trans (out m c), (h c).2⟩) (Cert.KernelDwDownIdeal.Value.run_blocks m g)
  · refine (θ_run Cert.ReferenceDwDownIdeal.defs _ _).mono (fun r h c => ⟨(h c).1.trans ?_, (h c).2⟩) (Cert.ReferenceDwDownIdeal.Value.run (F := Ideal) m' g')
    rw [(ha c).1, (ha c).2]
    exact ref m c

end Cert.Proof
end
-- ==== Proof.Dense.DPre.lean ====
/-
  The call `d_pre`: the gradient before the squared ReLU, one block of 512 rows per grid point, eight bands of 512
  columns per block.
-/
module

public import proofs.«01_k».proof.Defs
public import proofs.«01_k».proof.Proof.Gen.KernelDPreIdeal.Value
public import proofs.«01_k».proof.Proof.Gen.ReferenceDPreIdeal.Run
public import proofs.«01_k».proof.Proof.Gen.ReferenceDPreIdeal.Read
public import proofs.«01_k».proof.Proof.Dense.Sums
public import Idealize.ShloMosaic.Lib.Pipeline.ReadBack

@[expose] public section

set_option maxRecDepth 16384

noncomputable section

namespace Cert.KernelDPreIdeal.Dense

open Cert.KernelDPreIdeal Cert.KernelDPreIdeal.Gen
open Idealize.ShloMosaic Idealize.SL.Sem Cert.DenseMath

variable (m : (ℓ : Loc nD τ sig) → Buf (Elt Ideal) ℓ) (ρ : Dev nD → PrngReg)

/-- The three arguments' arrays. -/
abbrev A0 (c : Dev nD) : FVec Ideal S8192x1024 .f32 := m ((c.tc : Thread nD τ).loc main_arg0)
abbrev A1 (c : Dev nD) : FVec Ideal S4096x1024 .bf16 := m ((c.tc : Thread nD τ).loc main_arg1)
abbrev A2 (c : Dev nD) : FVec Ideal S8192x4096 .bf16 := m ((c.tc : Thread nD τ).loc main_arg2)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, win0_3.index t = ![t.val, 0] := by decide +kernel

/-- Twice the ReLU: the squared ReLU's derivative. -/
def slope (x : EReal) : EReal := Ideal.ofBits .f32 0x40000000#32 * max x 0

/-- The gradient: the product, transposed on the right, times the derivative. -/
def G (c : Dev nD) : Vec Ideal S8192x4096 .bf16 := fun i =>
  ((∑ k : Fin 1024, A0 m c (ix2 (i 0) k) * A1 m c (ix2 (i 1) k)) * slope (A2 m c i) : EReal)

/-- What a grid point leaves in its output block. -/
def blockG (X0 : Vec Ideal S512x1024 .f32) (X1 : Vec Ideal S4096x1024 .bf16) (X2 : Vec Ideal S512x4096 .bf16) : Vec Ideal S512x4096 .bf16 := fun y =>
  ((∑ k : Fin 1024, X0 (ix2 (y 0) k) * X1 (ix2 (y 1) k)) * slope (X2 y) : EReal)

/-- What a band's store holds; the eight bands' payloads are one function. -/
theorem pay (X0 : Vec Ideal S512x1024 .f32) (X1 : Vec Ideal S4096x1024 .bf16) (X2 : Vec Ideal S512x4096 .bf16) (o : ℕ)
    (hW : ∀ d, (![o, 0] : Fin 2 → ℕ) d + S512x1024.size d ≤ S4096x1024.size d) (hP : ∀ d, (![0, o] : Fin 2 → ℕ) d + S512x512.size d ≤ S512x4096.size d)
    (x : S512x512.Idx) (y : S512x4096.Idx) (h0 : (y 0).val = (x 0).val) (h1 : (y 1).val = o + (x 1).val) :
    k0_pay5 (F := Ideal) X0 (View.ld (Val := Elt Ideal) (e' := .bf16) X1 (Rect.unit (s := S4096x1024) ![o, 0] S512x1024.size hW))
      (View.ld (Val := Elt Ideal) (e' := .bf16) X2 (Rect.unit (s := S512x4096) ![0, o] S512x512.size hP)) x = blockG X0 X1 X2 y := by
  unfold k0_pay5 k0_pay4 blockG slope
  pointwise
  refine congrArg₂ (· * ·) (sum_eq (fun k => congrArg (fun i => X0 (ix2 i k)) (Fin.ext h0.symm)) (fun k => congrArg (fun i => X1 (ix2 i k)) (Fin.ext h1.symm)))
    (congrArg (fun i => Ideal.ofBits .f32 0x40000000#32 * max (X2 i) 0) ?_)
  rw [eq_ix2 y]
  exact congrArg₂ ix2 (Fin.ext h0.symm) (Fin.ext h1.symm)

theorem first (X0 : Vec Ideal S512x1024 .f32) (X1 : Vec Ideal S4096x1024 .bf16) (X2 : Vec Ideal S512x4096 .bf16) :
    k0_pay14 (F := Ideal) X0 X1 X2 = k0_pay4 (F := Ideal) X0 :=
  congrArg (k0_pay4 (F := Ideal)) (View.ld_unit_zero (by decide) _ X0)

theorem block (X0 : Vec Ideal S512x1024 .f32) (X1 : Vec Ideal S4096x1024 .bf16) (X2 : Vec Ideal S512x4096 .bf16) (y : S512x4096.Idx) :
    View.canon (Val := Elt Ideal) (e := .bf16) [⟨r0_16, k0_pay3 (F := Ideal) (k0_pay14 X0 X1 X2) (View.ld (Val := Elt Ideal) (e' := .bf16) X1 r0_15) (View.ld (Val := Elt Ideal) (e' := .bf16) X2 r0_16)⟩,
      ⟨r0_14, k0_pay2 (F := Ideal) (k0_pay14 X0 X1 X2) (View.ld (Val := Elt Ideal) (e' := .bf16) X1 r0_13) (View.ld (Val := Elt Ideal) (e' := .bf16) X2 r0_14)⟩,
      ⟨r0_12, k0_pay1 (F := Ideal) (k0_pay12 (k0_pay14 X0 X1 X2) (View.ld (Val := Elt Ideal) (e' := .bf16) X1 r0_11)) (k0_pay13 (View.ld (Val := Elt Ideal) (e' := .bf16) X2 r0_12)) (FloatOps.ofBits FTy.f32 0#32)⟩,
      ⟨r0_10, k0_pay11 (F := Ideal) (k0_pay14 X0 X1 X2) (View.ld (Val := Elt Ideal) (e' := .bf16) X1 r0_9) (View.ld (Val := Elt Ideal) (e' := .bf16) X2 r0_10)⟩,
      ⟨r0_8, k0_pay10 (F := Ideal) (k0_pay14 X0 X1 X2) (View.ld (Val := Elt Ideal) (e' := .bf16) X1 r0_7) (View.ld (Val := Elt Ideal) (e' := .bf16) X2 r0_8)⟩,
      ⟨r0_6, k0_pay9 (F := Ideal) (k0_pay7 X0 (View.ld (Val := Elt Ideal) (e' := .bf16) X1 r0_5)) (k0_pay8 (View.ld (Val := Elt Ideal) (e' := .bf16) X2 r0_6)) (FloatOps.ofBits FTy.f32 1073741824#32)⟩,
      ⟨r0_4, k0_pay6 (F := Ideal) X0 (View.ld (Val := Elt Ideal) (e' := .bf16) X1 r0_3) (View.ld (Val := Elt Ideal) (e' := .bf16) X2 r0_4)⟩,
      ⟨r0_2, k0_pay5 (F := Ideal) X0 (View.ld (Val := Elt Ideal) (e' := .bf16) X1 r0_1) (View.ld (Val := Elt Ideal) (e' := .bf16) X2 r0_2)⟩] y = blockG X0 X1 X2 y := by
  rw [first]
  refine View.canon_append_of_piecesOf (Val := Elt Ideal) (e := .bf16) (blockG X0 X1 X2) [] [_, _, _, _, _, _, _, _]
    ⟨fun x => ?_, fun x => ?_, fun x => ?_, fun x => ?_, fun x => ?_, fun x => ?_, fun x => ?_, fun x => ?_, trivial⟩ y ?_
  · exact pay X0 X1 X2 3584 inb_S4096x1024_S512x1024_3584_0 inb_S512x4096_S512x512_0_3584 x _ (by show 0 + 1 * (x 0).val = (x 0).val; omega) (by show 3584 + 1 * (x 1).val = 3584 + (x 1).val; omega)
  · exact pay X0 X1 X2 3072 inb_S4096x1024_S512x1024_3072_0 inb_S512x4096_S512x512_0_3072 x _ (by show 0 + 1 * (x 0).val = (x 0).val; omega) (by show 3072 + 1 * (x 1).val = 3072 + (x 1).val; omega)
  · exact pay X0 X1 X2 2560 inb_S4096x1024_S512x1024_2560_0 inb_S512x4096_S512x512_0_2560 x _ (by show 0 + 1 * (x 0).val = (x 0).val; omega) (by show 2560 + 1 * (x 1).val = 2560 + (x 1).val; omega)
  · exact pay X0 X1 X2 2048 inb_S4096x1024_S512x1024_2048_0 inb_S512x4096_S512x512_0_2048 x _ (by show 0 + 1 * (x 0).val = (x 0).val; omega) (by show 2048 + 1 * (x 1).val = 2048 + (x 1).val; omega)
  · exact pay X0 X1 X2 1536 inb_S4096x1024_S512x1024_1536_0 inb_S512x4096_S512x512_0_1536 x _ (by show 0 + 1 * (x 0).val = (x 0).val; omega) (by show 1536 + 1 * (x 1).val = 1536 + (x 1).val; omega)
  · exact pay X0 X1 X2 1024 inb_S4096x1024_S512x1024_1024_0 inb_S512x4096_S512x512_0_1024 x _ (by show 0 + 1 * (x 0).val = (x 0).val; omega) (by show 1024 + 1 * (x 1).val = 1024 + (x 1).val; omega)
  · exact pay X0 X1 X2 512 inb_S4096x1024_S512x1024_512_0 inb_S512x4096_S512x512_0_512 x _ (by show 0 + 1 * (x 0).val = (x 0).val; omega) (by show 512 + 1 * (x 1).val = 512 + (x 1).val; omega)
  · exact pay X0 X1 X2 0 inb_S4096x1024_S512x1024_0_0 inb_S512x4096_S512x512_0_0 x _ (by show 0 + 1 * (x 0).val = (x 0).val; omega) (by show 0 + 1 * (x 1).val = 0 + (x 1).val; omega)
  · have h1 : (y 1).val < 4096 := (y 1).isLt
    by_cases c0 : (y 1).val < 512
    · exact ⟨_, List.mem_cons_of_mem _ (List.mem_cons_of_mem _ (List.mem_cons_of_mem _ (List.mem_cons_of_mem _ (List.mem_cons_of_mem _ (List.mem_cons_of_mem _ (List.mem_cons_of_mem _ ((List.mem_cons_self ..)))))))), mem_cols inb_S512x4096_S512x512_0_0 y (by omega) (by omega)⟩
    by_cases c1 : (y 1).val < 1024
    · exact ⟨_, List.mem_cons_of_mem _ (List.mem_cons_of_mem _ (List.mem_cons_of_mem _ (List.mem_cons_of_mem _ (List.mem_cons_of_mem _ (List.mem_cons_of_mem _ ((List.mem_cons_self ..))))))), mem_cols inb_S512x4096_S512x512_0_512 y (by omega) (by omega)⟩
    by_cases c2 : (y 1).val < 1536
    · exact ⟨_, List.mem_cons_of_mem _ (List.mem_cons_of_mem _ (List.mem_cons_of_mem _ (List.mem_cons_of_mem _ (List.mem_cons_of_mem _ ((List.mem_cons_self ..)))))), mem_cols inb_S512x4096_S512x512_0_1024 y (by omega) (by omega)⟩
    by_cases c3 : (y 1).val < 2048
    · exact ⟨_, List.mem_cons_of_mem _ (List.mem_cons_of_mem _ (List.mem_cons_of_mem _ (List.mem_cons_of_mem _ ((List.mem_cons_self ..))))), mem_cols inb_S512x4096_S512x512_0_1536 y (by omega) (by omega)⟩
    by_cases c4 : (y 1).val < 2560
    · exact ⟨_, List.mem_cons_of_mem _ (List.mem_cons_of_mem _ (List.mem_cons_of_mem _ ((List.mem_cons_self ..)))), mem_cols inb_S512x4096_S512x512_0_2048 y (by omega) (by omega)⟩
    by_cases c5 : (y 1).val < 3072
    · exact ⟨_, List.mem_cons_of_mem _ (List.mem_cons_of_mem _ ((List.mem_cons_self ..))), mem_cols inb_S512x4096_S512x512_0_2560 y (by omega) (by omega)⟩
    by_cases c6 : (y 1).val < 3584
    · exact ⟨_, List.mem_cons_of_mem _ ((List.mem_cons_self ..)), mem_cols inb_S512x4096_S512x512_0_3072 y (by omega) (by omega)⟩
    exact ⟨_, (List.mem_cons_self ..), mem_cols inb_S512x4096_S512x512_0_3584 y (by omega) (by omega)⟩

theorem out (c : Dev nD) : (dats m 0 c).arrAt 3 cfg0.N = G m c := by
  refine (dats m 0 c).arrAt_eq_of_covers 3 _ (by decide +kernel) fun t hf y => ?_
  blk_simp
  rw [after0_3]
  frame_out
  rw [block]
  unfold blockG G
  refine congrArg₂ (· * ·) (sum_eq (fun k => ?_) (fun k => ?_)) (congrArg slope ?_)
  · unfold A0
    blk_ext [iblk, V_main_arg0, index_0 t, index_3 t]
  · unfold A1
    blk_ext [iblk, V_main_arg1, index_1 t, index_3 t]
  · unfold A2
    blk_ext [iblk, V_main_arg2, index_2 t, index_3 t]

/-- The reference's result is the same gradient. -/
theorem ref (c : Dev nD) : Cert.ReferenceDPreIdeal.Read.val_main_v14 (F := Ideal) (A0 m c) (A1 m c) (A2 m c) = G m c := by
  funext i
  rw [Cert.ReferenceDPreIdeal.Read.val_main_v14_apply]
  show Cert.ReferenceDPreIdeal.Read.val_main_v13 (F := Ideal) (A0 m c) (A1 m c) (A2 m c) i = _
  rw [Cert.ReferenceDPreIdeal.Read.val_main_v13_apply, Cert.ReferenceDPreIdeal.Read.val_main_v12_apply, Cert.ReferenceDPreIdeal.Read.val_main_v11_apply,
    Cert.ReferenceDPreIdeal.Read.val_main_v10_apply, Cert.ReferenceDPreIdeal.Read.val_main_v8_apply, Cert.ReferenceDPreIdeal.Read.val_main_v7_apply,
    Cert.ReferenceDPreIdeal.Read.val_main_v4_apply, Cert.ReferenceDPreIdeal.Read.val_main_v3_apply, Cert.ReferenceDPreIdeal.Read.val_main_v2_apply,
    Cert.ReferenceDPreIdeal.Read.val_main_call0_v0_apply, Cert.ReferenceDPreIdeal.Read.val_main_call0_cst_apply]
  unfold G
  have hs : (∑ k : Fin 1024, A0 m c (Cert.ReferenceDPreIdeal.Read.lidx_main_v10 i k) * A1 m c (Cert.ReferenceDPreIdeal.Read.ridx_main_v10 i k) : EReal)
      = ∑ k : Fin 1024, A0 m c (ix2 (i 0) k) * A1 m c (ix2 (i 1) k) :=
    sum_eq (fun k => congrArg (A0 m c) (eq_ix2 _)) (fun k => congrArg (A1 m c) (eq_ix2 _))
  show (if Ideal.cmp .ogt (A2 m c i) (Ideal.ofBits .f32 0x00000000#32) = 1 then
      (∑ k : Fin 1024, A0 m c (Cert.ReferenceDPreIdeal.Read.lidx_main_v10 i k) * A1 m c (Cert.ReferenceDPreIdeal.Read.ridx_main_v10 i k) : EReal)
        * (Ideal.ofBits .f32 0x40000000#32 * max (A2 m c i) (Ideal.ofBits .f32 0x00000000#32)) else Ideal.ofBits .f32 0x00000000#32) = _
  rw [hs, zero_f32]
  unfold slope
  by_cases hp : (0 : EReal) < A2 m c i
  · rw [if_pos (by simp [Ideal.cmp, hp])]
  · rw [if_neg (by simp [Ideal.cmp, hp]), max_eq_right (not_lt.mp hp), mul_zero, mul_zero]

end Cert.KernelDPreIdeal.Dense

namespace Cert.Proof

open Idealize.ShloMosaic Idealize.SL.Sem Cert.KernelDPreIdeal.Dense

/-- The kernel and the reference leave the same gradient. -/
theorem algebraicDPre : Cert.algebraic_KernelDPreIdeal_ReferenceDPreIdeal := by
  intro m g m' g' _ ha
  refine ⟨fun c => G m c, ?_, ?_⟩
  · exact (θ_run Cert.KernelDPreIdeal.defs _ _).mono (fun r h c => ⟨(h c).1.trans (out m c), (h c).2⟩) (Cert.KernelDPreIdeal.Value.run_blocks m g)
  · refine (θ_run Cert.ReferenceDPreIdeal.defs _ _).mono (fun r h c => ⟨(h c).1.trans ?_, (h c).2⟩) (Cert.ReferenceDPreIdeal.Value.run (F := Ideal) m' g')
    rw [(ha c).1, (ha c).2.1, (ha c).2.2]
    exact ref m c

end Cert.Proof
end
-- ==== Proof.Dense.DwUp.lean ====
/-
  The call `dw_up`: the gradient of the up projection, the rows summed tile by tile.
-/
module

public import proofs.«01_k».proof.Defs
public import proofs.«01_k».proof.Proof.Gen.KernelDwUpIdeal.Value
public import proofs.«01_k».proof.Proof.Gen.ReferenceDwUpIdeal.Run
public import proofs.«01_k».proof.Proof.Gen.ReferenceDwUpIdeal.Read
public import proofs.«01_k».proof.Proof.Dense.Sums
public import Idealize.ShloMosaic.Lib.Pipeline.ReadBack

@[expose] public section

set_option maxRecDepth 16384

noncomputable section

namespace Cert.KernelDwUpIdeal.Dense

open Cert.KernelDwUpIdeal Cert.KernelDwUpIdeal.Gen
open Idealize.ShloMosaic Idealize.SL.Sem Cert.DenseMath

variable (m : (ℓ : Loc nD τ sig) → Buf (Elt Ideal) ℓ) (ρ : Dev nD → PrngReg)

/-- The first argument's array. -/
abbrev A0 (c : Dev nD) : FVec Ideal S8192x1024 .bf16 := m ((c.tc : Thread nD τ).loc main_arg0)
/-- The second argument's array. -/
abbrev A1 (c : Dev nD) : FVec Ideal S8192x4096 .bf16 := m ((c.tc : Thread nD τ).loc main_arg1)

theorem index_0 : ∀ t : Fin cfg0.N, (cfg0.win 0).index t = ![t.val % 8, 0] := by decide +kernel
theorem index_1 : ∀ t : Fin cfg0.N, (cfg0.win 1).index t = ![t.val % 8, t.val / 8] := by decide +kernel
theorem index_2 : ∀ t : Fin cfg0.N, win0_2.index t = ![0, t.val / 8] := by decide +kernel

/-- What the store of columns 0 to 512 holds. -/
theorem pay0 (X0 : Vec Ideal S1024x1024 .bf16) (X1 : Vec Ideal S1024x2048 .bf16) (P : Vec Ideal S1024x512 .f32)
    (x : S1024x512.Idx) (y : S1024x2048.Idx) (h0 : (y 0).val = (x 0).val) (h1 : (y 1).val = (x 1).val) :
    k0_pay5 (F := Ideal) X0 P (View.ld (Val := Elt Ideal) (e' := .bf16) X1 (Rect.unit ![0, 0] ![1024, 512] inb_S1024x2048_S1024x512_0_0)) x
      = (P x + tile (fun x => x) X0 X1 y : EReal) := by
  unfold k0_pay5 k0_pay4 tile
  pointwise
  exact congrArg (P x + ·) (sum_eq (fun k => congrArg (fun i => X0 (ix2 k i)) (Fin.ext h0.symm)) (fun k => congrArg (fun i => X1 (ix2 k i)) (Fin.ext h1.symm)))

/-- What the store of columns 512 to 1024 holds. -/
theorem pay1 (X0 : Vec Ideal S1024x1024 .bf16) (X1 : Vec Ideal S1024x2048 .bf16) (P : Vec Ideal S1024x512 .f32)
    (x : S1024x512.Idx) (y : S1024x2048.Idx) (h0 : (y 0).val = (x 0).val) (h1 : (y 1).val = 512 + (x 1).val) :
    k0_pay6 (F := Ideal) X0 P (View.ld (Val := Elt Ideal) (e' := .bf16) X1 (Rect.unit ![0, 512] ![1024, 512] inb_S1024x2048_S1024x512_0_512)) x
      = (P x + tile (fun x => x) X0 X1 y : EReal) := by
  unfold k0_pay6 k0_pay4 tile
  pointwise
  exact congrArg (P x + ·) (sum_eq (fun k => congrArg (fun i => X0 (ix2 k i)) (Fin.ext h0.symm)) (fun k => congrArg (fun i => X1 (ix2 k i)) (Fin.ext h1.symm)))

/-- What the store of columns 1024 to 1536 holds. -/
theorem pay2 (X0 : Vec Ideal S1024x1024 .bf16) (X1 : Vec Ideal S1024x2048 .bf16) (P : Vec Ideal S1024x512 .f32)
    (x : S1024x512.Idx) (y : S1024x2048.Idx) (h0 : (y 0).val = (x 0).val) (h1 : (y 1).val = 1024 + (x 1).val) :
    k0_pay7 (F := Ideal) X0 P (View.ld (Val := Elt Ideal) (e' := .bf16) X1 (Rect.unit ![0, 1024] ![1024, 512] inb_S1024x2048_S1024x512_0_1024)) x
      = (P x + tile (fun x => x) X0 X1 y : EReal) := by
  unfold k0_pay7 k0_pay4 tile
  pointwise
  exact congrArg (P x + ·) (sum_eq (fun k => congrArg (fun i => X0 (ix2 k i)) (Fin.ext h0.symm)) (fun k => congrArg (fun i => X1 (ix2 k i)) (Fin.ext h1.symm)))

/-- What the store of columns 1536 to 2048 holds. -/
theorem pay3 (X0 : Vec Ideal S1024x1024 .bf16) (X1 : Vec Ideal S1024x2048 .bf16) (P : Vec Ideal S1024x512 .f32)
    (x : S1024x512.Idx) (y : S1024x2048.Idx) (h0 : (y 0).val = (x 0).val) (h1 : (y 1).val = 1536 + (x 1).val) :
    k0_pay1 (F := Ideal) (k0_pay4 X0) P (View.ld (Val := Elt Ideal) (e' := .bf16) X1 (Rect.unit ![0, 1536] ![1024, 512] inb_S1024x2048_S1024x512_0_1536)) x
      = (P x + tile (fun x => x) X0 X1 y : EReal) := by
  unfold k0_pay1 k0_pay4 tile
  pointwise
  exact congrArg (P x + ·) (sum_eq (fun k => congrArg (fun i => X0 (ix2 k i)) (Fin.ext h0.symm)) (fun k => congrArg (fun i => X1 (ix2 k i)) (Fin.ext h1.symm)))

/-- Every index is in one of the stores. -/
theorem bands (P0 P1 P2 P3 : Vec Ideal S1024x512 .f32) (y : S1024x2048.Idx) :
    ∃ p ∈ ([⟨Rect.unit ![0, 1536] ![1024, 512] inb_S1024x2048_S1024x512_0_1536, P3⟩,
      ⟨Rect.unit ![0, 1024] ![1024, 512] inb_S1024x2048_S1024x512_0_1024, P2⟩,
      ⟨Rect.unit ![0, 512] ![1024, 512] inb_S1024x2048_S1024x512_0_512, P1⟩,
      ⟨Rect.unit ![0, 0] ![1024, 512] inb_S1024x2048_S1024x512_0_0, P0⟩] : List (View.Piece (Elt Ideal) S1024x2048 .f32)), y ∈ p.1.set := by
  have h1 : (y 1).val < 2048 := (y 1).isLt
  by_cases c0 : (y 1).val < 512
  · exact ⟨_, List.mem_cons_of_mem _ (List.mem_cons_of_mem _ (List.mem_cons_of_mem _ ((List.mem_cons_self ..)))), mem_cols inb_S1024x2048_S1024x512_0_0 y (by omega) (by omega)⟩
  by_cases c1 : (y 1).val < 1024
  · exact ⟨_, List.mem_cons_of_mem _ (List.mem_cons_of_mem _ ((List.mem_cons_self ..))), mem_cols inb_S1024x2048_S1024x512_0_512 y (by omega) (by omega)⟩
  by_cases c2 : (y 1).val < 1536
  · exact ⟨_, List.mem_cons_of_mem _ ((List.mem_cons_self ..)), mem_cols inb_S1024x2048_S1024x512_0_1024 y (by omega) (by omega)⟩
  exact ⟨_, (List.mem_cons_self ..), mem_cols inb_S1024x2048_S1024x512_0_1536 y (by omega) (by omega)⟩

/-- The stores leave the tile's product added to what stood there. -/
theorem pieces (X0 : Vec Ideal S1024x1024 .bf16) (X1 : Vec Ideal S1024x2048 .bf16) (Z : Vec Ideal S1024x2048 .f32) (P0 P1 P2 P3 : Vec Ideal S1024x512 .f32)
    (L : List (View.Piece (Elt Ideal) S1024x2048 .f32))
    (h0 : P0 = View.ld (Val := Elt Ideal) (e' := .f32) Z (Rect.unit ![0, 0] ![1024, 512] inb_S1024x2048_S1024x512_0_0))
    (h1 : P1 = View.ld (Val := Elt Ideal) (e' := .f32) Z (Rect.unit ![0, 512] ![1024, 512] inb_S1024x2048_S1024x512_0_512))
    (h2 : P2 = View.ld (Val := Elt Ideal) (e' := .f32) Z (Rect.unit ![0, 1024] ![1024, 512] inb_S1024x2048_S1024x512_0_1024))
    (h3 : P3 = View.ld (Val := Elt Ideal) (e' := .f32) Z (Rect.unit ![0, 1536] ![1024, 512] inb_S1024x2048_S1024x512_0_1536)) (y : S1024x2048.Idx) :
    View.canon (Val := Elt Ideal) (e := .f32)
      (⟨Rect.unit ![0, 1536] ![1024, 512] inb_S1024x2048_S1024x512_0_1536,
        k0_pay1 (F := Ideal) (k0_pay4 X0) P3 (View.ld (Val := Elt Ideal) (e' := .bf16) X1 (Rect.unit ![0, 1536] ![1024, 512] inb_S1024x2048_S1024x512_0_1536))⟩
      :: ⟨Rect.unit ![0, 1024] ![1024, 512] inb_S1024x2048_S1024x512_0_1024,
        k0_pay7 (F := Ideal) X0 P2 (View.ld (Val := Elt Ideal) (e' := .bf16) X1 (Rect.unit ![0, 1024] ![1024, 512] inb_S1024x2048_S1024x512_0_1024))⟩
      :: ⟨Rect.unit ![0, 512] ![1024, 512] inb_S1024x2048_S1024x512_0_512,
        k0_pay6 (F := Ideal) X0 P1 (View.ld (Val := Elt Ideal) (e' := .bf16) X1 (Rect.unit ![0, 512] ![1024, 512] inb_S1024x2048_S1024x512_0_512))⟩
      :: ⟨Rect.unit ![0, 0] ![1024, 512] inb_S1024x2048_S1024x512_0_0,
        k0_pay5 (F := Ideal) X0 P0 (View.ld (Val := Elt Ideal) (e' := .bf16) X1 (Rect.unit ![0, 0] ![1024, 512] inb_S1024x2048_S1024x512_0_0))⟩
      :: L) y = (Z y + tile (fun x => x) X0 X1 y : EReal) := by
  subst h0 h1 h2 h3
  refine View.canon_append_of_piecesOf (Val := Elt Ideal) (e := .f32) (fun y => (Z y + tile (fun x => x) X0 X1 y : EReal)) L [_, _, _, _] ⟨fun x => ?_, fun x => ?_, fun x => ?_, fun x => ?_, trivial⟩ y (bands _ _ _ _ y)
  · exact pay3 X0 X1 _ x _ (by show 0 + 1 * (x 0).val = (x 0).val; omega) (by show 1536 + 1 * (x 1).val = 1536 + (x 1).val; omega)
  · exact pay2 X0 X1 _ x _ (by show 0 + 1 * (x 0).val = (x 0).val; omega) (by show 1024 + 1 * (x 1).val = 1024 + (x 1).val; omega)
  · exact pay1 X0 X1 _ x _ (by show 0 + 1 * (x 0).val = (x 0).val; omega) (by show 512 + 1 * (x 1).val = 512 + (x 1).val; omega)
  · exact pay0 X0 X1 _ x _ (by show 0 + 1 * (x 0).val = (x 0).val; omega) (by show 0 + 1 * (x 1).val = (x 1).val; omega)

theorem stepA (c : Dev nD) (t : Fin cfg0.N) (h0 : t.val % 8 = 0) (y : S1024x2048.Idx) :
    (outsAt0 m c t.val t.isLt).2 y = (0 + tile (fun x => x) (iblk m c 0 t) (iblk m c 1 t) y : EReal) := by
  rw [outsAt0_A m c t h0 (by omega)]
  frame_out
  refine (pieces _ _ (k0_pay3 (F := Ideal)) _ _ _ _ _ ?_ ?_ ?_ ?_ y).trans ?_
  · exact View.readCov_fill _ _ _ _ _ (by decide)
  · refine (View.readCov_skip _ _ _ _ _ (by decide)).trans ?_
    exact View.readCov_fill _ _ _ _ _ (by decide)
  · refine (View.readCov_skip _ _ _ _ _ (by decide)).trans ?_
    refine (View.readCov_skip _ _ _ _ _ (by decide)).trans ?_
    exact View.readCov_fill _ _ _ _ _ (by decide)
  · refine (View.readCov_skip _ _ _ _ _ (by decide)).trans ?_
    refine (View.readCov_skip _ _ _ _ _ (by decide)).trans ?_
    refine (View.readCov_skip _ _ _ _ _ (by decide)).trans ?_
    exact View.readCov_fill _ _ _ _ _ (by decide)
  · refine congrArg (· + tile (fun x => x) (iblk m c 0 t) (iblk m c 1 t) y) ?_
    unfold k0_pay3
    pointwise

theorem stepBC (c : Dev nD) (t : Fin cfg0.N) (h0 : ¬t.val % 8 = 0) (y : S1024x2048.Idx) :
    (outsAt0 m c t.val t.isLt).2 y = ((outsAt0 m c (t.val - 1) (Nat.lt_of_le_of_lt (Nat.sub_le _ _) t.isLt)).2 y
      + tile (fun x => x) (iblk m c 0 t) (iblk m c 1 t) y : EReal) := by
  by_cases h1 : t.val % 8 = 7
  · rw [outsAt0_C m c t h0 h1]
    frame_out
    simp only [read_unread_whole]
    exact pieces _ _ _ _ _ _ _ [] rfl rfl rfl rfl y
  · rw [outsAt0_B m c t h0 h1]
    frame_out
    simp only [read_unread_whole]
    exact pieces _ _ _ _ _ _ _ [] rfl rfl rfl rfl y

theorem stepO (c : Dev nD) (t : Fin cfg0.N) (h0 : ¬t.val % 8 = 0) (h1 : t.val % 8 = 7) (y : S1024x2048.Idx) :
    (outsAt0 m c t.val t.isLt).1 y = ((outsAt0 m c (t.val - 1) (Nat.lt_of_le_of_lt (Nat.sub_le _ _) t.isLt)).2 y
      + tile (fun x => x) (iblk m c 0 t) (iblk m c 1 t) y : EReal) := by
  rw [outsAt0_C m c t h0 h1]
  frame_out
  simp only [read_unread_whole]
  rw [View.readCov_eq_canon']
  unfold k0_pay2
  pointwise
  exact pieces _ _ _ _ _ _ _ [] rfl rfl rfl rfl y

theorem tile_eq (c : Dev nD) (t : Fin cfg0.N) (y : S1024x2048.Idx) :
    tile (fun x => x) (iblk m c 0 t) (iblk m c 1 t) y = term (fun x => x) (A0 m c) (A1 m c) ((fun _ r => r) (t.val / 8) (y 0).val) ((fun n r => 2048 * n + r) (t.val / 8) (y 1).val) (t.val % 8) := by
  have ht : t.val < 16 := lt_of_lt_of_eq t.isLt N_0
  have h0 : (y 0).val < 1024 := (y 0).isLt
  have h1 : (y 1).val < 2048 := (y 1).isLt
  refine tile_eq_term (fun x => x) y (y 0) (⟨2048 * (t.val / 8) + (y 1).val, by omega⟩) (t.val % 8) (by omega) (fun k => ?_) (fun k => ?_)
  · unfold A0
    blk_ext [iblk, V_main_arg0, index_0 t]
  · unfold A1
    blk_ext [iblk, V_main_arg1, index_1 t]

/-- The gradient. -/
def G (c : Dev nD) : Vec Ideal S1024x4096 .bf16 := whole (fun x => x) (A0 m c) (A1 m c)

theorem out (c : Dev nD) : (dats m 0 c).arrAt 2 cfg0.N = G m c := by
  refine (dats m 0 c).arrAt_eq_of_covers 2 _ (by decide +kernel) fun t hf y => ?_
  have h7 : t.val % 8 = 7 := (flush0_2 t).mp hf
  have h0 : ¬t.val % 8 = 0 := by omega
  blk_simp
  rw [after0_2]
  refine (stepO m c t h0 h7 y).trans ((stepBC m c t h0 y).symm.trans ?_)
  have e0 : ((win0_2.blk t).view.emb y 0).val = (fun _ r => r) (t.val / 8) (y 0).val := by blk_simp [index_2 t]; try omega
  have e1 : ((win0_2.blk t).view.emb y 1).val = (fun n r => 2048 * n + r) (t.val / 8) (y 1).val := by blk_simp [index_2 t]; try omega
  exact result (fun x => x) (A0 m c) (A1 m c) (fun _ r => r) (fun n r => 2048 * n + r) (fun n h => (outsAt0 m c n h).2)
    (fun t h y => (stepA m c t h y).trans (congrArg (0 + ·) (tile_eq m c t y)))
    (fun t h y => (stepBC m c t h y).trans (congrArg (_ + ·) (tile_eq m c t y))) t h7 y _ e0 e1

/-- The reference's result is the same gradient. -/
theorem ref (c : Dev nD) : Cert.ReferenceDwUpIdeal.Read.val_main_v6 (F := Ideal) (A0 m c) (A1 m c) = G m c := by
  funext i
  rw [Cert.ReferenceDwUpIdeal.Read.val_main_v6_apply]
  show Cert.ReferenceDwUpIdeal.Read.val_main_v5 (F := Ideal) (A0 m c) (A1 m c) i = _
  rw [Cert.ReferenceDwUpIdeal.Read.val_main_v5_apply, Cert.ReferenceDwUpIdeal.Read.val_main_v4_apply]
  exact Finset.sum_congr rfl fun k _ => (mul_comm _ _).trans (congrArg₂ (· * ·) (congrArg (A0 m c) (eq_ix2 _)) (congrArg (A1 m c) (eq_ix2 _)))

end Cert.KernelDwUpIdeal.Dense

namespace Cert.Proof

open Idealize.ShloMosaic Idealize.SL.Sem Cert.KernelDwUpIdeal.Dense

/-- The kernel and the reference leave the same gradient. -/
theorem algebraicDwUp : Cert.algebraic_KernelDwUpIdeal_ReferenceDwUpIdeal := by
  intro m g m' g' _ ha
  refine ⟨fun c => G m c, ?_, ?_⟩
  · exact (θ_run Cert.KernelDwUpIdeal.defs _ _).mono (fun r h c => ⟨(h c).1.trans (out m c), (h c).2⟩) (Cert.KernelDwUpIdeal.Value.run_blocks m g)
  · refine (θ_run Cert.ReferenceDwUpIdeal.defs _ _).mono (fun r h c => ⟨(h c).1.trans ?_, (h c).2⟩) (Cert.ReferenceDwUpIdeal.Value.run (F := Ideal) m' g')
    rw [(ha c).1, (ha c).2]
    exact ref m c

end Cert.Proof
end
-- ==== Proof.Dense.DwQkv.lean ====
/-
  The call `dw_qkv`: the gradient of the query, key and value projection, the rows summed tile by tile.
-/
module

public import proofs.«01_k».proof.Defs
public import proofs.«01_k».proof.Proof.Gen.KernelDwQkvIdeal.Value
public import proofs.«01_k».proof.Proof.Gen.ReferenceDwQkvIdeal.Run
public import proofs.«01_k».proof.Proof.Gen.ReferenceDwQkvIdeal.Read
public import proofs.«01_k».proof.Proof.Dense.Sums
public import Idealize.ShloMosaic.Lib.Pipeline.ReadBack

@[expose] public section

set_option maxRecDepth 16384

noncomputable section

namespace Cert.KernelDwQkvIdeal.Dense

open Cert.KernelDwQkvIdeal Cert.KernelDwQkvIdeal.Gen
open Idealize.ShloMosaic Idealize.SL.Sem Cert.DenseMath

variable (m : (ℓ : Loc nD τ sig) → Buf (Elt Ideal) ℓ) (ρ : Dev nD → PrngReg)

/-- The first argument's array. -/
abbrev A0 (c : Dev nD) : FVec Ideal S8192x1024 .bf16 := m ((c.tc : Thread nD τ).loc main_arg0)
/-- The second argument's array. -/
abbrev A1 (c : Dev nD) : FVec Ideal S8192x3072 .bf16 := m ((c.tc : Thread nD τ).loc main_arg1)

theorem index_0 : ∀ t : Fin cfg0.N, (cfg0.win 0).index t = ![t.val % 8, 0] := by decide +kernel
theorem index_1 : ∀ t : Fin cfg0.N, (cfg0.win 1).index t = ![t.val % 8, t.val / 8] := by decide +kernel
theorem index_2 : ∀ t : Fin cfg0.N, win0_2.index t = ![0, t.val / 8] := by decide +kernel

/-- What the store of columns 0 to 512 holds. -/
theorem pay0 (X0 : Vec Ideal S1024x1024 .bf16) (X1 : Vec Ideal S1024x1536 .bf16) (P : Vec Ideal S1024x512 .f32)
    (x : S1024x512.Idx) (y : S1024x1536.Idx) (h0 : (y 0).val = (x 0).val) (h1 : (y 1).val = (x 1).val) :
    k0_pay4 (F := Ideal) X0 P (View.ld (Val := Elt Ideal) (e' := .bf16) X1 (Rect.unit ![0, 0] ![1024, 512] inb_S1024x1536_S1024x512_0_0)) x
      = (P x + tile (fun x => x) X0 X1 y : EReal) := by
  unfold k0_pay4 k0_pay3 tile
  pointwise
  exact congrArg (P x + ·) (sum_eq (fun k => congrArg (fun i => X0 (ix2 k i)) (Fin.ext h0.symm)) (fun k => congrArg (fun i => X1 (ix2 k i)) (Fin.ext h1.symm)))

/-- What the store of columns 512 to 1024 holds. -/
theorem pay1 (X0 : Vec Ideal S1024x1024 .bf16) (X1 : Vec Ideal S1024x1536 .bf16) (P : Vec Ideal S1024x512 .f32)
    (x : S1024x512.Idx) (y : S1024x1536.Idx) (h0 : (y 0).val = (x 0).val) (h1 : (y 1).val = 512 + (x 1).val) :
    k0_pay5 (F := Ideal) X0 P (View.ld (Val := Elt Ideal) (e' := .bf16) X1 (Rect.unit ![0, 512] ![1024, 512] inb_S1024x1536_S1024x512_0_512)) x
      = (P x + tile (fun x => x) X0 X1 y : EReal) := by
  unfold k0_pay5 k0_pay3 tile
  pointwise
  exact congrArg (P x + ·) (sum_eq (fun k => congrArg (fun i => X0 (ix2 k i)) (Fin.ext h0.symm)) (fun k => congrArg (fun i => X1 (ix2 k i)) (Fin.ext h1.symm)))

/-- What the store of columns 1024 to 1536 holds. -/
theorem pay2 (X0 : Vec Ideal S1024x1024 .bf16) (X1 : Vec Ideal S1024x1536 .bf16) (P : Vec Ideal S1024x512 .f32)
    (x : S1024x512.Idx) (y : S1024x1536.Idx) (h0 : (y 0).val = (x 0).val) (h1 : (y 1).val = 1024 + (x 1).val) :
    k0_pay6 (F := Ideal) X0 P (View.ld (Val := Elt Ideal) (e' := .bf16) X1 (Rect.unit ![0, 1024] ![1024, 512] inb_S1024x1536_S1024x512_0_1024)) x
      = (P x + tile (fun x => x) X0 X1 y : EReal) := by
  unfold k0_pay6 k0_pay3 tile
  pointwise
  exact congrArg (P x + ·) (sum_eq (fun k => congrArg (fun i => X0 (ix2 k i)) (Fin.ext h0.symm)) (fun k => congrArg (fun i => X1 (ix2 k i)) (Fin.ext h1.symm)))

/-- Every index is in one of the stores. -/
theorem bands (P0 P1 P2 : Vec Ideal S1024x512 .f32) (y : S1024x1536.Idx) :
    ∃ p ∈ ([⟨Rect.unit ![0, 1024] ![1024, 512] inb_S1024x1536_S1024x512_0_1024, P2⟩,
      ⟨Rect.unit ![0, 512] ![1024, 512] inb_S1024x1536_S1024x512_0_512, P1⟩,
      ⟨Rect.unit ![0, 0] ![1024, 512] inb_S1024x1536_S1024x512_0_0, P0⟩] : List (View.Piece (Elt Ideal) S1024x1536 .f32)), y ∈ p.1.set := by
  have h1 : (y 1).val < 1536 := (y 1).isLt
  by_cases c0 : (y 1).val < 512
  · exact ⟨_, List.mem_cons_of_mem _ (List.mem_cons_of_mem _ ((List.mem_cons_self ..))), mem_cols inb_S1024x1536_S1024x512_0_0 y (by omega) (by omega)⟩
  by_cases c1 : (y 1).val < 1024
  · exact ⟨_, List.mem_cons_of_mem _ ((List.mem_cons_self ..)), mem_cols inb_S1024x1536_S1024x512_0_512 y (by omega) (by omega)⟩
  exact ⟨_, (List.mem_cons_self ..), mem_cols inb_S1024x1536_S1024x512_0_1024 y (by omega) (by omega)⟩

/-- The stores leave the tile's product added to what stood there. -/
theorem pieces (X0 : Vec Ideal S1024x1024 .bf16) (X1 : Vec Ideal S1024x1536 .bf16) (Z : Vec Ideal S1024x1536 .f32) (P0 P1 P2 : Vec Ideal S1024x512 .f32)
    (L : List (View.Piece (Elt Ideal) S1024x1536 .f32))
    (h0 : P0 = View.ld (Val := Elt Ideal) (e' := .f32) Z (Rect.unit ![0, 0] ![1024, 512] inb_S1024x1536_S1024x512_0_0))
    (h1 : P1 = View.ld (Val := Elt Ideal) (e' := .f32) Z (Rect.unit ![0, 512] ![1024, 512] inb_S1024x1536_S1024x512_0_512))
    (h2 : P2 = View.ld (Val := Elt Ideal) (e' := .f32) Z (Rect.unit ![0, 1024] ![1024, 512] inb_S1024x1536_S1024x512_0_1024)) (y : S1024x1536.Idx) :
    View.canon (Val := Elt Ideal) (e := .f32)
      (⟨Rect.unit ![0, 1024] ![1024, 512] inb_S1024x1536_S1024x512_0_1024,
        k0_pay6 (F := Ideal) X0 P2 (View.ld (Val := Elt Ideal) (e' := .bf16) X1 (Rect.unit ![0, 1024] ![1024, 512] inb_S1024x1536_S1024x512_0_1024))⟩
      :: ⟨Rect.unit ![0, 512] ![1024, 512] inb_S1024x1536_S1024x512_0_512,
        k0_pay5 (F := Ideal) X0 P1 (View.ld (Val := Elt Ideal) (e' := .bf16) X1 (Rect.unit ![0, 512] ![1024, 512] inb_S1024x1536_S1024x512_0_512))⟩
      :: ⟨Rect.unit ![0, 0] ![1024, 512] inb_S1024x1536_S1024x512_0_0,
        k0_pay4 (F := Ideal) X0 P0 (View.ld (Val := Elt Ideal) (e' := .bf16) X1 (Rect.unit ![0, 0] ![1024, 512] inb_S1024x1536_S1024x512_0_0))⟩
      :: L) y = (Z y + tile (fun x => x) X0 X1 y : EReal) := by
  subst h0 h1 h2
  refine View.canon_append_of_piecesOf (Val := Elt Ideal) (e := .f32) (fun y => (Z y + tile (fun x => x) X0 X1 y : EReal)) L [_, _, _] ⟨fun x => ?_, fun x => ?_, fun x => ?_, trivial⟩ y (bands _ _ _ y)
  · exact pay2 X0 X1 _ x _ (by show 0 + 1 * (x 0).val = (x 0).val; omega) (by show 1024 + 1 * (x 1).val = 1024 + (x 1).val; omega)
  · exact pay1 X0 X1 _ x _ (by show 0 + 1 * (x 0).val = (x 0).val; omega) (by show 512 + 1 * (x 1).val = 512 + (x 1).val; omega)
  · exact pay0 X0 X1 _ x _ (by show 0 + 1 * (x 0).val = (x 0).val; omega) (by show 0 + 1 * (x 1).val = (x 1).val; omega)

theorem stepA (c : Dev nD) (t : Fin cfg0.N) (h0 : t.val % 8 = 0) (y : S1024x1536.Idx) :
    (outsAt0 m c t.val t.isLt).2 y = (0 + tile (fun x => x) (iblk m c 0 t) (iblk m c 1 t) y : EReal) := by
  rw [outsAt0_A m c t h0 (by omega)]
  frame_out
  refine (pieces _ _ (k0_pay2 (F := Ideal)) _ _ _ _ ?_ ?_ ?_ y).trans ?_
  · exact View.readCov_fill _ _ _ _ _ (by decide)
  · refine (View.readCov_skip _ _ _ _ _ (by decide)).trans ?_
    exact View.readCov_fill _ _ _ _ _ (by decide)
  · refine (View.readCov_skip _ _ _ _ _ (by decide)).trans ?_
    refine (View.readCov_skip _ _ _ _ _ (by decide)).trans ?_
    exact View.readCov_fill _ _ _ _ _ (by decide)
  · refine congrArg (· + tile (fun x => x) (iblk m c 0 t) (iblk m c 1 t) y) ?_
    unfold k0_pay2
    pointwise

theorem stepBC (c : Dev nD) (t : Fin cfg0.N) (h0 : ¬t.val % 8 = 0) (y : S1024x1536.Idx) :
    (outsAt0 m c t.val t.isLt).2 y = ((outsAt0 m c (t.val - 1) (Nat.lt_of_le_of_lt (Nat.sub_le _ _) t.isLt)).2 y
      + tile (fun x => x) (iblk m c 0 t) (iblk m c 1 t) y : EReal) := by
  by_cases h1 : t.val % 8 = 7
  · rw [outsAt0_C m c t h0 h1]
    frame_out
    simp only [read_unread_whole]
    exact pieces _ _ _ _ _ _ [] rfl rfl rfl y
  · rw [outsAt0_B m c t h0 h1]
    frame_out
    simp only [read_unread_whole]
    exact pieces _ _ _ _ _ _ [] rfl rfl rfl y

theorem stepO (c : Dev nD) (t : Fin cfg0.N) (h0 : ¬t.val % 8 = 0) (h1 : t.val % 8 = 7) (y : S1024x1536.Idx) :
    (outsAt0 m c t.val t.isLt).1 y = ((outsAt0 m c (t.val - 1) (Nat.lt_of_le_of_lt (Nat.sub_le _ _) t.isLt)).2 y
      + tile (fun x => x) (iblk m c 0 t) (iblk m c 1 t) y : EReal) := by
  rw [outsAt0_C m c t h0 h1]
  frame_out
  simp only [read_unread_whole]
  rw [View.readCov_eq_canon']
  unfold k0_pay1
  pointwise
  exact pieces _ _ _ _ _ _ [] rfl rfl rfl y

theorem tile_eq (c : Dev nD) (t : Fin cfg0.N) (y : S1024x1536.Idx) :
    tile (fun x => x) (iblk m c 0 t) (iblk m c 1 t) y = term (fun x => x) (A0 m c) (A1 m c) ((fun _ r => r) (t.val / 8) (y 0).val) ((fun n r => 1536 * n + r) (t.val / 8) (y 1).val) (t.val % 8) := by
  have ht : t.val < 16 := lt_of_lt_of_eq t.isLt N_0
  have h0 : (y 0).val < 1024 := (y 0).isLt
  have h1 : (y 1).val < 1536 := (y 1).isLt
  refine tile_eq_term (fun x => x) y (y 0) (⟨1536 * (t.val / 8) + (y 1).val, by omega⟩) (t.val % 8) (by omega) (fun k => ?_) (fun k => ?_)
  · unfold A0
    blk_ext [iblk, V_main_arg0, index_0 t]
  · unfold A1
    blk_ext [iblk, V_main_arg1, index_1 t]

/-- The gradient. -/
def G (c : Dev nD) : Vec Ideal S1024x3072 .bf16 := whole (fun x => x) (A0 m c) (A1 m c)

theorem out (c : Dev nD) : (dats m 0 c).arrAt 2 cfg0.N = G m c := by
  refine (dats m 0 c).arrAt_eq_of_covers 2 _ (by decide +kernel) fun t hf y => ?_
  have h7 : t.val % 8 = 7 := (flush0_2 t).mp hf
  have h0 : ¬t.val % 8 = 0 := by omega
  blk_simp
  rw [after0_2]
  refine (stepO m c t h0 h7 y).trans ((stepBC m c t h0 y).symm.trans ?_)
  have e0 : ((win0_2.blk t).view.emb y 0).val = (fun _ r => r) (t.val / 8) (y 0).val := by blk_simp [index_2 t]; try omega
  have e1 : ((win0_2.blk t).view.emb y 1).val = (fun n r => 1536 * n + r) (t.val / 8) (y 1).val := by blk_simp [index_2 t]; try omega
  exact result (fun x => x) (A0 m c) (A1 m c) (fun _ r => r) (fun n r => 1536 * n + r) (fun n h => (outsAt0 m c n h).2)
    (fun t h y => (stepA m c t h y).trans (congrArg (0 + ·) (tile_eq m c t y)))
    (fun t h y => (stepBC m c t h y).trans (congrArg (_ + ·) (tile_eq m c t y))) t h7 y _ e0 e1

/-- The reference's result is the same gradient. -/
theorem ref (c : Dev nD) : Cert.ReferenceDwQkvIdeal.Read.val_main_v6 (F := Ideal) (A0 m c) (A1 m c) = G m c := by
  funext i
  rw [Cert.ReferenceDwQkvIdeal.Read.val_main_v6_apply]
  show Cert.ReferenceDwQkvIdeal.Read.val_main_v5 (F := Ideal) (A0 m c) (A1 m c) i = _
  rw [Cert.ReferenceDwQkvIdeal.Read.val_main_v5_apply, Cert.ReferenceDwQkvIdeal.Read.val_main_v4_apply]
  exact Finset.sum_congr rfl fun k _ => (mul_comm _ _).trans (congrArg₂ (· * ·) (congrArg (A0 m c) (eq_ix2 _)) (congrArg (A1 m c) (eq_ix2 _)))

end Cert.KernelDwQkvIdeal.Dense

namespace Cert.Proof

open Idealize.ShloMosaic Idealize.SL.Sem Cert.KernelDwQkvIdeal.Dense

/-- The kernel and the reference leave the same gradient. -/
theorem algebraicDwQkv : Cert.algebraic_KernelDwQkvIdeal_ReferenceDwQkvIdeal := by
  intro m g m' g' _ ha
  refine ⟨fun c => G m c, ?_, ?_⟩
  · exact (θ_run Cert.KernelDwQkvIdeal.defs _ _).mono (fun r h c => ⟨(h c).1.trans (out m c), (h c).2⟩) (Cert.KernelDwQkvIdeal.Value.run_blocks m g)
  · refine (θ_run Cert.ReferenceDwQkvIdeal.defs _ _).mono (fun r h c => ⟨(h c).1.trans ?_, (h c).2⟩) (Cert.ReferenceDwQkvIdeal.Value.run (F := Ideal) m' g')
    rw [(ha c).1, (ha c).2]
    exact ref m c

end Cert.Proof
end
-- ==== Proof.Dense.DwO.lean ====
/-
  The call `dw_o`: the gradient of the output projection, the rows summed tile by tile.
-/
module

public import proofs.«01_k».proof.Defs
public import proofs.«01_k».proof.Proof.Gen.KernelDwOIdeal.Value
public import proofs.«01_k».proof.Proof.Gen.ReferenceDwOIdeal.Run
public import proofs.«01_k».proof.Proof.Gen.ReferenceDwOIdeal.Read
public import proofs.«01_k».proof.Proof.Dense.Sums
public import Idealize.ShloMosaic.Lib.Pipeline.ReadBack

@[expose] public section

set_option maxRecDepth 16384

noncomputable section

namespace Cert.KernelDwOIdeal.Dense

open Cert.KernelDwOIdeal Cert.KernelDwOIdeal.Gen
open Idealize.ShloMosaic Idealize.SL.Sem Cert.DenseMath

variable (m : (ℓ : Loc nD τ sig) → Buf (Elt Ideal) ℓ) (ρ : Dev nD → PrngReg)

/-- The first argument's array. -/
abbrev A0 (c : Dev nD) : FVec Ideal S8192x1024 .bf16 := m ((c.tc : Thread nD τ).loc main_arg0)
/-- The second argument's array. -/
abbrev A1 (c : Dev nD) : FVec Ideal S8192x1024 .f32 := m ((c.tc : Thread nD τ).loc main_arg1)

theorem index_0 : ∀ t : Fin cfg0.N, (cfg0.win 0).index t = ![t.val % 8, 0] := by decide +kernel
theorem index_1 : ∀ t : Fin cfg0.N, (cfg0.win 1).index t = ![t.val % 8, 0] := by decide +kernel
theorem index_2 : ∀ t : Fin cfg0.N, win0_2.index t = ![0, 0] := by decide +kernel

/-- What the store of columns 0 to 512 holds. -/
theorem pay0 (X0 : Vec Ideal S1024x1024 .bf16) (X1 : Vec Ideal S1024x1024 .f32) (P : Vec Ideal S1024x512 .f32)
    (x : S1024x512.Idx) (y : S1024x1024.Idx) (h0 : (y 0).val = (x 0).val) (h1 : (y 1).val = (x 1).val) :
    k0_pay3 (F := Ideal) X0 P (View.ld (Val := Elt Ideal) (e' := .f32) X1 (Rect.unit ![0, 0] ![1024, 512] inb_S1024x1024_S1024x512_0_0)) x
      = (P x + tile (fun x => x) X0 X1 y : EReal) := by
  unfold k0_pay3 k0_pay2 tile
  pointwise
  exact congrArg (P x + ·) (sum_eq (fun k => congrArg (fun i => X0 (ix2 k i)) (Fin.ext h0.symm)) (fun k => congrArg (fun i => X1 (ix2 k i)) (Fin.ext h1.symm)))

/-- What the store of columns 512 to 1024 holds. -/
theorem pay1 (X0 : Vec Ideal S1024x1024 .bf16) (X1 : Vec Ideal S1024x1024 .f32) (P : Vec Ideal S1024x512 .f32)
    (x : S1024x512.Idx) (y : S1024x1024.Idx) (h0 : (y 0).val = (x 0).val) (h1 : (y 1).val = 512 + (x 1).val) :
    k0_pay4 (F := Ideal) X0 P (View.ld (Val := Elt Ideal) (e' := .f32) X1 (Rect.unit ![0, 512] ![1024, 512] inb_S1024x1024_S1024x512_0_512)) x
      = (P x + tile (fun x => x) X0 X1 y : EReal) := by
  unfold k0_pay4 k0_pay2 tile
  pointwise
  exact congrArg (P x + ·) (sum_eq (fun k => congrArg (fun i => X0 (ix2 k i)) (Fin.ext h0.symm)) (fun k => congrArg (fun i => X1 (ix2 k i)) (Fin.ext h1.symm)))

/-- Every index is in one of the stores. -/
theorem bands (P0 P1 : Vec Ideal S1024x512 .f32) (y : S1024x1024.Idx) :
    ∃ p ∈ ([⟨Rect.unit ![0, 512] ![1024, 512] inb_S1024x1024_S1024x512_0_512, P1⟩,
      ⟨Rect.unit ![0, 0] ![1024, 512] inb_S1024x1024_S1024x512_0_0, P0⟩] : List (View.Piece (Elt Ideal) S1024x1024 .f32)), y ∈ p.1.set := by
  have h1 : (y 1).val < 1024 := (y 1).isLt
  by_cases c0 : (y 1).val < 512
  · exact ⟨_, List.mem_cons_of_mem _ ((List.mem_cons_self ..)), mem_cols inb_S1024x1024_S1024x512_0_0 y (by omega) (by omega)⟩
  exact ⟨_, (List.mem_cons_self ..), mem_cols inb_S1024x1024_S1024x512_0_512 y (by omega) (by omega)⟩

/-- The stores leave the tile's product added to what stood there. -/
theorem pieces (X0 : Vec Ideal S1024x1024 .bf16) (X1 : Vec Ideal S1024x1024 .f32) (Z : Vec Ideal S1024x1024 .f32) (P0 P1 : Vec Ideal S1024x512 .f32)
    (L : List (View.Piece (Elt Ideal) S1024x1024 .f32))
    (h0 : P0 = View.ld (Val := Elt Ideal) (e' := .f32) Z (Rect.unit ![0, 0] ![1024, 512] inb_S1024x1024_S1024x512_0_0))
    (h1 : P1 = View.ld (Val := Elt Ideal) (e' := .f32) Z (Rect.unit ![0, 512] ![1024, 512] inb_S1024x1024_S1024x512_0_512)) (y : S1024x1024.Idx) :
    View.canon (Val := Elt Ideal) (e := .f32)
      (⟨Rect.unit ![0, 512] ![1024, 512] inb_S1024x1024_S1024x512_0_512,
        k0_pay4 (F := Ideal) X0 P1 (View.ld (Val := Elt Ideal) (e' := .f32) X1 (Rect.unit ![0, 512] ![1024, 512] inb_S1024x1024_S1024x512_0_512))⟩
      :: ⟨Rect.unit ![0, 0] ![1024, 512] inb_S1024x1024_S1024x512_0_0,
        k0_pay3 (F := Ideal) X0 P0 (View.ld (Val := Elt Ideal) (e' := .f32) X1 (Rect.unit ![0, 0] ![1024, 512] inb_S1024x1024_S1024x512_0_0))⟩
      :: L) y = (Z y + tile (fun x => x) X0 X1 y : EReal) := by
  subst h0 h1
  refine View.canon_append_of_piecesOf (Val := Elt Ideal) (e := .f32) (fun y => (Z y + tile (fun x => x) X0 X1 y : EReal)) L [_, _] ⟨fun x => ?_, fun x => ?_, trivial⟩ y (bands _ _ y)
  · exact pay1 X0 X1 _ x _ (by show 0 + 1 * (x 0).val = (x 0).val; omega) (by show 512 + 1 * (x 1).val = 512 + (x 1).val; omega)
  · exact pay0 X0 X1 _ x _ (by show 0 + 1 * (x 0).val = (x 0).val; omega) (by show 0 + 1 * (x 1).val = (x 1).val; omega)

theorem stepA (c : Dev nD) (t : Fin cfg0.N) (h0 : t.val % 8 = 0) (y : S1024x1024.Idx) :
    (outsAt0 m c t.val t.isLt).2 y = (0 + tile (fun x => x) (iblk m c 0 t) (iblk m c 1 t) y : EReal) := by
  rw [outsAt0_A m c t h0 (by omega)]
  frame_out
  refine (pieces _ _ (k0_pay1 (F := Ideal)) _ _ _ ?_ ?_ y).trans ?_
  · exact View.readCov_fill _ _ _ _ _ (by decide)
  · refine (View.readCov_skip _ _ _ _ _ (by decide)).trans ?_
    exact View.readCov_fill _ _ _ _ _ (by decide)
  · refine congrArg (· + tile (fun x => x) (iblk m c 0 t) (iblk m c 1 t) y) ?_
    unfold k0_pay1
    pointwise

theorem stepBC (c : Dev nD) (t : Fin cfg0.N) (h0 : ¬t.val % 8 = 0) (y : S1024x1024.Idx) :
    (outsAt0 m c t.val t.isLt).2 y = ((outsAt0 m c (t.val - 1) (Nat.lt_of_le_of_lt (Nat.sub_le _ _) t.isLt)).2 y
      + tile (fun x => x) (iblk m c 0 t) (iblk m c 1 t) y : EReal) := by
  by_cases h1 : t.val % 8 = 7
  · rw [outsAt0_C m c t h0 h1]
    frame_out
    simp only [read_unread_whole]
    exact pieces _ _ _ _ _ [] rfl rfl y
  · rw [outsAt0_B m c t h0 h1]
    frame_out
    simp only [read_unread_whole]
    exact pieces _ _ _ _ _ [] rfl rfl y

theorem stepO (c : Dev nD) (t : Fin cfg0.N) (h0 : ¬t.val % 8 = 0) (h1 : t.val % 8 = 7) (y : S1024x1024.Idx) :
    (outsAt0 m c t.val t.isLt).1 y = ((outsAt0 m c (t.val - 1) (Nat.lt_of_le_of_lt (Nat.sub_le _ _) t.isLt)).2 y
      + tile (fun x => x) (iblk m c 0 t) (iblk m c 1 t) y : EReal) := by
  rw [outsAt0_C m c t h0 h1]
  frame_out
  simp only [read_unread_whole]
  rw [View.readCov_eq_canon']
  unfold k0_pay5
  pointwise
  exact pieces _ _ _ _ _ [] rfl rfl y

theorem tile_eq (c : Dev nD) (t : Fin cfg0.N) (y : S1024x1024.Idx) :
    tile (fun x => x) (iblk m c 0 t) (iblk m c 1 t) y = term (fun x => x) (A0 m c) (A1 m c) ((fun _ r => r) (t.val / 8) (y 0).val) ((fun _ r => r) (t.val / 8) (y 1).val) (t.val % 8) := by
  have ht : t.val < 8 := lt_of_lt_of_eq t.isLt N_0
  have h0 : (y 0).val < 1024 := (y 0).isLt
  have h1 : (y 1).val < 1024 := (y 1).isLt
  refine tile_eq_term (fun x => x) y (y 0) (y 1) (t.val % 8) (by omega) (fun k => ?_) (fun k => ?_)
  · unfold A0
    blk_ext [iblk, V_main_arg0, index_0 t]
  · unfold A1
    blk_ext [iblk, V_main_arg1, index_1 t]

/-- The gradient. -/
def G (c : Dev nD) : Vec Ideal S1024x1024 .bf16 := whole (fun x => x) (A0 m c) (A1 m c)

theorem out (c : Dev nD) : (dats m 0 c).arrAt 2 cfg0.N = G m c := by
  refine (dats m 0 c).arrAt_eq_of_covers 2 _ (by decide +kernel) fun t hf y => ?_
  have h7 : t.val % 8 = 7 := (flush0_2 t).mp hf
  have h0 : ¬t.val % 8 = 0 := by omega
  blk_simp
  rw [after0_2]
  refine (stepO m c t h0 h7 y).trans ((stepBC m c t h0 y).symm.trans ?_)
  have e0 : ((win0_2.blk t).view.emb y 0).val = (fun _ r => r) (t.val / 8) (y 0).val := by blk_simp [index_2 t]; try omega
  have e1 : ((win0_2.blk t).view.emb y 1).val = (fun _ r => r) (t.val / 8) (y 1).val := by blk_simp [index_2 t]; try omega
  exact result (fun x => x) (A0 m c) (A1 m c) (fun _ r => r) (fun _ r => r) (fun n h => (outsAt0 m c n h).2)
    (fun t h y => (stepA m c t h y).trans (congrArg (0 + ·) (tile_eq m c t y)))
    (fun t h y => (stepBC m c t h y).trans (congrArg (_ + ·) (tile_eq m c t y))) t h7 y _ e0 e1

/-- The reference's result is the same gradient. -/
theorem ref (c : Dev nD) : Cert.ReferenceDwOIdeal.Read.val_main_v5 (F := Ideal) (A0 m c) (A1 m c) = G m c := by
  funext i
  rw [Cert.ReferenceDwOIdeal.Read.val_main_v5_apply]
  show Cert.ReferenceDwOIdeal.Read.val_main_v4 (F := Ideal) (A0 m c) (A1 m c) i = _
  rw [Cert.ReferenceDwOIdeal.Read.val_main_v4_apply, Cert.ReferenceDwOIdeal.Read.val_main_v3_apply]
  exact Finset.sum_congr rfl fun k _ => (mul_comm _ _).trans (congrArg₂ (· * ·) (congrArg (A0 m c) (eq_ix2 _)) (congrArg (A1 m c) (eq_ix2 _)))

end Cert.KernelDwOIdeal.Dense

namespace Cert.Proof

open Idealize.ShloMosaic Idealize.SL.Sem Cert.KernelDwOIdeal.Dense

/-- The kernel and the reference leave the same gradient. -/
theorem algebraicDwO : Cert.algebraic_KernelDwOIdeal_ReferenceDwOIdeal := by
  intro m g m' g' _ ha
  refine ⟨fun c => G m c, ?_, ?_⟩
  · exact (θ_run Cert.KernelDwOIdeal.defs _ _).mono (fun r h c => ⟨(h c).1.trans (out m c), (h c).2⟩) (Cert.KernelDwOIdeal.Value.run_blocks m g)
  · refine (θ_run Cert.ReferenceDwOIdeal.defs _ _).mono (fun r h c => ⟨(h c).1.trans ?_, (h c).2⟩) (Cert.ReferenceDwOIdeal.Value.run (F := Ideal) m' g')
    rw [(ha c).1, (ha c).2]
    exact ref m c

end Cert.Proof
end
-- ==== Proof.Dense.DO.lean ====
/-
  The call `d_o`: the gradient of the attention output through the output projection, one block of 1024 rows per grid
  point, two column halves per block.
-/
module

public import proofs.«01_k».proof.Defs
public import proofs.«01_k».proof.Proof.Gen.KernelDOIdeal.Value
public import proofs.«01_k».proof.Proof.Gen.ReferenceDOIdeal.Run
public import proofs.«01_k».proof.Proof.Gen.ReferenceDOIdeal.Read
public import proofs.«01_k».proof.Proof.Dense.Sums
public import Idealize.ShloMosaic.Lib.Pipeline.ReadBack

@[expose] public section

set_option maxRecDepth 16384

noncomputable section

namespace Cert.KernelDOIdeal.Dense

open Cert.KernelDOIdeal Cert.KernelDOIdeal.Gen
open Idealize.ShloMosaic Idealize.SL.Sem Cert.DenseMath

variable (m : (ℓ : Loc nD τ sig) → Buf (Elt Ideal) ℓ) (ρ : Dev nD → PrngReg)

/-- The first argument's array. -/
abbrev A0 (c : Dev nD) : FVec Ideal S8192x1024 .f32 := m ((c.tc : Thread nD τ).loc main_arg0)
/-- The second argument's array. -/
abbrev A1 (c : Dev nD) : FVec Ideal S1024x1024 .bf16 := m ((c.tc : Thread nD τ).loc main_arg1)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, win0_2.index t = ![t.val, 0] := by decide +kernel

/-- The product, transposed on the right. -/
def G (c : Dev nD) : FVec Ideal S8192x1024 .bf16 := fun i =>
  ∑ k : Fin 1024, A0 m c (ix2 (i 0) k) * A1 m c (ix2 (i 1) k)

/-- What a grid point leaves in its output block. -/
def blockG (X0 : FVec Ideal S1024x1024 .f32) (X1 : FVec Ideal S1024x1024 .bf16) : FVec Ideal S1024x1024 .bf16 := fun y =>
  ∑ k : Fin 1024, X0 (ix2 (y 0) k) * X1 (ix2 (y 1) k)

theorem block (X0 : FVec Ideal S1024x1024 .f32) (X1 : FVec Ideal S1024x1024 .bf16) (y : S1024x1024.Idx) :
    View.canon (Val := Elt Ideal) (e := .bf16) [⟨r0_4, k0_pay3 (F := Ideal) X0 (View.ld (Val := Elt Ideal) (e' := .bf16) X1 r0_3)⟩, ⟨r0_2, k0_pay2 (F := Ideal) X0 (View.ld (Val := Elt Ideal) (e' := .bf16) X1 r0_1)⟩] y = blockG X0 X1 y := by
  refine View.canon_append_of_piecesOf (Val := Elt Ideal) (e := .bf16) (blockG X0 X1) [] [_, _] ⟨fun x => ?_, fun x => ?_, trivial⟩ y ?_
  · dsimp only
    unfold k0_pay3 k0_pay1 blockG
    pointwise
    exact sum_eq (fun k => congrArg (fun i => X0 (ix2 i k)) (Fin.ext (by show (x 0).val = 0 + 1 * (x 0).val; omega)))
      (fun k => congrArg (fun i => X1 (ix2 i k)) (Fin.ext (by show 512 + (x 1).val = 512 + 1 * (x 1).val; omega)))
  · dsimp only
    unfold k0_pay2 k0_pay1 blockG
    pointwise
    exact sum_eq (fun k => congrArg (fun i => X0 (ix2 i k)) (Fin.ext (by show (x 0).val = 0 + 1 * (x 0).val; omega)))
      (fun k => congrArg (fun i => X1 (ix2 i k)) (Fin.ext (by show (x 1).val = 0 + 1 * (x 1).val; omega)))
  · have h1 : (y 1).val < 1024 := (y 1).isLt
    by_cases h : (y 1).val < 512
    · exact ⟨_, List.mem_cons_of_mem _ (List.mem_cons_self ..), mem_cols inb_S1024x1024_S1024x512_0_0 y (by omega) (by omega)⟩
    · exact ⟨_, List.mem_cons_self .., mem_cols inb_S1024x1024_S1024x512_0_512 y (by omega) (by omega)⟩

theorem out (c : Dev nD) : (dats m 0 c).arrAt 2 cfg0.N = G m c := by
  refine (dats m 0 c).arrAt_eq_of_covers 2 _ (by decide +kernel) fun t hf y => ?_
  blk_simp
  rw [after0_2]
  frame_out
  rw [block]
  unfold blockG G
  refine sum_eq (fun k => ?_) (fun k => ?_)
  · unfold A0
    blk_ext [iblk, V_main_arg0, index_0 t, index_2 t]
  · unfold A1
    blk_ext [iblk, V_main_arg1, index_1 t, index_2 t]

/-- The reference's result is the same product. -/
theorem ref (c : Dev nD) : Cert.ReferenceDOIdeal.Read.val_main_v4 (F := Ideal) (A0 m c) (A1 m c) = G m c := by
  funext i
  rw [Cert.ReferenceDOIdeal.Read.val_main_v4_apply]
  show Cert.ReferenceDOIdeal.Read.val_main_v3 (F := Ideal) (A0 m c) (A1 m c) i = _
  rw [Cert.ReferenceDOIdeal.Read.val_main_v3_apply]
  unfold G
  refine sum_eq (fun k => congrArg (A0 m c) ?_) (fun k => congrArg (A1 m c) ?_)
  · exact eq_ix2 _
  · exact eq_ix2 _

end Cert.KernelDOIdeal.Dense

namespace Cert.Proof

open Idealize.ShloMosaic Idealize.SL.Sem Cert.KernelDOIdeal.Dense

/-- The kernel and the reference leave the same gradient. -/
theorem algebraicDO : Cert.algebraic_KernelDOIdeal_ReferenceDOIdeal := by
  intro m g m' g' _ ha
  refine ⟨fun c => G m c, ?_, ?_⟩
  · exact (θ_run Cert.KernelDOIdeal.defs _ _).mono (fun r h c => ⟨(h c).1.trans (out m c), (h c).2⟩) (Cert.KernelDOIdeal.Value.run_blocks m g)
  · refine (θ_run Cert.ReferenceDOIdeal.defs _ _).mono (fun r h c => ⟨(h c).1.trans ?_, (h c).2⟩) (Cert.ReferenceDOIdeal.Value.run (F := Ideal) m' g')
    rw [(ha c).1, (ha c).2]
    exact ref m c

end Cert.Proof
end
-- ==== Proof.Dense.Qkv.lean ====
/-
  The call `qkv`: the queries, keys and values, one block of 1024 rows per grid point, six bands of 512 columns per block.
-/
module

public import proofs.«01_k».proof.Defs
public import proofs.«01_k».proof.Proof.Gen.KernelQkvIdeal.Value
public import proofs.«01_k».proof.Proof.Gen.ReferenceQkvIdeal.Run
public import proofs.«01_k».proof.Proof.Gen.ReferenceQkvIdeal.Read
public import proofs.«01_k».proof.Proof.Dense.Sums
public import Idealize.ShloMosaic.Lib.Pipeline.ReadBack

@[expose] public section

set_option maxRecDepth 16384

noncomputable section

namespace Cert.KernelQkvIdeal.Dense

open Cert.KernelQkvIdeal Cert.KernelQkvIdeal.Gen
open Idealize.ShloMosaic Idealize.SL.Sem Cert.DenseMath

variable (m : (ℓ : Loc nD τ sig) → Buf (Elt Ideal) ℓ) (ρ : Dev nD → PrngReg)

/-- The two arguments' arrays. -/
abbrev A0 (c : Dev nD) : FVec Ideal S8192x1024 .bf16 := m ((c.tc : Thread nD τ).loc main_arg0)
abbrev A1 (c : Dev nD) : FVec Ideal S1024x3072 .bf16 := m ((c.tc : Thread nD τ).loc main_arg1)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, win0_2.index t = ![t.val, 0] := by decide +kernel

/-- The product. -/
def G (c : Dev nD) : Vec Ideal S8192x3072 .bf16 := fun i =>
  (∑ k : Fin 1024, A0 m c (ix2 (i 0) k) * A1 m c (ix2 k (i 1)) : EReal)

/-- What a grid point leaves in its output block. -/
def blockG (X0 : Vec Ideal S1024x1024 .bf16) (X1 : Vec Ideal S1024x3072 .bf16) : Vec Ideal S1024x3072 .bf16 := fun y =>
  (∑ k : Fin 1024, X0 (ix2 (y 0) k) * X1 (ix2 k (y 1)) : EReal)

/-- What a band's store holds; the bands' payloads are one function. -/
theorem pay (X0 : Vec Ideal S1024x1024 .bf16) (X1 : Vec Ideal S1024x3072 .bf16) (o : ℕ)
    (hW : ∀ d, (![0, o] : Fin 2 → ℕ) d + S1024x512.size d ≤ S1024x3072.size d)
    (x : S1024x512.Idx) (y : S1024x3072.Idx) (h0 : (y 0).val = (x 0).val) (h1 : (y 1).val = o + (x 1).val) :
    k0_pay1 (F := Ideal) X0 (View.ld (Val := Elt Ideal) (e' := .bf16) X1 (Rect.unit (s := S1024x3072) ![0, o] S1024x512.size hW)) x = blockG X0 X1 y := by
  unfold k0_pay1 blockG
  pointwise
  exact sum_eq (fun k => congrArg (fun i => X0 (ix2 i k)) (Fin.ext h0.symm)) (fun k => congrArg (fun i => X1 (ix2 k i)) (Fin.ext h1.symm))

theorem block (X0 : Vec Ideal S1024x1024 .bf16) (X1 : Vec Ideal S1024x3072 .bf16) (y : S1024x3072.Idx) :
    View.canon (Val := Elt Ideal) (e := .bf16) [⟨r0_6, k0_pay6 (F := Ideal) X0 (View.ld (Val := Elt Ideal) (e' := .bf16) X1 r0_6)⟩,
      ⟨r0_5, k0_pay5 (F := Ideal) X0 (View.ld (Val := Elt Ideal) (e' := .bf16) X1 r0_5)⟩,
      ⟨r0_4, k0_pay4 (F := Ideal) X0 (View.ld (Val := Elt Ideal) (e' := .bf16) X1 r0_4)⟩,
      ⟨r0_3, k0_pay3 (F := Ideal) X0 (View.ld (Val := Elt Ideal) (e' := .bf16) X1 r0_3)⟩,
      ⟨r0_2, k0_pay2 (F := Ideal) X0 (View.ld (Val := Elt Ideal) (e' := .bf16) X1 r0_2)⟩,
      ⟨r0_1, k0_pay1 (F := Ideal) X0 (View.ld (Val := Elt Ideal) (e' := .bf16) X1 r0_1)⟩] y = blockG X0 X1 y := by
  refine View.canon_append_of_piecesOf (Val := Elt Ideal) (e := .bf16) (blockG X0 X1) [] [_, _, _, _, _, _]
    ⟨fun x => ?_, fun x => ?_, fun x => ?_, fun x => ?_, fun x => ?_, fun x => ?_, trivial⟩ y ?_
  · exact pay X0 X1 2560 inb_S1024x3072_S1024x512_0_2560 x _ (by show 0 + 1 * (x 0).val = (x 0).val; omega) (by show 2560 + 1 * (x 1).val = 2560 + (x 1).val; omega)
  · exact pay X0 X1 2048 inb_S1024x3072_S1024x512_0_2048 x _ (by show 0 + 1 * (x 0).val = (x 0).val; omega) (by show 2048 + 1 * (x 1).val = 2048 + (x 1).val; omega)
  · exact pay X0 X1 1536 inb_S1024x3072_S1024x512_0_1536 x _ (by show 0 + 1 * (x 0).val = (x 0).val; omega) (by show 1536 + 1 * (x 1).val = 1536 + (x 1).val; omega)
  · exact pay X0 X1 1024 inb_S1024x3072_S1024x512_0_1024 x _ (by show 0 + 1 * (x 0).val = (x 0).val; omega) (by show 1024 + 1 * (x 1).val = 1024 + (x 1).val; omega)
  · exact pay X0 X1 512 inb_S1024x3072_S1024x512_0_512 x _ (by show 0 + 1 * (x 0).val = (x 0).val; omega) (by show 512 + 1 * (x 1).val = 512 + (x 1).val; omega)
  · exact pay X0 X1 0 inb_S1024x3072_S1024x512_0_0 x _ (by show 0 + 1 * (x 0).val = (x 0).val; omega) (by show 0 + 1 * (x 1).val = 0 + (x 1).val; omega)
  · have h1 : (y 1).val < 3072 := (y 1).isLt
    by_cases c0 : (y 1).val < 512
    · exact ⟨_, (List.mem_cons_of_mem _ (List.mem_cons_of_mem _ (List.mem_cons_of_mem _ (List.mem_cons_of_mem _ (List.mem_cons_of_mem _ (List.mem_cons_self ..)))))), mem_cols inb_S1024x3072_S1024x512_0_0 y (by omega) (by omega)⟩
    by_cases c1 : (y 1).val < 1024
    · exact ⟨_, (List.mem_cons_of_mem _ (List.mem_cons_of_mem _ (List.mem_cons_of_mem _ (List.mem_cons_of_mem _ (List.mem_cons_self ..))))), mem_cols inb_S1024x3072_S1024x512_0_512 y (by omega) (by omega)⟩
    by_cases c2 : (y 1).val < 1536
    · exact ⟨_, (List.mem_cons_of_mem _ (List.mem_cons_of_mem _ (List.mem_cons_of_mem _ (List.mem_cons_self ..)))), mem_cols inb_S1024x3072_S1024x512_0_1024 y (by omega) (by omega)⟩
    by_cases c3 : (y 1).val < 2048
    · exact ⟨_, (List.mem_cons_of_mem _ (List.mem_cons_of_mem _ (List.mem_cons_self ..))), mem_cols inb_S1024x3072_S1024x512_0_1536 y (by omega) (by omega)⟩
    by_cases c4 : (y 1).val < 2560
    · exact ⟨_, (List.mem_cons_of_mem _ (List.mem_cons_self ..)), mem_cols inb_S1024x3072_S1024x512_0_2048 y (by omega) (by omega)⟩
    exact ⟨_, (List.mem_cons_self ..), mem_cols inb_S1024x3072_S1024x512_0_2560 y (by omega) (by omega)⟩

theorem out (c : Dev nD) : (dats m 0 c).arrAt 2 cfg0.N = G m c := by
  refine (dats m 0 c).arrAt_eq_of_covers 2 _ (by decide +kernel) fun t hf y => ?_
  blk_simp
  rw [after0_2]
  frame_out
  rw [block]
  unfold blockG G
  refine sum_eq (fun k => ?_) (fun k => ?_)
  · unfold A0
    blk_ext [iblk, V_main_arg0, index_0 t, index_2 t]
  · unfold A1
    blk_ext [iblk, V_main_arg1, index_1 t, index_2 t]

/-- The reference's result is the same product. -/
theorem ref (c : Dev nD) : Cert.ReferenceQkvIdeal.Read.val_main_v3 (F := Ideal) (A0 m c) (A1 m c) = G m c := by
  funext i
  rw [Cert.ReferenceQkvIdeal.Read.val_main_v3_apply]
  show Cert.ReferenceQkvIdeal.Read.val_main_v2 (F := Ideal) (A0 m c) (A1 m c) i = _
  rw [Cert.ReferenceQkvIdeal.Read.val_main_v2_apply]
  exact sum_eq (fun k => congrArg (A0 m c) (eq_ix2 _)) (fun k => congrArg (A1 m c) (eq_ix2 _))

end Cert.KernelQkvIdeal.Dense

namespace Cert.Proof

open Idealize.ShloMosaic Idealize.SL.Sem Cert.KernelQkvIdeal.Dense

/-- The kernel and the reference leave the same product. -/
theorem algebraicQkv : Cert.algebraic_KernelQkvIdeal_ReferenceQkvIdeal := by
  intro m g m' g' _ ha
  refine ⟨fun c => G m c, ?_, ?_⟩
  · exact (θ_run Cert.KernelQkvIdeal.defs _ _).mono (fun r h c => ⟨(h c).1.trans (out m c), (h c).2⟩) (Cert.KernelQkvIdeal.Value.run_blocks m g)
  · refine (θ_run Cert.ReferenceQkvIdeal.defs _ _).mono (fun r h c => ⟨(h c).1.trans ?_, (h c).2⟩) (Cert.ReferenceQkvIdeal.Value.run (F := Ideal) m' g')
    rw [(ha c).1, (ha c).2]
    exact ref m c

end Cert.Proof
end
-- ==== Proof.Dense.Up.lean ====
/-
  The call `up`: the rows before the squared ReLU, one block of 1024 rows per grid point, eight bands of 512 columns per
  block.
-/
module

public import proofs.«01_k».proof.Defs
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Dense.Sums
public import Idealize.ShloMosaic.Lib.Pipeline.ReadBack

@[expose] public section

set_option maxRecDepth 16384

noncomputable section

namespace Cert.KernelUpIdeal.Dense

open Cert.KernelUpIdeal Cert.KernelUpIdeal.Gen
open Idealize.ShloMosaic Idealize.SL.Sem Cert.DenseMath

variable (m : (ℓ : Loc nD τ sig) → Buf (Elt Ideal) ℓ) (ρ : Dev nD → PrngReg)

/-- The two arguments' arrays. -/
abbrev A0 (c : Dev nD) : FVec Ideal S8192x1024 .bf16 := m ((c.tc : Thread nD τ).loc main_arg0)
abbrev A1 (c : Dev nD) : FVec Ideal S1024x4096 .bf16 := m ((c.tc : Thread nD τ).loc main_arg1)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, win0_2.index t = ![t.val, 0] := by decide +kernel

/-- The product. -/
def G (c : Dev nD) : Vec Ideal S8192x4096 .bf16 := fun i =>
  (∑ k : Fin 1024, A0 m c (ix2 (i 0) k) * A1 m c (ix2 k (i 1)) : EReal)

/-- What a grid point leaves in its output block. -/
def blockG (X0 : Vec Ideal S1024x1024 .bf16) (X1 : Vec Ideal S1024x4096 .bf16) : Vec Ideal S1024x4096 .bf16 := fun y =>
  (∑ k : Fin 1024, X0 (ix2 (y 0) k) * X1 (ix2 k (y 1)) : EReal)

/-- What a band's store holds; the bands' payloads are one function. -/
theorem pay (X0 : Vec Ideal S1024x1024 .bf16) (X1 : Vec Ideal S1024x4096 .bf16) (o : ℕ)
    (hW : ∀ d, (![0, o] : Fin 2 → ℕ) d + S1024x512.size d ≤ S1024x4096.size d)
    (x : S1024x512.Idx) (y : S1024x4096.Idx) (h0 : (y 0).val = (x 0).val) (h1 : (y 1).val = o + (x 1).val) :
    k0_pay3 (F := Ideal) X0 (View.ld (Val := Elt Ideal) (e' := .bf16) X1 (Rect.unit (s := S1024x4096) ![0, o] S1024x512.size hW)) x = blockG X0 X1 y := by
  unfold k0_pay3 blockG
  pointwise
  exact sum_eq (fun k => congrArg (fun i => X0 (ix2 i k)) (Fin.ext h0.symm)) (fun k => congrArg (fun i => X1 (ix2 k i)) (Fin.ext h1.symm))

theorem block (X0 : Vec Ideal S1024x1024 .bf16) (X1 : Vec Ideal S1024x4096 .bf16) (y : S1024x4096.Idx) :
    View.canon (Val := Elt Ideal) (e := .bf16) [⟨r0_8, k0_pay2 (F := Ideal) X0 (View.ld (Val := Elt Ideal) (e' := .bf16) X1 r0_8)⟩,
      ⟨r0_7, k0_pay1 (F := Ideal) X0 (View.ld (Val := Elt Ideal) (e' := .bf16) X1 r0_7)⟩,
      ⟨r0_6, k0_pay8 (F := Ideal) X0 (View.ld (Val := Elt Ideal) (e' := .bf16) X1 r0_6)⟩,
      ⟨r0_5, k0_pay7 (F := Ideal) X0 (View.ld (Val := Elt Ideal) (e' := .bf16) X1 r0_5)⟩,
      ⟨r0_4, k0_pay6 (F := Ideal) X0 (View.ld (Val := Elt Ideal) (e' := .bf16) X1 r0_4)⟩,
      ⟨r0_3, k0_pay5 (F := Ideal) X0 (View.ld (Val := Elt Ideal) (e' := .bf16) X1 r0_3)⟩,
      ⟨r0_2, k0_pay4 (F := Ideal) X0 (View.ld (Val := Elt Ideal) (e' := .bf16) X1 r0_2)⟩,
      ⟨r0_1, k0_pay3 (F := Ideal) X0 (View.ld (Val := Elt Ideal) (e' := .bf16) X1 r0_1)⟩] y = blockG X0 X1 y := by
  refine View.canon_append_of_piecesOf (Val := Elt Ideal) (e := .bf16) (blockG X0 X1) [] [_, _, _, _, _, _, _, _]
    ⟨fun x => ?_, fun x => ?_, fun x => ?_, fun x => ?_, fun x => ?_, fun x => ?_, fun x => ?_, fun x => ?_, trivial⟩ y ?_
  · exact pay X0 X1 3584 inb_S1024x4096_S1024x512_0_3584 x _ (by show 0 + 1 * (x 0).val = (x 0).val; omega) (by show 3584 + 1 * (x 1).val = 3584 + (x 1).val; omega)
  · exact pay X0 X1 3072 inb_S1024x4096_S1024x512_0_3072 x _ (by show 0 + 1 * (x 0).val = (x 0).val; omega) (by show 3072 + 1 * (x 1).val = 3072 + (x 1).val; omega)
  · exact pay X0 X1 2560 inb_S1024x4096_S1024x512_0_2560 x _ (by show 0 + 1 * (x 0).val = (x 0).val; omega) (by show 2560 + 1 * (x 1).val = 2560 + (x 1).val; omega)
  · exact pay X0 X1 2048 inb_S1024x4096_S1024x512_0_2048 x _ (by show 0 + 1 * (x 0).val = (x 0).val; omega) (by show 2048 + 1 * (x 1).val = 2048 + (x 1).val; omega)
  · exact pay X0 X1 1536 inb_S1024x4096_S1024x512_0_1536 x _ (by show 0 + 1 * (x 0).val = (x 0).val; omega) (by show 1536 + 1 * (x 1).val = 1536 + (x 1).val; omega)
  · exact pay X0 X1 1024 inb_S1024x4096_S1024x512_0_1024 x _ (by show 0 + 1 * (x 0).val = (x 0).val; omega) (by show 1024 + 1 * (x 1).val = 1024 + (x 1).val; omega)
  · exact pay X0 X1 512 inb_S1024x4096_S1024x512_0_512 x _ (by show 0 + 1 * (x 0).val = (x 0).val; omega) (by show 512 + 1 * (x 1).val = 512 + (x 1).val; omega)
  · exact pay X0 X1 0 inb_S1024x4096_S1024x512_0_0 x _ (by show 0 + 1 * (x 0).val = (x 0).val; omega) (by show 0 + 1 * (x 1).val = 0 + (x 1).val; omega)
  · have h1 : (y 1).val < 4096 := (y 1).isLt
    by_cases c0 : (y 1).val < 512
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_cols inb_S1024x4096_S1024x512_0_0 y (by omega) (by omega)⟩
    by_cases c1 : (y 1).val < 1024
    · exact ⟨_, (List.mem_cons_of_mem _ (List.mem_cons_of_mem _ (List.mem_cons_of_mem _ (List.mem_cons_of_mem _ (List.mem_cons_of_mem _ (List.mem_cons_of_mem _ (List.mem_cons_self ..))))))), mem_cols inb_S1024x4096_S1024x512_0_512 y (by omega) (by omega)⟩
    by_cases c2 : (y 1).val < 1536
    · exact ⟨_, (List.mem_cons_of_mem _ (List.mem_cons_of_mem _ (List.mem_cons_of_mem _ (List.mem_cons_of_mem _ (List.mem_cons_of_mem _ (List.mem_cons_self ..)))))), mem_cols inb_S1024x4096_S1024x512_0_1024 y (by omega) (by omega)⟩
    by_cases c3 : (y 1).val < 2048
    · exact ⟨_, (List.mem_cons_of_mem _ (List.mem_cons_of_mem _ (List.mem_cons_of_mem _ (List.mem_cons_of_mem _ (List.mem_cons_self ..))))), mem_cols inb_S1024x4096_S1024x512_0_1536 y (by omega) (by omega)⟩
    by_cases c4 : (y 1).val < 2560
    · exact ⟨_, (List.mem_cons_of_mem _ (List.mem_cons_of_mem _ (List.mem_cons_of_mem _ (List.mem_cons_self ..)))), mem_cols inb_S1024x4096_S1024x512_0_2048 y (by omega) (by omega)⟩
    by_cases c5 : (y 1).val < 3072
    · exact ⟨_, (List.mem_cons_of_mem _ (List.mem_cons_of_mem _ (List.mem_cons_self ..))), mem_cols inb_S1024x4096_S1024x512_0_2560 y (by omega) (by omega)⟩
    by_cases c6 : (y 1).val < 3584
    · exact ⟨_, (List.mem_cons_of_mem _ (List.mem_cons_self ..)), mem_cols inb_S1024x4096_S1024x512_0_3072 y (by omega) (by omega)⟩
    exact ⟨_, (List.mem_cons_self ..), mem_cols inb_S1024x4096_S1024x512_0_3584 y (by omega) (by omega)⟩

theorem out (c : Dev nD) : (dats m 0 c).arrAt 2 cfg0.N = G m c := by
  refine (dats m 0 c).arrAt_eq_of_covers 2 _ (by decide +kernel) fun t hf y => ?_
  blk_simp
  rw [after0_2]
  frame_out
  rw [block]
  unfold blockG G
  refine sum_eq (fun k => ?_) (fun k => ?_)
  · unfold A0
    blk_ext [iblk, V_main_arg0, index_0 t, index_2 t]
  · unfold A1
    blk_ext [iblk, V_main_arg1, index_1 t, index_2 t]

/-- The reference's result is the same product. -/
theorem ref (c : Dev nD) : Cert.ReferenceUpIdeal.Read.val_main_v3 (F := Ideal) (A0 m c) (A1 m c) = G m c := by
  funext i
  rw [Cert.ReferenceUpIdeal.Read.val_main_v3_apply]
  show Cert.ReferenceUpIdeal.Read.val_main_v2 (F := Ideal) (A0 m c) (A1 m c) i = _
  rw [Cert.ReferenceUpIdeal.Read.val_main_v2_apply]
  exact sum_eq (fun k => congrArg (A0 m c) (eq_ix2 _)) (fun k => congrArg (A1 m c) (eq_ix2 _))

end Cert.KernelUpIdeal.Dense

namespace Cert.Proof

open Idealize.ShloMosaic Idealize.SL.Sem Cert.KernelUpIdeal.Dense

/-- The kernel and the reference leave the same product. -/
theorem algebraicUp : Cert.algebraic_KernelUpIdeal_ReferenceUpIdeal := by
  intro m g m' g' _ ha
  refine ⟨fun c => G m c, ?_, ?_⟩
  · exact (θ_run Cert.KernelUpIdeal.defs _ _).mono (fun r h c => ⟨(h c).1.trans (out m c), (h c).2⟩) (Cert.KernelUpIdeal.Value.run_blocks m g)
  · refine (θ_run Cert.ReferenceUpIdeal.defs _ _).mono (fun r h c => ⟨(h c).1.trans ?_, (h c).2⟩) (Cert.ReferenceUpIdeal.Value.run (F := Ideal) m' g')
    rw [(ha c).1, (ha c).2]
    exact ref m c

end Cert.Proof
end
-- ==== Proof.Dense.Norm.lean ====
/-
  The norm the residual products end with: a row over the root of its mean square, times the gain.
-/
module

public import proofs.«01_k».proof.Proof.Dense.Sums

@[expose] public section

noncomputable section

namespace Cert.DenseMath

open Idealize.ShloMosaic

/-- One element of the normed row: the element over the root of the row's mean square and the small constant, times the gain. -/
def rms (row : Fin 1024 → EReal) (x g : EReal) : EReal :=
  x * Ideal.rsqrt (Ideal.div (∑ k : Fin 1024, row k * row k) (Ideal.ofBits .f32 0x44800000#32) + Ideal.ofBits .f32 0x358637BD#32) * g

theorem rms_congr {row row' : Fin 1024 → EReal} {x x' g g' : EReal} (hr : ∀ k, row k = row' k) (hx : x = x') (hg : g = g') :
    rms row x g = rms row' x' g' := by
  rw [funext hr, hx, hg]

end Cert.DenseMath
end
-- ==== Proof.Dense.AttnOut.lean ====
/-
  The call `attn_out`: the attention output times the output weights, added to the residual stream, and the normed rows.
-/
module

public import proofs.«01_k».proof.Defs
public import proofs.«01_k».proof.Proof.Gen.KernelAttnOutIdeal.Value
public import proofs.«01_k».proof.Proof.Gen.ReferenceAttnOutIdeal.Run
public import proofs.«01_k».proof.Proof.Gen.ReferenceAttnOutIdeal.Read
public import proofs.«01_k».proof.Proof.Dense.Norm
public import Idealize.ShloMosaic.Lib.Pipeline.ReadBack

@[expose] public section

set_option maxRecDepth 16384

noncomputable section

namespace Cert.KernelAttnOutIdeal.Dense

open Cert.KernelAttnOutIdeal Cert.KernelAttnOutIdeal.Gen
open Idealize.ShloMosaic Idealize.SL.Sem Cert.DenseMath

variable (m : (ℓ : Loc nD τ sig) → Buf (Elt Ideal) ℓ) (ρ : Dev nD → PrngReg)

/-- The arguments' arrays. -/
abbrev A0 (c : Dev nD) : FVec Ideal S8192x1024 .bf16 := m ((c.tc : Thread nD τ).loc main_arg0)
abbrev A1 (c : Dev nD) : FVec Ideal S1024x1024 .bf16 := m ((c.tc : Thread nD τ).loc main_arg1)
abbrev A2 (c : Dev nD) : FVec Ideal S8192x1024 .f32 := m ((c.tc : Thread nD τ).loc main_arg2)
abbrev A3 (c : Dev nD) : FVec Ideal S1x1024 .f32 := m ((c.tc : Thread nD τ).loc main_arg3)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, (cfg0.win 3).index t = ![0, 0] := by decide +kernel
theorem index_4 : ∀ t : Fin cfg0.N, win0_4.index t = ![t.val, 0] := by decide +kernel
theorem index_5 : ∀ t : Fin cfg0.N, win0_5.index t = ![t.val, 0] := by decide +kernel

/-- The residual stream: the product, and the rows it is added to. -/
def G (c : Dev nD) : Vec Ideal S8192x1024 .f32 := fun i =>
  ((∑ k : Fin 1024, A0 m c (ix2 (i 0) k) * A1 m c (ix2 k (i 1))) + A2 m c i : EReal)

/-- What a grid point leaves of it in its output block. -/
def blockG (X0 : Vec Ideal S1024x1024 .bf16) (X1 : Vec Ideal S1024x1024 .bf16) (X2 : Vec Ideal S1024x1024 .f32) : Vec Ideal S1024x1024 .f32 := fun y =>
  ((∑ k : Fin 1024, X0 (ix2 (y 0) k) * X1 (ix2 k (y 1))) + X2 y : EReal)

/-- What a half's store holds; the two halves' payloads are one function. -/
theorem pay (X0 : Vec Ideal S1024x1024 .bf16) (X1 : Vec Ideal S1024x1024 .bf16) (X2 : Vec Ideal S1024x1024 .f32) (o : ℕ)
    (hW : ∀ d, (![0, o] : Fin 2 → ℕ) d + S1024x512.size d ≤ S1024x1024.size d) (hP : ∀ d, (![0, o] : Fin 2 → ℕ) d + S1024x512.size d ≤ S1024x1024.size d)
    (x : S1024x512.Idx) (y : S1024x1024.Idx) (h0 : (y 0).val = (x 0).val) (h1 : (y 1).val = o + (x 1).val) :
    k0_pay1 (F := Ideal) X0 (View.ld (Val := Elt Ideal) (e' := .bf16) X1 (Rect.unit (s := S1024x1024) ![0, o] S1024x512.size hW))
      (View.ld (Val := Elt Ideal) (e' := .f32) X2 (Rect.unit (s := S1024x1024) ![0, o] S1024x512.size hP)) x = blockG X0 X1 X2 y := by
  unfold k0_pay1 blockG
  pointwise
  refine congrArg₂ (· + ·) (sum_eq (fun k => congrArg (fun i => X0 (ix2 i k)) (Fin.ext h0.symm)) (fun k => congrArg (fun i => X1 (ix2 k i)) (Fin.ext h1.symm)))
    (congrArg X2 ?_)
  rw [eq_ix2 y]
  exact congrArg₂ ix2 (Fin.ext h0.symm) (Fin.ext h1.symm)

theorem block (X0 : Vec Ideal S1024x1024 .bf16) (X1 : Vec Ideal S1024x1024 .bf16) (X2 : Vec Ideal S1024x1024 .f32) (y : S1024x1024.Idx) :
    View.canon (Val := Elt Ideal) (e := .f32) [⟨Rect.unit (s := S1024x1024) ![0, 512] S1024x512.size inb_S1024x1024_S1024x512_0_512, k0_pay2 (F := Ideal) X0 (View.ld (Val := Elt Ideal) (e' := .bf16) X1 (Rect.unit (s := S1024x1024) ![0, 512] S1024x512.size inb_S1024x1024_S1024x512_0_512)) (View.ld (Val := Elt Ideal) (e' := .f32) X2 (Rect.unit (s := S1024x1024) ![0, 512] S1024x512.size inb_S1024x1024_S1024x512_0_512))⟩,
      ⟨Rect.unit (s := S1024x1024) ![0, 0] S1024x512.size inb_S1024x1024_S1024x512_0_0, k0_pay1 (F := Ideal) X0 (View.ld (Val := Elt Ideal) (e' := .bf16) X1 (Rect.unit (s := S1024x1024) ![0, 0] S1024x512.size inb_S1024x1024_S1024x512_0_0)) (View.ld (Val := Elt Ideal) (e' := .f32) X2 (Rect.unit (s := S1024x1024) ![0, 0] S1024x512.size inb_S1024x1024_S1024x512_0_0))⟩] y = blockG X0 X1 X2 y := by
  refine View.canon_append_of_piecesOf (Val := Elt Ideal) (e := .f32) (blockG X0 X1 X2) [] [_, _] ⟨fun x => ?_, fun x => ?_, trivial⟩ y ?_
  · exact pay X0 X1 X2 512 inb_S1024x1024_S1024x512_0_512 inb_S1024x1024_S1024x512_0_512 x _ (by show 0 + 1 * (x 0).val = (x 0).val; omega) (by show 512 + 1 * (x 1).val = 512 + (x 1).val; omega)
  · exact pay X0 X1 X2 0 inb_S1024x1024_S1024x512_0_0 inb_S1024x1024_S1024x512_0_0 x _ (by show 0 + 1 * (x 0).val = (x 0).val; omega) (by show 0 + 1 * (x 1).val = 0 + (x 1).val; omega)
  · have h1 : (y 1).val < 1024 := (y 1).isLt
    by_cases c0 : (y 1).val < 512
    · exact ⟨_, (List.mem_cons_of_mem _ (List.mem_cons_self ..)), mem_cols inb_S1024x1024_S1024x512_0_0 y (by omega) (by omega)⟩
    exact ⟨_, (List.mem_cons_self ..), mem_cols inb_S1024x1024_S1024x512_0_512 y (by omega) (by omega)⟩

theorem out4 (c : Dev nD) : (dats m 0 c).arrAt 4 cfg0.N = G m c := by
  refine (dats m 0 c).arrAt_eq_of_covers 4 _ (by decide +kernel) fun t hf y => ?_
  blk_simp
  rw [after0_4]
  unfold outsAt0
  dsimp only
  frame_out
  refine (block (iblk m c 0 t) (iblk m c 1 t) (iblk m c 2 t) y).trans ?_
  unfold blockG G
  refine congrArg₂ (· + ·) (sum_eq (fun l => ?_) (fun l => ?_)) ?_
  · unfold A0
    blk_ext [iblk, V_main_arg0, index_0 t, index_4 t]
  · unfold A1
    blk_ext [iblk, V_main_arg1, index_1 t, index_4 t]
  · unfold A2
    blk_ext [iblk, V_main_arg2, index_2 t, index_4 t]

/-- The normed rows. -/
def H (c : Dev nD) : Vec Ideal S8192x1024 .bf16 := fun i =>
  (rms (fun k => G m c (ix2 (i 0) k)) (G m c i) (A3 m c (ix2 0 (i 1))) : EReal)

/-- What the norm's store holds, of the rows read back. -/
theorem npay (X : Vec Ideal S1024x1024 .f32) (g : Vec Ideal S1x1024 .f32) (y : S1024x1024.Idx) :
    k0_pay3 (F := Ideal) X g y = rms (fun k => X (ix2 (y 0) k)) (X y) (g (ix2 0 (y 1))) := by
  unfold k0_pay3
  pointwise
  rfl

theorem out5 (c : Dev nD) : (dats m 0 c).arrAt 5 cfg0.N = H m c := by
  refine (dats m 0 c).arrAt_eq_of_covers 5 _ (by decide +kernel) fun t hf y => ?_
  blk_simp
  rw [after0_5]
  unfold outsAt0
  dsimp only
  frame_out
  refine (npay _ (iblk m c 3 t) y).trans (rms_congr (fun k => ?_) ?_ ?_)
  · rw [View.readCov_eq_canon']
    refine (block (iblk m c 0 t) (iblk m c 1 t) (iblk m c 2 t) _).trans ?_
    refine (congrFun (View.ld_unit_zero (Val := Elt Ideal) (e := .f32) (by decide) inb_S1024x1024_S1024x1024_0_0 (blockG (iblk m c 0 t) (iblk m c 1 t) (iblk m c 2 t))) (ix2 (y 0) k)).trans ?_
    unfold blockG G
    refine congrArg₂ (· + ·) (sum_eq (fun l => ?_) (fun l => ?_)) ?_
    · unfold A0
      blk_ext [iblk, V_main_arg0, index_0 t, index_5 t]
    · unfold A1
      blk_ext [iblk, V_main_arg1, index_1 t, index_5 t]
    · unfold A2
      blk_ext [iblk, V_main_arg2, index_2 t, index_5 t]
  · rw [View.readCov_eq_canon']
    refine (block (iblk m c 0 t) (iblk m c 1 t) (iblk m c 2 t) _).trans ?_
    refine (congrFun (View.ld_unit_zero (Val := Elt Ideal) (e := .f32) (by decide) inb_S1024x1024_S1024x1024_0_0 (blockG (iblk m c 0 t) (iblk m c 1 t) (iblk m c 2 t))) y).trans ?_
    unfold blockG G
    refine congrArg₂ (· + ·) (sum_eq (fun l => ?_) (fun l => ?_)) ?_
    · unfold A0
      blk_ext [iblk, V_main_arg0, index_0 t, index_5 t]
    · unfold A1
      blk_ext [iblk, V_main_arg1, index_1 t, index_5 t]
    · unfold A2
      blk_ext [iblk, V_main_arg2, index_2 t, index_5 t]
  · unfold A3
    blk_ext [iblk, V_main_arg3, index_3 t, index_5 t]

/-- The reference's first result is the same sum. -/
theorem ref4 (c : Dev nD) : Cert.ReferenceAttnOutIdeal.Read.val_main_v3 (F := Ideal) (A0 m c) (A1 m c) (A2 m c) = G m c := by
  funext i
  rw [Cert.ReferenceAttnOutIdeal.Read.val_main_v3_apply, Cert.ReferenceAttnOutIdeal.Read.val_main_v2_apply]
  refine (add_comm (A2 m c i : EReal) _).trans (congrArg₂ (· + ·) (sum_eq (fun k => ?_) (fun k => congrArg (A1 m c) (eq_ix2 _))) rfl)
  exact congrArg (A0 m c) (eq_ix2 _)

/-- Its second result is the same norm. -/
theorem ref5 (c : Dev nD) : Cert.ReferenceAttnOutIdeal.Read.val_main_v16 (F := Ideal) (A0 m c) (A1 m c) (A2 m c) (A3 m c) = H m c := by
  funext i
  rw [Cert.ReferenceAttnOutIdeal.Read.val_main_v16_apply]
  show Cert.ReferenceAttnOutIdeal.Read.val_main_v15 (F := Ideal) (A0 m c) (A1 m c) (A2 m c) (A3 m c) i = _
  rw [Cert.ReferenceAttnOutIdeal.Read.val_main_v15_apply, Cert.ReferenceAttnOutIdeal.Read.val_main_v14_apply, Cert.ReferenceAttnOutIdeal.Read.val_main_v13_apply, Cert.ReferenceAttnOutIdeal.Read.val_main_v12_apply, Cert.ReferenceAttnOutIdeal.Read.val_main_v11_apply,
    Cert.ReferenceAttnOutIdeal.Read.val_main_v10_apply, Cert.ReferenceAttnOutIdeal.Read.val_main_v9_apply, Cert.ReferenceAttnOutIdeal.Read.val_main_v8_apply, Cert.ReferenceAttnOutIdeal.Read.val_main_v7_apply, Cert.ReferenceAttnOutIdeal.Read.val_main_v6_apply,
    Cert.ReferenceAttnOutIdeal.Read.val_main_v5_apply, Cert.ReferenceAttnOutIdeal.Read.val_main_cst_apply, Cert.ReferenceAttnOutIdeal.Read.val_main_cst_0_apply, Cert.ReferenceAttnOutIdeal.Read.val_main_cst_1_apply, ref4]
  have hg : ∀ k : Fin 1024, Cert.ReferenceAttnOutIdeal.Read.val_main_v3 (F := Ideal) (A0 m c) (A1 m c) (A2 m c) (Cert.ReferenceAttnOutIdeal.Read.idx_main_v5 (Cert.ReferenceAttnOutIdeal.Read.idx_main_v6 (Cert.ReferenceAttnOutIdeal.Read.idx_main_v12 i)) k) = G m c (ix2 (i 0) k) :=
    fun k => (congrFun (ref4 m c) _).trans (congrArg (G m c) (eq_ix2 _))
  have hs : (Ideal.ofBits .f32 0x00000000#32 + ∑ k : Fin 1024, Cert.ReferenceAttnOutIdeal.Read.val_main_v4 (F := Ideal) (A0 m c) (A1 m c) (A2 m c) (Cert.ReferenceAttnOutIdeal.Read.idx_main_v5 (Cert.ReferenceAttnOutIdeal.Read.idx_main_v6 (Cert.ReferenceAttnOutIdeal.Read.idx_main_v12 i)) k) : EReal)
      = ∑ k : Fin 1024, G m c (ix2 (i 0) k) * G m c (ix2 (i 0) k) := by
    rw [zero_f32, zero_add]
    exact sum_eq hg hg
  show (G m c i * Ideal.rsqrt (Ideal.div (Ideal.ofBits .f32 0x00000000#32 + ∑ k : Fin 1024, Cert.ReferenceAttnOutIdeal.Read.val_main_v4 (F := Ideal) (A0 m c) (A1 m c) (A2 m c) (Cert.ReferenceAttnOutIdeal.Read.idx_main_v5 (Cert.ReferenceAttnOutIdeal.Read.idx_main_v6 (Cert.ReferenceAttnOutIdeal.Read.idx_main_v12 i)) k))
      (Ideal.ofBits .f32 0x44800000#32) + Ideal.ofBits .f32 0x358637BD#32) * A3 m c (Cert.ReferenceAttnOutIdeal.Read.idx_main_v14 i) : EReal) = _
  rw [hs]
  exact rms_congr (fun _ => rfl) rfl (congrArg (A3 m c) (eq_ix2 _))

end Cert.KernelAttnOutIdeal.Dense

namespace Cert.Proof

open Idealize.ShloMosaic Idealize.SL.Sem Cert.KernelAttnOutIdeal.Dense

/-- The kernel and the reference leave the same rows and the same normed rows. -/
theorem algebraicAttnOut : Cert.algebraic_KernelAttnOutIdeal_ReferenceAttnOutIdeal := by
  intro m g m' g' _ ha
  refine ⟨fun c => G m c, fun c => H m c, ?_, ?_⟩
  · exact (θ_run Cert.KernelAttnOutIdeal.defs _ _).mono (fun r h c => ⟨(h c).1.trans (out4 m c), (h c).2.1.trans (out5 m c), (h c).2.2⟩) (Cert.KernelAttnOutIdeal.Value.run_blocks m g)
  · refine (θ_run Cert.ReferenceAttnOutIdeal.defs _ _).mono (fun r h c => ⟨(h c).1.trans ?_, (h c).2.1.trans ?_, (h c).2.2⟩) (Cert.ReferenceAttnOutIdeal.Value.run (F := Ideal) m' g')
    · rw [(ha c).1, (ha c).2.1, (ha c).2.2.1]
      exact ref4 m c
    · rw [(ha c).1, (ha c).2.1, (ha c).2.2.1, (ha c).2.2.2]
      exact ref5 m c

end Cert.Proof
end
-- ==== Proof.Dense.Down.lean ====
/-
  The call `down`: the squared ReLU times the down weights, added to the residual stream, and the normed rows.
-/
module

public import proofs.«01_k».proof.Defs
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Dense.Norm
public import Idealize.ShloMosaic.Lib.Pipeline.ReadBack

@[expose] public section

set_option maxRecDepth 16384

noncomputable section

namespace Cert.KernelDownIdeal.Dense

open Cert.KernelDownIdeal Cert.KernelDownIdeal.Gen
open Idealize.ShloMosaic Idealize.SL.Sem Cert.DenseMath

variable (m : (ℓ : Loc nD τ sig) → Buf (Elt Ideal) ℓ) (ρ : Dev nD → PrngReg)

/-- The arguments' arrays. -/
abbrev A0 (c : Dev nD) : FVec Ideal S8192x4096 .bf16 := m ((c.tc : Thread nD τ).loc main_arg0)
abbrev A1 (c : Dev nD) : FVec Ideal S4096x1024 .bf16 := m ((c.tc : Thread nD τ).loc main_arg1)
abbrev A2 (c : Dev nD) : FVec Ideal S8192x1024 .f32 := m ((c.tc : Thread nD τ).loc main_arg2)
abbrev A3 (c : Dev nD) : FVec Ideal S1x1024 .f32 := m ((c.tc : Thread nD τ).loc main_arg3)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, (cfg0.win 3).index t = ![0, 0] := by decide +kernel
theorem index_4 : ∀ t : Fin cfg0.N, win0_4.index t = ![t.val, 0] := by decide +kernel
theorem index_5 : ∀ t : Fin cfg0.N, win0_5.index t = ![t.val, 0] := by decide +kernel

/-- The squared ReLU. -/
def act (x : EReal) : EReal := max x 0 * max x 0

/-- The residual stream: the product of the squared ReLU, and the rows it is added to. -/
def G (c : Dev nD) : Vec Ideal S8192x1024 .f32 := fun i =>
  ((∑ k : Fin 4096, act (A0 m c (ix2 (i 0) k)) * A1 m c (ix2 k (i 1))) + A2 m c i : EReal)

/-- What a grid point leaves of it in its output block. -/
def blockG (X0 : Vec Ideal S512x4096 .bf16) (X1 : Vec Ideal S4096x1024 .bf16) (X2 : Vec Ideal S512x1024 .f32) : Vec Ideal S512x1024 .f32 := fun y =>
  ((∑ k : Fin 4096, act (X0 (ix2 (y 0) k)) * X1 (ix2 k (y 1))) + X2 y : EReal)

/-- What a half's store holds; the two halves' payloads are one function. -/
theorem pay (X0 : Vec Ideal S512x4096 .bf16) (X1 : Vec Ideal S4096x1024 .bf16) (X2 : Vec Ideal S512x1024 .f32) (o : ℕ)
    (hW : ∀ d, (![0, o] : Fin 2 → ℕ) d + S4096x512.size d ≤ S4096x1024.size d) (hP : ∀ d, (![0, o] : Fin 2 → ℕ) d + S512x512.size d ≤ S512x1024.size d)
    (x : S512x512.Idx) (y : S512x1024.Idx) (h0 : (y 0).val = (x 0).val) (h1 : (y 1).val = o + (x 1).val) :
    k0_pay2 (F := Ideal) X0 (View.ld (Val := Elt Ideal) (e' := .bf16) X1 (Rect.unit (s := S4096x1024) ![0, o] S4096x512.size hW))
      (View.ld (Val := Elt Ideal) (e' := .f32) X2 (Rect.unit (s := S512x1024) ![0, o] S512x512.size hP)) x = blockG X0 X1 X2 y := by
  unfold k0_pay2 k0_pay1 blockG act
  pointwise
  refine congrArg₂ (· + ·) (sum_eq (fun k => congrArg (fun i => act (X0 (ix2 i k))) (Fin.ext h0.symm)) (fun k => congrArg (fun i => X1 (ix2 k i)) (Fin.ext h1.symm)))
    (congrArg X2 ?_)
  rw [eq_ix2 y]
  exact congrArg₂ ix2 (Fin.ext h0.symm) (Fin.ext h1.symm)

theorem block (X0 : Vec Ideal S512x4096 .bf16) (X1 : Vec Ideal S4096x1024 .bf16) (X2 : Vec Ideal S512x1024 .f32) (y : S512x1024.Idx) :
    View.canon (Val := Elt Ideal) (e := .f32) [⟨Rect.unit (s := S512x1024) ![0, 512] S512x512.size inb_S512x1024_S512x512_0_512, k0_pay3 (F := Ideal) X0 (View.ld (Val := Elt Ideal) (e' := .bf16) X1 (Rect.unit (s := S4096x1024) ![0, 512] S4096x512.size inb_S4096x1024_S4096x512_0_512)) (View.ld (Val := Elt Ideal) (e' := .f32) X2 (Rect.unit (s := S512x1024) ![0, 512] S512x512.size inb_S512x1024_S512x512_0_512))⟩,
      ⟨Rect.unit (s := S512x1024) ![0, 0] S512x512.size inb_S512x1024_S512x512_0_0, k0_pay2 (F := Ideal) X0 (View.ld (Val := Elt Ideal) (e' := .bf16) X1 (Rect.unit (s := S4096x1024) ![0, 0] S4096x512.size inb_S4096x1024_S4096x512_0_0)) (View.ld (Val := Elt Ideal) (e' := .f32) X2 (Rect.unit (s := S512x1024) ![0, 0] S512x512.size inb_S512x1024_S512x512_0_0))⟩] y = blockG X0 X1 X2 y := by
  refine View.canon_append_of_piecesOf (Val := Elt Ideal) (e := .f32) (blockG X0 X1 X2) [] [_, _] ⟨fun x => ?_, fun x => ?_, trivial⟩ y ?_
  · exact pay X0 X1 X2 512 inb_S4096x1024_S4096x512_0_512 inb_S512x1024_S512x512_0_512 x _ (by show 0 + 1 * (x 0).val = (x 0).val; omega) (by show 512 + 1 * (x 1).val = 512 + (x 1).val; omega)
  · exact pay X0 X1 X2 0 inb_S4096x1024_S4096x512_0_0 inb_S512x1024_S512x512_0_0 x _ (by show 0 + 1 * (x 0).val = (x 0).val; omega) (by show 0 + 1 * (x 1).val = 0 + (x 1).val; omega)
  · have h1 : (y 1).val < 1024 := (y 1).isLt
    by_cases c0 : (y 1).val < 512
    · exact ⟨_, (List.mem_cons_of_mem _ (List.mem_cons_self ..)), mem_cols inb_S512x1024_S512x512_0_0 y (by omega) (by omega)⟩
    exact ⟨_, (List.mem_cons_self ..), mem_cols inb_S512x1024_S512x512_0_512 y (by omega) (by omega)⟩

theorem out4 (c : Dev nD) : (dats m 0 c).arrAt 4 cfg0.N = G m c := by
  refine (dats m 0 c).arrAt_eq_of_covers 4 _ (by decide +kernel) fun t hf y => ?_
  blk_simp
  rw [after0_4]
  unfold outsAt0
  dsimp only
  frame_out
  refine (block (iblk m c 0 t) (iblk m c 1 t) (iblk m c 2 t) y).trans ?_
  unfold blockG G
  refine congrArg₂ (· + ·) (sum_eq (fun l => congrArg act ?_) (fun l => ?_)) ?_
  · unfold A0
    blk_ext [iblk, V_main_arg0, index_0 t, index_4 t]
  · unfold A1
    blk_ext [iblk, V_main_arg1, index_1 t, index_4 t]
  · unfold A2
    blk_ext [iblk, V_main_arg2, index_2 t, index_4 t]

/-- The normed rows. -/
def H (c : Dev nD) : Vec Ideal S8192x1024 .bf16 := fun i =>
  (rms (fun k => G m c (ix2 (i 0) k)) (G m c i) (A3 m c (ix2 0 (i 1))) : EReal)

/-- What the norm's store holds, of the rows read back. -/
theorem npay (X : Vec Ideal S512x1024 .f32) (g : Vec Ideal S1x1024 .f32) (y : S512x1024.Idx) :
    k0_pay4 (F := Ideal) X g y = rms (fun k => X (ix2 (y 0) k)) (X y) (g (ix2 0 (y 1))) := by
  unfold k0_pay4
  pointwise
  rfl

theorem out5 (c : Dev nD) : (dats m 0 c).arrAt 5 cfg0.N = H m c := by
  refine (dats m 0 c).arrAt_eq_of_covers 5 _ (by decide +kernel) fun t hf y => ?_
  blk_simp
  rw [after0_5]
  unfold outsAt0
  dsimp only
  frame_out
  refine (npay _ (iblk m c 3 t) y).trans (rms_congr (fun k => ?_) ?_ ?_)
  · rw [View.readCov_eq_canon']
    refine (block (iblk m c 0 t) (iblk m c 1 t) (iblk m c 2 t) _).trans ?_
    refine (congrFun (View.ld_unit_zero (Val := Elt Ideal) (e := .f32) (by decide) inb_S512x1024_S512x1024_0_0 (blockG (iblk m c 0 t) (iblk m c 1 t) (iblk m c 2 t))) (ix2 (y 0) k)).trans ?_
    unfold blockG G
    refine congrArg₂ (· + ·) (sum_eq (fun l => congrArg act ?_) (fun l => ?_)) ?_
    · unfold A0
      blk_ext [iblk, V_main_arg0, index_0 t, index_5 t]
    · unfold A1
      blk_ext [iblk, V_main_arg1, index_1 t, index_5 t]
    · unfold A2
      blk_ext [iblk, V_main_arg2, index_2 t, index_5 t]
  · rw [View.readCov_eq_canon']
    refine (block (iblk m c 0 t) (iblk m c 1 t) (iblk m c 2 t) _).trans ?_
    refine (congrFun (View.ld_unit_zero (Val := Elt Ideal) (e := .f32) (by decide) inb_S512x1024_S512x1024_0_0 (blockG (iblk m c 0 t) (iblk m c 1 t) (iblk m c 2 t))) y).trans ?_
    unfold blockG G
    refine congrArg₂ (· + ·) (sum_eq (fun l => congrArg act ?_) (fun l => ?_)) ?_
    · unfold A0
      blk_ext [iblk, V_main_arg0, index_0 t, index_5 t]
    · unfold A1
      blk_ext [iblk, V_main_arg1, index_1 t, index_5 t]
    · unfold A2
      blk_ext [iblk, V_main_arg2, index_2 t, index_5 t]
  · unfold A3
    blk_ext [iblk, V_main_arg3, index_3 t, index_5 t]

/-- The reference's first result is the same sum. -/
theorem ref4 (c : Dev nD) : Cert.ReferenceDownIdeal.Read.val_main_v5 (F := Ideal) (A0 m c) (A1 m c) (A2 m c) = G m c := by
  funext i
  rw [Cert.ReferenceDownIdeal.Read.val_main_v5_apply, Cert.ReferenceDownIdeal.Read.val_main_v4_apply]
  refine (add_comm (A2 m c i : EReal) _).trans (congrArg₂ (· + ·) (sum_eq (fun k => ?_) (fun k => congrArg (A1 m c) (eq_ix2 _))) rfl)
  rw [Cert.ReferenceDownIdeal.Read.val_main_v3_apply, Cert.ReferenceDownIdeal.Read.val_main_v2_apply, Cert.ReferenceDownIdeal.Read.val_main_call0_v0_apply, Cert.ReferenceDownIdeal.Read.val_main_call0_cst_apply]
  show max (A0 m c (Cert.ReferenceDownIdeal.Read.lidx_main_v4 i k)) (Ideal.ofBits .f32 0x00000000#32) * max (A0 m c (Cert.ReferenceDownIdeal.Read.lidx_main_v4 i k)) (Ideal.ofBits .f32 0x00000000#32) = _
  rw [zero_f32]
  exact congrArg (fun j => act (A0 m c j)) (eq_ix2 _)

/-- Its second result is the same norm. -/
theorem ref5 (c : Dev nD) : Cert.ReferenceDownIdeal.Read.val_main_v18 (F := Ideal) (A0 m c) (A1 m c) (A2 m c) (A3 m c) = H m c := by
  funext i
  rw [Cert.ReferenceDownIdeal.Read.val_main_v18_apply]
  show Cert.ReferenceDownIdeal.Read.val_main_v17 (F := Ideal) (A0 m c) (A1 m c) (A2 m c) (A3 m c) i = _
  rw [Cert.ReferenceDownIdeal.Read.val_main_v17_apply, Cert.ReferenceDownIdeal.Read.val_main_v16_apply, Cert.ReferenceDownIdeal.Read.val_main_v15_apply, Cert.ReferenceDownIdeal.Read.val_main_v14_apply, Cert.ReferenceDownIdeal.Read.val_main_v13_apply,
    Cert.ReferenceDownIdeal.Read.val_main_v12_apply, Cert.ReferenceDownIdeal.Read.val_main_v11_apply, Cert.ReferenceDownIdeal.Read.val_main_v10_apply, Cert.ReferenceDownIdeal.Read.val_main_v9_apply, Cert.ReferenceDownIdeal.Read.val_main_v8_apply,
    Cert.ReferenceDownIdeal.Read.val_main_v7_apply, Cert.ReferenceDownIdeal.Read.val_main_cst_apply, Cert.ReferenceDownIdeal.Read.val_main_cst_0_apply, Cert.ReferenceDownIdeal.Read.val_main_cst_1_apply, ref4]
  have hg : ∀ k : Fin 1024, Cert.ReferenceDownIdeal.Read.val_main_v5 (F := Ideal) (A0 m c) (A1 m c) (A2 m c) (Cert.ReferenceDownIdeal.Read.idx_main_v7 (Cert.ReferenceDownIdeal.Read.idx_main_v8 (Cert.ReferenceDownIdeal.Read.idx_main_v14 i)) k) = G m c (ix2 (i 0) k) :=
    fun k => (congrFun (ref4 m c) _).trans (congrArg (G m c) (eq_ix2 _))
  have hs : (Ideal.ofBits .f32 0x00000000#32 + ∑ k : Fin 1024, Cert.ReferenceDownIdeal.Read.val_main_v6 (F := Ideal) (A0 m c) (A1 m c) (A2 m c) (Cert.ReferenceDownIdeal.Read.idx_main_v7 (Cert.ReferenceDownIdeal.Read.idx_main_v8 (Cert.ReferenceDownIdeal.Read.idx_main_v14 i)) k) : EReal)
      = ∑ k : Fin 1024, G m c (ix2 (i 0) k) * G m c (ix2 (i 0) k) := by
    rw [zero_f32, zero_add]
    exact sum_eq hg hg
  show (G m c i * Ideal.rsqrt (Ideal.div (Ideal.ofBits .f32 0x00000000#32 + ∑ k : Fin 1024, Cert.ReferenceDownIdeal.Read.val_main_v6 (F := Ideal) (A0 m c) (A1 m c) (A2 m c) (Cert.ReferenceDownIdeal.Read.idx_main_v7 (Cert.ReferenceDownIdeal.Read.idx_main_v8 (Cert.ReferenceDownIdeal.Read.idx_main_v14 i)) k))
      (Ideal.ofBits .f32 0x44800000#32) + Ideal.ofBits .f32 0x358637BD#32) * A3 m c (Cert.ReferenceDownIdeal.Read.idx_main_v16 i) : EReal) = _
  rw [hs]
  exact rms_congr (fun _ => rfl) rfl (congrArg (A3 m c) (eq_ix2 _))

end Cert.KernelDownIdeal.Dense

namespace Cert.Proof

open Idealize.ShloMosaic Idealize.SL.Sem Cert.KernelDownIdeal.Dense

/-- The kernel and the reference leave the same rows and the same normed rows. -/
theorem algebraicDown : Cert.algebraic_KernelDownIdeal_ReferenceDownIdeal := by
  intro m g m' g' _ ha
  refine ⟨fun c => G m c, fun c => H m c, ?_, ?_⟩
  · exact (θ_run Cert.KernelDownIdeal.defs _ _).mono (fun r h c => ⟨(h c).1.trans (out4 m c), (h c).2.1.trans (out5 m c), (h c).2.2⟩) (Cert.KernelDownIdeal.Value.run_blocks m g)
  · refine (θ_run Cert.ReferenceDownIdeal.defs _ _).mono (fun r h c => ⟨(h c).1.trans ?_, (h c).2.1.trans ?_, (h c).2.2⟩) (Cert.ReferenceDownIdeal.Value.run (F := Ideal) m' g')
    · rw [(ha c).1, (ha c).2.1, (ha c).2.2.1]
      exact ref4 m c
    · rw [(ha c).1, (ha c).2.1, (ha c).2.2.1, (ha c).2.2.2]
      exact ref5 m c

end Cert.Proof
end
-- ==== Proof.Dense.Last.lean ====
/-
  The call `down`: of the last layer: the squared ReLU times the down weights, added to the residual stream, one block of 512
  rows per grid point, two column halves per block.
-/
module

public import proofs.«01_k».proof.Defs
public import proofs.«01_k».proof.Proof.Gen.KernelLastIdeal.Value
public import proofs.«01_k».proof.Proof.Gen.ReferenceLastIdeal.Run
public import proofs.«01_k».proof.Proof.Gen.ReferenceLastIdeal.Read
public import proofs.«01_k».proof.Proof.Dense.Sums
public import Idealize.ShloMosaic.Lib.Pipeline.ReadBack

@[expose] public section

set_option maxRecDepth 16384

noncomputable section

namespace Cert.KernelLastIdeal.Dense

open Cert.KernelLastIdeal Cert.KernelLastIdeal.Gen
open Idealize.ShloMosaic Idealize.SL.Sem Cert.DenseMath

variable (m : (ℓ : Loc nD τ sig) → Buf (Elt Ideal) ℓ) (ρ : Dev nD → PrngReg)

/-- The arguments' arrays. -/
abbrev A0 (c : Dev nD) : FVec Ideal S8192x4096 .bf16 := m ((c.tc : Thread nD τ).loc main_arg0)
abbrev A1 (c : Dev nD) : FVec Ideal S4096x1024 .bf16 := m ((c.tc : Thread nD τ).loc main_arg1)
abbrev A2 (c : Dev nD) : FVec Ideal S8192x1024 .f32 := m ((c.tc : Thread nD τ).loc main_arg2)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, win0_3.index t = ![t.val, 0] := by decide +kernel

/-- The squared ReLU. -/
def act (x : EReal) : EReal := max x 0 * max x 0

/-- The residual stream: the product of the squared ReLU, and the rows it is added to. -/
def G (c : Dev nD) : Vec Ideal S8192x1024 .f32 := fun i =>
  ((∑ k : Fin 4096, act (A0 m c (ix2 (i 0) k)) * A1 m c (ix2 k (i 1))) + A2 m c i : EReal)

/-- What a grid point leaves of it in its output block. -/
def blockG (X0 : Vec Ideal S512x4096 .bf16) (X1 : Vec Ideal S4096x1024 .bf16) (X2 : Vec Ideal S512x1024 .f32) : Vec Ideal S512x1024 .f32 := fun y =>
  ((∑ k : Fin 4096, act (X0 (ix2 (y 0) k)) * X1 (ix2 k (y 1))) + X2 y : EReal)

/-- What a half's store holds; the two halves' payloads are one function. -/
theorem pay (X0 : Vec Ideal S512x4096 .bf16) (X1 : Vec Ideal S4096x1024 .bf16) (X2 : Vec Ideal S512x1024 .f32) (o : ℕ)
    (hW : ∀ d, (![0, o] : Fin 2 → ℕ) d + S4096x512.size d ≤ S4096x1024.size d) (hP : ∀ d, (![0, o] : Fin 2 → ℕ) d + S512x512.size d ≤ S512x1024.size d)
    (x : S512x512.Idx) (y : S512x1024.Idx) (h0 : (y 0).val = (x 0).val) (h1 : (y 1).val = o + (x 1).val) :
    k0_pay2 (F := Ideal) X0 (View.ld (Val := Elt Ideal) (e' := .bf16) X1 (Rect.unit (s := S4096x1024) ![0, o] S4096x512.size hW))
      (View.ld (Val := Elt Ideal) (e' := .f32) X2 (Rect.unit (s := S512x1024) ![0, o] S512x512.size hP)) x = blockG X0 X1 X2 y := by
  unfold k0_pay2 k0_pay1 blockG act
  pointwise
  refine congrArg₂ (· + ·) (sum_eq (fun k => congrArg (fun i => act (X0 (ix2 i k))) (Fin.ext h0.symm)) (fun k => congrArg (fun i => X1 (ix2 k i)) (Fin.ext h1.symm)))
    (congrArg X2 ?_)
  rw [eq_ix2 y]
  exact congrArg₂ ix2 (Fin.ext h0.symm) (Fin.ext h1.symm)

theorem block (X0 : Vec Ideal S512x4096 .bf16) (X1 : Vec Ideal S4096x1024 .bf16) (X2 : Vec Ideal S512x1024 .f32) (y : S512x1024.Idx) :
    View.canon (Val := Elt Ideal) (e := .f32) [⟨r0_4, k0_pay3 (F := Ideal) X0 (View.ld (Val := Elt Ideal) (e' := .bf16) X1 r0_3) (View.ld (Val := Elt Ideal) (e' := .f32) X2 r0_4)⟩,
      ⟨r0_2, k0_pay2 (F := Ideal) X0 (View.ld (Val := Elt Ideal) (e' := .bf16) X1 r0_1) (View.ld (Val := Elt Ideal) (e' := .f32) X2 r0_2)⟩] y = blockG X0 X1 X2 y := by
  refine View.canon_append_of_piecesOf (Val := Elt Ideal) (e := .f32) (blockG X0 X1 X2) [] [_, _] ⟨fun x => ?_, fun x => ?_, trivial⟩ y ?_
  · exact pay X0 X1 X2 512 inb_S4096x1024_S4096x512_0_512 inb_S512x1024_S512x512_0_512 x _ (by show 0 + 1 * (x 0).val = (x 0).val; omega) (by show 512 + 1 * (x 1).val = 512 + (x 1).val; omega)
  · exact pay X0 X1 X2 0 inb_S4096x1024_S4096x512_0_0 inb_S512x1024_S512x512_0_0 x _ (by show 0 + 1 * (x 0).val = (x 0).val; omega) (by show 0 + 1 * (x 1).val = 0 + (x 1).val; omega)
  · have h1 : (y 1).val < 1024 := (y 1).isLt
    by_cases c0 : (y 1).val < 512
    · exact ⟨_, (List.mem_cons_of_mem _ (List.mem_cons_self ..)), mem_cols inb_S512x1024_S512x512_0_0 y (by omega) (by omega)⟩
    exact ⟨_, (List.mem_cons_self ..), mem_cols inb_S512x1024_S512x512_0_512 y (by omega) (by omega)⟩

theorem out (c : Dev nD) : (dats m 0 c).arrAt 3 cfg0.N = G m c := by
  refine (dats m 0 c).arrAt_eq_of_covers 3 _ (by decide +kernel) fun t hf y => ?_
  blk_simp
  rw [after0_3]
  frame_out
  rw [block]
  unfold blockG G
  refine congrArg₂ (· + ·) (sum_eq (fun k => congrArg act ?_) (fun k => ?_)) ?_
  · unfold A0
    blk_ext [iblk, V_main_arg0, index_0 t, index_3 t]
  · unfold A1
    blk_ext [iblk, V_main_arg1, index_1 t, index_3 t]
  · unfold A2
    blk_ext [iblk, V_main_arg2, index_2 t, index_3 t]

/-- The reference's result is the same sum. -/
theorem ref (c : Dev nD) : Cert.ReferenceLastIdeal.Read.val_main_v5 (F := Ideal) (A0 m c) (A1 m c) (A2 m c) = G m c := by
  funext i
  rw [Cert.ReferenceLastIdeal.Read.val_main_v5_apply, Cert.ReferenceLastIdeal.Read.val_main_v4_apply]
  refine (add_comm (A2 m c i : EReal) _).trans (congrArg₂ (· + ·) (sum_eq (fun k => ?_) (fun k => congrArg (A1 m c) (eq_ix2 _))) rfl)
  rw [Cert.ReferenceLastIdeal.Read.val_main_v3_apply, Cert.ReferenceLastIdeal.Read.val_main_v2_apply, Cert.ReferenceLastIdeal.Read.val_main_call0_v0_apply, Cert.ReferenceLastIdeal.Read.val_main_call0_cst_apply]
  show max (A0 m c (Cert.ReferenceLastIdeal.Read.lidx_main_v4 i k)) (Ideal.ofBits .f32 0x00000000#32) * max (A0 m c (Cert.ReferenceLastIdeal.Read.lidx_main_v4 i k)) (Ideal.ofBits .f32 0x00000000#32) = _
  rw [zero_f32]
  exact congrArg (fun j => act (A0 m c j)) (eq_ix2 _)

end Cert.KernelLastIdeal.Dense

namespace Cert.Proof

open Idealize.ShloMosaic Idealize.SL.Sem Cert.KernelLastIdeal.Dense

/-- The kernel and the reference leave the same rows. -/
theorem algebraicLast : Cert.algebraic_KernelLastIdeal_ReferenceLastIdeal := by
  intro m g m' g' _ ha
  refine ⟨fun c => G m c, ?_, ?_⟩
  · exact (θ_run Cert.KernelLastIdeal.defs _ _).mono (fun r h c => ⟨(h c).1.trans (out m c), (h c).2⟩) (Cert.KernelLastIdeal.Value.run_blocks m g)
  · refine (θ_run Cert.ReferenceLastIdeal.defs _ _).mono (fun r h c => ⟨(h c).1.trans ?_, (h c).2⟩) (Cert.ReferenceLastIdeal.Value.run (F := Ideal) m' g')
    rw [(ha c).1, (ha c).2.1, (ha c).2.2]
    exact ref m c

end Cert.Proof
end
-- ==== Proof.Dense.NormBack.lean ====
/-
  The backward of the norm, row by row: the two ways of writing a row's gradient are equal on the extended reals.
-/
module

public import proofs.«01_k».proof.Proof.Dense.Sums

@[expose] public section

noncomputable section

namespace Cert.DenseMath

open Idealize.ShloMosaic

theorem f32_1024 : Ideal.ofBits .f32 0x44800000#32 = ((1024 : ℝ) : EReal) := by
  simp [Ideal.ofBits, Ideal.ieee, -EReal.coe_mul]; norm_num

theorem f32_neg_half : Ideal.ofBits .f32 0xBF000000#32 = ((-(1 / 2) : ℝ) : EReal) := by
  simp [Ideal.ofBits, Ideal.ieee, -EReal.coe_mul, -EReal.coe_neg]; norm_num

theorem f32_eps : ∃ e : ℝ, 0 < e ∧ Ideal.ofBits .f32 0x358637BD#32 = (e : EReal) := by
  refine ⟨(2 ^ 23 + 407485 : ℝ) * (2 : ℝ) ^ (-43 : ℤ), by positivity, ?_⟩
  simp [Ideal.ofBits, Ideal.ieee, -EReal.coe_mul]; norm_num

theorem div_1024 (x : EReal) : Ideal.div x (Ideal.ofBits .f32 0x44800000#32) = x * ((1 / 1024 : ℝ) : EReal) := by
  rw [f32_1024]
  unfold Ideal.div
  rw [if_neg (by norm_cast), ← EReal.coe_inv]
  norm_num

theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- A row's mean square, with the small constant. -/
def ms (x : Fin 1024 → EReal) : EReal :=
  Ideal.div (∑ k : Fin 1024, x k * x k) (Ideal.ofBits .f32 0x44800000#32) + Ideal.ofBits .f32 0x358637BD#32

/-- It is infinite or a positive real. -/
theorem ms_cases (x : Fin 1024 → EReal) : ms x = ⊤ ∨ ∃ v : ℝ, 0 < v ∧ ms x = (v : EReal) := by
  obtain ⟨e, he, h⟩ := f32_eps
  unfold ms
  rw [h, div_1024]
  have h0 : 0 ≤ (∑ k : Fin 1024, x k * x k) * ((1 / 1024 : ℝ) : EReal) :=
    mul_nonneg (Finset.sum_nonneg fun k _ => mul_self_nonneg' (x k)) (EReal.coe_nonneg.mpr (by norm_num))
  revert h0
  generalize (∑ k : Fin 1024, x k * x k) * ((1 / 1024 : ℝ) : EReal) = s
  intro h0
  induction s with
  | bot => exact absurd h0 (by simp)
  | top => left; exact EReal.top_add_coe e
  | coe s => right; exact ⟨s + e, add_pos_of_nonneg_of_pos (EReal.coe_nonneg.mp h0) he, by norm_cast⟩

/-- The root is a real that is not negative, and its cube is its quotient by the mean square. -/
theorem root (x : Fin 1024 → EReal) : ∃ r : ℝ, 0 ≤ r ∧ Ideal.rsqrt (ms x) = (r : EReal) ∧
    Ideal.div (Ideal.rsqrt (ms x)) (ms x) = ((r * r * r : ℝ) : EReal) := by
  rcases ms_cases x with h | ⟨v, hv, h⟩
  · refine ⟨0, le_rfl, ?_, ?_⟩
    · rw [h]; rfl
    · rw [h]
      show Ideal.div 0 ⊤ = _
      unfold Ideal.div
      rw [if_neg (by simp)]
      simp
  · have e : Ideal.rsqrt (ms x) = (((Real.sqrt v)⁻¹ : ℝ) : EReal) := by
      rw [h]
      unfold Ideal.rsqrt
      show (if v < 0 then ⊥ else if v = 0 then ⊤ else (((Real.sqrt v)⁻¹ : ℝ) : EReal)) = _
      rw [if_neg (not_lt.mpr hv.le), if_neg hv.ne']
    refine ⟨(Real.sqrt v)⁻¹, inv_nonneg.mpr (Real.sqrt_nonneg v), e, ?_⟩
    rw [e, h]
    unfold Ideal.div
    rw [if_neg (by exact_mod_cast hv.ne'), ← EReal.coe_inv, ← EReal.coe_mul]
    refine congrArg _ ?_
    have hv' : v⁻¹ = (Real.sqrt v)⁻¹ * (Real.sqrt v)⁻¹ := by rw [← mul_inv, Real.mul_self_sqrt hv.le]
    rw [hv', mul_assoc]

theorem mul_sum_real {n : ℕ} (r : ℝ) (hr : 0 ≤ r) (f : Fin n → EReal) : ∑ k, (r : EReal) * f k = (r : EReal) * ∑ k, f k := by
  induction n with
  | zero => simp
  | succ n ih =>
    rw [Fin.sum_univ_succ, Fin.sum_univ_succ, ih,
      EReal.left_distrib_of_nonneg_of_ne_top (EReal.coe_nonneg.mpr hr) (EReal.coe_ne_top r)]

theorem mul_sub_real (r : ℝ) (hr : 0 ≤ r) (a b : EReal) : (r : EReal) * (a - b) = (r : EReal) * a + -((r : EReal) * b) := by
  rw [sub_eq_add_neg, EReal.left_distrib_of_nonneg_of_ne_top (EReal.coe_nonneg.mpr hr) (EReal.coe_ne_top r), mul_neg]

theorem halves (w : EReal) : ((-(1 / 2) : ℝ) : EReal) * w + ((-(1 / 2) : ℝ) : EReal) * w = -w := by
  induction w with
  | bot =>
    rw [EReal.coe_mul_bot_of_neg (by norm_num)]
    rfl
  | top =>
    rw [EReal.coe_mul_top_of_neg (by norm_num)]
    rfl
  | coe w =>
    norm_cast
    ring

/-- A row's gradient, as the kernel writes it: the row `x`, the incoming gradient's row `d`, the gain `g`, and the element `ri` of the stream's own gradient. -/
def back (x d g : Fin 1024 → EReal) (xi di gi ri : EReal) : EReal :=
  ri + Ideal.rsqrt (ms x) * (di * gi - xi * Ideal.rsqrt (ms x) *
    Ideal.div (∑ k : Fin 1024, d k * g k * (x k * Ideal.rsqrt (ms x))) (Ideal.ofBits .f32 0x44800000#32))

theorem back_congr {x d g x' d' g' : Fin 1024 → EReal} {xi di gi ri xi' di' gi' ri' : EReal} (hx : ∀ k, x k = x' k) (hd : ∀ k, d k = d' k) (hg : ∀ k, g k = g' k)
    (h1 : xi = xi') (h2 : di = di') (h3 : gi = gi') (h4 : ri = ri') : back x d g xi di gi ri = back x' d' g' xi' di' gi' ri' := by
  rw [funext hx, funext hd, funext hg, h1, h2, h3, h4]

/-- The reference's derivative of the mean square. -/
def slope (x d g : Fin 1024 → EReal) : EReal :=
  Ideal.div ((∑ k : Fin 1024, x k * (d k * g k)) * (Ideal.ofBits .f32 0xBF000000#32 * Ideal.div (Ideal.rsqrt (ms x)) (ms x))) (Ideal.ofBits .f32 0x44800000#32)

/-- The reference's way of writing the gradient is the kernel's. -/
theorem back_eq (x d g : Fin 1024 → EReal) (xi di gi ri : EReal) :
    ri + di * gi * Ideal.rsqrt (ms x) + xi * slope x d g + slope x d g * xi = back x d g xi di gi ri := by
  obtain ⟨r, hr, h1, h2⟩ := root x
  unfold back slope
  rw [div_1024, div_1024, h2, h1, f32_neg_half, mul_sub_real r hr]
  have hs : ∑ k : Fin 1024, d k * g k * (x k * (r : EReal)) = (r : EReal) * ∑ k : Fin 1024, x k * (d k * g k) := by
    rw [← mul_sum_real r hr]
    exact Finset.sum_congr rfl fun k _ => by ac_rfl
  rw [hs]
  generalize ∑ k : Fin 1024, x k * (d k * g k) = T
  rw [EReal.coe_mul, EReal.coe_mul]
  have hw : xi * (T * (((-(1 / 2) : ℝ) : EReal) * ((r : EReal) * (r : EReal) * (r : EReal))) * ((1 / 1024 : ℝ) : EReal))
      = ((-(1 / 2) : ℝ) : EReal) * ((r : EReal) * (xi * (r : EReal) * ((r : EReal) * T * ((1 / 1024 : ℝ) : EReal)))) := by ac_rfl
  rw [mul_comm (T * _ * _) xi, hw, add_assoc, halves, add_assoc, mul_comm (di * gi)]

/-- A sum over sixteen tiles of 512 rows is the sum over all rows. -/
theorem sum_tiles_512 (f : ℕ → EReal) (n : ℕ) :
    ∑ k ∈ Finset.range n, ∑ j : Fin 512, f (512 * k + j.val) = ∑ i : Fin (512 * n), f i.val := by
  rw [Fin.sum_univ_eq_sum_range (fun i => f i)]
  induction n with
  | zero => simp
  | succ n ih =>
    rw [Finset.sum_range_succ, ih, Nat.mul_succ, Finset.sum_range_add]
    rw [Fin.sum_univ_eq_sum_range (fun j => f (512 * n + j))]

/-- The product with the second factor's rows. -/
def prodT {a b K : ℕ} (A : (⟨2, ![a, K]⟩ : Shape).Idx → EReal) (B : (⟨2, ![b, K]⟩ : Shape).Idx → EReal) : (⟨2, ![a, b]⟩ : Shape).Idx → EReal := fun i =>
  ∑ k : Fin K, A (ix2 (i 0) k) * B (ix2 (i 1) k)

/-- The stream's gradient: each row of `D` taken back through the norm of the row of `X`, and the stream's own gradient `R`. -/
def streamG (D X : (⟨2, ![8192, 1024]⟩ : Shape).Idx → EReal) (g : (⟨2, ![1, 1024]⟩ : Shape).Idx → EReal) (R : (⟨2, ![8192, 1024]⟩ : Shape).Idx → EReal) :
    (⟨2, ![8192, 1024]⟩ : Shape).Idx → EReal := fun i =>
  back (fun k => X (ix2 (i 0) k)) (fun k => D (ix2 (i 0) k)) (fun k => g (ix2 0 k)) (X i) (D i) (g (ix2 0 (i 1))) (R i)

/-- The rows over the root of their mean square. -/
def unitRows (X : (⟨2, ![8192, 1024]⟩ : Shape).Idx → EReal) : (⟨2, ![8192, 1024]⟩ : Shape).Idx → EReal := fun i =>
  X i * Ideal.rsqrt (ms fun k => X (ix2 (i 0) k))

/-- The gain's gradient in the first of eight rows, the others zero. -/
def gainG (D X : (⟨2, ![8192, 1024]⟩ : Shape).Idx → EReal) : (⟨2, ![8, 1024]⟩ : Shape).Idx → EReal := fun i =>
  if (i 0).val = 0 then ∑ k : Fin 8192, D (ix2 k (i 1)) * unitRows X (ix2 k (i 1)) else 0

/-- One tile's part of the gain's gradient, in a column of the first row. -/
def tileG (B X : (⟨2, ![512, 1024]⟩ : Shape).Idx → EReal) (j : Fin 1024) : EReal :=
  ∑ k : Fin 512, B (ix2 k j) * (X (ix2 k j) * Ideal.rsqrt (ms fun l => X (ix2 k l)))

/-- The same part, by row numbers of the whole arrays. -/
def termG (D X : (⟨2, ![8192, 1024]⟩ : Shape).Idx → EReal) (n j : ℕ) : EReal :=
  ∑ k : Fin 512, el D (512 * n + k.val) j * el (unitRows X) (512 * n + k.val) j

theorem tileG_eq {B Y : (⟨2, ![512, 1024]⟩ : Shape).Idx → EReal} {D X : (⟨2, ![8192, 1024]⟩ : Shape).Idx → EReal} (n : ℕ) (hn : n < 16) (j : Fin 1024)
    (hB : ∀ k : Fin 512, B (ix2 k j) = D (ix2 ⟨512 * n + k.val, by omega⟩ j)) (hY : ∀ (k : Fin 512) (l : Fin 1024), Y (ix2 k l) = X (ix2 ⟨512 * n + k.val, by omega⟩ l)) :
    tileG B Y j = termG D X n j.val := by
  refine sum_eq (fun k => (hB k).trans (el_eq D ⟨512 * n + k.val, by omega⟩ j).symm) (fun k => ?_)
  refine Eq.trans ?_ (el_eq (unitRows X) ⟨512 * n + k.val, by omega⟩ j).symm
  exact congrArg₂ (· * ·) (hY k j) (congrArg (fun f => Ideal.rsqrt (ms f)) (funext fun l => hY k l))

/-- A total kept over sixteen points, started at the first and grown in its first row at each by a tile's part, is at the last the gain's gradient. -/
theorem gain_result {N : ℕ} (hN : N = 16) (D X : (⟨2, ![8192, 1024]⟩ : Shape).Idx → EReal) (O : ∀ n, n < N → (⟨2, ![8, 1024]⟩ : Shape).Idx → EReal)
    (hA : ∀ t : Fin N, t.val % 16 = 0 → ∀ y, O t.val t.isLt y = 0 + if (y 0).val = 0 then termG D X t.val (y 1).val else 0)
    (hB : ∀ t : Fin N, ¬t.val % 16 = 0 → ∀ y, O t.val t.isLt y = O (t.val - 1) (Nat.lt_of_le_of_lt (Nat.sub_le _ _) t.isLt) y
      + if (y 0).val = 0 then termG D X t.val (y 1).val else 0)
    (t : Fin N) (h : t.val % 16 = 15) (y i : (⟨2, ![8, 1024]⟩ : Shape).Idx) (e : i = y) : O t.val t.isLt y = gainG D X i := by
  subst e hN
  have ht : t.val < 16 := t.isLt
  refine (Pipeline.eq_sum_of_reset_step_apply (M := EReal) O 16 (fun _ => 0) (fun n y => if (y 0).val = 0 then termG D X n (y 1).val else 0) hA hB t i).trans ?_
  rw [h, zero_add]
  unfold gainG
  by_cases hy : (i 0).val = 0
  · rw [if_pos hy]
    refine Eq.trans (Finset.sum_congr rfl fun k hk => ?_) ((sum_tiles_512 (fun k => el D k (i 1).val * el (unitRows X) k (i 1).val) 16).trans
      (sum_eq (fun k => el_eq D k (i 1)) (fun k => el_eq (unitRows X) k (i 1))))
    show (if (i 0).val = 0 then termG D X (16 * (t.val / 16) + k) (i 1).val else 0) = _
    rw [if_pos hy, show 16 * (t.val / 16) + k = k by omega]
    rfl
  · rw [if_neg hy]
    exact Finset.sum_eq_zero fun k _ => if_neg hy

end Cert.DenseMath
end
-- ==== Proof.Dense.DH1.lean ====
/-
  The call `d_h1`: the gradient of the up projection's result times the transposed weight, taken back through the norm, with the gain's gradient summed tile by tile.
-/
module

public import proofs.«01_k».proof.Defs
public import proofs.«01_k».proof.Proof.Gen.KernelDH1Ideal.Value
public import proofs.«01_k».proof.Proof.Gen.ReferenceDH1Ideal.Run
public import proofs.«01_k».proof.Proof.Gen.ReferenceDH1Ideal.Read
public import proofs.«01_k».proof.Proof.Dense.NormBack
public import Idealize.ShloMosaic.Lib.Pipeline.ReadBack
public import Idealize.ShloMosaic.Lib.WritesUnit

@[expose] public section

set_option maxRecDepth 16384

noncomputable section

namespace Cert.KernelDH1Ideal.Dense

open Cert.KernelDH1Ideal Cert.KernelDH1Ideal.Gen
open Idealize.ShloMosaic Idealize.SL.Sem Cert.DenseMath

variable (m : (ℓ : Loc nD τ sig) → Buf (Elt Ideal) ℓ) (ρ : Dev nD → PrngReg)

/-- The arguments' arrays. -/
abbrev A0 (c : Dev nD) : FVec Ideal S8192x4096 .bf16 := m ((c.tc : Thread nD τ).loc main_arg0)
abbrev A1 (c : Dev nD) : FVec Ideal S1024x4096 .bf16 := m ((c.tc : Thread nD τ).loc main_arg1)
abbrev A2 (c : Dev nD) : FVec Ideal S8192x1024 .f32 := m ((c.tc : Thread nD τ).loc main_arg2)
abbrev A3 (c : Dev nD) : FVec Ideal S1x1024 .f32 := m ((c.tc : Thread nD τ).loc main_arg3)
abbrev A4 (c : Dev nD) : FVec Ideal S8192x1024 .f32 := m ((c.tc : Thread nD τ).loc main_arg4)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, (cfg0.win 3).index t = ![0, 0] := by decide +kernel
theorem index_4 : ∀ t : Fin cfg0.N, (cfg0.win 4).index t = ![t.val, 0] := by decide +kernel
theorem index_5 : ∀ t : Fin cfg0.N, win0_5.index t = ![t.val, 0] := by decide +kernel
theorem index_6 : ∀ t : Fin cfg0.N, win0_6.index t = ![0, 0] := by decide +kernel

/-- The product: the gradient that reaches the normed rows. -/
abbrev D (c : Dev nD) : Vec Ideal S8192x1024 .f32 := prodT (A0 m c) (A1 m c)

/-- What a grid point leaves of it in its block. -/
abbrev blockD (X0 : Vec Ideal S512x4096 .bf16) (X1 : Vec Ideal S1024x4096 .bf16) : Vec Ideal S512x1024 .f32 := prodT X0 X1

/-- What a half's store holds; the two halves' payloads are one function. -/
theorem pay (X0 : Vec Ideal S512x4096 .bf16) (X1 : Vec Ideal S1024x4096 .bf16) (o : ℕ)
    (hW : ∀ d, (![o, 0] : Fin 2 → ℕ) d + S512x4096.size d ≤ S1024x4096.size d)
    (x : S512x512.Idx) (y : S512x1024.Idx) (h0 : (y 0).val = (x 0).val) (h1 : (y 1).val = o + (x 1).val) :
    k0_pay4 (F := Ideal) X0 (View.ld (Val := Elt Ideal) (e' := .bf16) X1 (Rect.unit (s := S1024x4096) ![o, 0] S512x4096.size hW)) x = blockD X0 X1 y := by
  unfold k0_pay4 blockD prodT
  pointwise
  exact sum_eq (fun k => congrArg (fun i => X0 (ix2 i k)) (Fin.ext h0.symm)) (fun k => congrArg (fun i => X1 (ix2 i k)) (Fin.ext h1.symm))

theorem block (X0 : Vec Ideal S512x4096 .bf16) (X1 : Vec Ideal S1024x4096 .bf16) (y : S512x1024.Idx) :
    View.canon (Val := Elt Ideal) (e := .f32) [⟨Rect.unit (s := S512x1024) ![0, 512] S512x512.size inb_S512x1024_S512x512_0_512, k0_pay5 (F := Ideal) X0 (View.ld (Val := Elt Ideal) (e' := .bf16) X1 (Rect.unit (s := S1024x4096) ![512, 0] S512x4096.size inb_S1024x4096_S512x4096_512_0))⟩,
      ⟨Rect.unit (s := S512x1024) ![0, 0] S512x512.size inb_S512x1024_S512x512_0_0, k0_pay4 (F := Ideal) X0 (View.ld (Val := Elt Ideal) (e' := .bf16) X1 (Rect.unit (s := S1024x4096) ![0, 0] S512x4096.size inb_S1024x4096_S512x4096_0_0))⟩] y = blockD X0 X1 y := by
  refine View.canon_append_of_piecesOf (Val := Elt Ideal) (e := .f32) (blockD X0 X1) [] [_, _] ⟨fun x => ?_, fun x => ?_, trivial⟩ y ?_
  · exact pay X0 X1 512 inb_S1024x4096_S512x4096_512_0 x _ (by show 0 + 1 * (x 0).val = (x 0).val; omega) (by show 512 + 1 * (x 1).val = 512 + (x 1).val; omega)
  · exact pay X0 X1 0 inb_S1024x4096_S512x4096_0_0 x _ (by show 0 + 1 * (x 0).val = (x 0).val; omega) (by show 0 + 1 * (x 1).val = 0 + (x 1).val; omega)
  · have h1 : (y 1).val < 1024 := (y 1).isLt
    by_cases c0 : (y 1).val < 512
    · exact ⟨_, (List.mem_cons_of_mem _ (List.mem_cons_self ..)), mem_cols inb_S512x1024_S512x512_0_0 y (by omega) (by omega)⟩
    exact ⟨_, (List.mem_cons_self ..), mem_cols inb_S512x1024_S512x512_0_512 y (by omega) (by omega)⟩

/-- The two halves' stores read back are the product's block. -/
theorem halvesBack (c : Dev nD) (t : Fin cfg0.N) :
    (ms0_5 t).view.readCov (Val := Elt Ideal) [⟨Rect.unit (s := S512x1024) ![0, 512] S512x512.size inb_S512x1024_S512x512_0_512, k0_pay5 (F := Ideal) (iblk m c 0 t) (View.ld (Val := Elt Ideal) (e' := .bf16) (iblk m c 1 t) (Rect.unit (s := S1024x4096) ![512, 0] S512x4096.size inb_S1024x4096_S512x4096_512_0))⟩,
      ⟨Rect.unit (s := S512x1024) ![0, 0] S512x512.size inb_S512x1024_S512x512_0_0, k0_pay4 (F := Ideal) (iblk m c 0 t) (View.ld (Val := Elt Ideal) (e' := .bf16) (iblk m c 1 t) (Rect.unit (s := S1024x4096) ![0, 0] S512x4096.size inb_S1024x4096_S512x4096_0_0))⟩]
      (Rect.unit (s := S512x1024) ![0, 0] S512x1024.size inb_S512x1024_S512x1024_0_0).toLoadRect = blockD (iblk m c 0 t) (iblk m c 1 t) := by
  funext y
  rw [View.readCov_eq_canon']
  refine (block (iblk m c 0 t) (iblk m c 1 t) _).trans ?_
  exact congrFun (View.ld_unit_zero (Val := Elt Ideal) (e := .f32) (by decide) inb_S512x1024_S512x1024_0_0 (blockD (iblk m c 0 t) (iblk m c 1 t))) y

/-- What the rows' store holds. -/
theorem rpay (B X : Vec Ideal S512x1024 .f32) (g : Vec Ideal S1x1024 .f32) (R : Vec Ideal S512x1024 .f32) (y : S512x1024.Idx) :
    k0_pay1 (F := Ideal) (k0_pay7 X) R (k0_pay9 B X g) y
      = back (fun k => X (ix2 (y 0) k)) (fun k => B (ix2 (y 0) k)) (fun k => g (ix2 0 k)) (X y) (B y) (g (ix2 0 (y 1))) (R y) := by
  unfold k0_pay1 k0_pay9 k0_pay8 k0_pay7 k0_pay6
  pointwise
  rfl

theorem step5 (c : Dev nD) (t : Fin cfg0.N) (y : S512x1024.Idx) :
    (outsAt0 m c t.val t.isLt).1 y = k0_pay1 (F := Ideal) (k0_pay7 (iblk m c 2 t)) (iblk m c 4 t) (k0_pay9 (blockD (iblk m c 0 t) (iblk m c 1 t)) (iblk m c 2 t) (iblk m c 3 t)) y := by
  by_cases h0 : t.val % 16 = 0
  · rw [outsAt0_A m c t h0]
    frame_out
    exact congrArg (fun B => k0_pay1 (F := Ideal) (k0_pay7 (iblk m c 2 t)) (iblk m c 4 t) (k0_pay9 B (iblk m c 2 t) (iblk m c 3 t)) y) (halvesBack m c t)
  · rw [outsAt0_B m c t h0]
    frame_out
    exact congrArg (fun B => k0_pay1 (F := Ideal) (k0_pay7 (iblk m c 2 t)) (iblk m c 4 t) (k0_pay9 B (iblk m c 2 t) (iblk m c 3 t)) y) (halvesBack m c t)

/-- The stream's gradient. -/
abbrev G (c : Dev nD) : Vec Ideal S8192x1024 .f32 := streamG (D m c) (A2 m c) (A3 m c) (A4 m c)

theorem out5 (c : Dev nD) : (dats m 0 c).arrAt 5 cfg0.N = G m c := by
  refine (dats m 0 c).arrAt_eq_of_covers 5 _ (by decide +kernel) fun t hf y => ?_
  blk_simp
  rw [after0_5]
  refine (step5 m c t y).trans ((rpay (blockD (iblk m c 0 t) (iblk m c 1 t)) (iblk m c 2 t) (iblk m c 3 t) (iblk m c 4 t) y).trans ?_)
  unfold G streamG
  refine back_congr (fun k => ?_) (fun k => ?_) (fun k => ?_) ?_ ?_ ?_ ?_
  · unfold A2
    blk_ext [iblk, V_main_arg2, index_2 t, index_5 t]
  · unfold blockD D prodT
    refine sum_eq (fun l => ?_) (fun l => ?_)
    · unfold A0
      blk_ext [iblk, V_main_arg0, index_0 t, index_5 t]
    · unfold A1
      blk_ext [iblk, V_main_arg1, index_1 t, index_5 t]
  · unfold A3
    blk_ext [iblk, V_main_arg3, index_3 t, index_5 t]
  · unfold A2
    blk_ext [iblk, V_main_arg2, index_2 t, index_5 t]
  · unfold blockD D prodT
    refine sum_eq (fun l => ?_) (fun l => ?_)
    · unfold A0
      blk_ext [iblk, V_main_arg0, index_0 t, index_5 t]
    · unfold A1
      blk_ext [iblk, V_main_arg1, index_1 t, index_5 t]
  · unfold A3
    blk_ext [iblk, V_main_arg3, index_3 t, index_5 t]
  · unfold A4
    blk_ext [iblk, V_main_arg4, index_4 t, index_5 t]

/-- What the first row's store holds. -/
theorem gpay (B X : Vec Ideal S512x1024 .f32) (P : Vec Ideal S1x1024 .f32) (x : S1x1024.Idx) :
    k0_pay3 (F := Ideal) (k0_pay6 B) (k0_pay8 X) P x = (P x + tileG B X (x 1) : EReal) := by
  unfold k0_pay3 k0_pay6 k0_pay8 k0_pay7
  pointwise
  rfl

theorem zeros (y : S8x1024.Idx) : k0_pay2 (F := Ideal) y = (0 : EReal) := by
  unfold k0_pay2
  pointwise

theorem row_emb (y : S8x1024.Idx) (h : (y 0).val = 0) :
    (Rect.unit (s := S8x1024) ![0, 0] S1x1024.size inb_S8x1024_S1x1024_0_0).emb (ix2 (0 : Fin 1) (y 1)) = y := by
  funext d
  match d with
  | ⟨0, _⟩ => exact Fin.ext (by show 0 + 1 * 0 = (y 0).val; omega)
  | ⟨1, _⟩ => exact Fin.ext (by show 0 + 1 * (y 1).val = (y 1).val; omega)

theorem row_not_mem (y : S8x1024.Idx) (h : ¬(y 0).val = 0) :
    y ∉ (Rect.unit (s := S8x1024) ![0, 0] S1x1024.size inb_S8x1024_S1x1024_0_0).set := by
  rw [Rect.mem_set_unit]
  intro hh
  have := (hh 0).2
  exact h (Nat.lt_one_iff.mp (by simpa using this))

theorem step6A (c : Dev nD) (t : Fin cfg0.N) (h0 : t.val % 16 = 0) (y : S8x1024.Idx) :
    (outsAt0 m c t.val t.isLt).2 y = (0 + (if (y 0).val = 0 then tileG (blockD (iblk m c 0 t) (iblk m c 1 t)) (iblk m c 2 t) (y 1) else 0) : EReal) := by
  rw [outsAt0_A m c t h0]
  frame_out
  by_cases hy : (y 0).val = 0
  · rw [if_pos hy]
    refine (congrArg _ (row_emb y hy).symm).trans ?_
    refine (View.canon_cons_emb (Val := Elt Ideal) (e := .f32) (Rect.unit (s := S8x1024) ![0, 0] S1x1024.size inb_S8x1024_S1x1024_0_0) _ _ _).trans ?_
    refine (gpay _ (iblk m c 2 t) _ _).trans (congrArg₂ (· + ·) ?_ ?_)
    · refine (congrFun (View.readCov_fill _ _ _ _ _ (by decide)) _).trans ?_
      exact zeros _
    · exact congrArg (fun B => tileG B (iblk m c 2 t) (y 1)) (halvesBack m c t)
  · rw [if_neg hy, add_zero]
    refine (View.canon_cons_of_not_mem (Val := Elt Ideal) (e := .f32) _ _ (row_not_mem y hy)).trans ?_
    refine (congrFun (View.canon_cons_unit_lit (Val := Elt Ideal) (e := .f32) inb_S8x1024_S8x1024_0_0 _ [] (by decide)) y).trans ?_
    exact zeros y

theorem step6B (c : Dev nD) (t : Fin cfg0.N) (h0 : ¬t.val % 16 = 0) (y : S8x1024.Idx) :
    (outsAt0 m c t.val t.isLt).2 y = ((outsAt0 m c (t.val - 1) (Nat.lt_of_le_of_lt (Nat.sub_le _ _) t.isLt)).2 y
      + (if (y 0).val = 0 then tileG (blockD (iblk m c 0 t) (iblk m c 1 t)) (iblk m c 2 t) (y 1) else 0) : EReal) := by
  rw [outsAt0_B m c t h0]
  frame_out
  by_cases hy : (y 0).val = 0
  · rw [if_pos hy]
    refine (View.read_writes_cons_rows_of_mem (Val := Elt Ideal) (e := .f32) (d := ![8, 1024]) (o := 0) (ms0_6 t).view _ inb_S8x1024_S1x1024_0_0 _ [] y (ix2 (0 : Fin 1) (y 1)) rfl
      (by show (y 0).val = 0 + 0; omega) rfl).trans ?_
    refine (gpay _ (iblk m c 2 t) _ _).trans (congrArg₂ (· + ·) ?_ ?_)
    · exact congrArg (outsAt0 m c (t.val - 1) (Nat.lt_of_le_of_lt (Nat.sub_le _ _) t.isLt)).2 (row_emb y hy)
    · exact congrArg (fun B => tileG B (iblk m c 2 t) (y 1)) (halvesBack m c t)
  · rw [if_neg hy, add_zero]
    refine (View.read_writes_cons_rows_of_not_mem (Val := Elt Ideal) (e := .f32) (d := ![8, 1024]) (o := 0) (W := 1) (ms0_6 t).view _ inb_S8x1024_S1x1024_0_0 _ [] y rfl rfl
      (Or.inr (by omega))).trans ?_
    exact congrFun ((hs0_6 t).read_unread _) y

theorem tile_eq (c : Dev nD) (t : Fin cfg0.N) (j : Fin 1024) :
    tileG (blockD (iblk m c 0 t) (iblk m c 1 t)) (iblk m c 2 t) j = termG (D m c) (A2 m c) t.val j.val := by
  have ht : t.val < 16 := lt_of_lt_of_eq t.isLt N_0
  refine tileG_eq t.val ht j (fun k => sum_eq (fun l => ?_) (fun l => ?_)) (fun k l => ?_)
  · unfold A0
    blk_ext [iblk, V_main_arg0, index_0 t]
  · unfold A1
    blk_ext [iblk, V_main_arg1, index_1 t]
  · unfold A2
    blk_ext [iblk, V_main_arg2, index_2 t]

/-- The gain's gradient. -/
abbrev H (c : Dev nD) : Vec Ideal S8x1024 .f32 := gainG (D m c) (A2 m c)

theorem out6 (c : Dev nD) : (dats m 0 c).arrAt 6 cfg0.N = H m c := by
  refine (dats m 0 c).arrAt_eq_of_covers 6 _ (by decide +kernel) fun t hf y => ?_
  have h : t.val % 16 = 15 := (flush0_6 t).mp hf
  blk_simp
  rw [after0_6]
  refine gain_result N_0 (D m c) (A2 m c) (fun n h => (outsAt0 m c n h).2)
    (fun t h y => (step6A m c t h y).trans (congrArg (0 + ·) (if_congr Iff.rfl (tile_eq m c t (y 1)) rfl)))
    (fun t h y => (step6B m c t h y).trans (congrArg (_ + ·) (if_congr Iff.rfl (tile_eq m c t (y 1)) rfl))) t h y _ ?_
  funext d
  match d with
  | ⟨0, _⟩ => exact Fin.ext (by show ((win0_6.blk t).view.emb y 0).val = (y 0).val; blk_simp [index_6 t]; try omega)
  | ⟨1, _⟩ => exact Fin.ext (by show ((win0_6.blk t).view.emb y 1).val = (y 1).val; blk_simp [index_6 t]; try omega)

/-- The reference's product is the same. -/
theorem refD (c : Dev nD) : Cert.ReferenceDH1Ideal.Read.val_main_v18 (F := Ideal) (A0 m c) (A1 m c) = D m c := by
  funext i
  rw [Cert.ReferenceDH1Ideal.Read.val_main_v18_apply]
  unfold D prodT
  exact sum_eq (fun k => congrArg (A0 m c) (eq_ix2 _)) (fun k => congrArg (A1 m c) (eq_ix2 _))

/-- Its mean square, with the small constant, is the same. -/
theorem refMs (c : Dev nD) (i : Cert.ReferenceDH1Ideal.S8192x1.Idx) : Cert.ReferenceDH1Ideal.Read.val_main_v6 (F := Ideal) (A2 m c) i = ms fun k => A2 m c (ix2 (i 0) k) := by
  rw [Cert.ReferenceDH1Ideal.Read.val_main_v6_apply, Cert.ReferenceDH1Ideal.Read.val_main_v5_apply, Cert.ReferenceDH1Ideal.Read.val_main_v4_apply, Cert.ReferenceDH1Ideal.Read.val_main_v3_apply,
    Cert.ReferenceDH1Ideal.Read.val_main_v2_apply, Cert.ReferenceDH1Ideal.Read.val_main_v1_apply, Cert.ReferenceDH1Ideal.Read.val_main_cst_apply, Cert.ReferenceDH1Ideal.Read.val_main_cst_0_apply, Cert.ReferenceDH1Ideal.Read.val_main_cst_1_apply]
  have hs : (Ideal.ofBits .f32 0x00000000#32 + ∑ k : Fin 1024, Cert.ReferenceDH1Ideal.Read.val_main_v0 (F := Ideal) (A2 m c) (Cert.ReferenceDH1Ideal.Read.idx_main_v1 (Cert.ReferenceDH1Ideal.Read.idx_main_v2 i) k) : EReal)
      = ∑ k : Fin 1024, A2 m c (ix2 (i 0) k) * A2 m c (ix2 (i 0) k) := by
    rw [zero_f32, zero_add]
    exact sum_eq (fun k => congrArg (A2 m c) (eq_ix2 _)) (fun k => congrArg (A2 m c) (eq_ix2 _))
  show (Ideal.div (Ideal.ofBits .f32 0x00000000#32 + ∑ k : Fin 1024, Cert.ReferenceDH1Ideal.Read.val_main_v0 (F := Ideal) (A2 m c) (Cert.ReferenceDH1Ideal.Read.idx_main_v1 (Cert.ReferenceDH1Ideal.Read.idx_main_v2 i) k))
    (Ideal.ofBits .f32 0x44800000#32) + Ideal.ofBits .f32 0x358637BD#32 : EReal) = _
  rw [hs]
  rfl

theorem refR (c : Dev nD) (i : Cert.ReferenceDH1Ideal.S8192x1.Idx) : Cert.ReferenceDH1Ideal.Read.val_main_v7 (F := Ideal) (A2 m c) i = Ideal.rsqrt (ms fun k => A2 m c (ix2 (i 0) k)) := by
  rw [Cert.ReferenceDH1Ideal.Read.val_main_v7_apply, refMs]
  rfl

/-- Its rows over their root are the same. -/
theorem refX (c : Dev nD) (i : S8192x1024.Idx) : Cert.ReferenceDH1Ideal.Read.val_main_v12 (F := Ideal) (A2 m c) i = unitRows (A2 m c) i := by
  rw [Cert.ReferenceDH1Ideal.Read.val_main_v12_apply, Cert.ReferenceDH1Ideal.Read.val_main_v11_apply, refR]
  rfl

theorem refU (c : Dev nD) (i : S8192x1024.Idx) :
    Cert.ReferenceDH1Ideal.Read.val_main_v23 (F := Ideal) (A0 m c) (A1 m c) (A3 m c) i = (D m c i * A3 m c (ix2 0 (i 1)) : EReal) := by
  rw [Cert.ReferenceDH1Ideal.Read.val_main_v23_apply, Cert.ReferenceDH1Ideal.Read.val_main_v22_apply, refD]
  exact congrArg (fun j => (D m c i * A3 m c j : EReal)) (eq_ix2 _)

/-- Its derivative of the mean square, at a row. -/
theorem refS (c : Dev nD) (i : Cert.ReferenceDH1Ideal.S8192.Idx) : Cert.ReferenceDH1Ideal.Read.val_main_v33 (F := Ideal) (A0 m c) (A1 m c) (A2 m c) (A3 m c) i
    = slope (fun k => A2 m c (ix2 (i 0) k)) (fun k => D m c (ix2 (i 0) k)) (fun k => A3 m c (ix2 0 k)) := by
  rw [Cert.ReferenceDH1Ideal.Read.val_main_v33_apply, Cert.ReferenceDH1Ideal.Read.val_main_cst_6_apply]
  show (Ideal.ofBits .f32 0x00000000#32 + ∑ k : Fin 1, Cert.ReferenceDH1Ideal.Read.val_main_v32 (F := Ideal) (A0 m c) (A1 m c) (A2 m c) (A3 m c) (Cert.ReferenceDH1Ideal.Read.idx_main_v33 i k) : EReal) = _
  rw [zero_f32, zero_add, Fin.sum_univ_one, Cert.ReferenceDH1Ideal.Read.val_main_v32_apply, Cert.ReferenceDH1Ideal.Read.val_main_v31_apply, Cert.ReferenceDH1Ideal.Read.val_main_cst_5_apply,
    Cert.ReferenceDH1Ideal.Read.val_main_v30_apply, Cert.ReferenceDH1Ideal.Read.val_main_v26_apply, Cert.ReferenceDH1Ideal.Read.val_main_v25_apply, Cert.ReferenceDH1Ideal.Read.val_main_cst_4_apply,
    Cert.ReferenceDH1Ideal.Read.val_main_v10_apply, Cert.ReferenceDH1Ideal.Read.val_main_v9_apply, Cert.ReferenceDH1Ideal.Read.val_main_cst_2_apply, Cert.ReferenceDH1Ideal.Read.val_main_v8_apply, refR, refMs]
  have hs : (Ideal.ofBits .f32 0x00000000#32 + ∑ k : Fin 1024, Cert.ReferenceDH1Ideal.Read.val_main_v24 (F := Ideal) (A0 m c) (A1 m c) (A2 m c) (A3 m c)
        (Cert.ReferenceDH1Ideal.Read.idx_main_v25 (Cert.ReferenceDH1Ideal.Read.idx_main_v26 (Cert.ReferenceDH1Ideal.Read.idx_main_v33 i 0)) k) : EReal)
      = ∑ k : Fin 1024, A2 m c (ix2 (i 0) k) * (D m c (ix2 (i 0) k) * A3 m c (ix2 0 k)) := by
    rw [zero_f32, zero_add]
    have hi : ∀ k : Fin 1024, Cert.ReferenceDH1Ideal.Read.idx_main_v25 (Cert.ReferenceDH1Ideal.Read.idx_main_v26 (Cert.ReferenceDH1Ideal.Read.idx_main_v33 i 0)) k = ix2 (i 0) k := fun k =>
      funext fun d => match d with
        | ⟨0, _⟩ => Fin.ext (by show (i 0).val * 1 + 0 = (i 0).val; omega)
        | ⟨1, _⟩ => rfl
    refine sum_eq (fun k => congrArg (A2 m c) (hi k)) (fun k => (refU m c _).trans ?_)
    exact congrArg (fun j => (D m c j * A3 m c (ix2 0 (j 1)) : EReal)) (hi k)
  show Ideal.div ((Ideal.ofBits .f32 0x00000000#32 + ∑ k : Fin 1024, Cert.ReferenceDH1Ideal.Read.val_main_v24 (F := Ideal) (A0 m c) (A1 m c) (A2 m c) (A3 m c)
        (Cert.ReferenceDH1Ideal.Read.idx_main_v25 (Cert.ReferenceDH1Ideal.Read.idx_main_v26 (Cert.ReferenceDH1Ideal.Read.idx_main_v33 i 0)) k))
      * (Ideal.ofBits .f32 0xBF000000#32 * Ideal.div (Ideal.rsqrt (ms fun k => A2 m c (ix2 (i 0) k))) (ms fun k => A2 m c (ix2 (i 0) k)))) (Ideal.ofBits .f32 0x44800000#32) = _
  rw [hs]
  rfl

/-- The reference's first result is the same gradient of the stream. -/
theorem ref5 (c : Dev nD) : Cert.ReferenceDH1Ideal.Read.val_main_v38 (F := Ideal) (A0 m c) (A1 m c) (A2 m c) (A3 m c) (A4 m c) = G m c := by
  funext i
  rw [Cert.ReferenceDH1Ideal.Read.val_main_v38_apply, Cert.ReferenceDH1Ideal.Read.val_main_v37_apply, Cert.ReferenceDH1Ideal.Read.val_main_v36_apply, Cert.ReferenceDH1Ideal.Read.val_main_v35_apply,
    Cert.ReferenceDH1Ideal.Read.val_main_v34_apply, refS, Cert.ReferenceDH1Ideal.Read.val_main_v29_apply, Cert.ReferenceDH1Ideal.Read.val_main_v28_apply, refU, Cert.ReferenceDH1Ideal.Read.val_main_v27_apply, refR]
  exact back_eq _ _ _ _ _ _ _

theorem first_row : ∀ a : Fin 8, IntOp.cmpi .eq (BitVec.ofNat 32 a.val) 0#32 = if a.val = 0 then 1#1 else 0#1 := by decide

/-- Its second result is the same gradient of the gain. -/
theorem ref6 (c : Dev nD) : Cert.ReferenceDH1Ideal.Read.val_main_v42 (F := Ideal) (A0 m c) (A1 m c) (A2 m c) = H m c := by
  funext i
  rw [Cert.ReferenceDH1Ideal.Read.val_main_v42_apply, Cert.ReferenceDH1Ideal.Read.val_main_v41_apply, Cert.ReferenceDH1Ideal.Read.val_main_v40_apply, Cert.ReferenceDH1Ideal.Read.val_main_v39_apply,
    Cert.ReferenceDH1Ideal.Read.val_main_c_apply, Cert.ReferenceDH1Ideal.Read.val_main_call0_v2_apply, Cert.ReferenceDH1Ideal.Read.val_main_call0_v0_apply, Cert.ReferenceDH1Ideal.Read.val_main_cst_7_apply,
    Cert.ReferenceDH1Ideal.Read.val_main_call0_v1_apply, Cert.ReferenceDH1Ideal.Read.val_main_v21_apply, Cert.ReferenceDH1Ideal.Read.val_main_v20_apply, Cert.ReferenceDH1Ideal.Read.val_main_cst_3_apply]
  refine (congrArg (fun b => Scalar.select b _ _) (first_row (i 0))).trans ?_
  unfold H gainG Scalar.select
  by_cases hi : (i 0).val = 0
  · rw [if_pos hi, if_pos hi]
    refine (if_pos rfl).trans ?_
    show (Ideal.ofBits .f32 0x00000000#32 + ∑ k : Fin 8192, Cert.ReferenceDH1Ideal.Read.val_main_v19 (F := Ideal) (A0 m c) (A1 m c) (A2 m c) _ : EReal) = _
    rw [zero_f32, zero_add]
    refine Finset.sum_congr rfl fun k _ => ?_
    rw [Cert.ReferenceDH1Ideal.Read.val_main_v19_apply, refX, refD]
    have hk : Cert.ReferenceDH1Ideal.Read.idx_main_v20 (Cert.ReferenceDH1Ideal.Read.idx_main_v21 (Cert.ReferenceDH1Ideal.Read.idx_main_call0_v1 i)) k = ix2 k (i 1) :=
      funext fun d => match d with
        | ⟨0, _⟩ => rfl
        | ⟨1, _⟩ => Fin.ext (by show 0 * 1024 + (i 1).val = (i 1).val; omega)
    exact (mul_comm _ _).trans (congrArg (fun j => (D m c j * unitRows (A2 m c) j : EReal)) hk)
  · rw [if_neg hi, if_neg hi]
    refine (if_neg (by decide)).trans ?_
    exact zero_f32

end Cert.KernelDH1Ideal.Dense

namespace Cert.Proof

open Idealize.ShloMosaic Idealize.SL.Sem Cert.KernelDH1Ideal.Dense

/-- The kernel and the reference leave the same gradients of the stream and of the gain. -/
theorem algebraicDH1 : Cert.algebraic_KernelDH1Ideal_ReferenceDH1Ideal := by
  intro m g m' g' _ ha
  refine ⟨fun c => G m c, fun c => H m c, ?_, ?_⟩
  · exact (θ_run Cert.KernelDH1Ideal.defs _ _).mono (fun r h c => ⟨(h c).1.trans (out5 m c), (h c).2.1.trans (out6 m c), (h c).2.2⟩) (Cert.KernelDH1Ideal.Value.run_blocks m g)
  · refine (θ_run Cert.ReferenceDH1Ideal.defs _ _).mono (fun r h c => ⟨(h c).1.trans ?_, (h c).2.1.trans ?_, (h c).2.2⟩) (Cert.ReferenceDH1Ideal.Value.run (F := Ideal) m' g')
    · rw [Cert.ReferenceDH1Ideal.Read.val_main_v38_eq, (ha c).1, (ha c).2.1, (ha c).2.2.1, (ha c).2.2.2.1, (ha c).2.2.2.2]
      exact ref5 m c
    · rw [(ha c).1, (ha c).2.1, (ha c).2.2.1]
      exact ref6 m c

end Cert.Proof
end
-- ==== Proof.Dense.DH0.lean ====
/-
  The call `d_h0`: the gradient of the joined projections times the transposed weight, taken back through the norm, with the gain's gradient summed tile by tile.
-/
module

public import proofs.«01_k».proof.Defs
public import proofs.«01_k».proof.Proof.Gen.KernelDH0Ideal.Value
public import proofs.«01_k».proof.Proof.Gen.ReferenceDH0Ideal.Run
public import proofs.«01_k».proof.Proof.Gen.ReferenceDH0Ideal.Read
public import proofs.«01_k».proof.Proof.Dense.DH1
public import Idealize.ShloMosaic.Lib.Pipeline.ReadBack
public import Idealize.ShloMosaic.Lib.WritesUnit

@[expose] public section

set_option maxRecDepth 16384

noncomputable section

namespace Cert.KernelDH0Ideal.Dense

open Cert.KernelDH0Ideal Cert.KernelDH0Ideal.Gen
open Idealize.ShloMosaic Idealize.SL.Sem Cert.DenseMath

variable (m : (ℓ : Loc nD τ sig) → Buf (Elt Ideal) ℓ) (ρ : Dev nD → PrngReg)

/-- The arguments' arrays. -/
abbrev A0 (c : Dev nD) : FVec Ideal S8192x3072 .bf16 := m ((c.tc : Thread nD τ).loc main_arg0)
abbrev A1 (c : Dev nD) : FVec Ideal S1024x3072 .bf16 := m ((c.tc : Thread nD τ).loc main_arg1)
abbrev A2 (c : Dev nD) : FVec Ideal S8192x1024 .f32 := m ((c.tc : Thread nD τ).loc main_arg2)
abbrev A3 (c : Dev nD) : FVec Ideal S1x1024 .f32 := m ((c.tc : Thread nD τ).loc main_arg3)
abbrev A4 (c : Dev nD) : FVec Ideal S8192x1024 .f32 := m ((c.tc : Thread nD τ).loc main_arg4)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, (cfg0.win 3).index t = ![0, 0] := by decide +kernel
theorem index_4 : ∀ t : Fin cfg0.N, (cfg0.win 4).index t = ![t.val, 0] := by decide +kernel
theorem index_5 : ∀ t : Fin cfg0.N, win0_5.index t = ![t.val, 0] := by decide +kernel
theorem index_6 : ∀ t : Fin cfg0.N, win0_6.index t = ![0, 0] := by decide +kernel

/-- The product: the gradient that reaches the normed rows. -/
abbrev D (c : Dev nD) : Vec Ideal S8192x1024 .f32 := prodT (A0 m c) (A1 m c)

/-- What a grid point leaves of it in its block. -/
abbrev blockD (X0 : Vec Ideal S512x3072 .bf16) (X1 : Vec Ideal S1024x3072 .bf16) : Vec Ideal S512x1024 .f32 := prodT X0 X1

/-- What a half's store holds; the two halves' payloads are one function. -/
theorem pay (X0 : Vec Ideal S512x3072 .bf16) (X1 : Vec Ideal S1024x3072 .bf16) (o : ℕ)
    (hW : ∀ d, (![o, 0] : Fin 2 → ℕ) d + S512x3072.size d ≤ S1024x3072.size d)
    (x : S512x512.Idx) (y : S512x1024.Idx) (h0 : (y 0).val = (x 0).val) (h1 : (y 1).val = o + (x 1).val) :
    k0_pay4 (F := Ideal) X0 (View.ld (Val := Elt Ideal) (e' := .bf16) X1 (Rect.unit (s := S1024x3072) ![o, 0] S512x3072.size hW)) x = blockD X0 X1 y := by
  unfold k0_pay4 blockD prodT
  pointwise
  exact sum_eq (fun k => congrArg (fun i => X0 (ix2 i k)) (Fin.ext h0.symm)) (fun k => congrArg (fun i => X1 (ix2 i k)) (Fin.ext h1.symm))

theorem block (X0 : Vec Ideal S512x3072 .bf16) (X1 : Vec Ideal S1024x3072 .bf16) (y : S512x1024.Idx) :
    View.canon (Val := Elt Ideal) (e := .f32) [⟨Rect.unit (s := S512x1024) ![0, 512] S512x512.size inb_S512x1024_S512x512_0_512, k0_pay5 (F := Ideal) X0 (View.ld (Val := Elt Ideal) (e' := .bf16) X1 (Rect.unit (s := S1024x3072) ![512, 0] S512x3072.size inb_S1024x3072_S512x3072_512_0))⟩,
      ⟨Rect.unit (s := S512x1024) ![0, 0] S512x512.size inb_S512x1024_S512x512_0_0, k0_pay4 (F := Ideal) X0 (View.ld (Val := Elt Ideal) (e' := .bf16) X1 (Rect.unit (s := S1024x3072) ![0, 0] S512x3072.size inb_S1024x3072_S512x3072_0_0))⟩] y = blockD X0 X1 y := by
  refine View.canon_append_of_piecesOf (Val := Elt Ideal) (e := .f32) (blockD X0 X1) [] [_, _] ⟨fun x => ?_, fun x => ?_, trivial⟩ y ?_
  · exact pay X0 X1 512 inb_S1024x3072_S512x3072_512_0 x _ (by show 0 + 1 * (x 0).val = (x 0).val; omega) (by show 512 + 1 * (x 1).val = 512 + (x 1).val; omega)
  · exact pay X0 X1 0 inb_S1024x3072_S512x3072_0_0 x _ (by show 0 + 1 * (x 0).val = (x 0).val; omega) (by show 0 + 1 * (x 1).val = 0 + (x 1).val; omega)
  · have h1 : (y 1).val < 1024 := (y 1).isLt
    by_cases c0 : (y 1).val < 512
    · exact ⟨_, (List.mem_cons_of_mem _ (List.mem_cons_self ..)), mem_cols inb_S512x1024_S512x512_0_0 y (by omega) (by omega)⟩
    exact ⟨_, (List.mem_cons_self ..), mem_cols inb_S512x1024_S512x512_0_512 y (by omega) (by omega)⟩

/-- The two halves' stores read back are the product's block. -/
theorem halvesBack (c : Dev nD) (t : Fin cfg0.N) :
    (ms0_5 t).view.readCov (Val := Elt Ideal) [⟨Rect.unit (s := S512x1024) ![0, 512] S512x512.size inb_S512x1024_S512x512_0_512, k0_pay5 (F := Ideal) (iblk m c 0 t) (View.ld (Val := Elt Ideal) (e' := .bf16) (iblk m c 1 t) (Rect.unit (s := S1024x3072) ![512, 0] S512x3072.size inb_S1024x3072_S512x3072_512_0))⟩,
      ⟨Rect.unit (s := S512x1024) ![0, 0] S512x512.size inb_S512x1024_S512x512_0_0, k0_pay4 (F := Ideal) (iblk m c 0 t) (View.ld (Val := Elt Ideal) (e' := .bf16) (iblk m c 1 t) (Rect.unit (s := S1024x3072) ![0, 0] S512x3072.size inb_S1024x3072_S512x3072_0_0))⟩]
      (Rect.unit (s := S512x1024) ![0, 0] S512x1024.size inb_S512x1024_S512x1024_0_0).toLoadRect = blockD (iblk m c 0 t) (iblk m c 1 t) := by
  funext y
  rw [View.readCov_eq_canon']
  refine (block (iblk m c 0 t) (iblk m c 1 t) _).trans ?_
  exact congrFun (View.ld_unit_zero (Val := Elt Ideal) (e := .f32) (by decide) inb_S512x1024_S512x1024_0_0 (blockD (iblk m c 0 t) (iblk m c 1 t))) y

/-- What the rows' store holds. -/
theorem rpay (B X : Vec Ideal S512x1024 .f32) (g : Vec Ideal S1x1024 .f32) (R : Vec Ideal S512x1024 .f32) (y : S512x1024.Idx) :
    k0_pay1 (F := Ideal) (k0_pay7 X) R (k0_pay9 B X g) y
      = back (fun k => X (ix2 (y 0) k)) (fun k => B (ix2 (y 0) k)) (fun k => g (ix2 0 k)) (X y) (B y) (g (ix2 0 (y 1))) (R y) :=
  Cert.KernelDH1Ideal.Dense.rpay B X g R y

theorem step5 (c : Dev nD) (t : Fin cfg0.N) (y : S512x1024.Idx) :
    (outsAt0 m c t.val t.isLt).1 y = k0_pay1 (F := Ideal) (k0_pay7 (iblk m c 2 t)) (iblk m c 4 t) (k0_pay9 (blockD (iblk m c 0 t) (iblk m c 1 t)) (iblk m c 2 t) (iblk m c 3 t)) y := by
  by_cases h0 : t.val % 16 = 0
  · rw [outsAt0_A m c t h0]
    frame_out
    exact congrArg (fun B => k0_pay1 (F := Ideal) (k0_pay7 (iblk m c 2 t)) (iblk m c 4 t) (k0_pay9 B (iblk m c 2 t) (iblk m c 3 t)) y) (halvesBack m c t)
  · rw [outsAt0_B m c t h0]
    frame_out
    exact congrArg (fun B => k0_pay1 (F := Ideal) (k0_pay7 (iblk m c 2 t)) (iblk m c 4 t) (k0_pay9 B (iblk m c 2 t) (iblk m c 3 t)) y) (halvesBack m c t)

/-- The stream's gradient. -/
abbrev G (c : Dev nD) : Vec Ideal S8192x1024 .f32 := streamG (D m c) (A2 m c) (A3 m c) (A4 m c)

theorem out5 (c : Dev nD) : (dats m 0 c).arrAt 5 cfg0.N = G m c := by
  refine (dats m 0 c).arrAt_eq_of_covers 5 _ (by decide +kernel) fun t hf y => ?_
  blk_simp
  rw [after0_5]
  refine (step5 m c t y).trans ((rpay (blockD (iblk m c 0 t) (iblk m c 1 t)) (iblk m c 2 t) (iblk m c 3 t) (iblk m c 4 t) y).trans ?_)
  unfold G streamG
  refine back_congr (fun k => ?_) (fun k => ?_) (fun k => ?_) ?_ ?_ ?_ ?_
  · unfold A2
    blk_ext [iblk, V_main_arg2, index_2 t, index_5 t]
  · unfold blockD D prodT
    refine sum_eq (fun l => ?_) (fun l => ?_)
    · unfold A0
      blk_ext [iblk, V_main_arg0, index_0 t, index_5 t]
    · unfold A1
      blk_ext [iblk, V_main_arg1, index_1 t, index_5 t]
  · unfold A3
    blk_ext [iblk, V_main_arg3, index_3 t, index_5 t]
  · unfold A2
    blk_ext [iblk, V_main_arg2, index_2 t, index_5 t]
  · unfold blockD D prodT
    refine sum_eq (fun l => ?_) (fun l => ?_)
    · unfold A0
      blk_ext [iblk, V_main_arg0, index_0 t, index_5 t]
    · unfold A1
      blk_ext [iblk, V_main_arg1, index_1 t, index_5 t]
  · unfold A3
    blk_ext [iblk, V_main_arg3, index_3 t, index_5 t]
  · unfold A4
    blk_ext [iblk, V_main_arg4, index_4 t, index_5 t]

/-- What the first row's store holds. -/
theorem gpay (B X : Vec Ideal S512x1024 .f32) (P : Vec Ideal S1x1024 .f32) (x : S1x1024.Idx) :
    k0_pay3 (F := Ideal) (k0_pay6 B) (k0_pay8 X) P x = (P x + tileG B X (x 1) : EReal) :=
  Cert.KernelDH1Ideal.Dense.gpay B X P x

theorem zeros (y : S8x1024.Idx) : k0_pay2 (F := Ideal) y = (0 : EReal) :=
  Cert.KernelDH1Ideal.Dense.zeros y

theorem row_emb (y : S8x1024.Idx) (h : (y 0).val = 0) :
    (Rect.unit (s := S8x1024) ![0, 0] S1x1024.size inb_S8x1024_S1x1024_0_0).emb (ix2 (0 : Fin 1) (y 1)) = y :=
  Cert.KernelDH1Ideal.Dense.row_emb y h

theorem row_not_mem (y : S8x1024.Idx) (h : ¬(y 0).val = 0) :
    y ∉ (Rect.unit (s := S8x1024) ![0, 0] S1x1024.size inb_S8x1024_S1x1024_0_0).set :=
  Cert.KernelDH1Ideal.Dense.row_not_mem y h

theorem step6A (c : Dev nD) (t : Fin cfg0.N) (h0 : t.val % 16 = 0) (y : S8x1024.Idx) :
    (outsAt0 m c t.val t.isLt).2 y = (0 + (if (y 0).val = 0 then tileG (blockD (iblk m c 0 t) (iblk m c 1 t)) (iblk m c 2 t) (y 1) else 0) : EReal) := by
  rw [outsAt0_A m c t h0]
  frame_out
  by_cases hy : (y 0).val = 0
  · rw [if_pos hy]
    refine (congrArg _ (row_emb y hy).symm).trans ?_
    refine (View.canon_cons_emb (Val := Elt Ideal) (e := .f32) (Rect.unit (s := S8x1024) ![0, 0] S1x1024.size inb_S8x1024_S1x1024_0_0) _ _ _).trans ?_
    refine (gpay _ (iblk m c 2 t) _ _).trans (congrArg₂ (· + ·) ?_ ?_)
    · refine (congrFun (View.readCov_fill _ _ _ _ _ (by decide)) _).trans ?_
      exact zeros _
    · exact congrArg (fun B => tileG B (iblk m c 2 t) (y 1)) (halvesBack m c t)
  · rw [if_neg hy, add_zero]
    refine (View.canon_cons_of_not_mem (Val := Elt Ideal) (e := .f32) _ _ (row_not_mem y hy)).trans ?_
    refine (congrFun (View.canon_cons_unit_lit (Val := Elt Ideal) (e := .f32) inb_S8x1024_S8x1024_0_0 _ [] (by decide)) y).trans ?_
    exact zeros y

theorem step6B (c : Dev nD) (t : Fin cfg0.N) (h0 : ¬t.val % 16 = 0) (y : S8x1024.Idx) :
    (outsAt0 m c t.val t.isLt).2 y = ((outsAt0 m c (t.val - 1) (Nat.lt_of_le_of_lt (Nat.sub_le _ _) t.isLt)).2 y
      + (if (y 0).val = 0 then tileG (blockD (iblk m c 0 t) (iblk m c 1 t)) (iblk m c 2 t) (y 1) else 0) : EReal) := by
  rw [outsAt0_B m c t h0]
  frame_out
  by_cases hy : (y 0).val = 0
  · rw [if_pos hy]
    refine (View.read_writes_cons_rows_of_mem (Val := Elt Ideal) (e := .f32) (d := ![8, 1024]) (o := 0) (ms0_6 t).view _ inb_S8x1024_S1x1024_0_0 _ [] y (ix2 (0 : Fin 1) (y 1)) rfl
      (by show (y 0).val = 0 + 0; omega) rfl).trans ?_
    refine (gpay _ (iblk m c 2 t) _ _).trans (congrArg₂ (· + ·) ?_ ?_)
    · exact congrArg (outsAt0 m c (t.val - 1) (Nat.lt_of_le_of_lt (Nat.sub_le _ _) t.isLt)).2 (row_emb y hy)
    · exact congrArg (fun B => tileG B (iblk m c 2 t) (y 1)) (halvesBack m c t)
  · rw [if_neg hy, add_zero]
    refine (View.read_writes_cons_rows_of_not_mem (Val := Elt Ideal) (e := .f32) (d := ![8, 1024]) (o := 0) (W := 1) (ms0_6 t).view _ inb_S8x1024_S1x1024_0_0 _ [] y rfl rfl
      (Or.inr (by omega))).trans ?_
    exact congrFun ((hs0_6 t).read_unread _) y

theorem tile_eq (c : Dev nD) (t : Fin cfg0.N) (j : Fin 1024) :
    tileG (blockD (iblk m c 0 t) (iblk m c 1 t)) (iblk m c 2 t) j = termG (D m c) (A2 m c) t.val j.val := by
  have ht : t.val < 16 := lt_of_lt_of_eq t.isLt N_0
  refine tileG_eq t.val ht j (fun k => sum_eq (fun l => ?_) (fun l => ?_)) (fun k l => ?_)
  · unfold A0
    blk_ext [iblk, V_main_arg0, index_0 t]
  · unfold A1
    blk_ext [iblk, V_main_arg1, index_1 t]
  · unfold A2
    blk_ext [iblk, V_main_arg2, index_2 t]

/-- The gain's gradient. -/
abbrev H (c : Dev nD) : Vec Ideal S8x1024 .f32 := gainG (D m c) (A2 m c)

theorem out6 (c : Dev nD) : (dats m 0 c).arrAt 6 cfg0.N = H m c := by
  refine (dats m 0 c).arrAt_eq_of_covers 6 _ (by decide +kernel) fun t hf y => ?_
  have h : t.val % 16 = 15 := (flush0_6 t).mp hf
  blk_simp
  rw [after0_6]
  refine gain_result N_0 (D m c) (A2 m c) (fun n h => (outsAt0 m c n h).2)
    (fun t h y => (step6A m c t h y).trans (congrArg (0 + ·) (if_congr Iff.rfl (tile_eq m c t (y 1)) rfl)))
    (fun t h y => (step6B m c t h y).trans (congrArg (_ + ·) (if_congr Iff.rfl (tile_eq m c t (y 1)) rfl))) t h y _ ?_
  funext d
  match d with
  | ⟨0, _⟩ => exact Fin.ext (by show ((win0_6.blk t).view.emb y 0).val = (y 0).val; blk_simp [index_6 t]; try omega)
  | ⟨1, _⟩ => exact Fin.ext (by show ((win0_6.blk t).view.emb y 1).val = (y 1).val; blk_simp [index_6 t]; try omega)

/-- The reference's product is the same. -/
theorem refD (c : Dev nD) : Cert.ReferenceDH0Ideal.Read.val_main_v18 (F := Ideal) (A0 m c) (A1 m c) = D m c := by
  funext i
  rw [Cert.ReferenceDH0Ideal.Read.val_main_v18_apply]
  unfold D prodT
  exact sum_eq (fun k => congrArg (A0 m c) (eq_ix2 _)) (fun k => congrArg (A1 m c) (eq_ix2 _))

/-- Its mean square, with the small constant, is the same. -/
theorem refMs (c : Dev nD) (i : Cert.ReferenceDH0Ideal.S8192x1.Idx) : Cert.ReferenceDH0Ideal.Read.val_main_v6 (F := Ideal) (A2 m c) i = ms fun k => A2 m c (ix2 (i 0) k) := by
  rw [Cert.ReferenceDH0Ideal.Read.val_main_v6_apply, Cert.ReferenceDH0Ideal.Read.val_main_v5_apply, Cert.ReferenceDH0Ideal.Read.val_main_v4_apply, Cert.ReferenceDH0Ideal.Read.val_main_v3_apply,
    Cert.ReferenceDH0Ideal.Read.val_main_v2_apply, Cert.ReferenceDH0Ideal.Read.val_main_v1_apply, Cert.ReferenceDH0Ideal.Read.val_main_cst_apply, Cert.ReferenceDH0Ideal.Read.val_main_cst_0_apply, Cert.ReferenceDH0Ideal.Read.val_main_cst_1_apply]
  have hs : (Ideal.ofBits .f32 0x00000000#32 + ∑ k : Fin 1024, Cert.ReferenceDH0Ideal.Read.val_main_v0 (F := Ideal) (A2 m c) (Cert.ReferenceDH0Ideal.Read.idx_main_v1 (Cert.ReferenceDH0Ideal.Read.idx_main_v2 i) k) : EReal)
      = ∑ k : Fin 1024, A2 m c (ix2 (i 0) k) * A2 m c (ix2 (i 0) k) := by
    rw [zero_f32, zero_add]
    exact sum_eq (fun k => congrArg (A2 m c) (eq_ix2 _)) (fun k => congrArg (A2 m c) (eq_ix2 _))
  show (Ideal.div (Ideal.ofBits .f32 0x00000000#32 + ∑ k : Fin 1024, Cert.ReferenceDH0Ideal.Read.val_main_v0 (F := Ideal) (A2 m c) (Cert.ReferenceDH0Ideal.Read.idx_main_v1 (Cert.ReferenceDH0Ideal.Read.idx_main_v2 i) k))
    (Ideal.ofBits .f32 0x44800000#32) + Ideal.ofBits .f32 0x358637BD#32 : EReal) = _
  rw [hs]
  rfl

theorem refR (c : Dev nD) (i : Cert.ReferenceDH0Ideal.S8192x1.Idx) : Cert.ReferenceDH0Ideal.Read.val_main_v7 (F := Ideal) (A2 m c) i = Ideal.rsqrt (ms fun k => A2 m c (ix2 (i 0) k)) := by
  rw [Cert.ReferenceDH0Ideal.Read.val_main_v7_apply, refMs]
  rfl

/-- Its rows over their root are the same. -/
theorem refX (c : Dev nD) (i : S8192x1024.Idx) : Cert.ReferenceDH0Ideal.Read.val_main_v12 (F := Ideal) (A2 m c) i = unitRows (A2 m c) i := by
  rw [Cert.ReferenceDH0Ideal.Read.val_main_v12_apply, Cert.ReferenceDH0Ideal.Read.val_main_v11_apply, refR]
  rfl

theorem refU (c : Dev nD) (i : S8192x1024.Idx) :
    Cert.ReferenceDH0Ideal.Read.val_main_v23 (F := Ideal) (A0 m c) (A1 m c) (A3 m c) i = (D m c i * A3 m c (ix2 0 (i 1)) : EReal) := by
  rw [Cert.ReferenceDH0Ideal.Read.val_main_v23_apply, Cert.ReferenceDH0Ideal.Read.val_main_v22_apply, refD]
  exact congrArg (fun j => (D m c i * A3 m c j : EReal)) (eq_ix2 _)

/-- Its derivative of the mean square, at a row. -/
theorem refS (c : Dev nD) (i : Cert.ReferenceDH0Ideal.S8192.Idx) : Cert.ReferenceDH0Ideal.Read.val_main_v33 (F := Ideal) (A0 m c) (A1 m c) (A2 m c) (A3 m c) i
    = slope (fun k => A2 m c (ix2 (i 0) k)) (fun k => D m c (ix2 (i 0) k)) (fun k => A3 m c (ix2 0 k)) := by
  rw [Cert.ReferenceDH0Ideal.Read.val_main_v33_apply, Cert.ReferenceDH0Ideal.Read.val_main_cst_6_apply]
  show (Ideal.ofBits .f32 0x00000000#32 + ∑ k : Fin 1, Cert.ReferenceDH0Ideal.Read.val_main_v32 (F := Ideal) (A0 m c) (A1 m c) (A2 m c) (A3 m c) (Cert.ReferenceDH0Ideal.Read.idx_main_v33 i k) : EReal) = _
  rw [zero_f32, zero_add, Fin.sum_univ_one, Cert.ReferenceDH0Ideal.Read.val_main_v32_apply, Cert.ReferenceDH0Ideal.Read.val_main_v31_apply, Cert.ReferenceDH0Ideal.Read.val_main_cst_5_apply,
    Cert.ReferenceDH0Ideal.Read.val_main_v30_apply, Cert.ReferenceDH0Ideal.Read.val_main_v26_apply, Cert.ReferenceDH0Ideal.Read.val_main_v25_apply, Cert.ReferenceDH0Ideal.Read.val_main_cst_4_apply,
    Cert.ReferenceDH0Ideal.Read.val_main_v10_apply, Cert.ReferenceDH0Ideal.Read.val_main_v9_apply, Cert.ReferenceDH0Ideal.Read.val_main_cst_2_apply, Cert.ReferenceDH0Ideal.Read.val_main_v8_apply, refR, refMs]
  have hs : (Ideal.ofBits .f32 0x00000000#32 + ∑ k : Fin 1024, Cert.ReferenceDH0Ideal.Read.val_main_v24 (F := Ideal) (A0 m c) (A1 m c) (A2 m c) (A3 m c)
        (Cert.ReferenceDH0Ideal.Read.idx_main_v25 (Cert.ReferenceDH0Ideal.Read.idx_main_v26 (Cert.ReferenceDH0Ideal.Read.idx_main_v33 i 0)) k) : EReal)
      = ∑ k : Fin 1024, A2 m c (ix2 (i 0) k) * (D m c (ix2 (i 0) k) * A3 m c (ix2 0 k)) := by
    rw [zero_f32, zero_add]
    have hi : ∀ k : Fin 1024, Cert.ReferenceDH0Ideal.Read.idx_main_v25 (Cert.ReferenceDH0Ideal.Read.idx_main_v26 (Cert.ReferenceDH0Ideal.Read.idx_main_v33 i 0)) k = ix2 (i 0) k := fun k =>
      funext fun d => match d with
        | ⟨0, _⟩ => Fin.ext (by show (i 0).val * 1 + 0 = (i 0).val; omega)
        | ⟨1, _⟩ => rfl
    refine sum_eq (fun k => congrArg (A2 m c) (hi k)) (fun k => (refU m c _).trans ?_)
    exact congrArg (fun j => (D m c j * A3 m c (ix2 0 (j 1)) : EReal)) (hi k)
  show Ideal.div ((Ideal.ofBits .f32 0x00000000#32 + ∑ k : Fin 1024, Cert.ReferenceDH0Ideal.Read.val_main_v24 (F := Ideal) (A0 m c) (A1 m c) (A2 m c) (A3 m c)
        (Cert.ReferenceDH0Ideal.Read.idx_main_v25 (Cert.ReferenceDH0Ideal.Read.idx_main_v26 (Cert.ReferenceDH0Ideal.Read.idx_main_v33 i 0)) k))
      * (Ideal.ofBits .f32 0xBF000000#32 * Ideal.div (Ideal.rsqrt (ms fun k => A2 m c (ix2 (i 0) k))) (ms fun k => A2 m c (ix2 (i 0) k)))) (Ideal.ofBits .f32 0x44800000#32) = _
  rw [hs]
  rfl

/-- The reference's first result is the same gradient of the stream. -/
theorem ref5 (c : Dev nD) : Cert.ReferenceDH0Ideal.Read.val_main_v38 (F := Ideal) (A0 m c) (A1 m c) (A2 m c) (A3 m c) (A4 m c) = G m c := by
  funext i
  rw [Cert.ReferenceDH0Ideal.Read.val_main_v38_apply, Cert.ReferenceDH0Ideal.Read.val_main_v37_apply, Cert.ReferenceDH0Ideal.Read.val_main_v36_apply, Cert.ReferenceDH0Ideal.Read.val_main_v35_apply,
    Cert.ReferenceDH0Ideal.Read.val_main_v34_apply, refS, Cert.ReferenceDH0Ideal.Read.val_main_v29_apply, Cert.ReferenceDH0Ideal.Read.val_main_v28_apply, refU, Cert.ReferenceDH0Ideal.Read.val_main_v27_apply, refR]
  exact back_eq _ _ _ _ _ _ _

theorem first_row : ∀ a : Fin 8, IntOp.cmpi .eq (BitVec.ofNat 32 a.val) 0#32 = if a.val = 0 then 1#1 else 0#1 := by decide

/-- Its second result is the same gradient of the gain. -/
theorem ref6 (c : Dev nD) : Cert.ReferenceDH0Ideal.Read.val_main_v42 (F := Ideal) (A0 m c) (A1 m c) (A2 m c) = H m c := by
  funext i
  rw [Cert.ReferenceDH0Ideal.Read.val_main_v42_apply, Cert.ReferenceDH0Ideal.Read.val_main_v41_apply, Cert.ReferenceDH0Ideal.Read.val_main_v40_apply, Cert.ReferenceDH0Ideal.Read.val_main_v39_apply,
    Cert.ReferenceDH0Ideal.Read.val_main_c_apply, Cert.ReferenceDH0Ideal.Read.val_main_call0_v2_apply, Cert.ReferenceDH0Ideal.Read.val_main_call0_v0_apply, Cert.ReferenceDH0Ideal.Read.val_main_cst_7_apply,
    Cert.ReferenceDH0Ideal.Read.val_main_call0_v1_apply, Cert.ReferenceDH0Ideal.Read.val_main_v21_apply, Cert.ReferenceDH0Ideal.Read.val_main_v20_apply, Cert.ReferenceDH0Ideal.Read.val_main_cst_3_apply]
  refine (congrArg (fun b => Scalar.select b _ _) (first_row (i 0))).trans ?_
  unfold H gainG Scalar.select
  by_cases hi : (i 0).val = 0
  · rw [if_pos hi, if_pos hi]
    refine (if_pos rfl).trans ?_
    show (Ideal.ofBits .f32 0x00000000#32 + ∑ k : Fin 8192, Cert.ReferenceDH0Ideal.Read.val_main_v19 (F := Ideal) (A0 m c) (A1 m c) (A2 m c) _ : EReal) = _
    rw [zero_f32, zero_add]
    refine Finset.sum_congr rfl fun k _ => ?_
    rw [Cert.ReferenceDH0Ideal.Read.val_main_v19_apply, refX, refD]
    have hk : Cert.ReferenceDH0Ideal.Read.idx_main_v20 (Cert.ReferenceDH0Ideal.Read.idx_main_v21 (Cert.ReferenceDH0Ideal.Read.idx_main_call0_v1 i)) k = ix2 k (i 1) :=
      funext fun d => match d with
        | ⟨0, _⟩ => rfl
        | ⟨1, _⟩ => Fin.ext (by show 0 * 1024 + (i 1).val = (i 1).val; omega)
    exact (mul_comm _ _).trans (congrArg (fun j => (D m c j * unitRows (A2 m c) j : EReal)) hk)
  · rw [if_neg hi, if_neg hi]
    refine (if_neg (by decide)).trans ?_
    exact zero_f32

end Cert.KernelDH0Ideal.Dense

namespace Cert.Proof

open Idealize.ShloMosaic Idealize.SL.Sem Cert.KernelDH0Ideal.Dense

/-- The kernel and the reference leave the same gradients of the stream and of the gain. -/
theorem algebraicDH0 : Cert.algebraic_KernelDH0Ideal_ReferenceDH0Ideal := by
  intro m g m' g' _ ha
  refine ⟨fun c => G m c, fun c => H m c, ?_, ?_⟩
  · exact (θ_run Cert.KernelDH0Ideal.defs _ _).mono (fun r h c => ⟨(h c).1.trans (out5 m c), (h c).2.1.trans (out6 m c), (h c).2.2⟩) (Cert.KernelDH0Ideal.Value.run_blocks m g)
  · refine (θ_run Cert.ReferenceDH0Ideal.defs _ _).mono (fun r h c => ⟨(h c).1.trans ?_, (h c).2.1.trans ?_, (h c).2.2⟩) (Cert.ReferenceDH0Ideal.Value.run (F := Ideal) m' g')
    · rw [Cert.ReferenceDH0Ideal.Read.val_main_v38_eq, (ha c).1, (ha c).2.1, (ha c).2.2.1, (ha c).2.2.2.1, (ha c).2.2.2.2]
      exact ref5 m c
    · rw [(ha c).1, (ha c).2.1, (ha c).2.2.1]
      exact ref6 m c

end Cert.Proof
end
-- ==== Proof.lean ====
/-
  The certificate's claim, assembled from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.KernelDwDown
public import proofs.«01_k».proof.Proof.Gen.KernelDwDownIdeal
public import proofs.«01_k».proof.Proof.Gen.KernelDwDownIdeal.Value
public import proofs.«01_k».proof.Proof.Gen.ReferenceDwDownIdeal
public import proofs.«01_k».proof.Proof.Gen.ReferenceDwDownIdeal.Run
public import proofs.«01_k».proof.Proof.Gen.ReferenceDwDownIdeal.Read
public import proofs.«01_k».proof.Proof.Gen.KernelDPre
public import proofs.«01_k».proof.Proof.Gen.KernelDPreIdeal
public import proofs.«01_k».proof.Proof.Gen.KernelDPreIdeal.Value
public import proofs.«01_k».proof.Proof.Gen.ReferenceDPreIdeal
public import proofs.«01_k».proof.Proof.Gen.ReferenceDPreIdeal.Run
public import proofs.«01_k».proof.Proof.Gen.ReferenceDPreIdeal.Read
public import proofs.«01_k».proof.Proof.Gen.KernelDwUp
public import proofs.«01_k».proof.Proof.Gen.KernelDwUpIdeal
public import proofs.«01_k».proof.Proof.Gen.KernelDwUpIdeal.Value
public import proofs.«01_k».proof.Proof.Gen.ReferenceDwUpIdeal
public import proofs.«01_k».proof.Proof.Gen.ReferenceDwUpIdeal.Run
public import proofs.«01_k».proof.Proof.Gen.ReferenceDwUpIdeal.Read
public import proofs.«01_k».proof.Proof.Gen.KernelDwQkv
public import proofs.«01_k».proof.Proof.Gen.KernelDwQkvIdeal
public import proofs.«01_k».proof.Proof.Gen.KernelDwQkvIdeal.Value
public import proofs.«01_k».proof.Proof.Gen.ReferenceDwQkvIdeal
public import proofs.«01_k».proof.Proof.Gen.ReferenceDwQkvIdeal.Run
public import proofs.«01_k».proof.Proof.Gen.ReferenceDwQkvIdeal.Read
public import proofs.«01_k».proof.Proof.Gen.KernelDwO
public import proofs.«01_k».proof.Proof.Gen.KernelDwOIdeal
public import proofs.«01_k».proof.Proof.Gen.KernelDwOIdeal.Value
public import proofs.«01_k».proof.Proof.Gen.ReferenceDwOIdeal
public import proofs.«01_k».proof.Proof.Gen.ReferenceDwOIdeal.Run
public import proofs.«01_k».proof.Proof.Gen.ReferenceDwOIdeal.Read
public import proofs.«01_k».proof.Proof.Gen.KernelDO
public import proofs.«01_k».proof.Proof.Gen.KernelDOIdeal
public import proofs.«01_k».proof.Proof.Gen.KernelDOIdeal.Value
public import proofs.«01_k».proof.Proof.Gen.ReferenceDOIdeal
public import proofs.«01_k».proof.Proof.Gen.ReferenceDOIdeal.Run
public import proofs.«01_k».proof.Proof.Gen.ReferenceDOIdeal.Read
public import proofs.«01_k».proof.Proof.Gen.KernelQkv
public import proofs.«01_k».proof.Proof.Gen.KernelQkvIdeal
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.ReferenceQkvIdeal.Read
public import proofs.«01_k».proof.Proof.Gen.KernelUp
public import proofs.«01_k».proof.Proof.Gen.KernelUpIdeal
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelAttnOut
public import proofs.«01_k».proof.Proof.Gen.KernelAttnOutIdeal
public import proofs.«01_k».proof.Proof.Gen.KernelAttnOutIdeal.Value
public import proofs.«01_k».proof.Proof.Gen.ReferenceAttnOutIdeal
public import proofs.«01_k».proof.Proof.Gen.ReferenceAttnOutIdeal.Run
public import proofs.«01_k».proof.Proof.Gen.ReferenceAttnOutIdeal.Read
public import proofs.«01_k».proof.Proof.Gen.KernelDown
public import proofs.«01_k».proof.Proof.Gen.KernelDownIdeal
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelLast
public import proofs.«01_k».proof.Proof.Gen.KernelLastIdeal
public import proofs.«01_k».proof.Proof.Gen.KernelLastIdeal.Value
public import proofs.«01_k».proof.Proof.Gen.ReferenceLastIdeal
public import proofs.«01_k».proof.Proof.Gen.ReferenceLastIdeal.Run
public import proofs.«01_k».proof.Proof.Gen.ReferenceLastIdeal.Read
public import proofs.«01_k».proof.Proof.Gen.KernelDH1
public import proofs.«01_k».proof.Proof.Gen.KernelDH1Ideal
public import proofs.«01_k».proof.Proof.Gen.KernelDH1Ideal.Value
public import proofs.«01_k».proof.Proof.Gen.ReferenceDH1Ideal
public import proofs.«01_k».proof.Proof.Gen.ReferenceDH1Ideal.Run
public import proofs.«01_k».proof.Proof.Gen.ReferenceDH1Ideal.Read
public import proofs.«01_k».proof.Proof.Gen.KernelDH0
public import proofs.«01_k».proof.Proof.Gen.KernelDH0Ideal
public import proofs.«01_k».proof.Proof.Gen.KernelDH0Ideal.Value
public import proofs.«01_k».proof.Proof.Gen.ReferenceDH0Ideal
public import proofs.«01_k».proof.Proof.Gen.ReferenceDH0Ideal.Run
public import proofs.«01_k».proof.Proof.Gen.ReferenceDH0Ideal.Read
public import proofs.«01_k».proof.Proof.Frames
public import proofs.«01_k».proof.Proof.Value.Finish
public import proofs.«01_k».proof.Proof.Dense.Frames
public import proofs.«01_k».proof.Proof.Dense.DwDown
public import proofs.«01_k».proof.Proof.Dense.DPre
public import proofs.«01_k».proof.Proof.Dense.DwUp
public import proofs.«01_k».proof.Proof.Dense.DwQkv
public import proofs.«01_k».proof.Proof.Dense.DwO
public import proofs.«01_k».proof.Proof.Dense.DO
public import proofs.«01_k».proof.Proof.Dense.Qkv
public import proofs.«01_k».proof.Proof.Dense.Up
public import proofs.«01_k».proof.Proof.Dense.AttnOut
public import proofs.«01_k».proof.Proof.Dense.Down
public import proofs.«01_k».proof.Proof.Dense.Last
public import proofs.«01_k».proof.Proof.Dense.DH1
public import proofs.«01_k».proof.Proof.Dense.DH0

@[expose] public section

noncomputable section

namespace Cert.Proof

/-- Every claim of the certificate. -/
theorem claim : Cert.Claim :=
  ⟨Cert.Kernel.Gen.facts, Cert.KernelIdeal.Gen.facts, Cert.ReferenceIdeal.Gen.facts,
  Cert.KernelDwDown.Gen.facts, Cert.KernelDwDownIdeal.Gen.facts, Cert.ReferenceDwDownIdeal.Gen.facts,
  Cert.KernelDPre.Gen.facts, Cert.KernelDPreIdeal.Gen.facts, Cert.ReferenceDPreIdeal.Gen.facts,
  Cert.KernelDwUp.Gen.facts, Cert.KernelDwUpIdeal.Gen.facts, Cert.ReferenceDwUpIdeal.Gen.facts,
  Cert.KernelDwQkv.Gen.facts, Cert.KernelDwQkvIdeal.Gen.facts, Cert.ReferenceDwQkvIdeal.Gen.facts,
  Cert.KernelDwO.Gen.facts, Cert.KernelDwOIdeal.Gen.facts, Cert.ReferenceDwOIdeal.Gen.facts,
  Cert.KernelDO.Gen.facts, Cert.KernelDOIdeal.Gen.facts, Cert.ReferenceDOIdeal.Gen.facts,
  Cert.KernelQkv.Gen.facts, Cert.KernelQkvIdeal.Gen.facts, Cert.ReferenceQkvIdeal.Gen.facts,
  Cert.KernelUp.Gen.facts, Cert.KernelUpIdeal.Gen.facts, Cert.ReferenceUpIdeal.Gen.facts,
  Cert.KernelAttnOut.Gen.facts, Cert.KernelAttnOutIdeal.Gen.facts, Cert.ReferenceAttnOutIdeal.Gen.facts,
  Cert.KernelDown.Gen.facts, Cert.KernelDownIdeal.Gen.facts, Cert.ReferenceDownIdeal.Gen.facts,
  Cert.KernelLast.Gen.facts, Cert.KernelLastIdeal.Gen.facts, Cert.ReferenceLastIdeal.Gen.facts,
  Cert.KernelDH1.Gen.facts, Cert.KernelDH1Ideal.Gen.facts, Cert.ReferenceDH1Ideal.Gen.facts,
  Cert.KernelDH0.Gen.facts, Cert.KernelDH0Ideal.Gen.facts, Cert.ReferenceDH0Ideal.Gen.facts,
  Cert.Pre_finite.Gen.facts,
  frame_kernel, frame_ideal, fun m g _ => frame_ideal m g trivial, frame_reference, fun m g _ => frame_reference m g trivial,
  frame_kernelDwDown, frame_kernelDwDownIdeal, frame_referenceDwDown,
  frame_kernelDPre, frame_kernelDPreIdeal, frame_referenceDPre,
  frame_kernelDwUp, frame_kernelDwUpIdeal, frame_referenceDwUp,
  frame_kernelDwQkv, frame_kernelDwQkvIdeal, frame_referenceDwQkv,
  frame_kernelDwO, frame_kernelDwOIdeal, frame_referenceDwO,
  frame_kernelDO, frame_kernelDOIdeal, frame_referenceDO,
  frame_kernelQkv, frame_kernelQkvIdeal, frame_referenceQkv,
  frame_kernelUp, frame_kernelUpIdeal, frame_referenceUp,
  frame_kernelAttnOut, frame_kernelAttnOutIdeal, frame_referenceAttnOut,
  frame_kernelDown, frame_kernelDownIdeal, frame_referenceDown,
  frame_kernelLast, frame_kernelLastIdeal, frame_referenceLast,
  frame_kernelDH1, frame_kernelDH1Ideal, frame_referenceDH1,
  frame_kernelDH0, frame_kernelDH0Ideal, frame_referenceDH0,
  preserves, algebraic,
  preservesDwDown, algebraicDwDown, preservesDPre, algebraicDPre, preservesDwUp, algebraicDwUp, preservesDwQkv, algebraicDwQkv, preservesDwO, algebraicDwO, preservesDO, algebraicDO,
  preservesQkv, algebraicQkv, preservesUp, algebraicUp, preservesAttnOut, algebraicAttnOut, preservesDown, algebraicDown, preservesLast, algebraicLast,
  preservesDH1, algebraicDH1, preservesDH0, algebraicDH0⟩

end Cert.Proof

end
